-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2048x1024 .bf16) (main_arg1 : FVec F S1024x1024 .bf16) (main_arg2 : FVec F S2048x1024 .bf16) (main_arg3 : FVec F S2048x1024 .bf16) (main_arg4 : FVec F S1024x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : FVec F S2048x1024 .f32 := (extf .f32 · bitsLt_bf16_f32) main_arg2
  let main_v11 : FVec F S2048x1024 .f32 := Host.absf main_v10
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v4 main_v9
  let main_v16 : IVec S_ 1 := andi main_v15 main_v14
  main_v16
-- ==== Pre_finite_ReferenceIdeal.lean ====
abbrev S2048x1024 : Shape := ⟨2, ![2048, 1024]⟩
abbrev S1024x8192 : Shape := ⟨2, ![1024, 8192]⟩
abbrev S2048x8192 : Shape := ⟨2, ![2048, 8192]⟩
abbrev S8192x1024 : Shape := ⟨2, ![8192, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S2048x1024 .bf16) (main_arg1 : FVec F S1024x8192 .bf16) (main_arg2 : FVec F S2048x8192 .bf16) (main_arg3 : FVec F S2048x8192 .bf16) (main_arg4 : FVec F S8192x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x8192 .f32 := (extf .f32 · bitsLt_bf16_f32) main_arg1
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : FVec F S2048x8192 .f32 := (extf .f32 · bitsLt_bf16_f32) main_arg2
  let main_v11 : FVec F S2048x8192 .f32 := Host.absf main_v10
  let main_cst_2 : FVec F S_ .f32 := constant S_ .f32 0x7F800000#32
  let main_v12 : FVec F S2048x8192 .f32 := broadcastInDim S2048x8192 ![] bcast_S_S2048x8192 main_cst_2
  let main_v13 : IVec S2048x8192 1 := cmpf .olt main_v11 main_v12
  let main_c_3 : IVec S_ 1 := constantI S_ 1 1#1
  let main_v14 : IVec S_ 1 := (fun x v => Host.reduce IntOp.andi x v reducesTo_S2048x8192_S_d0_1 h_S_) main_v13 main_c_3
  let main_v15 : IVec S_ 1 := andi main_v4 main_v9
  let main_v16 : IVec S_ 1 := andi main_v15 main_v14
  main_v16
-- ==== Kernel.lean ====
abbrev S2048x1024 : Shape := ⟨2, ![2048, 1024]⟩
abbrev S1024x1024 : Shape := ⟨2, ![1024, 1024]⟩
abbrev S28x64x1024 : Shape := ⟨3, ![28, 64, 1024]⟩
abbrev S4x64x1024 : Shape := ⟨3, ![4, 64, 1024]⟩
abbrev S56 : Shape := ⟨1, ![56]⟩
abbrev S_ : Shape := ⟨0, ![]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S64x1024 : Shape := ⟨2, ![64, 1024]⟩
abbrev S1x64x1024 : Shape := ⟨3, ![1, 64, 1024]⟩
abbrev S1 : Shape := ⟨1, ![1]⟩
abbrev S1024x128 : Shape := ⟨2, ![1024, 128]⟩
abbrev S7x64x1024 : Shape := ⟨3, ![7, 64, 1024]⟩
abbrev S1536x128 : Shape := ⟨2, ![1536, 128]⟩
abbrev S512x1536 : Shape := ⟨2, ![512, 1536]⟩
abbrev S2048x128 : Shape := ⟨2, ![2048, 128]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S2048x1024, .f32⟩
  | .local _ .vmem, ⟨6, _⟩ => ⟨S28x64x1024, .bf16⟩
  | .local _ .vmem, ⟨7, _⟩ => ⟨S28x64x1024, .bf16⟩
  | .local _ .vmem, ⟨8, _⟩ => ⟨S4x64x1024, .bf16⟩
  | .local _ .vmem, ⟨9, _⟩ => ⟨S28x64x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_161 : BitVec 32 := 0#32
  let v306 : BitVec 1 := Scalar.cmpi .ne v2 c0_i32_161
  let v307 : BitVec 32 := Scalar.extui v306
  let c0_i32_162 : BitVec 32 := 0#32
  let v308 : BitVec 1 := Scalar.cmpi .ne v307 c0_i32_162
  v308

def k0_off1 (d0 : Dev nD) : Fin 3 → Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v280 : BitVec 32 := Scalar.subi c0_i32_143 v2
  let c8_i32_144 : BitVec 32 := 8#32
  let c0_i32_145 : BitVec 32 := 0#32
  let v281 : BitVec 1 := Scalar.cmpi .eq c8_i32_144 c0_i32_145
  let c1_i32_146 : BitVec 32 := 1#32
  let v282 : BitVec 32 := Scalar.select v281 c1_i32_146 c8_i32_144
  let v283 : BitVec 32 := Scalar.remsi v280 v282
  let c0_i32_148 : BitVec 32 := 0#32
  let v285 : BitVec 1 := Scalar.cmpi .slt v283 c0_i32_148
  let c0_i32_149 : BitVec 32 := 0#32
  let v286 : BitVec 1 := Scalar.cmpi .slt v282 c0_i32_149
  let v287 : BitVec 1 := Scalar.xori v285 v286
  let c0_i32_147 : BitVec 32 := 0#32
  let v284 : BitVec 1 := Scalar.cmpi .ne v283 c0_i32_147
  let v288 : BitVec 1 := Scalar.andi v287 v284
  let v289 : BitVec 32 := Scalar.addi v283 v282
  let v290 : BitVec 32 := Scalar.select v288 v289 v283
  let c1_i32_150 : BitVec 32 := 1#32
  let v291 : BitVec 32 := Scalar.subi v290 c1_i32_150
  let c0_i32_151 : BitVec 32 := 0#32
  let v292 : BitVec 32 := Scalar.addi v291 c0_i32_151
  let v1781 : Index := Scalar.indexCast v292
  let c0_1085 : Index := 0#32
  let c0_1086 : Index := 0#32
  ![v1781.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let v293 : BitVec 32 := Scalar.subi v2 c0_i32_152
  let c8_i32_153 : BitVec 32 := 8#32
  let c0_i32_154 : BitVec 32 := 0#32
  let v294 : BitVec 1 := Scalar.cmpi .eq c8_i32_153 c0_i32_154
  let c1_i32_155 : BitVec 32 := 1#32
  let v295 : BitVec 32 := Scalar.select v294 c1_i32_155 c8_i32_153
  let v296 : BitVec 32 := Scalar.remsi v293 v295
  let c0_i32_157 : BitVec 32 := 0#32
  let v298 : BitVec 1 := Scalar.cmpi .slt v296 c0_i32_157
  let c0_i32_158 : BitVec 32 := 0#32
  let v299 : BitVec 1 := Scalar.cmpi .slt v295 c0_i32_158
  let v300 : BitVec 1 := Scalar.xori v298 v299
  let c0_i32_156 : BitVec 32 := 0#32
  let v297 : BitVec 1 := Scalar.cmpi .ne v296 c0_i32_156
  let v301 : BitVec 1 := Scalar.andi v300 v297
  let v302 : BitVec 32 := Scalar.addi v296 v295
  let v303 : BitVec 32 := Scalar.select v301 v302 v296
  let c1_i32_159 : BitVec 32 := 1#32
  let v304 : BitVec 32 := Scalar.subi v303 c1_i32_159
  let c0_i32_160 : BitVec 32 := 0#32
  let v305 : BitVec 32 := Scalar.addi v304 c0_i32_160
  ![v305.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let v293 : BitVec 32 := Scalar.subi v2 c0_i32_152
  let c8_i32_153 : BitVec 32 := 8#32
  let c0_i32_154 : BitVec 32 := 0#32
  let v294 : BitVec 1 := Scalar.cmpi .eq c8_i32_153 c0_i32_154
  let c1_i32_155 : BitVec 32 := 1#32
  let v295 : BitVec 32 := Scalar.select v294 c1_i32_155 c8_i32_153
  let v296 : BitVec 32 := Scalar.remsi v293 v295
  let c0_i32_157 : BitVec 32 := 0#32
  let v298 : BitVec 1 := Scalar.cmpi .slt v296 c0_i32_157
  let c0_i32_158 : BitVec 32 := 0#32
  let v299 : BitVec 1 := Scalar.cmpi .slt v295 c0_i32_158
  let v300 : BitVec 1 := Scalar.xori v298 v299
  let c0_i32_156 : BitVec 32 := 0#32
  let v297 : BitVec 1 := Scalar.cmpi .ne v296 c0_i32_156
  let v301 : BitVec 1 := Scalar.andi v300 v297
  let v302 : BitVec 32 := Scalar.addi v296 v295
  let v303 : BitVec 32 := Scalar.select v301 v302 v296
  let c1_i32_159 : BitVec 32 := 1#32
  let v304 : BitVec 32 := Scalar.subi v303 c1_i32_159
  let c0_i32_160 : BitVec 32 := 0#32
  let v305 : BitVec 32 := Scalar.addi v304 c0_i32_160
  let c0_i32_1090 : BitVec 32 := 0#32
  let c0_i32_1091 : BitVec 32 := 0#32
  ![v305.toNat, 0, 0]
def k0_off4 (d0 : Dev nD) : Fin 3 → Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v280 : BitVec 32 := Scalar.subi c0_i32_143 v2
  let c8_i32_144 : BitVec 32 := 8#32
  let c0_i32_145 : BitVec 32 := 0#32
  let v281 : BitVec 1 := Scalar.cmpi .eq c8_i32_144 c0_i32_145
  let c1_i32_146 : BitVec 32 := 1#32
  let v282 : BitVec 32 := Scalar.select v281 c1_i32_146 c8_i32_144
  let v283 : BitVec 32 := Scalar.remsi v280 v282
  let c0_i32_148 : BitVec 32 := 0#32
  let v285 : BitVec 1 := Scalar.cmpi .slt v283 c0_i32_148
  let c0_i32_149 : BitVec 32 := 0#32
  let v286 : BitVec 1 := Scalar.cmpi .slt v282 c0_i32_149
  let v287 : BitVec 1 := Scalar.xori v285 v286
  let c0_i32_147 : BitVec 32 := 0#32
  let v284 : BitVec 1 := Scalar.cmpi .ne v283 c0_i32_147
  let v288 : BitVec 1 := Scalar.andi v287 v284
  let v289 : BitVec 32 := Scalar.addi v283 v282
  let v290 : BitVec 32 := Scalar.select v288 v289 v283
  let c1_i32_150 : BitVec 32 := 1#32
  let v291 : BitVec 32 := Scalar.subi v290 c1_i32_150
  let c0_i32_151 : BitVec 32 := 0#32
  let v292 : BitVec 32 := Scalar.addi v291 c0_i32_151
  let c0_i32_1092 : BitVec 32 := 0#32
  let c0_i32_1093 : BitVec 32 := 0#32
  ![v292.toNat, 0, 0]
def k0_dev8 : Nat :=
  let c0_i32_1089 : BitVec 32 := 0#32
  let c0_i32_1087 : BitVec 32 := 0#32
  let c1_i32_1088 : BitVec 32 := 1#32
  let v1785 : BitVec 32 := Scalar.muli c0_i32_1087 c1_i32_1088
  let v1786 : BitVec 32 := Scalar.addi c0_i32_1089 v1785
  v1786.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_181 : BitVec 32 := 1#32
  let v335 : BitVec 1 := Scalar.cmpi .ne v2 c1_i32_181
  let v336 : BitVec 32 := Scalar.extui v335
  let c0_i32_182 : BitVec 32 := 0#32
  let v337 : BitVec 1 := Scalar.cmpi .ne v336 c0_i32_182
  v337

def k0_off5 (d0 : Dev nD) : Fin 3 → Nat :=
  let c1_i32_163 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.subi c1_i32_163 v2
  let c8_i32_164 : BitVec 32 := 8#32
  let c0_i32_165 : BitVec 32 := 0#32
  let v310 : BitVec 1 := Scalar.cmpi .eq c8_i32_164 c0_i32_165
  let c1_i32_166 : BitVec 32 := 1#32
  let v311 : BitVec 32 := Scalar.select v310 c1_i32_166 c8_i32_164
  let v312 : BitVec 32 := Scalar.remsi v309 v311
  let c0_i32_168 : BitVec 32 := 0#32
  let v314 : BitVec 1 := Scalar.cmpi .slt v312 c0_i32_168
  let c0_i32_169 : BitVec 32 := 0#32
  let v315 : BitVec 1 := Scalar.cmpi .slt v311 c0_i32_169
  let v316 : BitVec 1 := Scalar.xori v314 v315
  let c0_i32_167 : BitVec 32 := 0#32
  let v313 : BitVec 1 := Scalar.cmpi .ne v312 c0_i32_167
  let v317 : BitVec 1 := Scalar.andi v316 v313
  let v318 : BitVec 32 := Scalar.addi v312 v311
  let v319 : BitVec 32 := Scalar.select v317 v318 v312
  let c1_i32_170 : BitVec 32 := 1#32
  let v320 : BitVec 32 := Scalar.subi v319 c1_i32_170
  let c0_i32_171 : BitVec 32 := 0#32
  let v321 : BitVec 32 := Scalar.addi v320 c0_i32_171
  let v1781 : Index := Scalar.indexCast v321
  let c0_1084 : Index := 0#32
  let c0_1085 : Index := 0#32
  ![v1781.toNat, 0, 0]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v322 : BitVec 32 := Scalar.subi v2 c1_i32_172
  let c8_i32_173 : BitVec 32 := 8#32
  let c0_i32_174 : BitVec 32 := 0#32
  let v323 : BitVec 1 := Scalar.cmpi .eq c8_i32_173 c0_i32_174
  let c1_i32_175 : BitVec 32 := 1#32
  let v324 : BitVec 32 := Scalar.select v323 c1_i32_175 c8_i32_173
  let v325 : BitVec 32 := Scalar.remsi v322 v324
  let c0_i32_177 : BitVec 32 := 0#32
  let v327 : BitVec 1 := Scalar.cmpi .slt v325 c0_i32_177
  let c0_i32_178 : BitVec 32 := 0#32
  let v328 : BitVec 1 := Scalar.cmpi .slt v324 c0_i32_178
  let v329 : BitVec 1 := Scalar.xori v327 v328
  let c0_i32_176 : BitVec 32 := 0#32
  let v326 : BitVec 1 := Scalar.cmpi .ne v325 c0_i32_176
  let v330 : BitVec 1 := Scalar.andi v329 v326
  let v331 : BitVec 32 := Scalar.addi v325 v324
  let v332 : BitVec 32 := Scalar.select v330 v331 v325
  let c1_i32_179 : BitVec 32 := 1#32
  let v333 : BitVec 32 := Scalar.subi v332 c1_i32_179
  let c0_i32_180 : BitVec 32 := 0#32
  let v334 : BitVec 32 := Scalar.addi v333 c0_i32_180
  ![v334.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v322 : BitVec 32 := Scalar.subi v2 c1_i32_172
  let c8_i32_173 : BitVec 32 := 8#32
  let c0_i32_174 : BitVec 32 := 0#32
  let v323 : BitVec 1 := Scalar.cmpi .eq c8_i32_173 c0_i32_174
  let c1_i32_175 : BitVec 32 := 1#32
  let v324 : BitVec 32 := Scalar.select v323 c1_i32_175 c8_i32_173
  let v325 : BitVec 32 := Scalar.remsi v322 v324
  let c0_i32_177 : BitVec 32 := 0#32
  let v327 : BitVec 1 := Scalar.cmpi .slt v325 c0_i32_177
  let c0_i32_178 : BitVec 32 := 0#32
  let v328 : BitVec 1 := Scalar.cmpi .slt v324 c0_i32_178
  let v329 : BitVec 1 := Scalar.xori v327 v328
  let c0_i32_176 : BitVec 32 := 0#32
  let v326 : BitVec 1 := Scalar.cmpi .ne v325 c0_i32_176
  let v330 : BitVec 1 := Scalar.andi v329 v326
  let v331 : BitVec 32 := Scalar.addi v325 v324
  let v332 : BitVec 32 := Scalar.select v330 v331 v325
  let c1_i32_179 : BitVec 32 := 1#32
  let v333 : BitVec 32 := Scalar.subi v332 c1_i32_179
  let c0_i32_180 : BitVec 32 := 0#32
  let v334 : BitVec 32 := Scalar.addi v333 c0_i32_180
  let c0_i32_1089 : BitVec 32 := 0#32
  let c0_i32_1090 : BitVec 32 := 0#32
  ![v334.toNat, 0, 0]
def k0_off8 (d0 : Dev nD) : Fin 3 → Nat :=
  let c1_i32_163 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v309 : BitVec 32 := Scalar.subi c1_i32_163 v2
  let c8_i32_164 : BitVec 32 := 8#32
  let c0_i32_165 : BitVec 32 := 0#32
  let v310 : BitVec 1 := Scalar.cmpi .eq c8_i32_164 c0_i32_165
  let c1_i32_166 : BitVec 32 := 1#32
  let v311 : BitVec 32 := Scalar.select v310 c1_i32_166 c8_i32_164
  let v312 : BitVec 32 := Scalar.remsi v309 v311
  let c0_i32_168 : BitVec 32 := 0#32
  let v314 : BitVec 1 := Scalar.cmpi .slt v312 c0_i32_168
  let c0_i32_169 : BitVec 32 := 0#32
  let v315 : BitVec 1 := Scalar.cmpi .slt v311 c0_i32_169
  let v316 : BitVec 1 := Scalar.xori v314 v315
  let c0_i32_167 : BitVec 32 := 0#32
  let v313 : BitVec 1 := Scalar.cmpi .ne v312 c0_i32_167
  let v317 : BitVec 1 := Scalar.andi v316 v313
  let v318 : BitVec 32 := Scalar.addi v312 v311
  let v319 : BitVec 32 := Scalar.select v317 v318 v312
  let c1_i32_170 : BitVec 32 := 1#32
  let v320 : BitVec 32 := Scalar.subi v319 c1_i32_170
  let c0_i32_171 : BitVec 32 := 0#32
  let v321 : BitVec 32 := Scalar.addi v320 c0_i32_171
  let c0_i32_1091 : BitVec 32 := 0#32
  let c0_i32_1092 : BitVec 32 := 0#32
  ![v321.toNat, 0, 0]
def k0_dev9 : Nat :=
  let c0_i32_1088 : BitVec 32 := 0#32
  let c1_i32_1086 : BitVec 32 := 1#32
  let c1_i32_1087 : BitVec 32 := 1#32
  let v1785 : BitVec 32 := Scalar.muli c1_i32_1086 c1_i32_1087
  let v1786 : BitVec 32 := Scalar.addi c0_i32_1088 v1785
  v1786.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_201 : BitVec 32 := 2#32
  let v364 : BitVec 1 := Scalar.cmpi .ne v2 c2_i32_201
  let v365 : BitVec 32 := Scalar.extui v364
  let c0_i32_202 : BitVec 32 := 0#32
  let v366 : BitVec 1 := Scalar.cmpi .ne v365 c0_i32_202
  v366

def k0_off9 (d0 : Dev nD) : Fin 3 → Nat :=
  let c2_i32_183 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v338 : BitVec 32 := Scalar.subi c2_i32_183 v2
  let c8_i32_184 : BitVec 32 := 8#32
  let c0_i32_185 : BitVec 32 := 0#32
  let v339 : BitVec 1 := Scalar.cmpi .eq c8_i32_184 c0_i32_185
  let c1_i32_186 : BitVec 32 := 1#32
  let v340 : BitVec 32 := Scalar.select v339 c1_i32_186 c8_i32_184
  let v341 : BitVec 32 := Scalar.remsi v338 v340
  let c0_i32_188 : BitVec 32 := 0#32
  let v343 : BitVec 1 := Scalar.cmpi .slt v341 c0_i32_188
  let c0_i32_189 : BitVec 32 := 0#32
  let v344 : BitVec 1 := Scalar.cmpi .slt v340 c0_i32_189
  let v345 : BitVec 1 := Scalar.xori v343 v344
  let c0_i32_187 : BitVec 32 := 0#32
  let v342 : BitVec 1 := Scalar.cmpi .ne v341 c0_i32_187
  let v346 : BitVec 1 := Scalar.andi v345 v342
  let v347 : BitVec 32 := Scalar.addi v341 v340
  let v348 : BitVec 32 := Scalar.select v346 v347 v341
  let c1_i32_190 : BitVec 32 := 1#32
  let v349 : BitVec 32 := Scalar.subi v348 c1_i32_190
  let c0_i32_191 : BitVec 32 := 0#32
  let v350 : BitVec 32 := Scalar.addi v349 c0_i32_191
  let v1781 : Index := Scalar.indexCast v350
  let c0_1085 : Index := 0#32
  let c0_1086 : Index := 0#32
  ![v1781.toNat, 0, 0]
def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_192 : BitVec 32 := 2#32
  let v351 : BitVec 32 := Scalar.subi v2 c2_i32_192
  let c8_i32_193 : BitVec 32 := 8#32
  let c0_i32_194 : BitVec 32 := 0#32
  let v352 : BitVec 1 := Scalar.cmpi .eq c8_i32_193 c0_i32_194
  let c1_i32_195 : BitVec 32 := 1#32
  let v353 : BitVec 32 := Scalar.select v352 c1_i32_195 c8_i32_193
  let v354 : BitVec 32 := Scalar.remsi v351 v353
  let c0_i32_197 : BitVec 32 := 0#32
  let v356 : BitVec 1 := Scalar.cmpi .slt v354 c0_i32_197
  let c0_i32_198 : BitVec 32 := 0#32
  let v357 : BitVec 1 := Scalar.cmpi .slt v353 c0_i32_198
  let v358 : BitVec 1 := Scalar.xori v356 v357
  let c0_i32_196 : BitVec 32 := 0#32
  let v355 : BitVec 1 := Scalar.cmpi .ne v354 c0_i32_196
  let v359 : BitVec 1 := Scalar.andi v358 v355
  let v360 : BitVec 32 := Scalar.addi v354 v353
  let v361 : BitVec 32 := Scalar.select v359 v360 v354
  let c1_i32_199 : BitVec 32 := 1#32
  let v362 : BitVec 32 := Scalar.subi v361 c1_i32_199
  let c0_i32_200 : BitVec 32 := 0#32
  let v363 : BitVec 32 := Scalar.addi v362 c0_i32_200
  ![v363.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_192 : BitVec 32 := 2#32
  let v351 : BitVec 32 := Scalar.subi v2 c2_i32_192
  let c8_i32_193 : BitVec 32 := 8#32
  let c0_i32_194 : BitVec 32 := 0#32
  let v352 : BitVec 1 := Scalar.cmpi .eq c8_i32_193 c0_i32_194
  let c1_i32_195 : BitVec 32 := 1#32
  let v353 : BitVec 32 := Scalar.select v352 c1_i32_195 c8_i32_193
  let v354 : BitVec 32 := Scalar.remsi v351 v353
  let c0_i32_197 : BitVec 32 := 0#32
  let v356 : BitVec 1 := Scalar.cmpi .slt v354 c0_i32_197
  let c0_i32_198 : BitVec 32 := 0#32
  let v357 : BitVec 1 := Scalar.cmpi .slt v353 c0_i32_198
  let v358 : BitVec 1 := Scalar.xori v356 v357
  let c0_i32_196 : BitVec 32 := 0#32
  let v355 : BitVec 1 := Scalar.cmpi .ne v354 c0_i32_196
  let v359 : BitVec 1 := Scalar.andi v358 v355
  let v360 : BitVec 32 := Scalar.addi v354 v353
  let v361 : BitVec 32 := Scalar.select v359 v360 v354
  let c1_i32_199 : BitVec 32 := 1#32
  let v362 : BitVec 32 := Scalar.subi v361 c1_i32_199
  let c0_i32_200 : BitVec 32 := 0#32
  let v363 : BitVec 32 := Scalar.addi v362 c0_i32_200
  let c0_i32_1090 : BitVec 32 := 0#32
  let c0_i32_1091 : BitVec 32 := 0#32
  ![v363.toNat, 0, 0]
def k0_off12 (d0 : Dev nD) : Fin 3 → Nat :=
  let c2_i32_183 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v338 : BitVec 32 := Scalar.subi c2_i32_183 v2
  let c8_i32_184 : BitVec 32 := 8#32
  let c0_i32_185 : BitVec 32 := 0#32
  let v339 : BitVec 1 := Scalar.cmpi .eq c8_i32_184 c0_i32_185
  let c1_i32_186 : BitVec 32 := 1#32
  let v340 : BitVec 32 := Scalar.select v339 c1_i32_186 c8_i32_184
  let v341 : BitVec 32 := Scalar.remsi v338 v340
  let c0_i32_188 : BitVec 32 := 0#32
  let v343 : BitVec 1 := Scalar.cmpi .slt v341 c0_i32_188
  let c0_i32_189 : BitVec 32 := 0#32
  let v344 : BitVec 1 := Scalar.cmpi .slt v340 c0_i32_189
  let v345 : BitVec 1 := Scalar.xori v343 v344
  let c0_i32_187 : BitVec 32 := 0#32
  let v342 : BitVec 1 := Scalar.cmpi .ne v341 c0_i32_187
  let v346 : BitVec 1 := Scalar.andi v345 v342
  let v347 : BitVec 32 := Scalar.addi v341 v340
  let v348 : BitVec 32 := Scalar.select v346 v347 v341
  let c1_i32_190 : BitVec 32 := 1#32
  let v349 : BitVec 32 := Scalar.subi v348 c1_i32_190
  let c0_i32_191 : BitVec 32 := 0#32
  let v350 : BitVec 32 := Scalar.addi v349 c0_i32_191
  let c0_i32_1092 : BitVec 32 := 0#32
  let c0_i32_1093 : BitVec 32 := 0#32
  ![v350.toNat, 0, 0]
def k0_dev10 : Nat :=
  let c0_i32_1089 : BitVec 32 := 0#32
  let c2_i32_1087 : BitVec 32 := 2#32
  let c1_i32_1088 : BitVec 32 := 1#32
  let v1785 : BitVec 32 := Scalar.muli c2_i32_1087 c1_i32_1088
  let v1786 : BitVec 32 := Scalar.addi c0_i32_1089 v1785
  v1786.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_221 : BitVec 32 := 3#32
  let v393 : BitVec 1 := Scalar.cmpi .ne v2 c3_i32_221
  let v394 : BitVec 32 := Scalar.extui v393
  let c0_i32_222 : BitVec 32 := 0#32
  let v395 : BitVec 1 := Scalar.cmpi .ne v394 c0_i32_222
  v395

def k0_off13 (d0 : Dev nD) : Fin 3 → Nat :=
  let c3_i32_203 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v367 : BitVec 32 := Scalar.subi c3_i32_203 v2
  let c8_i32_204 : BitVec 32 := 8#32
  let c0_i32_205 : BitVec 32 := 0#32
  let v368 : BitVec 1 := Scalar.cmpi .eq c8_i32_204 c0_i32_205
  let c1_i32_206 : BitVec 32 := 1#32
  let v369 : BitVec 32 := Scalar.select v368 c1_i32_206 c8_i32_204
  let v370 : BitVec 32 := Scalar.remsi v367 v369
  let c0_i32_208 : BitVec 32 := 0#32
  let v372 : BitVec 1 := Scalar.cmpi .slt v370 c0_i32_208
  let c0_i32_209 : BitVec 32 := 0#32
  let v373 : BitVec 1 := Scalar.cmpi .slt v369 c0_i32_209
  let v374 : BitVec 1 := Scalar.xori v372 v373
  let c0_i32_207 : BitVec 32 := 0#32
  let v371 : BitVec 1 := Scalar.cmpi .ne v370 c0_i32_207
  let v375 : BitVec 1 := Scalar.andi v374 v371
  let v376 : BitVec 32 := Scalar.addi v370 v369
  let v377 : BitVec 32 := Scalar.select v375 v376 v370
  let c1_i32_210 : BitVec 32 := 1#32
  let v378 : BitVec 32 := Scalar.subi v377 c1_i32_210
  let c0_i32_211 : BitVec 32 := 0#32
  let v379 : BitVec 32 := Scalar.addi v378 c0_i32_211
  let v1781 : Index := Scalar.indexCast v379
  let c0_1084 : Index := 0#32
  let c0_1085 : Index := 0#32
  ![v1781.toNat, 0, 0]
def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_212 : BitVec 32 := 3#32
  let v380 : BitVec 32 := Scalar.subi v2 c3_i32_212
  let c8_i32_213 : BitVec 32 := 8#32
  let c0_i32_214 : BitVec 32 := 0#32
  let v381 : BitVec 1 := Scalar.cmpi .eq c8_i32_213 c0_i32_214
  let c1_i32_215 : BitVec 32 := 1#32
  let v382 : BitVec 32 := Scalar.select v381 c1_i32_215 c8_i32_213
  let v383 : BitVec 32 := Scalar.remsi v380 v382
  let c0_i32_217 : BitVec 32 := 0#32
  let v385 : BitVec 1 := Scalar.cmpi .slt v383 c0_i32_217
  let c0_i32_218 : BitVec 32 := 0#32
  let v386 : BitVec 1 := Scalar.cmpi .slt v382 c0_i32_218
  let v387 : BitVec 1 := Scalar.xori v385 v386
  let c0_i32_216 : BitVec 32 := 0#32
  let v384 : BitVec 1 := Scalar.cmpi .ne v383 c0_i32_216
  let v388 : BitVec 1 := Scalar.andi v387 v384
  let v389 : BitVec 32 := Scalar.addi v383 v382
  let v390 : BitVec 32 := Scalar.select v388 v389 v383
  let c1_i32_219 : BitVec 32 := 1#32
  let v391 : BitVec 32 := Scalar.subi v390 c1_i32_219
  let c0_i32_220 : BitVec 32 := 0#32
  let v392 : BitVec 32 := Scalar.addi v391 c0_i32_220
  ![v392.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_212 : BitVec 32 := 3#32
  let v380 : BitVec 32 := Scalar.subi v2 c3_i32_212
  let c8_i32_213 : BitVec 32 := 8#32
  let c0_i32_214 : BitVec 32 := 0#32
  let v381 : BitVec 1 := Scalar.cmpi .eq c8_i32_213 c0_i32_214
  let c1_i32_215 : BitVec 32 := 1#32
  let v382 : BitVec 32 := Scalar.select v381 c1_i32_215 c8_i32_213
  let v383 : BitVec 32 := Scalar.remsi v380 v382
  let c0_i32_217 : BitVec 32 := 0#32
  let v385 : BitVec 1 := Scalar.cmpi .slt v383 c0_i32_217
  let c0_i32_218 : BitVec 32 := 0#32
  let v386 : BitVec 1 := Scalar.cmpi .slt v382 c0_i32_218
  let v387 : BitVec 1 := Scalar.xori v385 v386
  let c0_i32_216 : BitVec 32 := 0#32
  let v384 : BitVec 1 := Scalar.cmpi .ne v383 c0_i32_216
  let v388 : BitVec 1 := Scalar.andi v387 v384
  let v389 : BitVec 32 := Scalar.addi v383 v382
  let v390 : BitVec 32 := Scalar.select v388 v389 v383
  let c1_i32_219 : BitVec 32 := 1#32
  let v391 : BitVec 32 := Scalar.subi v390 c1_i32_219
  let c0_i32_220 : BitVec 32 := 0#32
  let v392 : BitVec 32 := Scalar.addi v391 c0_i32_220
  let c0_i32_1089 : BitVec 32 := 0#32
  let c0_i32_1090 : BitVec 32 := 0#32
  ![v392.toNat, 0, 0]
def k0_off16 (d0 : Dev nD) : Fin 3 → Nat :=
  let c3_i32_203 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v367 : BitVec 32 := Scalar.subi c3_i32_203 v2
  let c8_i32_204 : BitVec 32 := 8#32
  let c0_i32_205 : BitVec 32 := 0#32
  let v368 : BitVec 1 := Scalar.cmpi .eq c8_i32_204 c0_i32_205
  let c1_i32_206 : BitVec 32 := 1#32
  let v369 : BitVec 32 := Scalar.select v368 c1_i32_206 c8_i32_204
  let v370 : BitVec 32 := Scalar.remsi v367 v369
  let c0_i32_208 : BitVec 32 := 0#32
  let v372 : BitVec 1 := Scalar.cmpi .slt v370 c0_i32_208
  let c0_i32_209 : BitVec 32 := 0#32
  let v373 : BitVec 1 := Scalar.cmpi .slt v369 c0_i32_209
  let v374 : BitVec 1 := Scalar.xori v372 v373
  let c0_i32_207 : BitVec 32 := 0#32
  let v371 : BitVec 1 := Scalar.cmpi .ne v370 c0_i32_207
  let v375 : BitVec 1 := Scalar.andi v374 v371
  let v376 : BitVec 32 := Scalar.addi v370 v369
  let v377 : BitVec 32 := Scalar.select v375 v376 v370
  let c1_i32_210 : BitVec 32 := 1#32
  let v378 : BitVec 32 := Scalar.subi v377 c1_i32_210
  let c0_i32_211 : BitVec 32 := 0#32
  let v379 : BitVec 32 := Scalar.addi v378 c0_i32_211
  let c0_i32_1091 : BitVec 32 := 0#32
  let c0_i32_1092 : BitVec 32 := 0#32
  ![v379.toNat, 0, 0]
def k0_dev11 : Nat :=
  let c0_i32_1088 : BitVec 32 := 0#32
  let c3_i32_1086 : BitVec 32 := 3#32
  let c1_i32_1087 : BitVec 32 := 1#32
  let v1785 : BitVec 32 := Scalar.muli c3_i32_1086 c1_i32_1087
  let v1786 : BitVec 32 := Scalar.addi c0_i32_1088 v1785
  v1786.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_241 : BitVec 32 := 4#32
  let v422 : BitVec 1 := Scalar.cmpi .ne v2 c4_i32_241
  let v423 : BitVec 32 := Scalar.extui v422
  let c0_i32_242 : BitVec 32 := 0#32
  let v424 : BitVec 1 := Scalar.cmpi .ne v423 c0_i32_242
  v424

def k0_off17 (d0 : Dev nD) : Fin 3 → Nat :=
  let c4_i32_223 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v396 : BitVec 32 := Scalar.subi c4_i32_223 v2
  let c8_i32_224 : BitVec 32 := 8#32
  let c0_i32_225 : BitVec 32 := 0#32
  let v397 : BitVec 1 := Scalar.cmpi .eq c8_i32_224 c0_i32_225
  let c1_i32_226 : BitVec 32 := 1#32
  let v398 : BitVec 32 := Scalar.select v397 c1_i32_226 c8_i32_224
  let v399 : BitVec 32 := Scalar.remsi v396 v398
  let c0_i32_228 : BitVec 32 := 0#32
  let v401 : BitVec 1 := Scalar.cmpi .slt v399 c0_i32_228
  let c0_i32_229 : BitVec 32 := 0#32
  let v402 : BitVec 1 := Scalar.cmpi .slt v398 c0_i32_229
  let v403 : BitVec 1 := Scalar.xori v401 v402
  let c0_i32_227 : BitVec 32 := 0#32
  let v400 : BitVec 1 := Scalar.cmpi .ne v399 c0_i32_227
  let v404 : BitVec 1 := Scalar.andi v403 v400
  let v405 : BitVec 32 := Scalar.addi v399 v398
  let v406 : BitVec 32 := Scalar.select v404 v405 v399
  let c1_i32_230 : BitVec 32 := 1#32
  let v407 : BitVec 32 := Scalar.subi v406 c1_i32_230
  let c0_i32_231 : BitVec 32 := 0#32
  let v408 : BitVec 32 := Scalar.addi v407 c0_i32_231
  let v1781 : Index := Scalar.indexCast v408
  let c0_1085 : Index := 0#32
  let c0_1086 : Index := 0#32
  ![v1781.toNat, 0, 0]
def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_232 : BitVec 32 := 4#32
  let v409 : BitVec 32 := Scalar.subi v2 c4_i32_232
  let c8_i32_233 : BitVec 32 := 8#32
  let c0_i32_234 : BitVec 32 := 0#32
  let v410 : BitVec 1 := Scalar.cmpi .eq c8_i32_233 c0_i32_234
  let c1_i32_235 : BitVec 32 := 1#32
  let v411 : BitVec 32 := Scalar.select v410 c1_i32_235 c8_i32_233
  let v412 : BitVec 32 := Scalar.remsi v409 v411
  let c0_i32_237 : BitVec 32 := 0#32
  let v414 : BitVec 1 := Scalar.cmpi .slt v412 c0_i32_237
  let c0_i32_238 : BitVec 32 := 0#32
  let v415 : BitVec 1 := Scalar.cmpi .slt v411 c0_i32_238
  let v416 : BitVec 1 := Scalar.xori v414 v415
  let c0_i32_236 : BitVec 32 := 0#32
  let v413 : BitVec 1 := Scalar.cmpi .ne v412 c0_i32_236
  let v417 : BitVec 1 := Scalar.andi v416 v413
  let v418 : BitVec 32 := Scalar.addi v412 v411
  let v419 : BitVec 32 := Scalar.select v417 v418 v412
  let c1_i32_239 : BitVec 32 := 1#32
  let v420 : BitVec 32 := Scalar.subi v419 c1_i32_239
  let c0_i32_240 : BitVec 32 := 0#32
  let v421 : BitVec 32 := Scalar.addi v420 c0_i32_240
  ![v421.toNat]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_232 : BitVec 32 := 4#32
  let v409 : BitVec 32 := Scalar.subi v2 c4_i32_232
  let c8_i32_233 : BitVec 32 := 8#32
  let c0_i32_234 : BitVec 32 := 0#32
  let v410 : BitVec 1 := Scalar.cmpi .eq c8_i32_233 c0_i32_234
  let c1_i32_235 : BitVec 32 := 1#32
  let v411 : BitVec 32 := Scalar.select v410 c1_i32_235 c8_i32_233
  let v412 : BitVec 32 := Scalar.remsi v409 v411
  let c0_i32_237 : BitVec 32 := 0#32
  let v414 : BitVec 1 := Scalar.cmpi .slt v412 c0_i32_237
  let c0_i32_238 : BitVec 32 := 0#32
  let v415 : BitVec 1 := Scalar.cmpi .slt v411 c0_i32_238
  let v416 : BitVec 1 := Scalar.xori v414 v415
  let c0_i32_236 : BitVec 32 := 0#32
  let v413 : BitVec 1 := Scalar.cmpi .ne v412 c0_i32_236
  let v417 : BitVec 1 := Scalar.andi v416 v413
  let v418 : BitVec 32 := Scalar.addi v412 v411
  let v419 : BitVec 32 := Scalar.select v417 v418 v412
  let c1_i32_239 : BitVec 32 := 1#32
  let v420 : BitVec 32 := Scalar.subi v419 c1_i32_239
  let c0_i32_240 : BitVec 32 := 0#32
  let v421 : BitVec 32 := Scalar.addi v420 c0_i32_240
  let c0_i32_1090 : BitVec 32 := 0#32
  let c0_i32_1091 : BitVec 32 := 0#32
  ![v421.toNat, 0, 0]
def k0_off20 (d0 : Dev nD) : Fin 3 → Nat :=
  let c4_i32_223 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v396 : BitVec 32 := Scalar.subi c4_i32_223 v2
  let c8_i32_224 : BitVec 32 := 8#32
  let c0_i32_225 : BitVec 32 := 0#32
  let v397 : BitVec 1 := Scalar.cmpi .eq c8_i32_224 c0_i32_225
  let c1_i32_226 : BitVec 32 := 1#32
  let v398 : BitVec 32 := Scalar.select v397 c1_i32_226 c8_i32_224
  let v399 : BitVec 32 := Scalar.remsi v396 v398
  let c0_i32_228 : BitVec 32 := 0#32
  let v401 : BitVec 1 := Scalar.cmpi .slt v399 c0_i32_228
  let c0_i32_229 : BitVec 32 := 0#32
  let v402 : BitVec 1 := Scalar.cmpi .slt v398 c0_i32_229
  let v403 : BitVec 1 := Scalar.xori v401 v402
  let c0_i32_227 : BitVec 32 := 0#32
  let v400 : BitVec 1 := Scalar.cmpi .ne v399 c0_i32_227
  let v404 : BitVec 1 := Scalar.andi v403 v400
  let v405 : BitVec 32 := Scalar.addi v399 v398
  let v406 : BitVec 32 := Scalar.select v404 v405 v399
  let c1_i32_230 : BitVec 32 := 1#32
  let v407 : BitVec 32 := Scalar.subi v406 c1_i32_230
  let c0_i32_231 : BitVec 32 := 0#32
  let v408 : BitVec 32 := Scalar.addi v407 c0_i32_231
  let c0_i32_1092 : BitVec 32 := 0#32
  let c0_i32_1093 : BitVec 32 := 0#32
  ![v408.toNat, 0, 0]
def k0_dev12 : Nat :=
  let c0_i32_1089 : BitVec 32 := 0#32
  let c4_i32_1087 : BitVec 32 := 4#32
  let c1_i32_1088 : BitVec 32 := 1#32
  let v1785 : BitVec 32 := Scalar.muli c4_i32_1087 c1_i32_1088
  let v1786 : BitVec 32 := Scalar.addi c0_i32_1089 v1785
  v1786.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_261 : BitVec 32 := 5#32
  let v451 : BitVec 1 := Scalar.cmpi .ne v2 c5_i32_261
  let v452 : BitVec 32 := Scalar.extui v451
  let c0_i32_262 : BitVec 32 := 0#32
  let v453 : BitVec 1 := Scalar.cmpi .ne v452 c0_i32_262
  v453

def k0_off21 (d0 : Dev nD) : Fin 3 → Nat :=
  let c5_i32_243 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v425 : BitVec 32 := Scalar.subi c5_i32_243 v2
  let c8_i32_244 : BitVec 32 := 8#32
  let c0_i32_245 : BitVec 32 := 0#32
  let v426 : BitVec 1 := Scalar.cmpi .eq c8_i32_244 c0_i32_245
  let c1_i32_246 : BitVec 32 := 1#32
  let v427 : BitVec 32 := Scalar.select v426 c1_i32_246 c8_i32_244
  let v428 : BitVec 32 := Scalar.remsi v425 v427
  let c0_i32_248 : BitVec 32 := 0#32
  let v430 : BitVec 1 := Scalar.cmpi .slt v428 c0_i32_248
  let c0_i32_249 : BitVec 32 := 0#32
  let v431 : BitVec 1 := Scalar.cmpi .slt v427 c0_i32_249
  let v432 : BitVec 1 := Scalar.xori v430 v431
  let c0_i32_247 : BitVec 32 := 0#32
  let v429 : BitVec 1 := Scalar.cmpi .ne v428 c0_i32_247
  let v433 : BitVec 1 := Scalar.andi v432 v429
  let v434 : BitVec 32 := Scalar.addi v428 v427
  let v435 : BitVec 32 := Scalar.select v433 v434 v428
  let c1_i32_250 : BitVec 32 := 1#32
  let v436 : BitVec 32 := Scalar.subi v435 c1_i32_250
  let c0_i32_251 : BitVec 32 := 0#32
  let v437 : BitVec 32 := Scalar.addi v436 c0_i32_251
  let v1781 : Index := Scalar.indexCast v437
  let c0_1084 : Index := 0#32
  let c0_1085 : Index := 0#32
  ![v1781.toNat, 0, 0]
def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_252 : BitVec 32 := 5#32
  let v438 : BitVec 32 := Scalar.subi v2 c5_i32_252
  let c8_i32_253 : BitVec 32 := 8#32
  let c0_i32_254 : BitVec 32 := 0#32
  let v439 : BitVec 1 := Scalar.cmpi .eq c8_i32_253 c0_i32_254
  let c1_i32_255 : BitVec 32 := 1#32
  let v440 : BitVec 32 := Scalar.select v439 c1_i32_255 c8_i32_253
  let v441 : BitVec 32 := Scalar.remsi v438 v440
  let c0_i32_257 : BitVec 32 := 0#32
  let v443 : BitVec 1 := Scalar.cmpi .slt v441 c0_i32_257
  let c0_i32_258 : BitVec 32 := 0#32
  let v444 : BitVec 1 := Scalar.cmpi .slt v440 c0_i32_258
  let v445 : BitVec 1 := Scalar.xori v443 v444
  let c0_i32_256 : BitVec 32 := 0#32
  let v442 : BitVec 1 := Scalar.cmpi .ne v441 c0_i32_256
  let v446 : BitVec 1 := Scalar.andi v445 v442
  let v447 : BitVec 32 := Scalar.addi v441 v440
  let v448 : BitVec 32 := Scalar.select v446 v447 v441
  let c1_i32_259 : BitVec 32 := 1#32
  let v449 : BitVec 32 := Scalar.subi v448 c1_i32_259
  let c0_i32_260 : BitVec 32 := 0#32
  let v450 : BitVec 32 := Scalar.addi v449 c0_i32_260
  ![v450.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_252 : BitVec 32 := 5#32
  let v438 : BitVec 32 := Scalar.subi v2 c5_i32_252
  let c8_i32_253 : BitVec 32 := 8#32
  let c0_i32_254 : BitVec 32 := 0#32
  let v439 : BitVec 1 := Scalar.cmpi .eq c8_i32_253 c0_i32_254
  let c1_i32_255 : BitVec 32 := 1#32
  let v440 : BitVec 32 := Scalar.select v439 c1_i32_255 c8_i32_253
  let v441 : BitVec 32 := Scalar.remsi v438 v440
  let c0_i32_257 : BitVec 32 := 0#32
  let v443 : BitVec 1 := Scalar.cmpi .slt v441 c0_i32_257
  let c0_i32_258 : BitVec 32 := 0#32
  let v444 : BitVec 1 := Scalar.cmpi .slt v440 c0_i32_258
  let v445 : BitVec 1 := Scalar.xori v443 v444
  let c0_i32_256 : BitVec 32 := 0#32
  let v442 : BitVec 1 := Scalar.cmpi .ne v441 c0_i32_256
  let v446 : BitVec 1 := Scalar.andi v445 v442
  let v447 : BitVec 32 := Scalar.addi v441 v440
  let v448 : BitVec 32 := Scalar.select v446 v447 v441
  let c1_i32_259 : BitVec 32 := 1#32
  let v449 : BitVec 32 := Scalar.subi v448 c1_i32_259
  let c0_i32_260 : BitVec 32 := 0#32
  let v450 : BitVec 32 := Scalar.addi v449 c0_i32_260
  let c0_i32_1089 : BitVec 32 := 0#32
  let c0_i32_1090 : BitVec 32 := 0#32
  ![v450.toNat, 0, 0]
def k0_off24 (d0 : Dev nD) : Fin 3 → Nat :=
  let c5_i32_243 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v425 : BitVec 32 := Scalar.subi c5_i32_243 v2
  let c8_i32_244 : BitVec 32 := 8#32
  let c0_i32_245 : BitVec 32 := 0#32
  let v426 : BitVec 1 := Scalar.cmpi .eq c8_i32_244 c0_i32_245
  let c1_i32_246 : BitVec 32 := 1#32
  let v427 : BitVec 32 := Scalar.select v426 c1_i32_246 c8_i32_244
  let v428 : BitVec 32 := Scalar.remsi v425 v427
  let c0_i32_248 : BitVec 32 := 0#32
  let v430 : BitVec 1 := Scalar.cmpi .slt v428 c0_i32_248
  let c0_i32_249 : BitVec 32 := 0#32
  let v431 : BitVec 1 := Scalar.cmpi .slt v427 c0_i32_249
  let v432 : BitVec 1 := Scalar.xori v430 v431
  let c0_i32_247 : BitVec 32 := 0#32
  let v429 : BitVec 1 := Scalar.cmpi .ne v428 c0_i32_247
  let v433 : BitVec 1 := Scalar.andi v432 v429
  let v434 : BitVec 32 := Scalar.addi v428 v427
  let v435 : BitVec 32 := Scalar.select v433 v434 v428
  let c1_i32_250 : BitVec 32 := 1#32
  let v436 : BitVec 32 := Scalar.subi v435 c1_i32_250
  let c0_i32_251 : BitVec 32 := 0#32
  let v437 : BitVec 32 := Scalar.addi v436 c0_i32_251
  let c0_i32_1091 : BitVec 32 := 0#32
  let c0_i32_1092 : BitVec 32 := 0#32
  ![v437.toNat, 0, 0]
def k0_dev13 : Nat :=
  let c0_i32_1088 : BitVec 32 := 0#32
  let c5_i32_1086 : BitVec 32 := 5#32
  let c1_i32_1087 : BitVec 32 := 1#32
  let v1785 : BitVec 32 := Scalar.muli c5_i32_1086 c1_i32_1087
  let v1786 : BitVec 32 := Scalar.addi c0_i32_1088 v1785
  v1786.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_281 : BitVec 32 := 6#32
  let v480 : BitVec 1 := Scalar.cmpi .ne v2 c6_i32_281
  let v481 : BitVec 32 := Scalar.extui v480
  let c0_i32_282 : BitVec 32 := 0#32
  let v482 : BitVec 1 := Scalar.cmpi .ne v481 c0_i32_282
  v482

def k0_off25 (d0 : Dev nD) : Fin 3 → Nat :=
  let c6_i32_263 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v454 : BitVec 32 := Scalar.subi c6_i32_263 v2
  let c8_i32_264 : BitVec 32 := 8#32
  let c0_i32_265 : BitVec 32 := 0#32
  let v455 : BitVec 1 := Scalar.cmpi .eq c8_i32_264 c0_i32_265
  let c1_i32_266 : BitVec 32 := 1#32
  let v456 : BitVec 32 := Scalar.select v455 c1_i32_266 c8_i32_264
  let v457 : BitVec 32 := Scalar.remsi v454 v456
  let c0_i32_268 : BitVec 32 := 0#32
  let v459 : BitVec 1 := Scalar.cmpi .slt v457 c0_i32_268
  let c0_i32_269 : BitVec 32 := 0#32
  let v460 : BitVec 1 := Scalar.cmpi .slt v456 c0_i32_269
  let v461 : BitVec 1 := Scalar.xori v459 v460
  let c0_i32_267 : BitVec 32 := 0#32
  let v458 : BitVec 1 := Scalar.cmpi .ne v457 c0_i32_267
  let v462 : BitVec 1 := Scalar.andi v461 v458
  let v463 : BitVec 32 := Scalar.addi v457 v456
  let v464 : BitVec 32 := Scalar.select v462 v463 v457
  let c1_i32_270 : BitVec 32 := 1#32
  let v465 : BitVec 32 := Scalar.subi v464 c1_i32_270
  let c0_i32_271 : BitVec 32 := 0#32
  let v466 : BitVec 32 := Scalar.addi v465 c0_i32_271
  let v1781 : Index := Scalar.indexCast v466
  let c0_1085 : Index := 0#32
  let c0_1086 : Index := 0#32
  ![v1781.toNat, 0, 0]
def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_272 : BitVec 32 := 6#32
  let v467 : BitVec 32 := Scalar.subi v2 c6_i32_272
  let c8_i32_273 : BitVec 32 := 8#32
  let c0_i32_274 : BitVec 32 := 0#32
  let v468 : BitVec 1 := Scalar.cmpi .eq c8_i32_273 c0_i32_274
  let c1_i32_275 : BitVec 32 := 1#32
  let v469 : BitVec 32 := Scalar.select v468 c1_i32_275 c8_i32_273
  let v470 : BitVec 32 := Scalar.remsi v467 v469
  let c0_i32_277 : BitVec 32 := 0#32
  let v472 : BitVec 1 := Scalar.cmpi .slt v470 c0_i32_277
  let c0_i32_278 : BitVec 32 := 0#32
  let v473 : BitVec 1 := Scalar.cmpi .slt v469 c0_i32_278
  let v474 : BitVec 1 := Scalar.xori v472 v473
  let c0_i32_276 : BitVec 32 := 0#32
  let v471 : BitVec 1 := Scalar.cmpi .ne v470 c0_i32_276
  let v475 : BitVec 1 := Scalar.andi v474 v471
  let v476 : BitVec 32 := Scalar.addi v470 v469
  let v477 : BitVec 32 := Scalar.select v475 v476 v470
  let c1_i32_279 : BitVec 32 := 1#32
  let v478 : BitVec 32 := Scalar.subi v477 c1_i32_279
  let c0_i32_280 : BitVec 32 := 0#32
  let v479 : BitVec 32 := Scalar.addi v478 c0_i32_280
  ![v479.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_272 : BitVec 32 := 6#32
  let v467 : BitVec 32 := Scalar.subi v2 c6_i32_272
  let c8_i32_273 : BitVec 32 := 8#32
  let c0_i32_274 : BitVec 32 := 0#32
  let v468 : BitVec 1 := Scalar.cmpi .eq c8_i32_273 c0_i32_274
  let c1_i32_275 : BitVec 32 := 1#32
  let v469 : BitVec 32 := Scalar.select v468 c1_i32_275 c8_i32_273
  let v470 : BitVec 32 := Scalar.remsi v467 v469
  let c0_i32_277 : BitVec 32 := 0#32
  let v472 : BitVec 1 := Scalar.cmpi .slt v470 c0_i32_277
  let c0_i32_278 : BitVec 32 := 0#32
  let v473 : BitVec 1 := Scalar.cmpi .slt v469 c0_i32_278
  let v474 : BitVec 1 := Scalar.xori v472 v473
  let c0_i32_276 : BitVec 32 := 0#32
  let v471 : BitVec 1 := Scalar.cmpi .ne v470 c0_i32_276
  let v475 : BitVec 1 := Scalar.andi v474 v471
  let v476 : BitVec 32 := Scalar.addi v470 v469
  let v477 : BitVec 32 := Scalar.select v475 v476 v470
  let c1_i32_279 : BitVec 32 := 1#32
  let v478 : BitVec 32 := Scalar.subi v477 c1_i32_279
  let c0_i32_280 : BitVec 32 := 0#32
  let v479 : BitVec 32 := Scalar.addi v478 c0_i32_280
  let c0_i32_1090 : BitVec 32 := 0#32
  let c0_i32_1091 : BitVec 32 := 0#32
  ![v479.toNat, 0, 0]
def k0_off28 (d0 : Dev nD) : Fin 3 → Nat :=
  let c6_i32_263 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v454 : BitVec 32 := Scalar.subi c6_i32_263 v2
  let c8_i32_264 : BitVec 32 := 8#32
  let c0_i32_265 : BitVec 32 := 0#32
  let v455 : BitVec 1 := Scalar.cmpi .eq c8_i32_264 c0_i32_265
  let c1_i32_266 : BitVec 32 := 1#32
  let v456 : BitVec 32 := Scalar.select v455 c1_i32_266 c8_i32_264
  let v457 : BitVec 32 := Scalar.remsi v454 v456
  let c0_i32_268 : BitVec 32 := 0#32
  let v459 : BitVec 1 := Scalar.cmpi .slt v457 c0_i32_268
  let c0_i32_269 : BitVec 32 := 0#32
  let v460 : BitVec 1 := Scalar.cmpi .slt v456 c0_i32_269
  let v461 : BitVec 1 := Scalar.xori v459 v460
  let c0_i32_267 : BitVec 32 := 0#32
  let v458 : BitVec 1 := Scalar.cmpi .ne v457 c0_i32_267
  let v462 : BitVec 1 := Scalar.andi v461 v458
  let v463 : BitVec 32 := Scalar.addi v457 v456
  let v464 : BitVec 32 := Scalar.select v462 v463 v457
  let c1_i32_270 : BitVec 32 := 1#32
  let v465 : BitVec 32 := Scalar.subi v464 c1_i32_270
  let c0_i32_271 : BitVec 32 := 0#32
  let v466 : BitVec 32 := Scalar.addi v465 c0_i32_271
  let c0_i32_1092 : BitVec 32 := 0#32
  let c0_i32_1093 : BitVec 32 := 0#32
  ![v466.toNat, 0, 0]
def k0_dev14 : Nat :=
  let c0_i32_1089 : BitVec 32 := 0#32
  let c6_i32_1087 : BitVec 32 := 6#32
  let c1_i32_1088 : BitVec 32 := 1#32
  let v1785 : BitVec 32 := Scalar.muli c6_i32_1087 c1_i32_1088
  let v1786 : BitVec 32 := Scalar.addi c0_i32_1089 v1785
  v1786.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_301 : BitVec 32 := 7#32
  let v509 : BitVec 1 := Scalar.cmpi .ne v2 c7_i32_301
  let v510 : BitVec 32 := Scalar.extui v509
  let c0_i32_302 : BitVec 32 := 0#32
  let v511 : BitVec 1 := Scalar.cmpi .ne v510 c0_i32_302
  v511

def k0_off29 (d0 : Dev nD) : Fin 3 → Nat :=
  let c7_i32_283 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v483 : BitVec 32 := Scalar.subi c7_i32_283 v2
  let c8_i32_284 : BitVec 32 := 8#32
  let c0_i32_285 : BitVec 32 := 0#32
  let v484 : BitVec 1 := Scalar.cmpi .eq c8_i32_284 c0_i32_285
  let c1_i32_286 : BitVec 32 := 1#32
  let v485 : BitVec 32 := Scalar.select v484 c1_i32_286 c8_i32_284
  let v486 : BitVec 32 := Scalar.remsi v483 v485
  let c0_i32_288 : BitVec 32 := 0#32
  let v488 : BitVec 1 := Scalar.cmpi .slt v486 c0_i32_288
  let c0_i32_289 : BitVec 32 := 0#32
  let v489 : BitVec 1 := Scalar.cmpi .slt v485 c0_i32_289
  let v490 : BitVec 1 := Scalar.xori v488 v489
  let c0_i32_287 : BitVec 32 := 0#32
  let v487 : BitVec 1 := Scalar.cmpi .ne v486 c0_i32_287
  let v491 : BitVec 1 := Scalar.andi v490 v487
  let v492 : BitVec 32 := Scalar.addi v486 v485
  let v493 : BitVec 32 := Scalar.select v491 v492 v486
  let c1_i32_290 : BitVec 32 := 1#32
  let v494 : BitVec 32 := Scalar.subi v493 c1_i32_290
  let c0_i32_291 : BitVec 32 := 0#32
  let v495 : BitVec 32 := Scalar.addi v494 c0_i32_291
  let v1781 : Index := Scalar.indexCast v495
  let c0_1084 : Index := 0#32
  let c0_1085 : Index := 0#32
  ![v1781.toNat, 0, 0]
def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_292 : BitVec 32 := 7#32
  let v496 : BitVec 32 := Scalar.subi v2 c7_i32_292
  let c8_i32_293 : BitVec 32 := 8#32
  let c0_i32_294 : BitVec 32 := 0#32
  let v497 : BitVec 1 := Scalar.cmpi .eq c8_i32_293 c0_i32_294
  let c1_i32_295 : BitVec 32 := 1#32
  let v498 : BitVec 32 := Scalar.select v497 c1_i32_295 c8_i32_293
  let v499 : BitVec 32 := Scalar.remsi v496 v498
  let c0_i32_297 : BitVec 32 := 0#32
  let v501 : BitVec 1 := Scalar.cmpi .slt v499 c0_i32_297
  let c0_i32_298 : BitVec 32 := 0#32
  let v502 : BitVec 1 := Scalar.cmpi .slt v498 c0_i32_298
  let v503 : BitVec 1 := Scalar.xori v501 v502
  let c0_i32_296 : BitVec 32 := 0#32
  let v500 : BitVec 1 := Scalar.cmpi .ne v499 c0_i32_296
  let v504 : BitVec 1 := Scalar.andi v503 v500
  let v505 : BitVec 32 := Scalar.addi v499 v498
  let v506 : BitVec 32 := Scalar.select v504 v505 v499
  let c1_i32_299 : BitVec 32 := 1#32
  let v507 : BitVec 32 := Scalar.subi v506 c1_i32_299
  let c0_i32_300 : BitVec 32 := 0#32
  let v508 : BitVec 32 := Scalar.addi v507 c0_i32_300
  ![v508.toNat]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_292 : BitVec 32 := 7#32
  let v496 : BitVec 32 := Scalar.subi v2 c7_i32_292
  let c8_i32_293 : BitVec 32 := 8#32
  let c0_i32_294 : BitVec 32 := 0#32
  let v497 : BitVec 1 := Scalar.cmpi .eq c8_i32_293 c0_i32_294
  let c1_i32_295 : BitVec 32 := 1#32
  let v498 : BitVec 32 := Scalar.select v497 c1_i32_295 c8_i32_293
  let v499 : BitVec 32 := Scalar.remsi v496 v498
  let c0_i32_297 : BitVec 32 := 0#32
  let v501 : BitVec 1 := Scalar.cmpi .slt v499 c0_i32_297
  let c0_i32_298 : BitVec 32 := 0#32
  let v502 : BitVec 1 := Scalar.cmpi .slt v498 c0_i32_298
  let v503 : BitVec 1 := Scalar.xori v501 v502
  let c0_i32_296 : BitVec 32 := 0#32
  let v500 : BitVec 1 := Scalar.cmpi .ne v499 c0_i32_296
  let v504 : BitVec 1 := Scalar.andi v503 v500
  let v505 : BitVec 32 := Scalar.addi v499 v498
  let v506 : BitVec 32 := Scalar.select v504 v505 v499
  let c1_i32_299 : BitVec 32 := 1#32
  let v507 : BitVec 32 := Scalar.subi v506 c1_i32_299
  let c0_i32_300 : BitVec 32 := 0#32
  let v508 : BitVec 32 := Scalar.addi v507 c0_i32_300
  let c0_i32_1089 : BitVec 32 := 0#32
  let c0_i32_1090 : BitVec 32 := 0#32
  ![v508.toNat, 0, 0]
def k0_off32 (d0 : Dev nD) : Fin 3 → Nat :=
  let c7_i32_283 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v483 : BitVec 32 := Scalar.subi c7_i32_283 v2
  let c8_i32_284 : BitVec 32 := 8#32
  let c0_i32_285 : BitVec 32 := 0#32
  let v484 : BitVec 1 := Scalar.cmpi .eq c8_i32_284 c0_i32_285
  let c1_i32_286 : BitVec 32 := 1#32
  let v485 : BitVec 32 := Scalar.select v484 c1_i32_286 c8_i32_284
  let v486 : BitVec 32 := Scalar.remsi v483 v485
  let c0_i32_288 : BitVec 32 := 0#32
  let v488 : BitVec 1 := Scalar.cmpi .slt v486 c0_i32_288
  let c0_i32_289 : BitVec 32 := 0#32
  let v489 : BitVec 1 := Scalar.cmpi .slt v485 c0_i32_289
  let v490 : BitVec 1 := Scalar.xori v488 v489
  let c0_i32_287 : BitVec 32 := 0#32
  let v487 : BitVec 1 := Scalar.cmpi .ne v486 c0_i32_287
  let v491 : BitVec 1 := Scalar.andi v490 v487
  let v492 : BitVec 32 := Scalar.addi v486 v485
  let v493 : BitVec 32 := Scalar.select v491 v492 v486
  let c1_i32_290 : BitVec 32 := 1#32
  let v494 : BitVec 32 := Scalar.subi v493 c1_i32_290
  let c0_i32_291 : BitVec 32 := 0#32
  let v495 : BitVec 32 := Scalar.addi v494 c0_i32_291
  let c0_i32_1091 : BitVec 32 := 0#32
  let c0_i32_1092 : BitVec 32 := 0#32
  ![v495.toNat, 0, 0]
def k0_dev15 : Nat :=
  let c0_i32_1088 : BitVec 32 := 0#32
  let c7_i32_1086 : BitVec 32 := 7#32
  let c1_i32_1087 : BitVec 32 := 1#32
  let v1785 : BitVec 32 := Scalar.muli c7_i32_1086 c1_i32_1087
  let v1786 : BitVec 32 := Scalar.addi c0_i32_1088 v1785
  v1786.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_396 : BitVec 32 := 0#32
  let v704 : BitVec 1 := Scalar.cmpi .ne v2 c0_i32_396
  let v705 : BitVec 32 := Scalar.extui v704
  let c0_i32_397 : BitVec 32 := 0#32
  let v706 : BitVec 1 := Scalar.cmpi .ne v705 c0_i32_397
  v706

def k0_off33 (d0 : Dev nD) : Fin 3 → Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v678 : BitVec 32 := Scalar.subi c0_i32_378 v2
  let c8_i32_379 : BitVec 32 := 8#32
  let c0_i32_380 : BitVec 32 := 0#32
  let v679 : BitVec 1 := Scalar.cmpi .eq c8_i32_379 c0_i32_380
  let c1_i32_381 : BitVec 32 := 1#32
  let v680 : BitVec 32 := Scalar.select v679 c1_i32_381 c8_i32_379
  let v681 : BitVec 32 := Scalar.remsi v678 v680
  let c0_i32_383 : BitVec 32 := 0#32
  let v683 : BitVec 1 := Scalar.cmpi .slt v681 c0_i32_383
  let c0_i32_384 : BitVec 32 := 0#32
  let v684 : BitVec 1 := Scalar.cmpi .slt v680 c0_i32_384
  let v685 : BitVec 1 := Scalar.xori v683 v684
  let c0_i32_382 : BitVec 32 := 0#32
  let v682 : BitVec 1 := Scalar.cmpi .ne v681 c0_i32_382
  let v686 : BitVec 1 := Scalar.andi v685 v682
  let v687 : BitVec 32 := Scalar.addi v681 v680
  let v688 : BitVec 32 := Scalar.select v686 v687 v681
  let c1_i32_385 : BitVec 32 := 1#32
  let v689 : BitVec 32 := Scalar.subi v688 c1_i32_385
  let c7_i32_386 : BitVec 32 := 7#32
  let v690 : BitVec 32 := Scalar.addi v689 c7_i32_386
  let v1781 : Index := Scalar.indexCast v690
  let c0_1085 : Index := 0#32
  let c0_1086 : Index := 0#32
  ![v1781.toNat, 0, 0]
def k0_off34 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_387 : BitVec 32 := 0#32
  let v691 : BitVec 32 := Scalar.subi v2 c0_i32_387
  let c8_i32_388 : BitVec 32 := 8#32
  let c0_i32_389 : BitVec 32 := 0#32
  let v692 : BitVec 1 := Scalar.cmpi .eq c8_i32_388 c0_i32_389
  let c1_i32_390 : BitVec 32 := 1#32
  let v693 : BitVec 32 := Scalar.select v692 c1_i32_390 c8_i32_388
  let v694 : BitVec 32 := Scalar.remsi v691 v693
  let c0_i32_392 : BitVec 32 := 0#32
  let v696 : BitVec 1 := Scalar.cmpi .slt v694 c0_i32_392
  let c0_i32_393 : BitVec 32 := 0#32
  let v697 : BitVec 1 := Scalar.cmpi .slt v693 c0_i32_393
  let v698 : BitVec 1 := Scalar.xori v696 v697
  let c0_i32_391 : BitVec 32 := 0#32
  let v695 : BitVec 1 := Scalar.cmpi .ne v694 c0_i32_391
  let v699 : BitVec 1 := Scalar.andi v698 v695
  let v700 : BitVec 32 := Scalar.addi v694 v693
  let v701 : BitVec 32 := Scalar.select v699 v700 v694
  let c1_i32_394 : BitVec 32 := 1#32
  let v702 : BitVec 32 := Scalar.subi v701 c1_i32_394
  let c7_i32_395 : BitVec 32 := 7#32
  let v703 : BitVec 32 := Scalar.addi v702 c7_i32_395
  ![v703.toNat]
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_387 : BitVec 32 := 0#32
  let v691 : BitVec 32 := Scalar.subi v2 c0_i32_387
  let c8_i32_388 : BitVec 32 := 8#32
  let c0_i32_389 : BitVec 32 := 0#32
  let v692 : BitVec 1 := Scalar.cmpi .eq c8_i32_388 c0_i32_389
  let c1_i32_390 : BitVec 32 := 1#32
  let v693 : BitVec 32 := Scalar.select v692 c1_i32_390 c8_i32_388
  let v694 : BitVec 32 := Scalar.remsi v691 v693
  let c0_i32_392 : BitVec 32 := 0#32
  let v696 : BitVec 1 := Scalar.cmpi .slt v694 c0_i32_392
  let c0_i32_393 : BitVec 32 := 0#32
  let v697 : BitVec 1 := Scalar.cmpi .slt v693 c0_i32_393
  let v698 : BitVec 1 := Scalar.xori v696 v697
  let c0_i32_391 : BitVec 32 := 0#32
  let v695 : BitVec 1 := Scalar.cmpi .ne v694 c0_i32_391
  let v699 : BitVec 1 := Scalar.andi v698 v695
  let v700 : BitVec 32 := Scalar.addi v694 v693
  let v701 : BitVec 32 := Scalar.select v699 v700 v694
  let c1_i32_394 : BitVec 32 := 1#32
  let v702 : BitVec 32 := Scalar.subi v701 c1_i32_394
  let c7_i32_395 : BitVec 32 := 7#32
  let v703 : BitVec 32 := Scalar.addi v702 c7_i32_395
  let c0_i32_1090 : BitVec 32 := 0#32
  let c0_i32_1091 : BitVec 32 := 0#32
  ![v703.toNat, 0, 0]
def k0_off36 (d0 : Dev nD) : Fin 3 → Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v678 : BitVec 32 := Scalar.subi c0_i32_378 v2
  let c8_i32_379 : BitVec 32 := 8#32
  let c0_i32_380 : BitVec 32 := 0#32
  let v679 : BitVec 1 := Scalar.cmpi .eq c8_i32_379 c0_i32_380
  let c1_i32_381 : BitVec 32 := 1#32
  let v680 : BitVec 32 := Scalar.select v679 c1_i32_381 c8_i32_379
  let v681 : BitVec 32 := Scalar.remsi v678 v680
  let c0_i32_383 : BitVec 32 := 0#32
  let v683 : BitVec 1 := Scalar.cmpi .slt v681 c0_i32_383
  let c0_i32_384 : BitVec 32 := 0#32
  let v684 : BitVec 1 := Scalar.cmpi .slt v680 c0_i32_384
  let v685 : BitVec 1 := Scalar.xori v683 v684
  let c0_i32_382 : BitVec 32 := 0#32
  let v682 : BitVec 1 := Scalar.cmpi .ne v681 c0_i32_382
  let v686 : BitVec 1 := Scalar.andi v685 v682
  let v687 : BitVec 32 := Scalar.addi v681 v680
  let v688 : BitVec 32 := Scalar.select v686 v687 v681
  let c1_i32_385 : BitVec 32 := 1#32
  let v689 : BitVec 32 := Scalar.subi v688 c1_i32_385
  let c7_i32_386 : BitVec 32 := 7#32
  let v690 : BitVec 32 := Scalar.addi v689 c7_i32_386
  let c0_i32_1092 : BitVec 32 := 0#32
  let c0_i32_1093 : BitVec 32 := 0#32
  ![v690.toNat, 0, 0]
def k0_dev16 : Nat :=
  let c0_i32_1089 : BitVec 32 := 0#32
  let c0_i32_1087 : BitVec 32 := 0#32
  let c1_i32_1088 : BitVec 32 := 1#32
  let v1785 : BitVec 32 := Scalar.muli c0_i32_1087 c1_i32_1088
  let v1786 : BitVec 32 := Scalar.addi c0_i32_1089 v1785
  v1786.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_416 : BitVec 32 := 1#32
  let v733 : BitVec 1 := Scalar.cmpi .ne v2 c1_i32_416
  let v734 : BitVec 32 := Scalar.extui v733
  let c0_i32_417 : BitVec 32 := 0#32
  let v735 : BitVec 1 := Scalar.cmpi .ne v734 c0_i32_417
  v735

def k0_off37 (d0 : Dev nD) : Fin 3 → Nat :=
  let c1_i32_398 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v707 : BitVec 32 := Scalar.subi c1_i32_398 v2
  let c8_i32_399 : BitVec 32 := 8#32
  let c0_i32_400 : BitVec 32 := 0#32
  let v708 : BitVec 1 := Scalar.cmpi .eq c8_i32_399 c0_i32_400
  let c1_i32_401 : BitVec 32 := 1#32
  let v709 : BitVec 32 := Scalar.select v708 c1_i32_401 c8_i32_399
  let v710 : BitVec 32 := Scalar.remsi v707 v709
  let c0_i32_403 : BitVec 32 := 0#32
  let v712 : BitVec 1 := Scalar.cmpi .slt v710 c0_i32_403
  let c0_i32_404 : BitVec 32 := 0#32
  let v713 : BitVec 1 := Scalar.cmpi .slt v709 c0_i32_404
  let v714 : BitVec 1 := Scalar.xori v712 v713
  let c0_i32_402 : BitVec 32 := 0#32
  let v711 : BitVec 1 := Scalar.cmpi .ne v710 c0_i32_402
  let v715 : BitVec 1 := Scalar.andi v714 v711
  let v716 : BitVec 32 := Scalar.addi v710 v709
  let v717 : BitVec 32 := Scalar.select v715 v716 v710
  let c1_i32_405 : BitVec 32 := 1#32
  let v718 : BitVec 32 := Scalar.subi v717 c1_i32_405
  let c7_i32_406 : BitVec 32 := 7#32
  let v719 : BitVec 32 := Scalar.addi v718 c7_i32_406
  let v1781 : Index := Scalar.indexCast v719
  let c0_1084 : Index := 0#32
  let c0_1085 : Index := 0#32
  ![v1781.toNat, 0, 0]
def k0_off38 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_407 : BitVec 32 := 1#32
  let v720 : BitVec 32 := Scalar.subi v2 c1_i32_407
  let c8_i32_408 : BitVec 32 := 8#32
  let c0_i32_409 : BitVec 32 := 0#32
  let v721 : BitVec 1 := Scalar.cmpi .eq c8_i32_408 c0_i32_409
  let c1_i32_410 : BitVec 32 := 1#32
  let v722 : BitVec 32 := Scalar.select v721 c1_i32_410 c8_i32_408
  let v723 : BitVec 32 := Scalar.remsi v720 v722
  let c0_i32_412 : BitVec 32 := 0#32
  let v725 : BitVec 1 := Scalar.cmpi .slt v723 c0_i32_412
  let c0_i32_413 : BitVec 32 := 0#32
  let v726 : BitVec 1 := Scalar.cmpi .slt v722 c0_i32_413
  let v727 : BitVec 1 := Scalar.xori v725 v726
  let c0_i32_411 : BitVec 32 := 0#32
  let v724 : BitVec 1 := Scalar.cmpi .ne v723 c0_i32_411
  let v728 : BitVec 1 := Scalar.andi v727 v724
  let v729 : BitVec 32 := Scalar.addi v723 v722
  let v730 : BitVec 32 := Scalar.select v728 v729 v723
  let c1_i32_414 : BitVec 32 := 1#32
  let v731 : BitVec 32 := Scalar.subi v730 c1_i32_414
  let c7_i32_415 : BitVec 32 := 7#32
  let v732 : BitVec 32 := Scalar.addi v731 c7_i32_415
  ![v732.toNat]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_407 : BitVec 32 := 1#32
  let v720 : BitVec 32 := Scalar.subi v2 c1_i32_407
  let c8_i32_408 : BitVec 32 := 8#32
  let c0_i32_409 : BitVec 32 := 0#32
  let v721 : BitVec 1 := Scalar.cmpi .eq c8_i32_408 c0_i32_409
  let c1_i32_410 : BitVec 32 := 1#32
  let v722 : BitVec 32 := Scalar.select v721 c1_i32_410 c8_i32_408
  let v723 : BitVec 32 := Scalar.remsi v720 v722
  let c0_i32_412 : BitVec 32 := 0#32
  let v725 : BitVec 1 := Scalar.cmpi .slt v723 c0_i32_412
  let c0_i32_413 : BitVec 32 := 0#32
  let v726 : BitVec 1 := Scalar.cmpi .slt v722 c0_i32_413
  let v727 : BitVec 1 := Scalar.xori v725 v726
  let c0_i32_411 : BitVec 32 := 0#32
  let v724 : BitVec 1 := Scalar.cmpi .ne v723 c0_i32_411
  let v728 : BitVec 1 := Scalar.andi v727 v724
  let v729 : BitVec 32 := Scalar.addi v723 v722
  let v730 : BitVec 32 := Scalar.select v728 v729 v723
  let c1_i32_414 : BitVec 32 := 1#32
  let v731 : BitVec 32 := Scalar.subi v730 c1_i32_414
  let c7_i32_415 : BitVec 32 := 7#32
  let v732 : BitVec 32 := Scalar.addi v731 c7_i32_415
  let c0_i32_1089 : BitVec 32 := 0#32
  let c0_i32_1090 : BitVec 32 := 0#32
  ![v732.toNat, 0, 0]
def k0_off40 (d0 : Dev nD) : Fin 3 → Nat :=
  let c1_i32_398 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v707 : BitVec 32 := Scalar.subi c1_i32_398 v2
  let c8_i32_399 : BitVec 32 := 8#32
  let c0_i32_400 : BitVec 32 := 0#32
  let v708 : BitVec 1 := Scalar.cmpi .eq c8_i32_399 c0_i32_400
  let c1_i32_401 : BitVec 32 := 1#32
  let v709 : BitVec 32 := Scalar.select v708 c1_i32_401 c8_i32_399
  let v710 : BitVec 32 := Scalar.remsi v707 v709
  let c0_i32_403 : BitVec 32 := 0#32
  let v712 : BitVec 1 := Scalar.cmpi .slt v710 c0_i32_403
  let c0_i32_404 : BitVec 32 := 0#32
  let v713 : BitVec 1 := Scalar.cmpi .slt v709 c0_i32_404
  let v714 : BitVec 1 := Scalar.xori v712 v713
  let c0_i32_402 : BitVec 32 := 0#32
  let v711 : BitVec 1 := Scalar.cmpi .ne v710 c0_i32_402
  let v715 : BitVec 1 := Scalar.andi v714 v711
  let v716 : BitVec 32 := Scalar.addi v710 v709
  let v717 : BitVec 32 := Scalar.select v715 v716 v710
  let c1_i32_405 : BitVec 32 := 1#32
  let v718 : BitVec 32 := Scalar.subi v717 c1_i32_405
  let c7_i32_406 : BitVec 32 := 7#32
  let v719 : BitVec 32 := Scalar.addi v718 c7_i32_406
  let c0_i32_1091 : BitVec 32 := 0#32
  let c0_i32_1092 : BitVec 32 := 0#32
  ![v719.toNat, 0, 0]
def k0_dev17 : Nat :=
  let c0_i32_1088 : BitVec 32 := 0#32
  let c1_i32_1086 : BitVec 32 := 1#32
  let c1_i32_1087 : BitVec 32 := 1#32
  let v1785 : BitVec 32 := Scalar.muli c1_i32_1086 c1_i32_1087
  let v1786 : BitVec 32 := Scalar.addi c0_i32_1088 v1785
  v1786.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_436 : BitVec 32 := 2#32
  let v762 : BitVec 1 := Scalar.cmpi .ne v2 c2_i32_436
  let v763 : BitVec 32 := Scalar.extui v762
  let c0_i32_437 : BitVec 32 := 0#32
  let v764 : BitVec 1 := Scalar.cmpi .ne v763 c0_i32_437
  v764

def k0_off41 (d0 : Dev nD) : Fin 3 → Nat :=
  let c2_i32_418 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v736 : BitVec 32 := Scalar.subi c2_i32_418 v2
  let c8_i32_419 : BitVec 32 := 8#32
  let c0_i32_420 : BitVec 32 := 0#32
  let v737 : BitVec 1 := Scalar.cmpi .eq c8_i32_419 c0_i32_420
  let c1_i32_421 : BitVec 32 := 1#32
  let v738 : BitVec 32 := Scalar.select v737 c1_i32_421 c8_i32_419
  let v739 : BitVec 32 := Scalar.remsi v736 v738
  let c0_i32_423 : BitVec 32 := 0#32
  let v741 : BitVec 1 := Scalar.cmpi .slt v739 c0_i32_423
  let c0_i32_424 : BitVec 32 := 0#32
  let v742 : BitVec 1 := Scalar.cmpi .slt v738 c0_i32_424
  let v743 : BitVec 1 := Scalar.xori v741 v742
  let c0_i32_422 : BitVec 32 := 0#32
  let v740 : BitVec 1 := Scalar.cmpi .ne v739 c0_i32_422
  let v744 : BitVec 1 := Scalar.andi v743 v740
  let v745 : BitVec 32 := Scalar.addi v739 v738
  let v746 : BitVec 32 := Scalar.select v744 v745 v739
  let c1_i32_425 : BitVec 32 := 1#32
  let v747 : BitVec 32 := Scalar.subi v746 c1_i32_425
  let c7_i32_426 : BitVec 32 := 7#32
  let v748 : BitVec 32 := Scalar.addi v747 c7_i32_426
  let v1781 : Index := Scalar.indexCast v748
  let c0_1085 : Index := 0#32
  let c0_1086 : Index := 0#32
  ![v1781.toNat, 0, 0]
def k0_off42 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_427 : BitVec 32 := 2#32
  let v749 : BitVec 32 := Scalar.subi v2 c2_i32_427
  let c8_i32_428 : BitVec 32 := 8#32
  let c0_i32_429 : BitVec 32 := 0#32
  let v750 : BitVec 1 := Scalar.cmpi .eq c8_i32_428 c0_i32_429
  let c1_i32_430 : BitVec 32 := 1#32
  let v751 : BitVec 32 := Scalar.select v750 c1_i32_430 c8_i32_428
  let v752 : BitVec 32 := Scalar.remsi v749 v751
  let c0_i32_432 : BitVec 32 := 0#32
  let v754 : BitVec 1 := Scalar.cmpi .slt v752 c0_i32_432
  let c0_i32_433 : BitVec 32 := 0#32
  let v755 : BitVec 1 := Scalar.cmpi .slt v751 c0_i32_433
  let v756 : BitVec 1 := Scalar.xori v754 v755
  let c0_i32_431 : BitVec 32 := 0#32
  let v753 : BitVec 1 := Scalar.cmpi .ne v752 c0_i32_431
  let v757 : BitVec 1 := Scalar.andi v756 v753
  let v758 : BitVec 32 := Scalar.addi v752 v751
  let v759 : BitVec 32 := Scalar.select v757 v758 v752
  let c1_i32_434 : BitVec 32 := 1#32
  let v760 : BitVec 32 := Scalar.subi v759 c1_i32_434
  let c7_i32_435 : BitVec 32 := 7#32
  let v761 : BitVec 32 := Scalar.addi v760 c7_i32_435
  ![v761.toNat]
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_427 : BitVec 32 := 2#32
  let v749 : BitVec 32 := Scalar.subi v2 c2_i32_427
  let c8_i32_428 : BitVec 32 := 8#32
  let c0_i32_429 : BitVec 32 := 0#32
  let v750 : BitVec 1 := Scalar.cmpi .eq c8_i32_428 c0_i32_429
  let c1_i32_430 : BitVec 32 := 1#32
  let v751 : BitVec 32 := Scalar.select v750 c1_i32_430 c8_i32_428
  let v752 : BitVec 32 := Scalar.remsi v749 v751
  let c0_i32_432 : BitVec 32 := 0#32
  let v754 : BitVec 1 := Scalar.cmpi .slt v752 c0_i32_432
  let c0_i32_433 : BitVec 32 := 0#32
  let v755 : BitVec 1 := Scalar.cmpi .slt v751 c0_i32_433
  let v756 : BitVec 1 := Scalar.xori v754 v755
  let c0_i32_431 : BitVec 32 := 0#32
  let v753 : BitVec 1 := Scalar.cmpi .ne v752 c0_i32_431
  let v757 : BitVec 1 := Scalar.andi v756 v753
  let v758 : BitVec 32 := Scalar.addi v752 v751
  let v759 : BitVec 32 := Scalar.select v757 v758 v752
  let c1_i32_434 : BitVec 32 := 1#32
  let v760 : BitVec 32 := Scalar.subi v759 c1_i32_434
  let c7_i32_435 : BitVec 32 := 7#32
  let v761 : BitVec 32 := Scalar.addi v760 c7_i32_435
  let c0_i32_1090 : BitVec 32 := 0#32
  let c0_i32_1091 : BitVec 32 := 0#32
  ![v761.toNat, 0, 0]
def k0_off44 (d0 : Dev nD) : Fin 3 → Nat :=
  let c2_i32_418 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v736 : BitVec 32 := Scalar.subi c2_i32_418 v2
  let c8_i32_419 : BitVec 32 := 8#32
  let c0_i32_420 : BitVec 32 := 0#32
  let v737 : BitVec 1 := Scalar.cmpi .eq c8_i32_419 c0_i32_420
  let c1_i32_421 : BitVec 32 := 1#32
  let v738 : BitVec 32 := Scalar.select v737 c1_i32_421 c8_i32_419
  let v739 : BitVec 32 := Scalar.remsi v736 v738
  let c0_i32_423 : BitVec 32 := 0#32
  let v741 : BitVec 1 := Scalar.cmpi .slt v739 c0_i32_423
  let c0_i32_424 : BitVec 32 := 0#32
  let v742 : BitVec 1 := Scalar.cmpi .slt v738 c0_i32_424
  let v743 : BitVec 1 := Scalar.xori v741 v742
  let c0_i32_422 : BitVec 32 := 0#32
  let v740 : BitVec 1 := Scalar.cmpi .ne v739 c0_i32_422
  let v744 : BitVec 1 := Scalar.andi v743 v740
  let v745 : BitVec 32 := Scalar.addi v739 v738
  let v746 : BitVec 32 := Scalar.select v744 v745 v739
  let c1_i32_425 : BitVec 32 := 1#32
  let v747 : BitVec 32 := Scalar.subi v746 c1_i32_425
  let c7_i32_426 : BitVec 32 := 7#32
  let v748 : BitVec 32 := Scalar.addi v747 c7_i32_426
  let c0_i32_1092 : BitVec 32 := 0#32
  let c0_i32_1093 : BitVec 32 := 0#32
  ![v748.toNat, 0, 0]
def k0_dev18 : Nat :=
  let c0_i32_1089 : BitVec 32 := 0#32
  let c2_i32_1087 : BitVec 32 := 2#32
  let c1_i32_1088 : BitVec 32 := 1#32
  let v1785 : BitVec 32 := Scalar.muli c2_i32_1087 c1_i32_1088
  let v1786 : BitVec 32 := Scalar.addi c0_i32_1089 v1785
  v1786.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_456 : BitVec 32 := 3#32
  let v791 : BitVec 1 := Scalar.cmpi .ne v2 c3_i32_456
  let v792 : BitVec 32 := Scalar.extui v791
  let c0_i32_457 : BitVec 32 := 0#32
  let v793 : BitVec 1 := Scalar.cmpi .ne v792 c0_i32_457
  v793

def k0_off45 (d0 : Dev nD) : Fin 3 → Nat :=
  let c3_i32_438 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v765 : BitVec 32 := Scalar.subi c3_i32_438 v2
  let c8_i32_439 : BitVec 32 := 8#32
  let c0_i32_440 : BitVec 32 := 0#32
  let v766 : BitVec 1 := Scalar.cmpi .eq c8_i32_439 c0_i32_440
  let c1_i32_441 : BitVec 32 := 1#32
  let v767 : BitVec 32 := Scalar.select v766 c1_i32_441 c8_i32_439
  let v768 : BitVec 32 := Scalar.remsi v765 v767
  let c0_i32_443 : BitVec 32 := 0#32
  let v770 : BitVec 1 := Scalar.cmpi .slt v768 c0_i32_443
  let c0_i32_444 : BitVec 32 := 0#32
  let v771 : BitVec 1 := Scalar.cmpi .slt v767 c0_i32_444
  let v772 : BitVec 1 := Scalar.xori v770 v771
  let c0_i32_442 : BitVec 32 := 0#32
  let v769 : BitVec 1 := Scalar.cmpi .ne v768 c0_i32_442
  let v773 : BitVec 1 := Scalar.andi v772 v769
  let v774 : BitVec 32 := Scalar.addi v768 v767
  let v775 : BitVec 32 := Scalar.select v773 v774 v768
  let c1_i32_445 : BitVec 32 := 1#32
  let v776 : BitVec 32 := Scalar.subi v775 c1_i32_445
  let c7_i32_446 : BitVec 32 := 7#32
  let v777 : BitVec 32 := Scalar.addi v776 c7_i32_446
  let v1781 : Index := Scalar.indexCast v777
  let c0_1084 : Index := 0#32
  let c0_1085 : Index := 0#32
  ![v1781.toNat, 0, 0]
def k0_off46 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_447 : BitVec 32 := 3#32
  let v778 : BitVec 32 := Scalar.subi v2 c3_i32_447
  let c8_i32_448 : BitVec 32 := 8#32
  let c0_i32_449 : BitVec 32 := 0#32
  let v779 : BitVec 1 := Scalar.cmpi .eq c8_i32_448 c0_i32_449
  let c1_i32_450 : BitVec 32 := 1#32
  let v780 : BitVec 32 := Scalar.select v779 c1_i32_450 c8_i32_448
  let v781 : BitVec 32 := Scalar.remsi v778 v780
  let c0_i32_452 : BitVec 32 := 0#32
  let v783 : BitVec 1 := Scalar.cmpi .slt v781 c0_i32_452
  let c0_i32_453 : BitVec 32 := 0#32
  let v784 : BitVec 1 := Scalar.cmpi .slt v780 c0_i32_453
  let v785 : BitVec 1 := Scalar.xori v783 v784
  let c0_i32_451 : BitVec 32 := 0#32
  let v782 : BitVec 1 := Scalar.cmpi .ne v781 c0_i32_451
  let v786 : BitVec 1 := Scalar.andi v785 v782
  let v787 : BitVec 32 := Scalar.addi v781 v780
  let v788 : BitVec 32 := Scalar.select v786 v787 v781
  let c1_i32_454 : BitVec 32 := 1#32
  let v789 : BitVec 32 := Scalar.subi v788 c1_i32_454
  let c7_i32_455 : BitVec 32 := 7#32
  let v790 : BitVec 32 := Scalar.addi v789 c7_i32_455
  ![v790.toNat]
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_447 : BitVec 32 := 3#32
  let v778 : BitVec 32 := Scalar.subi v2 c3_i32_447
  let c8_i32_448 : BitVec 32 := 8#32
  let c0_i32_449 : BitVec 32 := 0#32
  let v779 : BitVec 1 := Scalar.cmpi .eq c8_i32_448 c0_i32_449
  let c1_i32_450 : BitVec 32 := 1#32
  let v780 : BitVec 32 := Scalar.select v779 c1_i32_450 c8_i32_448
  let v781 : BitVec 32 := Scalar.remsi v778 v780
  let c0_i32_452 : BitVec 32 := 0#32
  let v783 : BitVec 1 := Scalar.cmpi .slt v781 c0_i32_452
  let c0_i32_453 : BitVec 32 := 0#32
  let v784 : BitVec 1 := Scalar.cmpi .slt v780 c0_i32_453
  let v785 : BitVec 1 := Scalar.xori v783 v784
  let c0_i32_451 : BitVec 32 := 0#32
  let v782 : BitVec 1 := Scalar.cmpi .ne v781 c0_i32_451
  let v786 : BitVec 1 := Scalar.andi v785 v782
  let v787 : BitVec 32 := Scalar.addi v781 v780
  let v788 : BitVec 32 := Scalar.select v786 v787 v781
  let c1_i32_454 : BitVec 32 := 1#32
  let v789 : BitVec 32 := Scalar.subi v788 c1_i32_454
  let c7_i32_455 : BitVec 32 := 7#32
  let v790 : BitVec 32 := Scalar.addi v789 c7_i32_455
  let c0_i32_1089 : BitVec 32 := 0#32
  let c0_i32_1090 : BitVec 32 := 0#32
  ![v790.toNat, 0, 0]
def k0_off48 (d0 : Dev nD) : Fin 3 → Nat :=
  let c3_i32_438 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v765 : BitVec 32 := Scalar.subi c3_i32_438 v2
  let c8_i32_439 : BitVec 32 := 8#32
  let c0_i32_440 : BitVec 32 := 0#32
  let v766 : BitVec 1 := Scalar.cmpi .eq c8_i32_439 c0_i32_440
  let c1_i32_441 : BitVec 32 := 1#32
  let v767 : BitVec 32 := Scalar.select v766 c1_i32_441 c8_i32_439
  let v768 : BitVec 32 := Scalar.remsi v765 v767
  let c0_i32_443 : BitVec 32 := 0#32
  let v770 : BitVec 1 := Scalar.cmpi .slt v768 c0_i32_443
  let c0_i32_444 : BitVec 32 := 0#32
  let v771 : BitVec 1 := Scalar.cmpi .slt v767 c0_i32_444
  let v772 : BitVec 1 := Scalar.xori v770 v771
  let c0_i32_442 : BitVec 32 := 0#32
  let v769 : BitVec 1 := Scalar.cmpi .ne v768 c0_i32_442
  let v773 : BitVec 1 := Scalar.andi v772 v769
  let v774 : BitVec 32 := Scalar.addi v768 v767
  let v775 : BitVec 32 := Scalar.select v773 v774 v768
  let c1_i32_445 : BitVec 32 := 1#32
  let v776 : BitVec 32 := Scalar.subi v775 c1_i32_445
  let c7_i32_446 : BitVec 32 := 7#32
  let v777 : BitVec 32 := Scalar.addi v776 c7_i32_446
  let c0_i32_1091 : BitVec 32 := 0#32
  let c0_i32_1092 : BitVec 32 := 0#32
  ![v777.toNat, 0, 0]
def k0_dev19 : Nat :=
  let c0_i32_1088 : BitVec 32 := 0#32
  let c3_i32_1086 : BitVec 32 := 3#32
  let c1_i32_1087 : BitVec 32 := 1#32
  let v1785 : BitVec 32 := Scalar.muli c3_i32_1086 c1_i32_1087
  let v1786 : BitVec 32 := Scalar.addi c0_i32_1088 v1785
  v1786.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_476 : BitVec 32 := 4#32
  let v820 : BitVec 1 := Scalar.cmpi .ne v2 c4_i32_476
  let v821 : BitVec 32 := Scalar.extui v820
  let c0_i32_477 : BitVec 32 := 0#32
  let v822 : BitVec 1 := Scalar.cmpi .ne v821 c0_i32_477
  v822

def k0_off49 (d0 : Dev nD) : Fin 3 → Nat :=
  let c4_i32_458 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v794 : BitVec 32 := Scalar.subi c4_i32_458 v2
  let c8_i32_459 : BitVec 32 := 8#32
  let c0_i32_460 : BitVec 32 := 0#32
  let v795 : BitVec 1 := Scalar.cmpi .eq c8_i32_459 c0_i32_460
  let c1_i32_461 : BitVec 32 := 1#32
  let v796 : BitVec 32 := Scalar.select v795 c1_i32_461 c8_i32_459
  let v797 : BitVec 32 := Scalar.remsi v794 v796
  let c0_i32_463 : BitVec 32 := 0#32
  let v799 : BitVec 1 := Scalar.cmpi .slt v797 c0_i32_463
  let c0_i32_464 : BitVec 32 := 0#32
  let v800 : BitVec 1 := Scalar.cmpi .slt v796 c0_i32_464
  let v801 : BitVec 1 := Scalar.xori v799 v800
  let c0_i32_462 : BitVec 32 := 0#32
  let v798 : BitVec 1 := Scalar.cmpi .ne v797 c0_i32_462
  let v802 : BitVec 1 := Scalar.andi v801 v798
  let v803 : BitVec 32 := Scalar.addi v797 v796
  let v804 : BitVec 32 := Scalar.select v802 v803 v797
  let c1_i32_465 : BitVec 32 := 1#32
  let v805 : BitVec 32 := Scalar.subi v804 c1_i32_465
  let c7_i32_466 : BitVec 32 := 7#32
  let v806 : BitVec 32 := Scalar.addi v805 c7_i32_466
  let v1781 : Index := Scalar.indexCast v806
  let c0_1085 : Index := 0#32
  let c0_1086 : Index := 0#32
  ![v1781.toNat, 0, 0]
def k0_off50 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_467 : BitVec 32 := 4#32
  let v807 : BitVec 32 := Scalar.subi v2 c4_i32_467
  let c8_i32_468 : BitVec 32 := 8#32
  let c0_i32_469 : BitVec 32 := 0#32
  let v808 : BitVec 1 := Scalar.cmpi .eq c8_i32_468 c0_i32_469
  let c1_i32_470 : BitVec 32 := 1#32
  let v809 : BitVec 32 := Scalar.select v808 c1_i32_470 c8_i32_468
  let v810 : BitVec 32 := Scalar.remsi v807 v809
  let c0_i32_472 : BitVec 32 := 0#32
  let v812 : BitVec 1 := Scalar.cmpi .slt v810 c0_i32_472
  let c0_i32_473 : BitVec 32 := 0#32
  let v813 : BitVec 1 := Scalar.cmpi .slt v809 c0_i32_473
  let v814 : BitVec 1 := Scalar.xori v812 v813
  let c0_i32_471 : BitVec 32 := 0#32
  let v811 : BitVec 1 := Scalar.cmpi .ne v810 c0_i32_471
  let v815 : BitVec 1 := Scalar.andi v814 v811
  let v816 : BitVec 32 := Scalar.addi v810 v809
  let v817 : BitVec 32 := Scalar.select v815 v816 v810
  let c1_i32_474 : BitVec 32 := 1#32
  let v818 : BitVec 32 := Scalar.subi v817 c1_i32_474
  let c7_i32_475 : BitVec 32 := 7#32
  let v819 : BitVec 32 := Scalar.addi v818 c7_i32_475
  ![v819.toNat]
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_467 : BitVec 32 := 4#32
  let v807 : BitVec 32 := Scalar.subi v2 c4_i32_467
  let c8_i32_468 : BitVec 32 := 8#32
  let c0_i32_469 : BitVec 32 := 0#32
  let v808 : BitVec 1 := Scalar.cmpi .eq c8_i32_468 c0_i32_469
  let c1_i32_470 : BitVec 32 := 1#32
  let v809 : BitVec 32 := Scalar.select v808 c1_i32_470 c8_i32_468
  let v810 : BitVec 32 := Scalar.remsi v807 v809
  let c0_i32_472 : BitVec 32 := 0#32
  let v812 : BitVec 1 := Scalar.cmpi .slt v810 c0_i32_472
  let c0_i32_473 : BitVec 32 := 0#32
  let v813 : BitVec 1 := Scalar.cmpi .slt v809 c0_i32_473
  let v814 : BitVec 1 := Scalar.xori v812 v813
  let c0_i32_471 : BitVec 32 := 0#32
  let v811 : BitVec 1 := Scalar.cmpi .ne v810 c0_i32_471
  let v815 : BitVec 1 := Scalar.andi v814 v811
  let v816 : BitVec 32 := Scalar.addi v810 v809
  let v817 : BitVec 32 := Scalar.select v815 v816 v810
  let c1_i32_474 : BitVec 32 := 1#32
  let v818 : BitVec 32 := Scalar.subi v817 c1_i32_474
  let c7_i32_475 : BitVec 32 := 7#32
  let v819 : BitVec 32 := Scalar.addi v818 c7_i32_475
  let c0_i32_1090 : BitVec 32 := 0#32
  let c0_i32_1091 : BitVec 32 := 0#32
  ![v819.toNat, 0, 0]
def k0_off52 (d0 : Dev nD) : Fin 3 → Nat :=
  let c4_i32_458 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v794 : BitVec 32 := Scalar.subi c4_i32_458 v2
  let c8_i32_459 : BitVec 32 := 8#32
  let c0_i32_460 : BitVec 32 := 0#32
  let v795 : BitVec 1 := Scalar.cmpi .eq c8_i32_459 c0_i32_460
  let c1_i32_461 : BitVec 32 := 1#32
  let v796 : BitVec 32 := Scalar.select v795 c1_i32_461 c8_i32_459
  let v797 : BitVec 32 := Scalar.remsi v794 v796
  let c0_i32_463 : BitVec 32 := 0#32
  let v799 : BitVec 1 := Scalar.cmpi .slt v797 c0_i32_463
  let c0_i32_464 : BitVec 32 := 0#32
  let v800 : BitVec 1 := Scalar.cmpi .slt v796 c0_i32_464
  let v801 : BitVec 1 := Scalar.xori v799 v800
  let c0_i32_462 : BitVec 32 := 0#32
  let v798 : BitVec 1 := Scalar.cmpi .ne v797 c0_i32_462
  let v802 : BitVec 1 := Scalar.andi v801 v798
  let v803 : BitVec 32 := Scalar.addi v797 v796
  let v804 : BitVec 32 := Scalar.select v802 v803 v797
  let c1_i32_465 : BitVec 32 := 1#32
  let v805 : BitVec 32 := Scalar.subi v804 c1_i32_465
  let c7_i32_466 : BitVec 32 := 7#32
  let v806 : BitVec 32 := Scalar.addi v805 c7_i32_466
  let c0_i32_1092 : BitVec 32 := 0#32
  let c0_i32_1093 : BitVec 32 := 0#32
  ![v806.toNat, 0, 0]
def k0_dev20 : Nat :=
  let c0_i32_1089 : BitVec 32 := 0#32
  let c4_i32_1087 : BitVec 32 := 4#32
  let c1_i32_1088 : BitVec 32 := 1#32
  let v1785 : BitVec 32 := Scalar.muli c4_i32_1087 c1_i32_1088
  let v1786 : BitVec 32 := Scalar.addi c0_i32_1089 v1785
  v1786.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_496 : BitVec 32 := 5#32
  let v849 : BitVec 1 := Scalar.cmpi .ne v2 c5_i32_496
  let v850 : BitVec 32 := Scalar.extui v849
  let c0_i32_497 : BitVec 32 := 0#32
  let v851 : BitVec 1 := Scalar.cmpi .ne v850 c0_i32_497
  v851

def k0_off53 (d0 : Dev nD) : Fin 3 → Nat :=
  let c5_i32_478 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v823 : BitVec 32 := Scalar.subi c5_i32_478 v2
  let c8_i32_479 : BitVec 32 := 8#32
  let c0_i32_480 : BitVec 32 := 0#32
  let v824 : BitVec 1 := Scalar.cmpi .eq c8_i32_479 c0_i32_480
  let c1_i32_481 : BitVec 32 := 1#32
  let v825 : BitVec 32 := Scalar.select v824 c1_i32_481 c8_i32_479
  let v826 : BitVec 32 := Scalar.remsi v823 v825
  let c0_i32_483 : BitVec 32 := 0#32
  let v828 : BitVec 1 := Scalar.cmpi .slt v826 c0_i32_483
  let c0_i32_484 : BitVec 32 := 0#32
  let v829 : BitVec 1 := Scalar.cmpi .slt v825 c0_i32_484
  let v830 : BitVec 1 := Scalar.xori v828 v829
  let c0_i32_482 : BitVec 32 := 0#32
  let v827 : BitVec 1 := Scalar.cmpi .ne v826 c0_i32_482
  let v831 : BitVec 1 := Scalar.andi v830 v827
  let v832 : BitVec 32 := Scalar.addi v826 v825
  let v833 : BitVec 32 := Scalar.select v831 v832 v826
  let c1_i32_485 : BitVec 32 := 1#32
  let v834 : BitVec 32 := Scalar.subi v833 c1_i32_485
  let c7_i32_486 : BitVec 32 := 7#32
  let v835 : BitVec 32 := Scalar.addi v834 c7_i32_486
  let v1781 : Index := Scalar.indexCast v835
  let c0_1084 : Index := 0#32
  let c0_1085 : Index := 0#32
  ![v1781.toNat, 0, 0]
def k0_off54 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_487 : BitVec 32 := 5#32
  let v836 : BitVec 32 := Scalar.subi v2 c5_i32_487
  let c8_i32_488 : BitVec 32 := 8#32
  let c0_i32_489 : BitVec 32 := 0#32
  let v837 : BitVec 1 := Scalar.cmpi .eq c8_i32_488 c0_i32_489
  let c1_i32_490 : BitVec 32 := 1#32
  let v838 : BitVec 32 := Scalar.select v837 c1_i32_490 c8_i32_488
  let v839 : BitVec 32 := Scalar.remsi v836 v838
  let c0_i32_492 : BitVec 32 := 0#32
  let v841 : BitVec 1 := Scalar.cmpi .slt v839 c0_i32_492
  let c0_i32_493 : BitVec 32 := 0#32
  let v842 : BitVec 1 := Scalar.cmpi .slt v838 c0_i32_493
  let v843 : BitVec 1 := Scalar.xori v841 v842
  let c0_i32_491 : BitVec 32 := 0#32
  let v840 : BitVec 1 := Scalar.cmpi .ne v839 c0_i32_491
  let v844 : BitVec 1 := Scalar.andi v843 v840
  let v845 : BitVec 32 := Scalar.addi v839 v838
  let v846 : BitVec 32 := Scalar.select v844 v845 v839
  let c1_i32_494 : BitVec 32 := 1#32
  let v847 : BitVec 32 := Scalar.subi v846 c1_i32_494
  let c7_i32_495 : BitVec 32 := 7#32
  let v848 : BitVec 32 := Scalar.addi v847 c7_i32_495
  ![v848.toNat]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_487 : BitVec 32 := 5#32
  let v836 : BitVec 32 := Scalar.subi v2 c5_i32_487
  let c8_i32_488 : BitVec 32 := 8#32
  let c0_i32_489 : BitVec 32 := 0#32
  let v837 : BitVec 1 := Scalar.cmpi .eq c8_i32_488 c0_i32_489
  let c1_i32_490 : BitVec 32 := 1#32
  let v838 : BitVec 32 := Scalar.select v837 c1_i32_490 c8_i32_488
  let v839 : BitVec 32 := Scalar.remsi v836 v838
  let c0_i32_492 : BitVec 32 := 0#32
  let v841 : BitVec 1 := Scalar.cmpi .slt v839 c0_i32_492
  let c0_i32_493 : BitVec 32 := 0#32
  let v842 : BitVec 1 := Scalar.cmpi .slt v838 c0_i32_493
  let v843 : BitVec 1 := Scalar.xori v841 v842
  let c0_i32_491 : BitVec 32 := 0#32
  let v840 : BitVec 1 := Scalar.cmpi .ne v839 c0_i32_491
  let v844 : BitVec 1 := Scalar.andi v843 v840
  let v845 : BitVec 32 := Scalar.addi v839 v838
  let v846 : BitVec 32 := Scalar.select v844 v845 v839
  let c1_i32_494 : BitVec 32 := 1#32
  let v847 : BitVec 32 := Scalar.subi v846 c1_i32_494
  let c7_i32_495 : BitVec 32 := 7#32
  let v848 : BitVec 32 := Scalar.addi v847 c7_i32_495
  let c0_i32_1089 : BitVec 32 := 0#32
  let c0_i32_1090 : BitVec 32 := 0#32
  ![v848.toNat, 0, 0]
def k0_off56 (d0 : Dev nD) : Fin 3 → Nat :=
  let c5_i32_478 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v823 : BitVec 32 := Scalar.subi c5_i32_478 v2
  let c8_i32_479 : BitVec 32 := 8#32
  let c0_i32_480 : BitVec 32 := 0#32
  let v824 : BitVec 1 := Scalar.cmpi .eq c8_i32_479 c0_i32_480
  let c1_i32_481 : BitVec 32 := 1#32
  let v825 : BitVec 32 := Scalar.select v824 c1_i32_481 c8_i32_479
  let v826 : BitVec 32 := Scalar.remsi v823 v825
  let c0_i32_483 : BitVec 32 := 0#32
  let v828 : BitVec 1 := Scalar.cmpi .slt v826 c0_i32_483
  let c0_i32_484 : BitVec 32 := 0#32
  let v829 : BitVec 1 := Scalar.cmpi .slt v825 c0_i32_484
  let v830 : BitVec 1 := Scalar.xori v828 v829
  let c0_i32_482 : BitVec 32 := 0#32
  let v827 : BitVec 1 := Scalar.cmpi .ne v826 c0_i32_482
  let v831 : BitVec 1 := Scalar.andi v830 v827
  let v832 : BitVec 32 := Scalar.addi v826 v825
  let v833 : BitVec 32 := Scalar.select v831 v832 v826
  let c1_i32_485 : BitVec 32 := 1#32
  let v834 : BitVec 32 := Scalar.subi v833 c1_i32_485
  let c7_i32_486 : BitVec 32 := 7#32
  let v835 : BitVec 32 := Scalar.addi v834 c7_i32_486
  let c0_i32_1091 : BitVec 32 := 0#32
  let c0_i32_1092 : BitVec 32 := 0#32
  ![v835.toNat, 0, 0]
def k0_dev21 : Nat :=
  let c0_i32_1088 : BitVec 32 := 0#32
  let c5_i32_1086 : BitVec 32 := 5#32
  let c1_i32_1087 : BitVec 32 := 1#32
  let v1785 : BitVec 32 := Scalar.muli c5_i32_1086 c1_i32_1087
  let v1786 : BitVec 32 := Scalar.addi c0_i32_1088 v1785
  v1786.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_516 : BitVec 32 := 6#32
  let v878 : BitVec 1 := Scalar.cmpi .ne v2 c6_i32_516
  let v879 : BitVec 32 := Scalar.extui v878
  let c0_i32_517 : BitVec 32 := 0#32
  let v880 : BitVec 1 := Scalar.cmpi .ne v879 c0_i32_517
  v880

def k0_off57 (d0 : Dev nD) : Fin 3 → Nat :=
  let c6_i32_498 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v852 : BitVec 32 := Scalar.subi c6_i32_498 v2
  let c8_i32_499 : BitVec 32 := 8#32
  let c0_i32_500 : BitVec 32 := 0#32
  let v853 : BitVec 1 := Scalar.cmpi .eq c8_i32_499 c0_i32_500
  let c1_i32_501 : BitVec 32 := 1#32
  let v854 : BitVec 32 := Scalar.select v853 c1_i32_501 c8_i32_499
  let v855 : BitVec 32 := Scalar.remsi v852 v854
  let c0_i32_503 : BitVec 32 := 0#32
  let v857 : BitVec 1 := Scalar.cmpi .slt v855 c0_i32_503
  let c0_i32_504 : BitVec 32 := 0#32
  let v858 : BitVec 1 := Scalar.cmpi .slt v854 c0_i32_504
  let v859 : BitVec 1 := Scalar.xori v857 v858
  let c0_i32_502 : BitVec 32 := 0#32
  let v856 : BitVec 1 := Scalar.cmpi .ne v855 c0_i32_502
  let v860 : BitVec 1 := Scalar.andi v859 v856
  let v861 : BitVec 32 := Scalar.addi v855 v854
  let v862 : BitVec 32 := Scalar.select v860 v861 v855
  let c1_i32_505 : BitVec 32 := 1#32
  let v863 : BitVec 32 := Scalar.subi v862 c1_i32_505
  let c7_i32_506 : BitVec 32 := 7#32
  let v864 : BitVec 32 := Scalar.addi v863 c7_i32_506
  let v1781 : Index := Scalar.indexCast v864
  let c0_1085 : Index := 0#32
  let c0_1086 : Index := 0#32
  ![v1781.toNat, 0, 0]
def k0_off58 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_507 : BitVec 32 := 6#32
  let v865 : BitVec 32 := Scalar.subi v2 c6_i32_507
  let c8_i32_508 : BitVec 32 := 8#32
  let c0_i32_509 : BitVec 32 := 0#32
  let v866 : BitVec 1 := Scalar.cmpi .eq c8_i32_508 c0_i32_509
  let c1_i32_510 : BitVec 32 := 1#32
  let v867 : BitVec 32 := Scalar.select v866 c1_i32_510 c8_i32_508
  let v868 : BitVec 32 := Scalar.remsi v865 v867
  let c0_i32_512 : BitVec 32 := 0#32
  let v870 : BitVec 1 := Scalar.cmpi .slt v868 c0_i32_512
  let c0_i32_513 : BitVec 32 := 0#32
  let v871 : BitVec 1 := Scalar.cmpi .slt v867 c0_i32_513
  let v872 : BitVec 1 := Scalar.xori v870 v871
  let c0_i32_511 : BitVec 32 := 0#32
  let v869 : BitVec 1 := Scalar.cmpi .ne v868 c0_i32_511
  let v873 : BitVec 1 := Scalar.andi v872 v869
  let v874 : BitVec 32 := Scalar.addi v868 v867
  let v875 : BitVec 32 := Scalar.select v873 v874 v868
  let c1_i32_514 : BitVec 32 := 1#32
  let v876 : BitVec 32 := Scalar.subi v875 c1_i32_514
  let c7_i32_515 : BitVec 32 := 7#32
  let v877 : BitVec 32 := Scalar.addi v876 c7_i32_515
  ![v877.toNat]
def k0_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_507 : BitVec 32 := 6#32
  let v865 : BitVec 32 := Scalar.subi v2 c6_i32_507
  let c8_i32_508 : BitVec 32 := 8#32
  let c0_i32_509 : BitVec 32 := 0#32
  let v866 : BitVec 1 := Scalar.cmpi .eq c8_i32_508 c0_i32_509
  let c1_i32_510 : BitVec 32 := 1#32
  let v867 : BitVec 32 := Scalar.select v866 c1_i32_510 c8_i32_508
  let v868 : BitVec 32 := Scalar.remsi v865 v867
  let c0_i32_512 : BitVec 32 := 0#32
  let v870 : BitVec 1 := Scalar.cmpi .slt v868 c0_i32_512
  let c0_i32_513 : BitVec 32 := 0#32
  let v871 : BitVec 1 := Scalar.cmpi .slt v867 c0_i32_513
  let v872 : BitVec 1 := Scalar.xori v870 v871
  let c0_i32_511 : BitVec 32 := 0#32
  let v869 : BitVec 1 := Scalar.cmpi .ne v868 c0_i32_511
  let v873 : BitVec 1 := Scalar.andi v872 v869
  let v874 : BitVec 32 := Scalar.addi v868 v867
  let v875 : BitVec 32 := Scalar.select v873 v874 v868
  let c1_i32_514 : BitVec 32 := 1#32
  let v876 : BitVec 32 := Scalar.subi v875 c1_i32_514
  let c7_i32_515 : BitVec 32 := 7#32
  let v877 : BitVec 32 := Scalar.addi v876 c7_i32_515
  let c0_i32_1090 : BitVec 32 := 0#32
  let c0_i32_1091 : BitVec 32 := 0#32
  ![v877.toNat, 0, 0]
def k0_off60 (d0 : Dev nD) : Fin 3 → Nat :=
  let c6_i32_498 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v852 : BitVec 32 := Scalar.subi c6_i32_498 v2
  let c8_i32_499 : BitVec 32 := 8#32
  let c0_i32_500 : BitVec 32 := 0#32
  let v853 : BitVec 1 := Scalar.cmpi .eq c8_i32_499 c0_i32_500
  let c1_i32_501 : BitVec 32 := 1#32
  let v854 : BitVec 32 := Scalar.select v853 c1_i32_501 c8_i32_499
  let v855 : BitVec 32 := Scalar.remsi v852 v854
  let c0_i32_503 : BitVec 32 := 0#32
  let v857 : BitVec 1 := Scalar.cmpi .slt v855 c0_i32_503
  let c0_i32_504 : BitVec 32 := 0#32
  let v858 : BitVec 1 := Scalar.cmpi .slt v854 c0_i32_504
  let v859 : BitVec 1 := Scalar.xori v857 v858
  let c0_i32_502 : BitVec 32 := 0#32
  let v856 : BitVec 1 := Scalar.cmpi .ne v855 c0_i32_502
  let v860 : BitVec 1 := Scalar.andi v859 v856
  let v861 : BitVec 32 := Scalar.addi v855 v854
  let v862 : BitVec 32 := Scalar.select v860 v861 v855
  let c1_i32_505 : BitVec 32 := 1#32
  let v863 : BitVec 32 := Scalar.subi v862 c1_i32_505
  let c7_i32_506 : BitVec 32 := 7#32
  let v864 : BitVec 32 := Scalar.addi v863 c7_i32_506
  let c0_i32_1092 : BitVec 32 := 0#32
  let c0_i32_1093 : BitVec 32 := 0#32
  ![v864.toNat, 0, 0]
def k0_dev22 : Nat :=
  let c0_i32_1089 : BitVec 32 := 0#32
  let c6_i32_1087 : BitVec 32 := 6#32
  let c1_i32_1088 : BitVec 32 := 1#32
  let v1785 : BitVec 32 := Scalar.muli c6_i32_1087 c1_i32_1088
  let v1786 : BitVec 32 := Scalar.addi c0_i32_1089 v1785
  v1786.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_536 : BitVec 32 := 7#32
  let v907 : BitVec 1 := Scalar.cmpi .ne v2 c7_i32_536
  let v908 : BitVec 32 := Scalar.extui v907
  let c0_i32_537 : BitVec 32 := 0#32
  let v909 : BitVec 1 := Scalar.cmpi .ne v908 c0_i32_537
  v909

def k0_off61 (d0 : Dev nD) : Fin 3 → Nat :=
  let c7_i32_518 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v881 : BitVec 32 := Scalar.subi c7_i32_518 v2
  let c8_i32_519 : BitVec 32 := 8#32
  let c0_i32_520 : BitVec 32 := 0#32
  let v882 : BitVec 1 := Scalar.cmpi .eq c8_i32_519 c0_i32_520
  let c1_i32_521 : BitVec 32 := 1#32
  let v883 : BitVec 32 := Scalar.select v882 c1_i32_521 c8_i32_519
  let v884 : BitVec 32 := Scalar.remsi v881 v883
  let c0_i32_523 : BitVec 32 := 0#32
  let v886 : BitVec 1 := Scalar.cmpi .slt v884 c0_i32_523
  let c0_i32_524 : BitVec 32 := 0#32
  let v887 : BitVec 1 := Scalar.cmpi .slt v883 c0_i32_524
  let v888 : BitVec 1 := Scalar.xori v886 v887
  let c0_i32_522 : BitVec 32 := 0#32
  let v885 : BitVec 1 := Scalar.cmpi .ne v884 c0_i32_522
  let v889 : BitVec 1 := Scalar.andi v888 v885
  let v890 : BitVec 32 := Scalar.addi v884 v883
  let v891 : BitVec 32 := Scalar.select v889 v890 v884
  let c1_i32_525 : BitVec 32 := 1#32
  let v892 : BitVec 32 := Scalar.subi v891 c1_i32_525
  let c7_i32_526 : BitVec 32 := 7#32
  let v893 : BitVec 32 := Scalar.addi v892 c7_i32_526
  let v1781 : Index := Scalar.indexCast v893
  let c0_1084 : Index := 0#32
  let c0_1085 : Index := 0#32
  ![v1781.toNat, 0, 0]
def k0_off62 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_527 : BitVec 32 := 7#32
  let v894 : BitVec 32 := Scalar.subi v2 c7_i32_527
  let c8_i32_528 : BitVec 32 := 8#32
  let c0_i32_529 : BitVec 32 := 0#32
  let v895 : BitVec 1 := Scalar.cmpi .eq c8_i32_528 c0_i32_529
  let c1_i32_530 : BitVec 32 := 1#32
  let v896 : BitVec 32 := Scalar.select v895 c1_i32_530 c8_i32_528
  let v897 : BitVec 32 := Scalar.remsi v894 v896
  let c0_i32_532 : BitVec 32 := 0#32
  let v899 : BitVec 1 := Scalar.cmpi .slt v897 c0_i32_532
  let c0_i32_533 : BitVec 32 := 0#32
  let v900 : BitVec 1 := Scalar.cmpi .slt v896 c0_i32_533
  let v901 : BitVec 1 := Scalar.xori v899 v900
  let c0_i32_531 : BitVec 32 := 0#32
  let v898 : BitVec 1 := Scalar.cmpi .ne v897 c0_i32_531
  let v902 : BitVec 1 := Scalar.andi v901 v898
  let v903 : BitVec 32 := Scalar.addi v897 v896
  let v904 : BitVec 32 := Scalar.select v902 v903 v897
  let c1_i32_534 : BitVec 32 := 1#32
  let v905 : BitVec 32 := Scalar.subi v904 c1_i32_534
  let c7_i32_535 : BitVec 32 := 7#32
  let v906 : BitVec 32 := Scalar.addi v905 c7_i32_535
  ![v906.toNat]
def k0_off63 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_527 : BitVec 32 := 7#32
  let v894 : BitVec 32 := Scalar.subi v2 c7_i32_527
  let c8_i32_528 : BitVec 32 := 8#32
  let c0_i32_529 : BitVec 32 := 0#32
  let v895 : BitVec 1 := Scalar.cmpi .eq c8_i32_528 c0_i32_529
  let c1_i32_530 : BitVec 32 := 1#32
  let v896 : BitVec 32 := Scalar.select v895 c1_i32_530 c8_i32_528
  let v897 : BitVec 32 := Scalar.remsi v894 v896
  let c0_i32_532 : BitVec 32 := 0#32
  let v899 : BitVec 1 := Scalar.cmpi .slt v897 c0_i32_532
  let c0_i32_533 : BitVec 32 := 0#32
  let v900 : BitVec 1 := Scalar.cmpi .slt v896 c0_i32_533
  let v901 : BitVec 1 := Scalar.xori v899 v900
  let c0_i32_531 : BitVec 32 := 0#32
  let v898 : BitVec 1 := Scalar.cmpi .ne v897 c0_i32_531
  let v902 : BitVec 1 := Scalar.andi v901 v898
  let v903 : BitVec 32 := Scalar.addi v897 v896
  let v904 : BitVec 32 := Scalar.select v902 v903 v897
  let c1_i32_534 : BitVec 32 := 1#32
  let v905 : BitVec 32 := Scalar.subi v904 c1_i32_534
  let c7_i32_535 : BitVec 32 := 7#32
  let v906 : BitVec 32 := Scalar.addi v905 c7_i32_535
  let c0_i32_1089 : BitVec 32 := 0#32
  let c0_i32_1090 : BitVec 32 := 0#32
  ![v906.toNat, 0, 0]
def k0_off64 (d0 : Dev nD) : Fin 3 → Nat :=
  let c7_i32_518 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v881 : BitVec 32 := Scalar.subi c7_i32_518 v2
  let c8_i32_519 : BitVec 32 := 8#32
  let c0_i32_520 : BitVec 32 := 0#32
  let v882 : BitVec 1 := Scalar.cmpi .eq c8_i32_519 c0_i32_520
  let c1_i32_521 : BitVec 32 := 1#32
  let v883 : BitVec 32 := Scalar.select v882 c1_i32_521 c8_i32_519
  let v884 : BitVec 32 := Scalar.remsi v881 v883
  let c0_i32_523 : BitVec 32 := 0#32
  let v886 : BitVec 1 := Scalar.cmpi .slt v884 c0_i32_523
  let c0_i32_524 : BitVec 32 := 0#32
  let v887 : BitVec 1 := Scalar.cmpi .slt v883 c0_i32_524
  let v888 : BitVec 1 := Scalar.xori v886 v887
  let c0_i32_522 : BitVec 32 := 0#32
  let v885 : BitVec 1 := Scalar.cmpi .ne v884 c0_i32_522
  let v889 : BitVec 1 := Scalar.andi v888 v885
  let v890 : BitVec 32 := Scalar.addi v884 v883
  let v891 : BitVec 32 := Scalar.select v889 v890 v884
  let c1_i32_525 : BitVec 32 := 1#32
  let v892 : BitVec 32 := Scalar.subi v891 c1_i32_525
  let c7_i32_526 : BitVec 32 := 7#32
  let v893 : BitVec 32 := Scalar.addi v892 c7_i32_526
  let c0_i32_1091 : BitVec 32 := 0#32
  let c0_i32_1092 : BitVec 32 := 0#32
  ![v893.toNat, 0, 0]
def k0_dev23 : Nat :=
  let c0_i32_1088 : BitVec 32 := 0#32
  let c7_i32_1086 : BitVec 32 := 7#32
  let c1_i32_1087 : BitVec 32 := 1#32
  let v1785 : BitVec 32 := Scalar.muli c7_i32_1086 c1_i32_1087
  let v1786 : BitVec 32 := Scalar.addi c0_i32_1088 v1785
  v1786.toNat
@[reducible] def k0_t1_loop : Scf.Loop 32 :=
  let c0_i32_540 : BitVec 32 := 0#32
  let c7_i32_541 : BitVec 32 := 7#32
  let v912 : BitVec 32 := Scalar.addi c0_i32_540 c7_i32_541
  let c1_i32_542 : BitVec 32 := 1#32
  ⟨c0_i32_540, v912, c1_i32_542⟩
def k0_off65 (k0_t1 : Fin k0_t1_loop.trips) : Fin 1 → Nat :=
  let c0_i32_540 : BitVec 32 := 0#32
  let c1_i32_542 : BitVec 32 := 1#32
  let arg12 : BitVec 32 := Scf.iv c0_i32_540 c1_i32_542 k0_t1
  ![arg12.toNat]
def k0_off66 (k0_t1 : Fin k0_t1_loop.trips) : Fin 3 → Nat :=
  let c0_i32_540 : BitVec 32 := 0#32
  let c1_i32_542 : BitVec 32 := 1#32
  let arg12 : BitVec 32 := Scf.iv c0_i32_540 c1_i32_542 k0_t1
  let c0_i32_1087 : BitVec 32 := 0#32
  let c0_i32_1088 : BitVec 32 := 0#32
  ![arg12.toNat, 0, 0]
def k0_off67 (d0 : Dev nD) (c0_i32_538 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v910 : BitVec 32 := Scalar.addi v2 c0_i32_538
  let c64_i32_539 : BitVec 32 := 64#32
  let v911 : BitVec 32 := Scalar.muli v910 c64_i32_539
  let v913 : Index := Scalar.indexCast v911
  let c0_544 : Index := 0#32
  ![v913.toNat, 0]
@[reducible] def k0_t2_loop : Scf.Loop 32 :=
  let c0_i32_553 : BitVec 32 := 0#32
  let c7_i32_554 : BitVec 32 := 7#32
  let v926 : BitVec 32 := Scalar.addi c0_i32_553 c7_i32_554
  let c1_i32_555 : BitVec 32 := 1#32
  ⟨c0_i32_553, v926, c1_i32_555⟩
def k0_off68 (k0_t2 : Fin k0_t2_loop.trips) : Fin 1 → Nat :=
  let c28_i32_1098 : BitVec 32 := 28#32
  let c0_i32_553 : BitVec 32 := 0#32
  let c1_i32_555 : BitVec 32 := 1#32
  let arg12 : BitVec 32 := Scf.iv c0_i32_553 c1_i32_555 k0_t2
  let v1802 : BitVec 32 := Scalar.addi c28_i32_1098 arg12
  ![v1802.toNat]
def k0_off69 (d0 : Dev nD) (k0_t2 : Fin k0_t2_loop.trips) : Fin 1 → Nat :=
  let c28_i32_1099 : BitVec 32 := 28#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_553 : BitVec 32 := 0#32
  let c1_i32_555 : BitVec 32 := 1#32
  let arg12 : BitVec 32 := Scf.iv c0_i32_553 c1_i32_555 k0_t2
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c0_i32_1097 : BitVec 32 := 0#32
  let v1801 : BitVec 32 := Scalar.addi v1800 c0_i32_1097
  let v1803 : BitVec 32 := Scalar.addi c28_i32_1099 v1801
  ![v1803.toNat]
def k0_off70 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_553 : BitVec 32 := 0#32
  let c1_i32_555 : BitVec 32 := 1#32
  let arg12 : BitVec 32 := Scf.iv c0_i32_553 c1_i32_555 k0_t2
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c0_i32_1097 : BitVec 32 := 0#32
  let v1801 : BitVec 32 := Scalar.addi v1800 c0_i32_1097
  let c0_i32_1103 : BitVec 32 := 0#32
  let c0_i32_1104 : BitVec 32 := 0#32
  ![v1801.toNat, 0, 0]
def k0_dev24 (d0 : Dev nD) (k0_t2 : Fin k0_t2_loop.trips) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_553 : BitVec 32 := 0#32
  let c1_i32_555 : BitVec 32 := 1#32
  let arg12 : BitVec 32 := Scf.iv c0_i32_553 c1_i32_555 k0_t2
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let c1_i32_1101 : BitVec 32 := 1#32
  let v1804 : BitVec 32 := Scalar.muli v1788 c1_i32_1101
  let v1805 : BitVec 32 := Scalar.addi c0_i32_1102 v1804
  v1805.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_648 : BitVec 32 := 0#32
  let v1119 : BitVec 1 := Scalar.cmpi .ne v2 c0_i32_648
  let v1120 : BitVec 32 := Scalar.extui v1119
  let c0_i32_649 : BitVec 32 := 0#32
  let v1121 : BitVec 1 := Scalar.cmpi .ne v1120 c0_i32_649
  v1121

def k0_off71 (d0 : Dev nD) : Fin 3 → Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1093 : BitVec 32 := Scalar.subi c0_i32_631 v2
  let c8_i32_632 : BitVec 32 := 8#32
  let c0_i32_633 : BitVec 32 := 0#32
  let v1094 : BitVec 1 := Scalar.cmpi .eq c8_i32_632 c0_i32_633
  let c1_i32_634 : BitVec 32 := 1#32
  let v1095 : BitVec 32 := Scalar.select v1094 c1_i32_634 c8_i32_632
  let v1096 : BitVec 32 := Scalar.remsi v1093 v1095
  let c0_i32_636 : BitVec 32 := 0#32
  let v1098 : BitVec 1 := Scalar.cmpi .slt v1096 c0_i32_636
  let c0_i32_637 : BitVec 32 := 0#32
  let v1099 : BitVec 1 := Scalar.cmpi .slt v1095 c0_i32_637
  let v1100 : BitVec 1 := Scalar.xori v1098 v1099
  let c0_i32_635 : BitVec 32 := 0#32
  let v1097 : BitVec 1 := Scalar.cmpi .ne v1096 c0_i32_635
  let v1101 : BitVec 1 := Scalar.andi v1100 v1097
  let v1102 : BitVec 32 := Scalar.addi v1096 v1095
  let v1103 : BitVec 32 := Scalar.select v1101 v1102 v1096
  let c1_i32_638 : BitVec 32 := 1#32
  let v1104 : BitVec 32 := Scalar.subi v1103 c1_i32_638
  let c14_i32 : BitVec 32 := 14#32
  let v1105 : BitVec 32 := Scalar.addi v1104 c14_i32
  let v1781 : Index := Scalar.indexCast v1105
  let c0_1085 : Index := 0#32
  let c0_1086 : Index := 0#32
  ![v1781.toNat, 0, 0]
def k0_off72 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_639 : BitVec 32 := 0#32
  let v1106 : BitVec 32 := Scalar.subi v2 c0_i32_639
  let c8_i32_640 : BitVec 32 := 8#32
  let c0_i32_641 : BitVec 32 := 0#32
  let v1107 : BitVec 1 := Scalar.cmpi .eq c8_i32_640 c0_i32_641
  let c1_i32_642 : BitVec 32 := 1#32
  let v1108 : BitVec 32 := Scalar.select v1107 c1_i32_642 c8_i32_640
  let v1109 : BitVec 32 := Scalar.remsi v1106 v1108
  let c0_i32_644 : BitVec 32 := 0#32
  let v1111 : BitVec 1 := Scalar.cmpi .slt v1109 c0_i32_644
  let c0_i32_645 : BitVec 32 := 0#32
  let v1112 : BitVec 1 := Scalar.cmpi .slt v1108 c0_i32_645
  let v1113 : BitVec 1 := Scalar.xori v1111 v1112
  let c0_i32_643 : BitVec 32 := 0#32
  let v1110 : BitVec 1 := Scalar.cmpi .ne v1109 c0_i32_643
  let v1114 : BitVec 1 := Scalar.andi v1113 v1110
  let v1115 : BitVec 32 := Scalar.addi v1109 v1108
  let v1116 : BitVec 32 := Scalar.select v1114 v1115 v1109
  let c1_i32_646 : BitVec 32 := 1#32
  let v1117 : BitVec 32 := Scalar.subi v1116 c1_i32_646
  let c14_i32_647 : BitVec 32 := 14#32
  let v1118 : BitVec 32 := Scalar.addi v1117 c14_i32_647
  ![v1118.toNat]
def k0_off73 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_639 : BitVec 32 := 0#32
  let v1106 : BitVec 32 := Scalar.subi v2 c0_i32_639
  let c8_i32_640 : BitVec 32 := 8#32
  let c0_i32_641 : BitVec 32 := 0#32
  let v1107 : BitVec 1 := Scalar.cmpi .eq c8_i32_640 c0_i32_641
  let c1_i32_642 : BitVec 32 := 1#32
  let v1108 : BitVec 32 := Scalar.select v1107 c1_i32_642 c8_i32_640
  let v1109 : BitVec 32 := Scalar.remsi v1106 v1108
  let c0_i32_644 : BitVec 32 := 0#32
  let v1111 : BitVec 1 := Scalar.cmpi .slt v1109 c0_i32_644
  let c0_i32_645 : BitVec 32 := 0#32
  let v1112 : BitVec 1 := Scalar.cmpi .slt v1108 c0_i32_645
  let v1113 : BitVec 1 := Scalar.xori v1111 v1112
  let c0_i32_643 : BitVec 32 := 0#32
  let v1110 : BitVec 1 := Scalar.cmpi .ne v1109 c0_i32_643
  let v1114 : BitVec 1 := Scalar.andi v1113 v1110
  let v1115 : BitVec 32 := Scalar.addi v1109 v1108
  let v1116 : BitVec 32 := Scalar.select v1114 v1115 v1109
  let c1_i32_646 : BitVec 32 := 1#32
  let v1117 : BitVec 32 := Scalar.subi v1116 c1_i32_646
  let c14_i32_647 : BitVec 32 := 14#32
  let v1118 : BitVec 32 := Scalar.addi v1117 c14_i32_647
  let c0_i32_1090 : BitVec 32 := 0#32
  let c0_i32_1091 : BitVec 32 := 0#32
  ![v1118.toNat, 0, 0]
def k0_off74 (d0 : Dev nD) : Fin 3 → Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1093 : BitVec 32 := Scalar.subi c0_i32_631 v2
  let c8_i32_632 : BitVec 32 := 8#32
  let c0_i32_633 : BitVec 32 := 0#32
  let v1094 : BitVec 1 := Scalar.cmpi .eq c8_i32_632 c0_i32_633
  let c1_i32_634 : BitVec 32 := 1#32
  let v1095 : BitVec 32 := Scalar.select v1094 c1_i32_634 c8_i32_632
  let v1096 : BitVec 32 := Scalar.remsi v1093 v1095
  let c0_i32_636 : BitVec 32 := 0#32
  let v1098 : BitVec 1 := Scalar.cmpi .slt v1096 c0_i32_636
  let c0_i32_637 : BitVec 32 := 0#32
  let v1099 : BitVec 1 := Scalar.cmpi .slt v1095 c0_i32_637
  let v1100 : BitVec 1 := Scalar.xori v1098 v1099
  let c0_i32_635 : BitVec 32 := 0#32
  let v1097 : BitVec 1 := Scalar.cmpi .ne v1096 c0_i32_635
  let v1101 : BitVec 1 := Scalar.andi v1100 v1097
  let v1102 : BitVec 32 := Scalar.addi v1096 v1095
  let v1103 : BitVec 32 := Scalar.select v1101 v1102 v1096
  let c1_i32_638 : BitVec 32 := 1#32
  let v1104 : BitVec 32 := Scalar.subi v1103 c1_i32_638
  let c14_i32 : BitVec 32 := 14#32
  let v1105 : BitVec 32 := Scalar.addi v1104 c14_i32
  let c0_i32_1092 : BitVec 32 := 0#32
  let c0_i32_1093 : BitVec 32 := 0#32
  ![v1105.toNat, 0, 0]
def k0_dev25 : Nat :=
  let c0_i32_1089 : BitVec 32 := 0#32
  let c0_i32_1087 : BitVec 32 := 0#32
  let c1_i32_1088 : BitVec 32 := 1#32
  let v1785 : BitVec 32 := Scalar.muli c0_i32_1087 c1_i32_1088
  let v1786 : BitVec 32 := Scalar.addi c0_i32_1089 v1785
  v1786.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_668 : BitVec 32 := 1#32
  let v1148 : BitVec 1 := Scalar.cmpi .ne v2 c1_i32_668
  let v1149 : BitVec 32 := Scalar.extui v1148
  let c0_i32_669 : BitVec 32 := 0#32
  let v1150 : BitVec 1 := Scalar.cmpi .ne v1149 c0_i32_669
  v1150

def k0_off75 (d0 : Dev nD) : Fin 3 → Nat :=
  let c1_i32_650 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1122 : BitVec 32 := Scalar.subi c1_i32_650 v2
  let c8_i32_651 : BitVec 32 := 8#32
  let c0_i32_652 : BitVec 32 := 0#32
  let v1123 : BitVec 1 := Scalar.cmpi .eq c8_i32_651 c0_i32_652
  let c1_i32_653 : BitVec 32 := 1#32
  let v1124 : BitVec 32 := Scalar.select v1123 c1_i32_653 c8_i32_651
  let v1125 : BitVec 32 := Scalar.remsi v1122 v1124
  let c0_i32_655 : BitVec 32 := 0#32
  let v1127 : BitVec 1 := Scalar.cmpi .slt v1125 c0_i32_655
  let c0_i32_656 : BitVec 32 := 0#32
  let v1128 : BitVec 1 := Scalar.cmpi .slt v1124 c0_i32_656
  let v1129 : BitVec 1 := Scalar.xori v1127 v1128
  let c0_i32_654 : BitVec 32 := 0#32
  let v1126 : BitVec 1 := Scalar.cmpi .ne v1125 c0_i32_654
  let v1130 : BitVec 1 := Scalar.andi v1129 v1126
  let v1131 : BitVec 32 := Scalar.addi v1125 v1124
  let v1132 : BitVec 32 := Scalar.select v1130 v1131 v1125
  let c1_i32_657 : BitVec 32 := 1#32
  let v1133 : BitVec 32 := Scalar.subi v1132 c1_i32_657
  let c14_i32_658 : BitVec 32 := 14#32
  let v1134 : BitVec 32 := Scalar.addi v1133 c14_i32_658
  let v1781 : Index := Scalar.indexCast v1134
  let c0_1084 : Index := 0#32
  let c0_1085 : Index := 0#32
  ![v1781.toNat, 0, 0]
def k0_off76 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_659 : BitVec 32 := 1#32
  let v1135 : BitVec 32 := Scalar.subi v2 c1_i32_659
  let c8_i32_660 : BitVec 32 := 8#32
  let c0_i32_661 : BitVec 32 := 0#32
  let v1136 : BitVec 1 := Scalar.cmpi .eq c8_i32_660 c0_i32_661
  let c1_i32_662 : BitVec 32 := 1#32
  let v1137 : BitVec 32 := Scalar.select v1136 c1_i32_662 c8_i32_660
  let v1138 : BitVec 32 := Scalar.remsi v1135 v1137
  let c0_i32_664 : BitVec 32 := 0#32
  let v1140 : BitVec 1 := Scalar.cmpi .slt v1138 c0_i32_664
  let c0_i32_665 : BitVec 32 := 0#32
  let v1141 : BitVec 1 := Scalar.cmpi .slt v1137 c0_i32_665
  let v1142 : BitVec 1 := Scalar.xori v1140 v1141
  let c0_i32_663 : BitVec 32 := 0#32
  let v1139 : BitVec 1 := Scalar.cmpi .ne v1138 c0_i32_663
  let v1143 : BitVec 1 := Scalar.andi v1142 v1139
  let v1144 : BitVec 32 := Scalar.addi v1138 v1137
  let v1145 : BitVec 32 := Scalar.select v1143 v1144 v1138
  let c1_i32_666 : BitVec 32 := 1#32
  let v1146 : BitVec 32 := Scalar.subi v1145 c1_i32_666
  let c14_i32_667 : BitVec 32 := 14#32
  let v1147 : BitVec 32 := Scalar.addi v1146 c14_i32_667
  ![v1147.toNat]
def k0_off77 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_659 : BitVec 32 := 1#32
  let v1135 : BitVec 32 := Scalar.subi v2 c1_i32_659
  let c8_i32_660 : BitVec 32 := 8#32
  let c0_i32_661 : BitVec 32 := 0#32
  let v1136 : BitVec 1 := Scalar.cmpi .eq c8_i32_660 c0_i32_661
  let c1_i32_662 : BitVec 32 := 1#32
  let v1137 : BitVec 32 := Scalar.select v1136 c1_i32_662 c8_i32_660
  let v1138 : BitVec 32 := Scalar.remsi v1135 v1137
  let c0_i32_664 : BitVec 32 := 0#32
  let v1140 : BitVec 1 := Scalar.cmpi .slt v1138 c0_i32_664
  let c0_i32_665 : BitVec 32 := 0#32
  let v1141 : BitVec 1 := Scalar.cmpi .slt v1137 c0_i32_665
  let v1142 : BitVec 1 := Scalar.xori v1140 v1141
  let c0_i32_663 : BitVec 32 := 0#32
  let v1139 : BitVec 1 := Scalar.cmpi .ne v1138 c0_i32_663
  let v1143 : BitVec 1 := Scalar.andi v1142 v1139
  let v1144 : BitVec 32 := Scalar.addi v1138 v1137
  let v1145 : BitVec 32 := Scalar.select v1143 v1144 v1138
  let c1_i32_666 : BitVec 32 := 1#32
  let v1146 : BitVec 32 := Scalar.subi v1145 c1_i32_666
  let c14_i32_667 : BitVec 32 := 14#32
  let v1147 : BitVec 32 := Scalar.addi v1146 c14_i32_667
  let c0_i32_1089 : BitVec 32 := 0#32
  let c0_i32_1090 : BitVec 32 := 0#32
  ![v1147.toNat, 0, 0]
def k0_off78 (d0 : Dev nD) : Fin 3 → Nat :=
  let c1_i32_650 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1122 : BitVec 32 := Scalar.subi c1_i32_650 v2
  let c8_i32_651 : BitVec 32 := 8#32
  let c0_i32_652 : BitVec 32 := 0#32
  let v1123 : BitVec 1 := Scalar.cmpi .eq c8_i32_651 c0_i32_652
  let c1_i32_653 : BitVec 32 := 1#32
  let v1124 : BitVec 32 := Scalar.select v1123 c1_i32_653 c8_i32_651
  let v1125 : BitVec 32 := Scalar.remsi v1122 v1124
  let c0_i32_655 : BitVec 32 := 0#32
  let v1127 : BitVec 1 := Scalar.cmpi .slt v1125 c0_i32_655
  let c0_i32_656 : BitVec 32 := 0#32
  let v1128 : BitVec 1 := Scalar.cmpi .slt v1124 c0_i32_656
  let v1129 : BitVec 1 := Scalar.xori v1127 v1128
  let c0_i32_654 : BitVec 32 := 0#32
  let v1126 : BitVec 1 := Scalar.cmpi .ne v1125 c0_i32_654
  let v1130 : BitVec 1 := Scalar.andi v1129 v1126
  let v1131 : BitVec 32 := Scalar.addi v1125 v1124
  let v1132 : BitVec 32 := Scalar.select v1130 v1131 v1125
  let c1_i32_657 : BitVec 32 := 1#32
  let v1133 : BitVec 32 := Scalar.subi v1132 c1_i32_657
  let c14_i32_658 : BitVec 32 := 14#32
  let v1134 : BitVec 32 := Scalar.addi v1133 c14_i32_658
  let c0_i32_1091 : BitVec 32 := 0#32
  let c0_i32_1092 : BitVec 32 := 0#32
  ![v1134.toNat, 0, 0]
def k0_dev26 : Nat :=
  let c0_i32_1088 : BitVec 32 := 0#32
  let c1_i32_1086 : BitVec 32 := 1#32
  let c1_i32_1087 : BitVec 32 := 1#32
  let v1785 : BitVec 32 := Scalar.muli c1_i32_1086 c1_i32_1087
  let v1786 : BitVec 32 := Scalar.addi c0_i32_1088 v1785
  v1786.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_688 : BitVec 32 := 2#32
  let v1177 : BitVec 1 := Scalar.cmpi .ne v2 c2_i32_688
  let v1178 : BitVec 32 := Scalar.extui v1177
  let c0_i32_689 : BitVec 32 := 0#32
  let v1179 : BitVec 1 := Scalar.cmpi .ne v1178 c0_i32_689
  v1179

def k0_off79 (d0 : Dev nD) : Fin 3 → Nat :=
  let c2_i32_670 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1151 : BitVec 32 := Scalar.subi c2_i32_670 v2
  let c8_i32_671 : BitVec 32 := 8#32
  let c0_i32_672 : BitVec 32 := 0#32
  let v1152 : BitVec 1 := Scalar.cmpi .eq c8_i32_671 c0_i32_672
  let c1_i32_673 : BitVec 32 := 1#32
  let v1153 : BitVec 32 := Scalar.select v1152 c1_i32_673 c8_i32_671
  let v1154 : BitVec 32 := Scalar.remsi v1151 v1153
  let c0_i32_675 : BitVec 32 := 0#32
  let v1156 : BitVec 1 := Scalar.cmpi .slt v1154 c0_i32_675
  let c0_i32_676 : BitVec 32 := 0#32
  let v1157 : BitVec 1 := Scalar.cmpi .slt v1153 c0_i32_676
  let v1158 : BitVec 1 := Scalar.xori v1156 v1157
  let c0_i32_674 : BitVec 32 := 0#32
  let v1155 : BitVec 1 := Scalar.cmpi .ne v1154 c0_i32_674
  let v1159 : BitVec 1 := Scalar.andi v1158 v1155
  let v1160 : BitVec 32 := Scalar.addi v1154 v1153
  let v1161 : BitVec 32 := Scalar.select v1159 v1160 v1154
  let c1_i32_677 : BitVec 32 := 1#32
  let v1162 : BitVec 32 := Scalar.subi v1161 c1_i32_677
  let c14_i32_678 : BitVec 32 := 14#32
  let v1163 : BitVec 32 := Scalar.addi v1162 c14_i32_678
  let v1781 : Index := Scalar.indexCast v1163
  let c0_1084 : Index := 0#32
  let c0_1085 : Index := 0#32
  ![v1781.toNat, 0, 0]
def k0_off80 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_679 : BitVec 32 := 2#32
  let v1164 : BitVec 32 := Scalar.subi v2 c2_i32_679
  let c8_i32_680 : BitVec 32 := 8#32
  let c0_i32_681 : BitVec 32 := 0#32
  let v1165 : BitVec 1 := Scalar.cmpi .eq c8_i32_680 c0_i32_681
  let c1_i32_682 : BitVec 32 := 1#32
  let v1166 : BitVec 32 := Scalar.select v1165 c1_i32_682 c8_i32_680
  let v1167 : BitVec 32 := Scalar.remsi v1164 v1166
  let c0_i32_684 : BitVec 32 := 0#32
  let v1169 : BitVec 1 := Scalar.cmpi .slt v1167 c0_i32_684
  let c0_i32_685 : BitVec 32 := 0#32
  let v1170 : BitVec 1 := Scalar.cmpi .slt v1166 c0_i32_685
  let v1171 : BitVec 1 := Scalar.xori v1169 v1170
  let c0_i32_683 : BitVec 32 := 0#32
  let v1168 : BitVec 1 := Scalar.cmpi .ne v1167 c0_i32_683
  let v1172 : BitVec 1 := Scalar.andi v1171 v1168
  let v1173 : BitVec 32 := Scalar.addi v1167 v1166
  let v1174 : BitVec 32 := Scalar.select v1172 v1173 v1167
  let c1_i32_686 : BitVec 32 := 1#32
  let v1175 : BitVec 32 := Scalar.subi v1174 c1_i32_686
  let c14_i32_687 : BitVec 32 := 14#32
  let v1176 : BitVec 32 := Scalar.addi v1175 c14_i32_687
  ![v1176.toNat]
def k0_off81 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_679 : BitVec 32 := 2#32
  let v1164 : BitVec 32 := Scalar.subi v2 c2_i32_679
  let c8_i32_680 : BitVec 32 := 8#32
  let c0_i32_681 : BitVec 32 := 0#32
  let v1165 : BitVec 1 := Scalar.cmpi .eq c8_i32_680 c0_i32_681
  let c1_i32_682 : BitVec 32 := 1#32
  let v1166 : BitVec 32 := Scalar.select v1165 c1_i32_682 c8_i32_680
  let v1167 : BitVec 32 := Scalar.remsi v1164 v1166
  let c0_i32_684 : BitVec 32 := 0#32
  let v1169 : BitVec 1 := Scalar.cmpi .slt v1167 c0_i32_684
  let c0_i32_685 : BitVec 32 := 0#32
  let v1170 : BitVec 1 := Scalar.cmpi .slt v1166 c0_i32_685
  let v1171 : BitVec 1 := Scalar.xori v1169 v1170
  let c0_i32_683 : BitVec 32 := 0#32
  let v1168 : BitVec 1 := Scalar.cmpi .ne v1167 c0_i32_683
  let v1172 : BitVec 1 := Scalar.andi v1171 v1168
  let v1173 : BitVec 32 := Scalar.addi v1167 v1166
  let v1174 : BitVec 32 := Scalar.select v1172 v1173 v1167
  let c1_i32_686 : BitVec 32 := 1#32
  let v1175 : BitVec 32 := Scalar.subi v1174 c1_i32_686
  let c14_i32_687 : BitVec 32 := 14#32
  let v1176 : BitVec 32 := Scalar.addi v1175 c14_i32_687
  let c0_i32_1089 : BitVec 32 := 0#32
  let c0_i32_1090 : BitVec 32 := 0#32
  ![v1176.toNat, 0, 0]
def k0_off82 (d0 : Dev nD) : Fin 3 → Nat :=
  let c2_i32_670 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1151 : BitVec 32 := Scalar.subi c2_i32_670 v2
  let c8_i32_671 : BitVec 32 := 8#32
  let c0_i32_672 : BitVec 32 := 0#32
  let v1152 : BitVec 1 := Scalar.cmpi .eq c8_i32_671 c0_i32_672
  let c1_i32_673 : BitVec 32 := 1#32
  let v1153 : BitVec 32 := Scalar.select v1152 c1_i32_673 c8_i32_671
  let v1154 : BitVec 32 := Scalar.remsi v1151 v1153
  let c0_i32_675 : BitVec 32 := 0#32
  let v1156 : BitVec 1 := Scalar.cmpi .slt v1154 c0_i32_675
  let c0_i32_676 : BitVec 32 := 0#32
  let v1157 : BitVec 1 := Scalar.cmpi .slt v1153 c0_i32_676
  let v1158 : BitVec 1 := Scalar.xori v1156 v1157
  let c0_i32_674 : BitVec 32 := 0#32
  let v1155 : BitVec 1 := Scalar.cmpi .ne v1154 c0_i32_674
  let v1159 : BitVec 1 := Scalar.andi v1158 v1155
  let v1160 : BitVec 32 := Scalar.addi v1154 v1153
  let v1161 : BitVec 32 := Scalar.select v1159 v1160 v1154
  let c1_i32_677 : BitVec 32 := 1#32
  let v1162 : BitVec 32 := Scalar.subi v1161 c1_i32_677
  let c14_i32_678 : BitVec 32 := 14#32
  let v1163 : BitVec 32 := Scalar.addi v1162 c14_i32_678
  let c0_i32_1091 : BitVec 32 := 0#32
  let c0_i32_1092 : BitVec 32 := 0#32
  ![v1163.toNat, 0, 0]
def k0_dev27 : Nat :=
  let c0_i32_1088 : BitVec 32 := 0#32
  let c2_i32_1086 : BitVec 32 := 2#32
  let c1_i32_1087 : BitVec 32 := 1#32
  let v1785 : BitVec 32 := Scalar.muli c2_i32_1086 c1_i32_1087
  let v1786 : BitVec 32 := Scalar.addi c0_i32_1088 v1785
  v1786.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_708 : BitVec 32 := 3#32
  let v1206 : BitVec 1 := Scalar.cmpi .ne v2 c3_i32_708
  let v1207 : BitVec 32 := Scalar.extui v1206
  let c0_i32_709 : BitVec 32 := 0#32
  let v1208 : BitVec 1 := Scalar.cmpi .ne v1207 c0_i32_709
  v1208

def k0_off83 (d0 : Dev nD) : Fin 3 → Nat :=
  let c3_i32_690 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1180 : BitVec 32 := Scalar.subi c3_i32_690 v2
  let c8_i32_691 : BitVec 32 := 8#32
  let c0_i32_692 : BitVec 32 := 0#32
  let v1181 : BitVec 1 := Scalar.cmpi .eq c8_i32_691 c0_i32_692
  let c1_i32_693 : BitVec 32 := 1#32
  let v1182 : BitVec 32 := Scalar.select v1181 c1_i32_693 c8_i32_691
  let v1183 : BitVec 32 := Scalar.remsi v1180 v1182
  let c0_i32_695 : BitVec 32 := 0#32
  let v1185 : BitVec 1 := Scalar.cmpi .slt v1183 c0_i32_695
  let c0_i32_696 : BitVec 32 := 0#32
  let v1186 : BitVec 1 := Scalar.cmpi .slt v1182 c0_i32_696
  let v1187 : BitVec 1 := Scalar.xori v1185 v1186
  let c0_i32_694 : BitVec 32 := 0#32
  let v1184 : BitVec 1 := Scalar.cmpi .ne v1183 c0_i32_694
  let v1188 : BitVec 1 := Scalar.andi v1187 v1184
  let v1189 : BitVec 32 := Scalar.addi v1183 v1182
  let v1190 : BitVec 32 := Scalar.select v1188 v1189 v1183
  let c1_i32_697 : BitVec 32 := 1#32
  let v1191 : BitVec 32 := Scalar.subi v1190 c1_i32_697
  let c14_i32_698 : BitVec 32 := 14#32
  let v1192 : BitVec 32 := Scalar.addi v1191 c14_i32_698
  let v1781 : Index := Scalar.indexCast v1192
  let c0_1084 : Index := 0#32
  let c0_1085 : Index := 0#32
  ![v1781.toNat, 0, 0]
def k0_off84 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_699 : BitVec 32 := 3#32
  let v1193 : BitVec 32 := Scalar.subi v2 c3_i32_699
  let c8_i32_700 : BitVec 32 := 8#32
  let c0_i32_701 : BitVec 32 := 0#32
  let v1194 : BitVec 1 := Scalar.cmpi .eq c8_i32_700 c0_i32_701
  let c1_i32_702 : BitVec 32 := 1#32
  let v1195 : BitVec 32 := Scalar.select v1194 c1_i32_702 c8_i32_700
  let v1196 : BitVec 32 := Scalar.remsi v1193 v1195
  let c0_i32_704 : BitVec 32 := 0#32
  let v1198 : BitVec 1 := Scalar.cmpi .slt v1196 c0_i32_704
  let c0_i32_705 : BitVec 32 := 0#32
  let v1199 : BitVec 1 := Scalar.cmpi .slt v1195 c0_i32_705
  let v1200 : BitVec 1 := Scalar.xori v1198 v1199
  let c0_i32_703 : BitVec 32 := 0#32
  let v1197 : BitVec 1 := Scalar.cmpi .ne v1196 c0_i32_703
  let v1201 : BitVec 1 := Scalar.andi v1200 v1197
  let v1202 : BitVec 32 := Scalar.addi v1196 v1195
  let v1203 : BitVec 32 := Scalar.select v1201 v1202 v1196
  let c1_i32_706 : BitVec 32 := 1#32
  let v1204 : BitVec 32 := Scalar.subi v1203 c1_i32_706
  let c14_i32_707 : BitVec 32 := 14#32
  let v1205 : BitVec 32 := Scalar.addi v1204 c14_i32_707
  ![v1205.toNat]
def k0_off85 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_699 : BitVec 32 := 3#32
  let v1193 : BitVec 32 := Scalar.subi v2 c3_i32_699
  let c8_i32_700 : BitVec 32 := 8#32
  let c0_i32_701 : BitVec 32 := 0#32
  let v1194 : BitVec 1 := Scalar.cmpi .eq c8_i32_700 c0_i32_701
  let c1_i32_702 : BitVec 32 := 1#32
  let v1195 : BitVec 32 := Scalar.select v1194 c1_i32_702 c8_i32_700
  let v1196 : BitVec 32 := Scalar.remsi v1193 v1195
  let c0_i32_704 : BitVec 32 := 0#32
  let v1198 : BitVec 1 := Scalar.cmpi .slt v1196 c0_i32_704
  let c0_i32_705 : BitVec 32 := 0#32
  let v1199 : BitVec 1 := Scalar.cmpi .slt v1195 c0_i32_705
  let v1200 : BitVec 1 := Scalar.xori v1198 v1199
  let c0_i32_703 : BitVec 32 := 0#32
  let v1197 : BitVec 1 := Scalar.cmpi .ne v1196 c0_i32_703
  let v1201 : BitVec 1 := Scalar.andi v1200 v1197
  let v1202 : BitVec 32 := Scalar.addi v1196 v1195
  let v1203 : BitVec 32 := Scalar.select v1201 v1202 v1196
  let c1_i32_706 : BitVec 32 := 1#32
  let v1204 : BitVec 32 := Scalar.subi v1203 c1_i32_706
  let c14_i32_707 : BitVec 32 := 14#32
  let v1205 : BitVec 32 := Scalar.addi v1204 c14_i32_707
  let c0_i32_1089 : BitVec 32 := 0#32
  let c0_i32_1090 : BitVec 32 := 0#32
  ![v1205.toNat, 0, 0]
def k0_off86 (d0 : Dev nD) : Fin 3 → Nat :=
  let c3_i32_690 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1180 : BitVec 32 := Scalar.subi c3_i32_690 v2
  let c8_i32_691 : BitVec 32 := 8#32
  let c0_i32_692 : BitVec 32 := 0#32
  let v1181 : BitVec 1 := Scalar.cmpi .eq c8_i32_691 c0_i32_692
  let c1_i32_693 : BitVec 32 := 1#32
  let v1182 : BitVec 32 := Scalar.select v1181 c1_i32_693 c8_i32_691
  let v1183 : BitVec 32 := Scalar.remsi v1180 v1182
  let c0_i32_695 : BitVec 32 := 0#32
  let v1185 : BitVec 1 := Scalar.cmpi .slt v1183 c0_i32_695
  let c0_i32_696 : BitVec 32 := 0#32
  let v1186 : BitVec 1 := Scalar.cmpi .slt v1182 c0_i32_696
  let v1187 : BitVec 1 := Scalar.xori v1185 v1186
  let c0_i32_694 : BitVec 32 := 0#32
  let v1184 : BitVec 1 := Scalar.cmpi .ne v1183 c0_i32_694
  let v1188 : BitVec 1 := Scalar.andi v1187 v1184
  let v1189 : BitVec 32 := Scalar.addi v1183 v1182
  let v1190 : BitVec 32 := Scalar.select v1188 v1189 v1183
  let c1_i32_697 : BitVec 32 := 1#32
  let v1191 : BitVec 32 := Scalar.subi v1190 c1_i32_697
  let c14_i32_698 : BitVec 32 := 14#32
  let v1192 : BitVec 32 := Scalar.addi v1191 c14_i32_698
  let c0_i32_1091 : BitVec 32 := 0#32
  let c0_i32_1092 : BitVec 32 := 0#32
  ![v1192.toNat, 0, 0]
def k0_dev28 : Nat :=
  let c0_i32_1088 : BitVec 32 := 0#32
  let c3_i32_1086 : BitVec 32 := 3#32
  let c1_i32_1087 : BitVec 32 := 1#32
  let v1785 : BitVec 32 := Scalar.muli c3_i32_1086 c1_i32_1087
  let v1786 : BitVec 32 := Scalar.addi c0_i32_1088 v1785
  v1786.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v1235 : BitVec 1 := Scalar.cmpi .ne v2 c4_i32_728
  let v1236 : BitVec 32 := Scalar.extui v1235
  let c0_i32_729 : BitVec 32 := 0#32
  let v1237 : BitVec 1 := Scalar.cmpi .ne v1236 c0_i32_729
  v1237

def k0_off87 (d0 : Dev nD) : Fin 3 → Nat :=
  let c4_i32_710 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1209 : BitVec 32 := Scalar.subi c4_i32_710 v2
  let c8_i32_711 : BitVec 32 := 8#32
  let c0_i32_712 : BitVec 32 := 0#32
  let v1210 : BitVec 1 := Scalar.cmpi .eq c8_i32_711 c0_i32_712
  let c1_i32_713 : BitVec 32 := 1#32
  let v1211 : BitVec 32 := Scalar.select v1210 c1_i32_713 c8_i32_711
  let v1212 : BitVec 32 := Scalar.remsi v1209 v1211
  let c0_i32_715 : BitVec 32 := 0#32
  let v1214 : BitVec 1 := Scalar.cmpi .slt v1212 c0_i32_715
  let c0_i32_716 : BitVec 32 := 0#32
  let v1215 : BitVec 1 := Scalar.cmpi .slt v1211 c0_i32_716
  let v1216 : BitVec 1 := Scalar.xori v1214 v1215
  let c0_i32_714 : BitVec 32 := 0#32
  let v1213 : BitVec 1 := Scalar.cmpi .ne v1212 c0_i32_714
  let v1217 : BitVec 1 := Scalar.andi v1216 v1213
  let v1218 : BitVec 32 := Scalar.addi v1212 v1211
  let v1219 : BitVec 32 := Scalar.select v1217 v1218 v1212
  let c1_i32_717 : BitVec 32 := 1#32
  let v1220 : BitVec 32 := Scalar.subi v1219 c1_i32_717
  let c14_i32_718 : BitVec 32 := 14#32
  let v1221 : BitVec 32 := Scalar.addi v1220 c14_i32_718
  let v1781 : Index := Scalar.indexCast v1221
  let c0_1084 : Index := 0#32
  let c0_1085 : Index := 0#32
  ![v1781.toNat, 0, 0]
def k0_off88 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_719 : BitVec 32 := 4#32
  let v1222 : BitVec 32 := Scalar.subi v2 c4_i32_719
  let c8_i32_720 : BitVec 32 := 8#32
  let c0_i32_721 : BitVec 32 := 0#32
  let v1223 : BitVec 1 := Scalar.cmpi .eq c8_i32_720 c0_i32_721
  let c1_i32_722 : BitVec 32 := 1#32
  let v1224 : BitVec 32 := Scalar.select v1223 c1_i32_722 c8_i32_720
  let v1225 : BitVec 32 := Scalar.remsi v1222 v1224
  let c0_i32_724 : BitVec 32 := 0#32
  let v1227 : BitVec 1 := Scalar.cmpi .slt v1225 c0_i32_724
  let c0_i32_725 : BitVec 32 := 0#32
  let v1228 : BitVec 1 := Scalar.cmpi .slt v1224 c0_i32_725
  let v1229 : BitVec 1 := Scalar.xori v1227 v1228
  let c0_i32_723 : BitVec 32 := 0#32
  let v1226 : BitVec 1 := Scalar.cmpi .ne v1225 c0_i32_723
  let v1230 : BitVec 1 := Scalar.andi v1229 v1226
  let v1231 : BitVec 32 := Scalar.addi v1225 v1224
  let v1232 : BitVec 32 := Scalar.select v1230 v1231 v1225
  let c1_i32_726 : BitVec 32 := 1#32
  let v1233 : BitVec 32 := Scalar.subi v1232 c1_i32_726
  let c14_i32_727 : BitVec 32 := 14#32
  let v1234 : BitVec 32 := Scalar.addi v1233 c14_i32_727
  ![v1234.toNat]
def k0_off89 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_719 : BitVec 32 := 4#32
  let v1222 : BitVec 32 := Scalar.subi v2 c4_i32_719
  let c8_i32_720 : BitVec 32 := 8#32
  let c0_i32_721 : BitVec 32 := 0#32
  let v1223 : BitVec 1 := Scalar.cmpi .eq c8_i32_720 c0_i32_721
  let c1_i32_722 : BitVec 32 := 1#32
  let v1224 : BitVec 32 := Scalar.select v1223 c1_i32_722 c8_i32_720
  let v1225 : BitVec 32 := Scalar.remsi v1222 v1224
  let c0_i32_724 : BitVec 32 := 0#32
  let v1227 : BitVec 1 := Scalar.cmpi .slt v1225 c0_i32_724
  let c0_i32_725 : BitVec 32 := 0#32
  let v1228 : BitVec 1 := Scalar.cmpi .slt v1224 c0_i32_725
  let v1229 : BitVec 1 := Scalar.xori v1227 v1228
  let c0_i32_723 : BitVec 32 := 0#32
  let v1226 : BitVec 1 := Scalar.cmpi .ne v1225 c0_i32_723
  let v1230 : BitVec 1 := Scalar.andi v1229 v1226
  let v1231 : BitVec 32 := Scalar.addi v1225 v1224
  let v1232 : BitVec 32 := Scalar.select v1230 v1231 v1225
  let c1_i32_726 : BitVec 32 := 1#32
  let v1233 : BitVec 32 := Scalar.subi v1232 c1_i32_726
  let c14_i32_727 : BitVec 32 := 14#32
  let v1234 : BitVec 32 := Scalar.addi v1233 c14_i32_727
  let c0_i32_1089 : BitVec 32 := 0#32
  let c0_i32_1090 : BitVec 32 := 0#32
  ![v1234.toNat, 0, 0]
def k0_off90 (d0 : Dev nD) : Fin 3 → Nat :=
  let c4_i32_710 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1209 : BitVec 32 := Scalar.subi c4_i32_710 v2
  let c8_i32_711 : BitVec 32 := 8#32
  let c0_i32_712 : BitVec 32 := 0#32
  let v1210 : BitVec 1 := Scalar.cmpi .eq c8_i32_711 c0_i32_712
  let c1_i32_713 : BitVec 32 := 1#32
  let v1211 : BitVec 32 := Scalar.select v1210 c1_i32_713 c8_i32_711
  let v1212 : BitVec 32 := Scalar.remsi v1209 v1211
  let c0_i32_715 : BitVec 32 := 0#32
  let v1214 : BitVec 1 := Scalar.cmpi .slt v1212 c0_i32_715
  let c0_i32_716 : BitVec 32 := 0#32
  let v1215 : BitVec 1 := Scalar.cmpi .slt v1211 c0_i32_716
  let v1216 : BitVec 1 := Scalar.xori v1214 v1215
  let c0_i32_714 : BitVec 32 := 0#32
  let v1213 : BitVec 1 := Scalar.cmpi .ne v1212 c0_i32_714
  let v1217 : BitVec 1 := Scalar.andi v1216 v1213
  let v1218 : BitVec 32 := Scalar.addi v1212 v1211
  let v1219 : BitVec 32 := Scalar.select v1217 v1218 v1212
  let c1_i32_717 : BitVec 32 := 1#32
  let v1220 : BitVec 32 := Scalar.subi v1219 c1_i32_717
  let c14_i32_718 : BitVec 32 := 14#32
  let v1221 : BitVec 32 := Scalar.addi v1220 c14_i32_718
  let c0_i32_1091 : BitVec 32 := 0#32
  let c0_i32_1092 : BitVec 32 := 0#32
  ![v1221.toNat, 0, 0]
def k0_dev29 : Nat :=
  let c0_i32_1088 : BitVec 32 := 0#32
  let c4_i32_1086 : BitVec 32 := 4#32
  let c1_i32_1087 : BitVec 32 := 1#32
  let v1785 : BitVec 32 := Scalar.muli c4_i32_1086 c1_i32_1087
  let v1786 : BitVec 32 := Scalar.addi c0_i32_1088 v1785
  v1786.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_748 : BitVec 32 := 5#32
  let v1264 : BitVec 1 := Scalar.cmpi .ne v2 c5_i32_748
  let v1265 : BitVec 32 := Scalar.extui v1264
  let c0_i32_749 : BitVec 32 := 0#32
  let v1266 : BitVec 1 := Scalar.cmpi .ne v1265 c0_i32_749
  v1266

def k0_off91 (d0 : Dev nD) : Fin 3 → Nat :=
  let c5_i32_730 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1238 : BitVec 32 := Scalar.subi c5_i32_730 v2
  let c8_i32_731 : BitVec 32 := 8#32
  let c0_i32_732 : BitVec 32 := 0#32
  let v1239 : BitVec 1 := Scalar.cmpi .eq c8_i32_731 c0_i32_732
  let c1_i32_733 : BitVec 32 := 1#32
  let v1240 : BitVec 32 := Scalar.select v1239 c1_i32_733 c8_i32_731
  let v1241 : BitVec 32 := Scalar.remsi v1238 v1240
  let c0_i32_735 : BitVec 32 := 0#32
  let v1243 : BitVec 1 := Scalar.cmpi .slt v1241 c0_i32_735
  let c0_i32_736 : BitVec 32 := 0#32
  let v1244 : BitVec 1 := Scalar.cmpi .slt v1240 c0_i32_736
  let v1245 : BitVec 1 := Scalar.xori v1243 v1244
  let c0_i32_734 : BitVec 32 := 0#32
  let v1242 : BitVec 1 := Scalar.cmpi .ne v1241 c0_i32_734
  let v1246 : BitVec 1 := Scalar.andi v1245 v1242
  let v1247 : BitVec 32 := Scalar.addi v1241 v1240
  let v1248 : BitVec 32 := Scalar.select v1246 v1247 v1241
  let c1_i32_737 : BitVec 32 := 1#32
  let v1249 : BitVec 32 := Scalar.subi v1248 c1_i32_737
  let c14_i32_738 : BitVec 32 := 14#32
  let v1250 : BitVec 32 := Scalar.addi v1249 c14_i32_738
  let v1781 : Index := Scalar.indexCast v1250
  let c0_1084 : Index := 0#32
  let c0_1085 : Index := 0#32
  ![v1781.toNat, 0, 0]
def k0_off92 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_739 : BitVec 32 := 5#32
  let v1251 : BitVec 32 := Scalar.subi v2 c5_i32_739
  let c8_i32_740 : BitVec 32 := 8#32
  let c0_i32_741 : BitVec 32 := 0#32
  let v1252 : BitVec 1 := Scalar.cmpi .eq c8_i32_740 c0_i32_741
  let c1_i32_742 : BitVec 32 := 1#32
  let v1253 : BitVec 32 := Scalar.select v1252 c1_i32_742 c8_i32_740
  let v1254 : BitVec 32 := Scalar.remsi v1251 v1253
  let c0_i32_744 : BitVec 32 := 0#32
  let v1256 : BitVec 1 := Scalar.cmpi .slt v1254 c0_i32_744
  let c0_i32_745 : BitVec 32 := 0#32
  let v1257 : BitVec 1 := Scalar.cmpi .slt v1253 c0_i32_745
  let v1258 : BitVec 1 := Scalar.xori v1256 v1257
  let c0_i32_743 : BitVec 32 := 0#32
  let v1255 : BitVec 1 := Scalar.cmpi .ne v1254 c0_i32_743
  let v1259 : BitVec 1 := Scalar.andi v1258 v1255
  let v1260 : BitVec 32 := Scalar.addi v1254 v1253
  let v1261 : BitVec 32 := Scalar.select v1259 v1260 v1254
  let c1_i32_746 : BitVec 32 := 1#32
  let v1262 : BitVec 32 := Scalar.subi v1261 c1_i32_746
  let c14_i32_747 : BitVec 32 := 14#32
  let v1263 : BitVec 32 := Scalar.addi v1262 c14_i32_747
  ![v1263.toNat]
def k0_off93 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_739 : BitVec 32 := 5#32
  let v1251 : BitVec 32 := Scalar.subi v2 c5_i32_739
  let c8_i32_740 : BitVec 32 := 8#32
  let c0_i32_741 : BitVec 32 := 0#32
  let v1252 : BitVec 1 := Scalar.cmpi .eq c8_i32_740 c0_i32_741
  let c1_i32_742 : BitVec 32 := 1#32
  let v1253 : BitVec 32 := Scalar.select v1252 c1_i32_742 c8_i32_740
  let v1254 : BitVec 32 := Scalar.remsi v1251 v1253
  let c0_i32_744 : BitVec 32 := 0#32
  let v1256 : BitVec 1 := Scalar.cmpi .slt v1254 c0_i32_744
  let c0_i32_745 : BitVec 32 := 0#32
  let v1257 : BitVec 1 := Scalar.cmpi .slt v1253 c0_i32_745
  let v1258 : BitVec 1 := Scalar.xori v1256 v1257
  let c0_i32_743 : BitVec 32 := 0#32
  let v1255 : BitVec 1 := Scalar.cmpi .ne v1254 c0_i32_743
  let v1259 : BitVec 1 := Scalar.andi v1258 v1255
  let v1260 : BitVec 32 := Scalar.addi v1254 v1253
  let v1261 : BitVec 32 := Scalar.select v1259 v1260 v1254
  let c1_i32_746 : BitVec 32 := 1#32
  let v1262 : BitVec 32 := Scalar.subi v1261 c1_i32_746
  let c14_i32_747 : BitVec 32 := 14#32
  let v1263 : BitVec 32 := Scalar.addi v1262 c14_i32_747
  let c0_i32_1089 : BitVec 32 := 0#32
  let c0_i32_1090 : BitVec 32 := 0#32
  ![v1263.toNat, 0, 0]
def k0_off94 (d0 : Dev nD) : Fin 3 → Nat :=
  let c5_i32_730 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1238 : BitVec 32 := Scalar.subi c5_i32_730 v2
  let c8_i32_731 : BitVec 32 := 8#32
  let c0_i32_732 : BitVec 32 := 0#32
  let v1239 : BitVec 1 := Scalar.cmpi .eq c8_i32_731 c0_i32_732
  let c1_i32_733 : BitVec 32 := 1#32
  let v1240 : BitVec 32 := Scalar.select v1239 c1_i32_733 c8_i32_731
  let v1241 : BitVec 32 := Scalar.remsi v1238 v1240
  let c0_i32_735 : BitVec 32 := 0#32
  let v1243 : BitVec 1 := Scalar.cmpi .slt v1241 c0_i32_735
  let c0_i32_736 : BitVec 32 := 0#32
  let v1244 : BitVec 1 := Scalar.cmpi .slt v1240 c0_i32_736
  let v1245 : BitVec 1 := Scalar.xori v1243 v1244
  let c0_i32_734 : BitVec 32 := 0#32
  let v1242 : BitVec 1 := Scalar.cmpi .ne v1241 c0_i32_734
  let v1246 : BitVec 1 := Scalar.andi v1245 v1242
  let v1247 : BitVec 32 := Scalar.addi v1241 v1240
  let v1248 : BitVec 32 := Scalar.select v1246 v1247 v1241
  let c1_i32_737 : BitVec 32 := 1#32
  let v1249 : BitVec 32 := Scalar.subi v1248 c1_i32_737
  let c14_i32_738 : BitVec 32 := 14#32
  let v1250 : BitVec 32 := Scalar.addi v1249 c14_i32_738
  let c0_i32_1091 : BitVec 32 := 0#32
  let c0_i32_1092 : BitVec 32 := 0#32
  ![v1250.toNat, 0, 0]
def k0_dev30 : Nat :=
  let c0_i32_1088 : BitVec 32 := 0#32
  let c5_i32_1086 : BitVec 32 := 5#32
  let c1_i32_1087 : BitVec 32 := 1#32
  let v1785 : BitVec 32 := Scalar.muli c5_i32_1086 c1_i32_1087
  let v1786 : BitVec 32 := Scalar.addi c0_i32_1088 v1785
  v1786.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_768 : BitVec 32 := 6#32
  let v1293 : BitVec 1 := Scalar.cmpi .ne v2 c6_i32_768
  let v1294 : BitVec 32 := Scalar.extui v1293
  let c0_i32_769 : BitVec 32 := 0#32
  let v1295 : BitVec 1 := Scalar.cmpi .ne v1294 c0_i32_769
  v1295

def k0_off95 (d0 : Dev nD) : Fin 3 → Nat :=
  let c6_i32_750 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1267 : BitVec 32 := Scalar.subi c6_i32_750 v2
  let c8_i32_751 : BitVec 32 := 8#32
  let c0_i32_752 : BitVec 32 := 0#32
  let v1268 : BitVec 1 := Scalar.cmpi .eq c8_i32_751 c0_i32_752
  let c1_i32_753 : BitVec 32 := 1#32
  let v1269 : BitVec 32 := Scalar.select v1268 c1_i32_753 c8_i32_751
  let v1270 : BitVec 32 := Scalar.remsi v1267 v1269
  let c0_i32_755 : BitVec 32 := 0#32
  let v1272 : BitVec 1 := Scalar.cmpi .slt v1270 c0_i32_755
  let c0_i32_756 : BitVec 32 := 0#32
  let v1273 : BitVec 1 := Scalar.cmpi .slt v1269 c0_i32_756
  let v1274 : BitVec 1 := Scalar.xori v1272 v1273
  let c0_i32_754 : BitVec 32 := 0#32
  let v1271 : BitVec 1 := Scalar.cmpi .ne v1270 c0_i32_754
  let v1275 : BitVec 1 := Scalar.andi v1274 v1271
  let v1276 : BitVec 32 := Scalar.addi v1270 v1269
  let v1277 : BitVec 32 := Scalar.select v1275 v1276 v1270
  let c1_i32_757 : BitVec 32 := 1#32
  let v1278 : BitVec 32 := Scalar.subi v1277 c1_i32_757
  let c14_i32_758 : BitVec 32 := 14#32
  let v1279 : BitVec 32 := Scalar.addi v1278 c14_i32_758
  let v1781 : Index := Scalar.indexCast v1279
  let c0_1084 : Index := 0#32
  let c0_1085 : Index := 0#32
  ![v1781.toNat, 0, 0]
def k0_off96 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_759 : BitVec 32 := 6#32
  let v1280 : BitVec 32 := Scalar.subi v2 c6_i32_759
  let c8_i32_760 : BitVec 32 := 8#32
  let c0_i32_761 : BitVec 32 := 0#32
  let v1281 : BitVec 1 := Scalar.cmpi .eq c8_i32_760 c0_i32_761
  let c1_i32_762 : BitVec 32 := 1#32
  let v1282 : BitVec 32 := Scalar.select v1281 c1_i32_762 c8_i32_760
  let v1283 : BitVec 32 := Scalar.remsi v1280 v1282
  let c0_i32_764 : BitVec 32 := 0#32
  let v1285 : BitVec 1 := Scalar.cmpi .slt v1283 c0_i32_764
  let c0_i32_765 : BitVec 32 := 0#32
  let v1286 : BitVec 1 := Scalar.cmpi .slt v1282 c0_i32_765
  let v1287 : BitVec 1 := Scalar.xori v1285 v1286
  let c0_i32_763 : BitVec 32 := 0#32
  let v1284 : BitVec 1 := Scalar.cmpi .ne v1283 c0_i32_763
  let v1288 : BitVec 1 := Scalar.andi v1287 v1284
  let v1289 : BitVec 32 := Scalar.addi v1283 v1282
  let v1290 : BitVec 32 := Scalar.select v1288 v1289 v1283
  let c1_i32_766 : BitVec 32 := 1#32
  let v1291 : BitVec 32 := Scalar.subi v1290 c1_i32_766
  let c14_i32_767 : BitVec 32 := 14#32
  let v1292 : BitVec 32 := Scalar.addi v1291 c14_i32_767
  ![v1292.toNat]
def k0_off97 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_759 : BitVec 32 := 6#32
  let v1280 : BitVec 32 := Scalar.subi v2 c6_i32_759
  let c8_i32_760 : BitVec 32 := 8#32
  let c0_i32_761 : BitVec 32 := 0#32
  let v1281 : BitVec 1 := Scalar.cmpi .eq c8_i32_760 c0_i32_761
  let c1_i32_762 : BitVec 32 := 1#32
  let v1282 : BitVec 32 := Scalar.select v1281 c1_i32_762 c8_i32_760
  let v1283 : BitVec 32 := Scalar.remsi v1280 v1282
  let c0_i32_764 : BitVec 32 := 0#32
  let v1285 : BitVec 1 := Scalar.cmpi .slt v1283 c0_i32_764
  let c0_i32_765 : BitVec 32 := 0#32
  let v1286 : BitVec 1 := Scalar.cmpi .slt v1282 c0_i32_765
  let v1287 : BitVec 1 := Scalar.xori v1285 v1286
  let c0_i32_763 : BitVec 32 := 0#32
  let v1284 : BitVec 1 := Scalar.cmpi .ne v1283 c0_i32_763
  let v1288 : BitVec 1 := Scalar.andi v1287 v1284
  let v1289 : BitVec 32 := Scalar.addi v1283 v1282
  let v1290 : BitVec 32 := Scalar.select v1288 v1289 v1283
  let c1_i32_766 : BitVec 32 := 1#32
  let v1291 : BitVec 32 := Scalar.subi v1290 c1_i32_766
  let c14_i32_767 : BitVec 32 := 14#32
  let v1292 : BitVec 32 := Scalar.addi v1291 c14_i32_767
  let c0_i32_1089 : BitVec 32 := 0#32
  let c0_i32_1090 : BitVec 32 := 0#32
  ![v1292.toNat, 0, 0]
def k0_off98 (d0 : Dev nD) : Fin 3 → Nat :=
  let c6_i32_750 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1267 : BitVec 32 := Scalar.subi c6_i32_750 v2
  let c8_i32_751 : BitVec 32 := 8#32
  let c0_i32_752 : BitVec 32 := 0#32
  let v1268 : BitVec 1 := Scalar.cmpi .eq c8_i32_751 c0_i32_752
  let c1_i32_753 : BitVec 32 := 1#32
  let v1269 : BitVec 32 := Scalar.select v1268 c1_i32_753 c8_i32_751
  let v1270 : BitVec 32 := Scalar.remsi v1267 v1269
  let c0_i32_755 : BitVec 32 := 0#32
  let v1272 : BitVec 1 := Scalar.cmpi .slt v1270 c0_i32_755
  let c0_i32_756 : BitVec 32 := 0#32
  let v1273 : BitVec 1 := Scalar.cmpi .slt v1269 c0_i32_756
  let v1274 : BitVec 1 := Scalar.xori v1272 v1273
  let c0_i32_754 : BitVec 32 := 0#32
  let v1271 : BitVec 1 := Scalar.cmpi .ne v1270 c0_i32_754
  let v1275 : BitVec 1 := Scalar.andi v1274 v1271
  let v1276 : BitVec 32 := Scalar.addi v1270 v1269
  let v1277 : BitVec 32 := Scalar.select v1275 v1276 v1270
  let c1_i32_757 : BitVec 32 := 1#32
  let v1278 : BitVec 32 := Scalar.subi v1277 c1_i32_757
  let c14_i32_758 : BitVec 32 := 14#32
  let v1279 : BitVec 32 := Scalar.addi v1278 c14_i32_758
  let c0_i32_1091 : BitVec 32 := 0#32
  let c0_i32_1092 : BitVec 32 := 0#32
  ![v1279.toNat, 0, 0]
def k0_dev31 : Nat :=
  let c0_i32_1088 : BitVec 32 := 0#32
  let c6_i32_1086 : BitVec 32 := 6#32
  let c1_i32_1087 : BitVec 32 := 1#32
  let v1785 : BitVec 32 := Scalar.muli c6_i32_1086 c1_i32_1087
  let v1786 : BitVec 32 := Scalar.addi c0_i32_1088 v1785
  v1786.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_788 : BitVec 32 := 7#32
  let v1322 : BitVec 1 := Scalar.cmpi .ne v2 c7_i32_788
  let v1323 : BitVec 32 := Scalar.extui v1322
  let c0_i32_789 : BitVec 32 := 0#32
  let v1324 : BitVec 1 := Scalar.cmpi .ne v1323 c0_i32_789
  v1324

def k0_off99 (d0 : Dev nD) : Fin 3 → Nat :=
  let c7_i32_770 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1296 : BitVec 32 := Scalar.subi c7_i32_770 v2
  let c8_i32_771 : BitVec 32 := 8#32
  let c0_i32_772 : BitVec 32 := 0#32
  let v1297 : BitVec 1 := Scalar.cmpi .eq c8_i32_771 c0_i32_772
  let c1_i32_773 : BitVec 32 := 1#32
  let v1298 : BitVec 32 := Scalar.select v1297 c1_i32_773 c8_i32_771
  let v1299 : BitVec 32 := Scalar.remsi v1296 v1298
  let c0_i32_775 : BitVec 32 := 0#32
  let v1301 : BitVec 1 := Scalar.cmpi .slt v1299 c0_i32_775
  let c0_i32_776 : BitVec 32 := 0#32
  let v1302 : BitVec 1 := Scalar.cmpi .slt v1298 c0_i32_776
  let v1303 : BitVec 1 := Scalar.xori v1301 v1302
  let c0_i32_774 : BitVec 32 := 0#32
  let v1300 : BitVec 1 := Scalar.cmpi .ne v1299 c0_i32_774
  let v1304 : BitVec 1 := Scalar.andi v1303 v1300
  let v1305 : BitVec 32 := Scalar.addi v1299 v1298
  let v1306 : BitVec 32 := Scalar.select v1304 v1305 v1299
  let c1_i32_777 : BitVec 32 := 1#32
  let v1307 : BitVec 32 := Scalar.subi v1306 c1_i32_777
  let c14_i32_778 : BitVec 32 := 14#32
  let v1308 : BitVec 32 := Scalar.addi v1307 c14_i32_778
  let v1781 : Index := Scalar.indexCast v1308
  let c0_1084 : Index := 0#32
  let c0_1085 : Index := 0#32
  ![v1781.toNat, 0, 0]
def k0_off100 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_779 : BitVec 32 := 7#32
  let v1309 : BitVec 32 := Scalar.subi v2 c7_i32_779
  let c8_i32_780 : BitVec 32 := 8#32
  let c0_i32_781 : BitVec 32 := 0#32
  let v1310 : BitVec 1 := Scalar.cmpi .eq c8_i32_780 c0_i32_781
  let c1_i32_782 : BitVec 32 := 1#32
  let v1311 : BitVec 32 := Scalar.select v1310 c1_i32_782 c8_i32_780
  let v1312 : BitVec 32 := Scalar.remsi v1309 v1311
  let c0_i32_784 : BitVec 32 := 0#32
  let v1314 : BitVec 1 := Scalar.cmpi .slt v1312 c0_i32_784
  let c0_i32_785 : BitVec 32 := 0#32
  let v1315 : BitVec 1 := Scalar.cmpi .slt v1311 c0_i32_785
  let v1316 : BitVec 1 := Scalar.xori v1314 v1315
  let c0_i32_783 : BitVec 32 := 0#32
  let v1313 : BitVec 1 := Scalar.cmpi .ne v1312 c0_i32_783
  let v1317 : BitVec 1 := Scalar.andi v1316 v1313
  let v1318 : BitVec 32 := Scalar.addi v1312 v1311
  let v1319 : BitVec 32 := Scalar.select v1317 v1318 v1312
  let c1_i32_786 : BitVec 32 := 1#32
  let v1320 : BitVec 32 := Scalar.subi v1319 c1_i32_786
  let c14_i32_787 : BitVec 32 := 14#32
  let v1321 : BitVec 32 := Scalar.addi v1320 c14_i32_787
  ![v1321.toNat]
def k0_off101 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_779 : BitVec 32 := 7#32
  let v1309 : BitVec 32 := Scalar.subi v2 c7_i32_779
  let c8_i32_780 : BitVec 32 := 8#32
  let c0_i32_781 : BitVec 32 := 0#32
  let v1310 : BitVec 1 := Scalar.cmpi .eq c8_i32_780 c0_i32_781
  let c1_i32_782 : BitVec 32 := 1#32
  let v1311 : BitVec 32 := Scalar.select v1310 c1_i32_782 c8_i32_780
  let v1312 : BitVec 32 := Scalar.remsi v1309 v1311
  let c0_i32_784 : BitVec 32 := 0#32
  let v1314 : BitVec 1 := Scalar.cmpi .slt v1312 c0_i32_784
  let c0_i32_785 : BitVec 32 := 0#32
  let v1315 : BitVec 1 := Scalar.cmpi .slt v1311 c0_i32_785
  let v1316 : BitVec 1 := Scalar.xori v1314 v1315
  let c0_i32_783 : BitVec 32 := 0#32
  let v1313 : BitVec 1 := Scalar.cmpi .ne v1312 c0_i32_783
  let v1317 : BitVec 1 := Scalar.andi v1316 v1313
  let v1318 : BitVec 32 := Scalar.addi v1312 v1311
  let v1319 : BitVec 32 := Scalar.select v1317 v1318 v1312
  let c1_i32_786 : BitVec 32 := 1#32
  let v1320 : BitVec 32 := Scalar.subi v1319 c1_i32_786
  let c14_i32_787 : BitVec 32 := 14#32
  let v1321 : BitVec 32 := Scalar.addi v1320 c14_i32_787
  let c0_i32_1089 : BitVec 32 := 0#32
  let c0_i32_1090 : BitVec 32 := 0#32
  ![v1321.toNat, 0, 0]
def k0_off102 (d0 : Dev nD) : Fin 3 → Nat :=
  let c7_i32_770 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1296 : BitVec 32 := Scalar.subi c7_i32_770 v2
  let c8_i32_771 : BitVec 32 := 8#32
  let c0_i32_772 : BitVec 32 := 0#32
  let v1297 : BitVec 1 := Scalar.cmpi .eq c8_i32_771 c0_i32_772
  let c1_i32_773 : BitVec 32 := 1#32
  let v1298 : BitVec 32 := Scalar.select v1297 c1_i32_773 c8_i32_771
  let v1299 : BitVec 32 := Scalar.remsi v1296 v1298
  let c0_i32_775 : BitVec 32 := 0#32
  let v1301 : BitVec 1 := Scalar.cmpi .slt v1299 c0_i32_775
  let c0_i32_776 : BitVec 32 := 0#32
  let v1302 : BitVec 1 := Scalar.cmpi .slt v1298 c0_i32_776
  let v1303 : BitVec 1 := Scalar.xori v1301 v1302
  let c0_i32_774 : BitVec 32 := 0#32
  let v1300 : BitVec 1 := Scalar.cmpi .ne v1299 c0_i32_774
  let v1304 : BitVec 1 := Scalar.andi v1303 v1300
  let v1305 : BitVec 32 := Scalar.addi v1299 v1298
  let v1306 : BitVec 32 := Scalar.select v1304 v1305 v1299
  let c1_i32_777 : BitVec 32 := 1#32
  let v1307 : BitVec 32 := Scalar.subi v1306 c1_i32_777
  let c14_i32_778 : BitVec 32 := 14#32
  let v1308 : BitVec 32 := Scalar.addi v1307 c14_i32_778
  let c0_i32_1091 : BitVec 32 := 0#32
  let c0_i32_1092 : BitVec 32 := 0#32
  ![v1308.toNat, 0, 0]
def k0_dev32 : Nat :=
  let c0_i32_1088 : BitVec 32 := 0#32
  let c7_i32_1086 : BitVec 32 := 7#32
  let c1_i32_1087 : BitVec 32 := 1#32
  let v1785 : BitVec 32 := Scalar.muli c7_i32_1086 c1_i32_1087
  let v1786 : BitVec 32 := Scalar.addi c0_i32_1088 v1785
  v1786.toNat
@[reducible] def k0_t3_loop : Scf.Loop 32 :=
  let c7_i32_792 : BitVec 32 := 7#32
  let c7_i32_793 : BitVec 32 := 7#32
  let v1327 : BitVec 32 := Scalar.addi c7_i32_792 c7_i32_793
  let c1_i32_794 : BitVec 32 := 1#32
  ⟨c7_i32_792, v1327, c1_i32_794⟩
def k0_off103 (k0_t3 : Fin k0_t3_loop.trips) : Fin 1 → Nat :=
  let c7_i32_792 : BitVec 32 := 7#32
  let c1_i32_794 : BitVec 32 := 1#32
  let arg12 : BitVec 32 := Scf.iv c7_i32_792 c1_i32_794 k0_t3
  ![arg12.toNat]
def k0_off104 (k0_t3 : Fin k0_t3_loop.trips) : Fin 3 → Nat :=
  let c7_i32_792 : BitVec 32 := 7#32
  let c1_i32_794 : BitVec 32 := 1#32
  let arg12 : BitVec 32 := Scf.iv c7_i32_792 c1_i32_794 k0_t3
  let c0_i32_1087 : BitVec 32 := 0#32
  let c0_i32_1088 : BitVec 32 := 0#32
  ![arg12.toNat, 0, 0]
@[reducible] def k0_t4_loop : Scf.Loop 32 :=
  let c0_i32_803 : BitVec 32 := 0#32
  let c7_i32_804 : BitVec 32 := 7#32
  let v1341 : BitVec 32 := Scalar.addi c0_i32_803 c7_i32_804
  let c1_i32_805 : BitVec 32 := 1#32
  ⟨c0_i32_803, v1341, c1_i32_805⟩
def k0_off105 (k0_t4 : Fin k0_t4_loop.trips) : Fin 1 → Nat :=
  let c35_i32 : BitVec 32 := 35#32
  let c0_i32_803 : BitVec 32 := 0#32
  let c1_i32_805 : BitVec 32 := 1#32
  let arg12 : BitVec 32 := Scf.iv c0_i32_803 c1_i32_805 k0_t4
  let v1802 : BitVec 32 := Scalar.addi c35_i32 arg12
  ![v1802.toNat]
def k0_off106 (d0 : Dev nD) (k0_t4 : Fin k0_t4_loop.trips) : Fin 1 → Nat :=
  let c28_i32_1098 : BitVec 32 := 28#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_803 : BitVec 32 := 0#32
  let c1_i32_805 : BitVec 32 := 1#32
  let arg12 : BitVec 32 := Scf.iv c0_i32_803 c1_i32_805 k0_t4
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c7_i32_1097 : BitVec 32 := 7#32
  let v1801 : BitVec 32 := Scalar.addi v1800 c7_i32_1097
  let v1803 : BitVec 32 := Scalar.addi c28_i32_1098 v1801
  ![v1803.toNat]
def k0_off107 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_803 : BitVec 32 := 0#32
  let c1_i32_805 : BitVec 32 := 1#32
  let arg12 : BitVec 32 := Scf.iv c0_i32_803 c1_i32_805 k0_t4
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c7_i32_1097 : BitVec 32 := 7#32
  let v1801 : BitVec 32 := Scalar.addi v1800 c7_i32_1097
  let c0_i32_1102 : BitVec 32 := 0#32
  let c0_i32_1103 : BitVec 32 := 0#32
  ![v1801.toNat, 0, 0]
def k0_dev33 (d0 : Dev nD) (k0_t4 : Fin k0_t4_loop.trips) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_803 : BitVec 32 := 0#32
  let c1_i32_805 : BitVec 32 := 1#32
  let arg12 : BitVec 32 := Scf.iv c0_i32_803 c1_i32_805 k0_t4
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let c1_i32_1100 : BitVec 32 := 1#32
  let v1804 : BitVec 32 := Scalar.muli v1788 c1_i32_1100
  let v1805 : BitVec 32 := Scalar.addi c0_i32_1101 v1804
  v1805.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_898 : BitVec 32 := 0#32
  let v1534 : BitVec 1 := Scalar.cmpi .ne v2 c0_i32_898
  let v1535 : BitVec 32 := Scalar.extui v1534
  let c0_i32_899 : BitVec 32 := 0#32
  let v1536 : BitVec 1 := Scalar.cmpi .ne v1535 c0_i32_899
  v1536

def k0_off108 (d0 : Dev nD) : Fin 3 → Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1508 : BitVec 32 := Scalar.subi c0_i32_881 v2
  let c8_i32_882 : BitVec 32 := 8#32
  let c0_i32_883 : BitVec 32 := 0#32
  let v1509 : BitVec 1 := Scalar.cmpi .eq c8_i32_882 c0_i32_883
  let c1_i32_884 : BitVec 32 := 1#32
  let v1510 : BitVec 32 := Scalar.select v1509 c1_i32_884 c8_i32_882
  let v1511 : BitVec 32 := Scalar.remsi v1508 v1510
  let c0_i32_886 : BitVec 32 := 0#32
  let v1513 : BitVec 1 := Scalar.cmpi .slt v1511 c0_i32_886
  let c0_i32_887 : BitVec 32 := 0#32
  let v1514 : BitVec 1 := Scalar.cmpi .slt v1510 c0_i32_887
  let v1515 : BitVec 1 := Scalar.xori v1513 v1514
  let c0_i32_885 : BitVec 32 := 0#32
  let v1512 : BitVec 1 := Scalar.cmpi .ne v1511 c0_i32_885
  let v1516 : BitVec 1 := Scalar.andi v1515 v1512
  let v1517 : BitVec 32 := Scalar.addi v1511 v1510
  let v1518 : BitVec 32 := Scalar.select v1516 v1517 v1511
  let c1_i32_888 : BitVec 32 := 1#32
  let v1519 : BitVec 32 := Scalar.subi v1518 c1_i32_888
  let c21_i32 : BitVec 32 := 21#32
  let v1520 : BitVec 32 := Scalar.addi v1519 c21_i32
  let v1781 : Index := Scalar.indexCast v1520
  let c0_1085 : Index := 0#32
  let c0_1086 : Index := 0#32
  ![v1781.toNat, 0, 0]
def k0_off109 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_889 : BitVec 32 := 0#32
  let v1521 : BitVec 32 := Scalar.subi v2 c0_i32_889
  let c8_i32_890 : BitVec 32 := 8#32
  let c0_i32_891 : BitVec 32 := 0#32
  let v1522 : BitVec 1 := Scalar.cmpi .eq c8_i32_890 c0_i32_891
  let c1_i32_892 : BitVec 32 := 1#32
  let v1523 : BitVec 32 := Scalar.select v1522 c1_i32_892 c8_i32_890
  let v1524 : BitVec 32 := Scalar.remsi v1521 v1523
  let c0_i32_894 : BitVec 32 := 0#32
  let v1526 : BitVec 1 := Scalar.cmpi .slt v1524 c0_i32_894
  let c0_i32_895 : BitVec 32 := 0#32
  let v1527 : BitVec 1 := Scalar.cmpi .slt v1523 c0_i32_895
  let v1528 : BitVec 1 := Scalar.xori v1526 v1527
  let c0_i32_893 : BitVec 32 := 0#32
  let v1525 : BitVec 1 := Scalar.cmpi .ne v1524 c0_i32_893
  let v1529 : BitVec 1 := Scalar.andi v1528 v1525
  let v1530 : BitVec 32 := Scalar.addi v1524 v1523
  let v1531 : BitVec 32 := Scalar.select v1529 v1530 v1524
  let c1_i32_896 : BitVec 32 := 1#32
  let v1532 : BitVec 32 := Scalar.subi v1531 c1_i32_896
  let c21_i32_897 : BitVec 32 := 21#32
  let v1533 : BitVec 32 := Scalar.addi v1532 c21_i32_897
  ![v1533.toNat]
def k0_off110 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_889 : BitVec 32 := 0#32
  let v1521 : BitVec 32 := Scalar.subi v2 c0_i32_889
  let c8_i32_890 : BitVec 32 := 8#32
  let c0_i32_891 : BitVec 32 := 0#32
  let v1522 : BitVec 1 := Scalar.cmpi .eq c8_i32_890 c0_i32_891
  let c1_i32_892 : BitVec 32 := 1#32
  let v1523 : BitVec 32 := Scalar.select v1522 c1_i32_892 c8_i32_890
  let v1524 : BitVec 32 := Scalar.remsi v1521 v1523
  let c0_i32_894 : BitVec 32 := 0#32
  let v1526 : BitVec 1 := Scalar.cmpi .slt v1524 c0_i32_894
  let c0_i32_895 : BitVec 32 := 0#32
  let v1527 : BitVec 1 := Scalar.cmpi .slt v1523 c0_i32_895
  let v1528 : BitVec 1 := Scalar.xori v1526 v1527
  let c0_i32_893 : BitVec 32 := 0#32
  let v1525 : BitVec 1 := Scalar.cmpi .ne v1524 c0_i32_893
  let v1529 : BitVec 1 := Scalar.andi v1528 v1525
  let v1530 : BitVec 32 := Scalar.addi v1524 v1523
  let v1531 : BitVec 32 := Scalar.select v1529 v1530 v1524
  let c1_i32_896 : BitVec 32 := 1#32
  let v1532 : BitVec 32 := Scalar.subi v1531 c1_i32_896
  let c21_i32_897 : BitVec 32 := 21#32
  let v1533 : BitVec 32 := Scalar.addi v1532 c21_i32_897
  let c0_i32_1090 : BitVec 32 := 0#32
  let c0_i32_1091 : BitVec 32 := 0#32
  ![v1533.toNat, 0, 0]
def k0_off111 (d0 : Dev nD) : Fin 3 → Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1508 : BitVec 32 := Scalar.subi c0_i32_881 v2
  let c8_i32_882 : BitVec 32 := 8#32
  let c0_i32_883 : BitVec 32 := 0#32
  let v1509 : BitVec 1 := Scalar.cmpi .eq c8_i32_882 c0_i32_883
  let c1_i32_884 : BitVec 32 := 1#32
  let v1510 : BitVec 32 := Scalar.select v1509 c1_i32_884 c8_i32_882
  let v1511 : BitVec 32 := Scalar.remsi v1508 v1510
  let c0_i32_886 : BitVec 32 := 0#32
  let v1513 : BitVec 1 := Scalar.cmpi .slt v1511 c0_i32_886
  let c0_i32_887 : BitVec 32 := 0#32
  let v1514 : BitVec 1 := Scalar.cmpi .slt v1510 c0_i32_887
  let v1515 : BitVec 1 := Scalar.xori v1513 v1514
  let c0_i32_885 : BitVec 32 := 0#32
  let v1512 : BitVec 1 := Scalar.cmpi .ne v1511 c0_i32_885
  let v1516 : BitVec 1 := Scalar.andi v1515 v1512
  let v1517 : BitVec 32 := Scalar.addi v1511 v1510
  let v1518 : BitVec 32 := Scalar.select v1516 v1517 v1511
  let c1_i32_888 : BitVec 32 := 1#32
  let v1519 : BitVec 32 := Scalar.subi v1518 c1_i32_888
  let c21_i32 : BitVec 32 := 21#32
  let v1520 : BitVec 32 := Scalar.addi v1519 c21_i32
  let c0_i32_1092 : BitVec 32 := 0#32
  let c0_i32_1093 : BitVec 32 := 0#32
  ![v1520.toNat, 0, 0]
def k0_dev34 : Nat :=
  let c0_i32_1089 : BitVec 32 := 0#32
  let c0_i32_1087 : BitVec 32 := 0#32
  let c1_i32_1088 : BitVec 32 := 1#32
  let v1785 : BitVec 32 := Scalar.muli c0_i32_1087 c1_i32_1088
  let v1786 : BitVec 32 := Scalar.addi c0_i32_1089 v1785
  v1786.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_918 : BitVec 32 := 1#32
  let v1563 : BitVec 1 := Scalar.cmpi .ne v2 c1_i32_918
  let v1564 : BitVec 32 := Scalar.extui v1563
  let c0_i32_919 : BitVec 32 := 0#32
  let v1565 : BitVec 1 := Scalar.cmpi .ne v1564 c0_i32_919
  v1565

def k0_off112 (d0 : Dev nD) : Fin 3 → Nat :=
  let c1_i32_900 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1537 : BitVec 32 := Scalar.subi c1_i32_900 v2
  let c8_i32_901 : BitVec 32 := 8#32
  let c0_i32_902 : BitVec 32 := 0#32
  let v1538 : BitVec 1 := Scalar.cmpi .eq c8_i32_901 c0_i32_902
  let c1_i32_903 : BitVec 32 := 1#32
  let v1539 : BitVec 32 := Scalar.select v1538 c1_i32_903 c8_i32_901
  let v1540 : BitVec 32 := Scalar.remsi v1537 v1539
  let c0_i32_905 : BitVec 32 := 0#32
  let v1542 : BitVec 1 := Scalar.cmpi .slt v1540 c0_i32_905
  let c0_i32_906 : BitVec 32 := 0#32
  let v1543 : BitVec 1 := Scalar.cmpi .slt v1539 c0_i32_906
  let v1544 : BitVec 1 := Scalar.xori v1542 v1543
  let c0_i32_904 : BitVec 32 := 0#32
  let v1541 : BitVec 1 := Scalar.cmpi .ne v1540 c0_i32_904
  let v1545 : BitVec 1 := Scalar.andi v1544 v1541
  let v1546 : BitVec 32 := Scalar.addi v1540 v1539
  let v1547 : BitVec 32 := Scalar.select v1545 v1546 v1540
  let c1_i32_907 : BitVec 32 := 1#32
  let v1548 : BitVec 32 := Scalar.subi v1547 c1_i32_907
  let c21_i32_908 : BitVec 32 := 21#32
  let v1549 : BitVec 32 := Scalar.addi v1548 c21_i32_908
  let v1781 : Index := Scalar.indexCast v1549
  let c0_1084 : Index := 0#32
  let c0_1085 : Index := 0#32
  ![v1781.toNat, 0, 0]
def k0_off113 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_909 : BitVec 32 := 1#32
  let v1550 : BitVec 32 := Scalar.subi v2 c1_i32_909
  let c8_i32_910 : BitVec 32 := 8#32
  let c0_i32_911 : BitVec 32 := 0#32
  let v1551 : BitVec 1 := Scalar.cmpi .eq c8_i32_910 c0_i32_911
  let c1_i32_912 : BitVec 32 := 1#32
  let v1552 : BitVec 32 := Scalar.select v1551 c1_i32_912 c8_i32_910
  let v1553 : BitVec 32 := Scalar.remsi v1550 v1552
  let c0_i32_914 : BitVec 32 := 0#32
  let v1555 : BitVec 1 := Scalar.cmpi .slt v1553 c0_i32_914
  let c0_i32_915 : BitVec 32 := 0#32
  let v1556 : BitVec 1 := Scalar.cmpi .slt v1552 c0_i32_915
  let v1557 : BitVec 1 := Scalar.xori v1555 v1556
  let c0_i32_913 : BitVec 32 := 0#32
  let v1554 : BitVec 1 := Scalar.cmpi .ne v1553 c0_i32_913
  let v1558 : BitVec 1 := Scalar.andi v1557 v1554
  let v1559 : BitVec 32 := Scalar.addi v1553 v1552
  let v1560 : BitVec 32 := Scalar.select v1558 v1559 v1553
  let c1_i32_916 : BitVec 32 := 1#32
  let v1561 : BitVec 32 := Scalar.subi v1560 c1_i32_916
  let c21_i32_917 : BitVec 32 := 21#32
  let v1562 : BitVec 32 := Scalar.addi v1561 c21_i32_917
  ![v1562.toNat]
def k0_off114 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_909 : BitVec 32 := 1#32
  let v1550 : BitVec 32 := Scalar.subi v2 c1_i32_909
  let c8_i32_910 : BitVec 32 := 8#32
  let c0_i32_911 : BitVec 32 := 0#32
  let v1551 : BitVec 1 := Scalar.cmpi .eq c8_i32_910 c0_i32_911
  let c1_i32_912 : BitVec 32 := 1#32
  let v1552 : BitVec 32 := Scalar.select v1551 c1_i32_912 c8_i32_910
  let v1553 : BitVec 32 := Scalar.remsi v1550 v1552
  let c0_i32_914 : BitVec 32 := 0#32
  let v1555 : BitVec 1 := Scalar.cmpi .slt v1553 c0_i32_914
  let c0_i32_915 : BitVec 32 := 0#32
  let v1556 : BitVec 1 := Scalar.cmpi .slt v1552 c0_i32_915
  let v1557 : BitVec 1 := Scalar.xori v1555 v1556
  let c0_i32_913 : BitVec 32 := 0#32
  let v1554 : BitVec 1 := Scalar.cmpi .ne v1553 c0_i32_913
  let v1558 : BitVec 1 := Scalar.andi v1557 v1554
  let v1559 : BitVec 32 := Scalar.addi v1553 v1552
  let v1560 : BitVec 32 := Scalar.select v1558 v1559 v1553
  let c1_i32_916 : BitVec 32 := 1#32
  let v1561 : BitVec 32 := Scalar.subi v1560 c1_i32_916
  let c21_i32_917 : BitVec 32 := 21#32
  let v1562 : BitVec 32 := Scalar.addi v1561 c21_i32_917
  let c0_i32_1089 : BitVec 32 := 0#32
  let c0_i32_1090 : BitVec 32 := 0#32
  ![v1562.toNat, 0, 0]
def k0_off115 (d0 : Dev nD) : Fin 3 → Nat :=
  let c1_i32_900 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1537 : BitVec 32 := Scalar.subi c1_i32_900 v2
  let c8_i32_901 : BitVec 32 := 8#32
  let c0_i32_902 : BitVec 32 := 0#32
  let v1538 : BitVec 1 := Scalar.cmpi .eq c8_i32_901 c0_i32_902
  let c1_i32_903 : BitVec 32 := 1#32
  let v1539 : BitVec 32 := Scalar.select v1538 c1_i32_903 c8_i32_901
  let v1540 : BitVec 32 := Scalar.remsi v1537 v1539
  let c0_i32_905 : BitVec 32 := 0#32
  let v1542 : BitVec 1 := Scalar.cmpi .slt v1540 c0_i32_905
  let c0_i32_906 : BitVec 32 := 0#32
  let v1543 : BitVec 1 := Scalar.cmpi .slt v1539 c0_i32_906
  let v1544 : BitVec 1 := Scalar.xori v1542 v1543
  let c0_i32_904 : BitVec 32 := 0#32
  let v1541 : BitVec 1 := Scalar.cmpi .ne v1540 c0_i32_904
  let v1545 : BitVec 1 := Scalar.andi v1544 v1541
  let v1546 : BitVec 32 := Scalar.addi v1540 v1539
  let v1547 : BitVec 32 := Scalar.select v1545 v1546 v1540
  let c1_i32_907 : BitVec 32 := 1#32
  let v1548 : BitVec 32 := Scalar.subi v1547 c1_i32_907
  let c21_i32_908 : BitVec 32 := 21#32
  let v1549 : BitVec 32 := Scalar.addi v1548 c21_i32_908
  let c0_i32_1091 : BitVec 32 := 0#32
  let c0_i32_1092 : BitVec 32 := 0#32
  ![v1549.toNat, 0, 0]
def k0_dev35 : Nat :=
  let c0_i32_1088 : BitVec 32 := 0#32
  let c1_i32_1086 : BitVec 32 := 1#32
  let c1_i32_1087 : BitVec 32 := 1#32
  let v1785 : BitVec 32 := Scalar.muli c1_i32_1086 c1_i32_1087
  let v1786 : BitVec 32 := Scalar.addi c0_i32_1088 v1785
  v1786.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_938 : BitVec 32 := 2#32
  let v1592 : BitVec 1 := Scalar.cmpi .ne v2 c2_i32_938
  let v1593 : BitVec 32 := Scalar.extui v1592
  let c0_i32_939 : BitVec 32 := 0#32
  let v1594 : BitVec 1 := Scalar.cmpi .ne v1593 c0_i32_939
  v1594

def k0_off116 (d0 : Dev nD) : Fin 3 → Nat :=
  let c2_i32_920 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1566 : BitVec 32 := Scalar.subi c2_i32_920 v2
  let c8_i32_921 : BitVec 32 := 8#32
  let c0_i32_922 : BitVec 32 := 0#32
  let v1567 : BitVec 1 := Scalar.cmpi .eq c8_i32_921 c0_i32_922
  let c1_i32_923 : BitVec 32 := 1#32
  let v1568 : BitVec 32 := Scalar.select v1567 c1_i32_923 c8_i32_921
  let v1569 : BitVec 32 := Scalar.remsi v1566 v1568
  let c0_i32_925 : BitVec 32 := 0#32
  let v1571 : BitVec 1 := Scalar.cmpi .slt v1569 c0_i32_925
  let c0_i32_926 : BitVec 32 := 0#32
  let v1572 : BitVec 1 := Scalar.cmpi .slt v1568 c0_i32_926
  let v1573 : BitVec 1 := Scalar.xori v1571 v1572
  let c0_i32_924 : BitVec 32 := 0#32
  let v1570 : BitVec 1 := Scalar.cmpi .ne v1569 c0_i32_924
  let v1574 : BitVec 1 := Scalar.andi v1573 v1570
  let v1575 : BitVec 32 := Scalar.addi v1569 v1568
  let v1576 : BitVec 32 := Scalar.select v1574 v1575 v1569
  let c1_i32_927 : BitVec 32 := 1#32
  let v1577 : BitVec 32 := Scalar.subi v1576 c1_i32_927
  let c21_i32_928 : BitVec 32 := 21#32
  let v1578 : BitVec 32 := Scalar.addi v1577 c21_i32_928
  let v1781 : Index := Scalar.indexCast v1578
  let c0_1084 : Index := 0#32
  let c0_1085 : Index := 0#32
  ![v1781.toNat, 0, 0]
def k0_off117 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_929 : BitVec 32 := 2#32
  let v1579 : BitVec 32 := Scalar.subi v2 c2_i32_929
  let c8_i32_930 : BitVec 32 := 8#32
  let c0_i32_931 : BitVec 32 := 0#32
  let v1580 : BitVec 1 := Scalar.cmpi .eq c8_i32_930 c0_i32_931
  let c1_i32_932 : BitVec 32 := 1#32
  let v1581 : BitVec 32 := Scalar.select v1580 c1_i32_932 c8_i32_930
  let v1582 : BitVec 32 := Scalar.remsi v1579 v1581
  let c0_i32_934 : BitVec 32 := 0#32
  let v1584 : BitVec 1 := Scalar.cmpi .slt v1582 c0_i32_934
  let c0_i32_935 : BitVec 32 := 0#32
  let v1585 : BitVec 1 := Scalar.cmpi .slt v1581 c0_i32_935
  let v1586 : BitVec 1 := Scalar.xori v1584 v1585
  let c0_i32_933 : BitVec 32 := 0#32
  let v1583 : BitVec 1 := Scalar.cmpi .ne v1582 c0_i32_933
  let v1587 : BitVec 1 := Scalar.andi v1586 v1583
  let v1588 : BitVec 32 := Scalar.addi v1582 v1581
  let v1589 : BitVec 32 := Scalar.select v1587 v1588 v1582
  let c1_i32_936 : BitVec 32 := 1#32
  let v1590 : BitVec 32 := Scalar.subi v1589 c1_i32_936
  let c21_i32_937 : BitVec 32 := 21#32
  let v1591 : BitVec 32 := Scalar.addi v1590 c21_i32_937
  ![v1591.toNat]
def k0_off118 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_929 : BitVec 32 := 2#32
  let v1579 : BitVec 32 := Scalar.subi v2 c2_i32_929
  let c8_i32_930 : BitVec 32 := 8#32
  let c0_i32_931 : BitVec 32 := 0#32
  let v1580 : BitVec 1 := Scalar.cmpi .eq c8_i32_930 c0_i32_931
  let c1_i32_932 : BitVec 32 := 1#32
  let v1581 : BitVec 32 := Scalar.select v1580 c1_i32_932 c8_i32_930
  let v1582 : BitVec 32 := Scalar.remsi v1579 v1581
  let c0_i32_934 : BitVec 32 := 0#32
  let v1584 : BitVec 1 := Scalar.cmpi .slt v1582 c0_i32_934
  let c0_i32_935 : BitVec 32 := 0#32
  let v1585 : BitVec 1 := Scalar.cmpi .slt v1581 c0_i32_935
  let v1586 : BitVec 1 := Scalar.xori v1584 v1585
  let c0_i32_933 : BitVec 32 := 0#32
  let v1583 : BitVec 1 := Scalar.cmpi .ne v1582 c0_i32_933
  let v1587 : BitVec 1 := Scalar.andi v1586 v1583
  let v1588 : BitVec 32 := Scalar.addi v1582 v1581
  let v1589 : BitVec 32 := Scalar.select v1587 v1588 v1582
  let c1_i32_936 : BitVec 32 := 1#32
  let v1590 : BitVec 32 := Scalar.subi v1589 c1_i32_936
  let c21_i32_937 : BitVec 32 := 21#32
  let v1591 : BitVec 32 := Scalar.addi v1590 c21_i32_937
  let c0_i32_1089 : BitVec 32 := 0#32
  let c0_i32_1090 : BitVec 32 := 0#32
  ![v1591.toNat, 0, 0]
def k0_off119 (d0 : Dev nD) : Fin 3 → Nat :=
  let c2_i32_920 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1566 : BitVec 32 := Scalar.subi c2_i32_920 v2
  let c8_i32_921 : BitVec 32 := 8#32
  let c0_i32_922 : BitVec 32 := 0#32
  let v1567 : BitVec 1 := Scalar.cmpi .eq c8_i32_921 c0_i32_922
  let c1_i32_923 : BitVec 32 := 1#32
  let v1568 : BitVec 32 := Scalar.select v1567 c1_i32_923 c8_i32_921
  let v1569 : BitVec 32 := Scalar.remsi v1566 v1568
  let c0_i32_925 : BitVec 32 := 0#32
  let v1571 : BitVec 1 := Scalar.cmpi .slt v1569 c0_i32_925
  let c0_i32_926 : BitVec 32 := 0#32
  let v1572 : BitVec 1 := Scalar.cmpi .slt v1568 c0_i32_926
  let v1573 : BitVec 1 := Scalar.xori v1571 v1572
  let c0_i32_924 : BitVec 32 := 0#32
  let v1570 : BitVec 1 := Scalar.cmpi .ne v1569 c0_i32_924
  let v1574 : BitVec 1 := Scalar.andi v1573 v1570
  let v1575 : BitVec 32 := Scalar.addi v1569 v1568
  let v1576 : BitVec 32 := Scalar.select v1574 v1575 v1569
  let c1_i32_927 : BitVec 32 := 1#32
  let v1577 : BitVec 32 := Scalar.subi v1576 c1_i32_927
  let c21_i32_928 : BitVec 32 := 21#32
  let v1578 : BitVec 32 := Scalar.addi v1577 c21_i32_928
  let c0_i32_1091 : BitVec 32 := 0#32
  let c0_i32_1092 : BitVec 32 := 0#32
  ![v1578.toNat, 0, 0]
def k0_dev36 : Nat :=
  let c0_i32_1088 : BitVec 32 := 0#32
  let c2_i32_1086 : BitVec 32 := 2#32
  let c1_i32_1087 : BitVec 32 := 1#32
  let v1785 : BitVec 32 := Scalar.muli c2_i32_1086 c1_i32_1087
  let v1786 : BitVec 32 := Scalar.addi c0_i32_1088 v1785
  v1786.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_958 : BitVec 32 := 3#32
  let v1621 : BitVec 1 := Scalar.cmpi .ne v2 c3_i32_958
  let v1622 : BitVec 32 := Scalar.extui v1621
  let c0_i32_959 : BitVec 32 := 0#32
  let v1623 : BitVec 1 := Scalar.cmpi .ne v1622 c0_i32_959
  v1623

def k0_off120 (d0 : Dev nD) : Fin 3 → Nat :=
  let c3_i32_940 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1595 : BitVec 32 := Scalar.subi c3_i32_940 v2
  let c8_i32_941 : BitVec 32 := 8#32
  let c0_i32_942 : BitVec 32 := 0#32
  let v1596 : BitVec 1 := Scalar.cmpi .eq c8_i32_941 c0_i32_942
  let c1_i32_943 : BitVec 32 := 1#32
  let v1597 : BitVec 32 := Scalar.select v1596 c1_i32_943 c8_i32_941
  let v1598 : BitVec 32 := Scalar.remsi v1595 v1597
  let c0_i32_945 : BitVec 32 := 0#32
  let v1600 : BitVec 1 := Scalar.cmpi .slt v1598 c0_i32_945
  let c0_i32_946 : BitVec 32 := 0#32
  let v1601 : BitVec 1 := Scalar.cmpi .slt v1597 c0_i32_946
  let v1602 : BitVec 1 := Scalar.xori v1600 v1601
  let c0_i32_944 : BitVec 32 := 0#32
  let v1599 : BitVec 1 := Scalar.cmpi .ne v1598 c0_i32_944
  let v1603 : BitVec 1 := Scalar.andi v1602 v1599
  let v1604 : BitVec 32 := Scalar.addi v1598 v1597
  let v1605 : BitVec 32 := Scalar.select v1603 v1604 v1598
  let c1_i32_947 : BitVec 32 := 1#32
  let v1606 : BitVec 32 := Scalar.subi v1605 c1_i32_947
  let c21_i32_948 : BitVec 32 := 21#32
  let v1607 : BitVec 32 := Scalar.addi v1606 c21_i32_948
  let v1781 : Index := Scalar.indexCast v1607
  let c0_1084 : Index := 0#32
  let c0_1085 : Index := 0#32
  ![v1781.toNat, 0, 0]
def k0_off121 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_949 : BitVec 32 := 3#32
  let v1608 : BitVec 32 := Scalar.subi v2 c3_i32_949
  let c8_i32_950 : BitVec 32 := 8#32
  let c0_i32_951 : BitVec 32 := 0#32
  let v1609 : BitVec 1 := Scalar.cmpi .eq c8_i32_950 c0_i32_951
  let c1_i32_952 : BitVec 32 := 1#32
  let v1610 : BitVec 32 := Scalar.select v1609 c1_i32_952 c8_i32_950
  let v1611 : BitVec 32 := Scalar.remsi v1608 v1610
  let c0_i32_954 : BitVec 32 := 0#32
  let v1613 : BitVec 1 := Scalar.cmpi .slt v1611 c0_i32_954
  let c0_i32_955 : BitVec 32 := 0#32
  let v1614 : BitVec 1 := Scalar.cmpi .slt v1610 c0_i32_955
  let v1615 : BitVec 1 := Scalar.xori v1613 v1614
  let c0_i32_953 : BitVec 32 := 0#32
  let v1612 : BitVec 1 := Scalar.cmpi .ne v1611 c0_i32_953
  let v1616 : BitVec 1 := Scalar.andi v1615 v1612
  let v1617 : BitVec 32 := Scalar.addi v1611 v1610
  let v1618 : BitVec 32 := Scalar.select v1616 v1617 v1611
  let c1_i32_956 : BitVec 32 := 1#32
  let v1619 : BitVec 32 := Scalar.subi v1618 c1_i32_956
  let c21_i32_957 : BitVec 32 := 21#32
  let v1620 : BitVec 32 := Scalar.addi v1619 c21_i32_957
  ![v1620.toNat]
def k0_off122 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_949 : BitVec 32 := 3#32
  let v1608 : BitVec 32 := Scalar.subi v2 c3_i32_949
  let c8_i32_950 : BitVec 32 := 8#32
  let c0_i32_951 : BitVec 32 := 0#32
  let v1609 : BitVec 1 := Scalar.cmpi .eq c8_i32_950 c0_i32_951
  let c1_i32_952 : BitVec 32 := 1#32
  let v1610 : BitVec 32 := Scalar.select v1609 c1_i32_952 c8_i32_950
  let v1611 : BitVec 32 := Scalar.remsi v1608 v1610
  let c0_i32_954 : BitVec 32 := 0#32
  let v1613 : BitVec 1 := Scalar.cmpi .slt v1611 c0_i32_954
  let c0_i32_955 : BitVec 32 := 0#32
  let v1614 : BitVec 1 := Scalar.cmpi .slt v1610 c0_i32_955
  let v1615 : BitVec 1 := Scalar.xori v1613 v1614
  let c0_i32_953 : BitVec 32 := 0#32
  let v1612 : BitVec 1 := Scalar.cmpi .ne v1611 c0_i32_953
  let v1616 : BitVec 1 := Scalar.andi v1615 v1612
  let v1617 : BitVec 32 := Scalar.addi v1611 v1610
  let v1618 : BitVec 32 := Scalar.select v1616 v1617 v1611
  let c1_i32_956 : BitVec 32 := 1#32
  let v1619 : BitVec 32 := Scalar.subi v1618 c1_i32_956
  let c21_i32_957 : BitVec 32 := 21#32
  let v1620 : BitVec 32 := Scalar.addi v1619 c21_i32_957
  let c0_i32_1089 : BitVec 32 := 0#32
  let c0_i32_1090 : BitVec 32 := 0#32
  ![v1620.toNat, 0, 0]
def k0_off123 (d0 : Dev nD) : Fin 3 → Nat :=
  let c3_i32_940 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1595 : BitVec 32 := Scalar.subi c3_i32_940 v2
  let c8_i32_941 : BitVec 32 := 8#32
  let c0_i32_942 : BitVec 32 := 0#32
  let v1596 : BitVec 1 := Scalar.cmpi .eq c8_i32_941 c0_i32_942
  let c1_i32_943 : BitVec 32 := 1#32
  let v1597 : BitVec 32 := Scalar.select v1596 c1_i32_943 c8_i32_941
  let v1598 : BitVec 32 := Scalar.remsi v1595 v1597
  let c0_i32_945 : BitVec 32 := 0#32
  let v1600 : BitVec 1 := Scalar.cmpi .slt v1598 c0_i32_945
  let c0_i32_946 : BitVec 32 := 0#32
  let v1601 : BitVec 1 := Scalar.cmpi .slt v1597 c0_i32_946
  let v1602 : BitVec 1 := Scalar.xori v1600 v1601
  let c0_i32_944 : BitVec 32 := 0#32
  let v1599 : BitVec 1 := Scalar.cmpi .ne v1598 c0_i32_944
  let v1603 : BitVec 1 := Scalar.andi v1602 v1599
  let v1604 : BitVec 32 := Scalar.addi v1598 v1597
  let v1605 : BitVec 32 := Scalar.select v1603 v1604 v1598
  let c1_i32_947 : BitVec 32 := 1#32
  let v1606 : BitVec 32 := Scalar.subi v1605 c1_i32_947
  let c21_i32_948 : BitVec 32 := 21#32
  let v1607 : BitVec 32 := Scalar.addi v1606 c21_i32_948
  let c0_i32_1091 : BitVec 32 := 0#32
  let c0_i32_1092 : BitVec 32 := 0#32
  ![v1607.toNat, 0, 0]
def k0_dev37 : Nat :=
  let c0_i32_1088 : BitVec 32 := 0#32
  let c3_i32_1086 : BitVec 32 := 3#32
  let c1_i32_1087 : BitVec 32 := 1#32
  let v1785 : BitVec 32 := Scalar.muli c3_i32_1086 c1_i32_1087
  let v1786 : BitVec 32 := Scalar.addi c0_i32_1088 v1785
  v1786.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_978 : BitVec 32 := 4#32
  let v1650 : BitVec 1 := Scalar.cmpi .ne v2 c4_i32_978
  let v1651 : BitVec 32 := Scalar.extui v1650
  let c0_i32_979 : BitVec 32 := 0#32
  let v1652 : BitVec 1 := Scalar.cmpi .ne v1651 c0_i32_979
  v1652

def k0_off124 (d0 : Dev nD) : Fin 3 → Nat :=
  let c4_i32_960 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1624 : BitVec 32 := Scalar.subi c4_i32_960 v2
  let c8_i32_961 : BitVec 32 := 8#32
  let c0_i32_962 : BitVec 32 := 0#32
  let v1625 : BitVec 1 := Scalar.cmpi .eq c8_i32_961 c0_i32_962
  let c1_i32_963 : BitVec 32 := 1#32
  let v1626 : BitVec 32 := Scalar.select v1625 c1_i32_963 c8_i32_961
  let v1627 : BitVec 32 := Scalar.remsi v1624 v1626
  let c0_i32_965 : BitVec 32 := 0#32
  let v1629 : BitVec 1 := Scalar.cmpi .slt v1627 c0_i32_965
  let c0_i32_966 : BitVec 32 := 0#32
  let v1630 : BitVec 1 := Scalar.cmpi .slt v1626 c0_i32_966
  let v1631 : BitVec 1 := Scalar.xori v1629 v1630
  let c0_i32_964 : BitVec 32 := 0#32
  let v1628 : BitVec 1 := Scalar.cmpi .ne v1627 c0_i32_964
  let v1632 : BitVec 1 := Scalar.andi v1631 v1628
  let v1633 : BitVec 32 := Scalar.addi v1627 v1626
  let v1634 : BitVec 32 := Scalar.select v1632 v1633 v1627
  let c1_i32_967 : BitVec 32 := 1#32
  let v1635 : BitVec 32 := Scalar.subi v1634 c1_i32_967
  let c21_i32_968 : BitVec 32 := 21#32
  let v1636 : BitVec 32 := Scalar.addi v1635 c21_i32_968
  let v1781 : Index := Scalar.indexCast v1636
  let c0_1084 : Index := 0#32
  let c0_1085 : Index := 0#32
  ![v1781.toNat, 0, 0]
def k0_off125 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_969 : BitVec 32 := 4#32
  let v1637 : BitVec 32 := Scalar.subi v2 c4_i32_969
  let c8_i32_970 : BitVec 32 := 8#32
  let c0_i32_971 : BitVec 32 := 0#32
  let v1638 : BitVec 1 := Scalar.cmpi .eq c8_i32_970 c0_i32_971
  let c1_i32_972 : BitVec 32 := 1#32
  let v1639 : BitVec 32 := Scalar.select v1638 c1_i32_972 c8_i32_970
  let v1640 : BitVec 32 := Scalar.remsi v1637 v1639
  let c0_i32_974 : BitVec 32 := 0#32
  let v1642 : BitVec 1 := Scalar.cmpi .slt v1640 c0_i32_974
  let c0_i32_975 : BitVec 32 := 0#32
  let v1643 : BitVec 1 := Scalar.cmpi .slt v1639 c0_i32_975
  let v1644 : BitVec 1 := Scalar.xori v1642 v1643
  let c0_i32_973 : BitVec 32 := 0#32
  let v1641 : BitVec 1 := Scalar.cmpi .ne v1640 c0_i32_973
  let v1645 : BitVec 1 := Scalar.andi v1644 v1641
  let v1646 : BitVec 32 := Scalar.addi v1640 v1639
  let v1647 : BitVec 32 := Scalar.select v1645 v1646 v1640
  let c1_i32_976 : BitVec 32 := 1#32
  let v1648 : BitVec 32 := Scalar.subi v1647 c1_i32_976
  let c21_i32_977 : BitVec 32 := 21#32
  let v1649 : BitVec 32 := Scalar.addi v1648 c21_i32_977
  ![v1649.toNat]
def k0_off126 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_969 : BitVec 32 := 4#32
  let v1637 : BitVec 32 := Scalar.subi v2 c4_i32_969
  let c8_i32_970 : BitVec 32 := 8#32
  let c0_i32_971 : BitVec 32 := 0#32
  let v1638 : BitVec 1 := Scalar.cmpi .eq c8_i32_970 c0_i32_971
  let c1_i32_972 : BitVec 32 := 1#32
  let v1639 : BitVec 32 := Scalar.select v1638 c1_i32_972 c8_i32_970
  let v1640 : BitVec 32 := Scalar.remsi v1637 v1639
  let c0_i32_974 : BitVec 32 := 0#32
  let v1642 : BitVec 1 := Scalar.cmpi .slt v1640 c0_i32_974
  let c0_i32_975 : BitVec 32 := 0#32
  let v1643 : BitVec 1 := Scalar.cmpi .slt v1639 c0_i32_975
  let v1644 : BitVec 1 := Scalar.xori v1642 v1643
  let c0_i32_973 : BitVec 32 := 0#32
  let v1641 : BitVec 1 := Scalar.cmpi .ne v1640 c0_i32_973
  let v1645 : BitVec 1 := Scalar.andi v1644 v1641
  let v1646 : BitVec 32 := Scalar.addi v1640 v1639
  let v1647 : BitVec 32 := Scalar.select v1645 v1646 v1640
  let c1_i32_976 : BitVec 32 := 1#32
  let v1648 : BitVec 32 := Scalar.subi v1647 c1_i32_976
  let c21_i32_977 : BitVec 32 := 21#32
  let v1649 : BitVec 32 := Scalar.addi v1648 c21_i32_977
  let c0_i32_1089 : BitVec 32 := 0#32
  let c0_i32_1090 : BitVec 32 := 0#32
  ![v1649.toNat, 0, 0]
def k0_off127 (d0 : Dev nD) : Fin 3 → Nat :=
  let c4_i32_960 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1624 : BitVec 32 := Scalar.subi c4_i32_960 v2
  let c8_i32_961 : BitVec 32 := 8#32
  let c0_i32_962 : BitVec 32 := 0#32
  let v1625 : BitVec 1 := Scalar.cmpi .eq c8_i32_961 c0_i32_962
  let c1_i32_963 : BitVec 32 := 1#32
  let v1626 : BitVec 32 := Scalar.select v1625 c1_i32_963 c8_i32_961
  let v1627 : BitVec 32 := Scalar.remsi v1624 v1626
  let c0_i32_965 : BitVec 32 := 0#32
  let v1629 : BitVec 1 := Scalar.cmpi .slt v1627 c0_i32_965
  let c0_i32_966 : BitVec 32 := 0#32
  let v1630 : BitVec 1 := Scalar.cmpi .slt v1626 c0_i32_966
  let v1631 : BitVec 1 := Scalar.xori v1629 v1630
  let c0_i32_964 : BitVec 32 := 0#32
  let v1628 : BitVec 1 := Scalar.cmpi .ne v1627 c0_i32_964
  let v1632 : BitVec 1 := Scalar.andi v1631 v1628
  let v1633 : BitVec 32 := Scalar.addi v1627 v1626
  let v1634 : BitVec 32 := Scalar.select v1632 v1633 v1627
  let c1_i32_967 : BitVec 32 := 1#32
  let v1635 : BitVec 32 := Scalar.subi v1634 c1_i32_967
  let c21_i32_968 : BitVec 32 := 21#32
  let v1636 : BitVec 32 := Scalar.addi v1635 c21_i32_968
  let c0_i32_1091 : BitVec 32 := 0#32
  let c0_i32_1092 : BitVec 32 := 0#32
  ![v1636.toNat, 0, 0]
def k0_dev38 : Nat :=
  let c0_i32_1088 : BitVec 32 := 0#32
  let c4_i32_1086 : BitVec 32 := 4#32
  let c1_i32_1087 : BitVec 32 := 1#32
  let v1785 : BitVec 32 := Scalar.muli c4_i32_1086 c1_i32_1087
  let v1786 : BitVec 32 := Scalar.addi c0_i32_1088 v1785
  v1786.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_998 : BitVec 32 := 5#32
  let v1679 : BitVec 1 := Scalar.cmpi .ne v2 c5_i32_998
  let v1680 : BitVec 32 := Scalar.extui v1679
  let c0_i32_999 : BitVec 32 := 0#32
  let v1681 : BitVec 1 := Scalar.cmpi .ne v1680 c0_i32_999
  v1681

def k0_off128 (d0 : Dev nD) : Fin 3 → Nat :=
  let c5_i32_980 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1653 : BitVec 32 := Scalar.subi c5_i32_980 v2
  let c8_i32_981 : BitVec 32 := 8#32
  let c0_i32_982 : BitVec 32 := 0#32
  let v1654 : BitVec 1 := Scalar.cmpi .eq c8_i32_981 c0_i32_982
  let c1_i32_983 : BitVec 32 := 1#32
  let v1655 : BitVec 32 := Scalar.select v1654 c1_i32_983 c8_i32_981
  let v1656 : BitVec 32 := Scalar.remsi v1653 v1655
  let c0_i32_985 : BitVec 32 := 0#32
  let v1658 : BitVec 1 := Scalar.cmpi .slt v1656 c0_i32_985
  let c0_i32_986 : BitVec 32 := 0#32
  let v1659 : BitVec 1 := Scalar.cmpi .slt v1655 c0_i32_986
  let v1660 : BitVec 1 := Scalar.xori v1658 v1659
  let c0_i32_984 : BitVec 32 := 0#32
  let v1657 : BitVec 1 := Scalar.cmpi .ne v1656 c0_i32_984
  let v1661 : BitVec 1 := Scalar.andi v1660 v1657
  let v1662 : BitVec 32 := Scalar.addi v1656 v1655
  let v1663 : BitVec 32 := Scalar.select v1661 v1662 v1656
  let c1_i32_987 : BitVec 32 := 1#32
  let v1664 : BitVec 32 := Scalar.subi v1663 c1_i32_987
  let c21_i32_988 : BitVec 32 := 21#32
  let v1665 : BitVec 32 := Scalar.addi v1664 c21_i32_988
  let v1781 : Index := Scalar.indexCast v1665
  let c0_1084 : Index := 0#32
  let c0_1085 : Index := 0#32
  ![v1781.toNat, 0, 0]
def k0_off129 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_989 : BitVec 32 := 5#32
  let v1666 : BitVec 32 := Scalar.subi v2 c5_i32_989
  let c8_i32_990 : BitVec 32 := 8#32
  let c0_i32_991 : BitVec 32 := 0#32
  let v1667 : BitVec 1 := Scalar.cmpi .eq c8_i32_990 c0_i32_991
  let c1_i32_992 : BitVec 32 := 1#32
  let v1668 : BitVec 32 := Scalar.select v1667 c1_i32_992 c8_i32_990
  let v1669 : BitVec 32 := Scalar.remsi v1666 v1668
  let c0_i32_994 : BitVec 32 := 0#32
  let v1671 : BitVec 1 := Scalar.cmpi .slt v1669 c0_i32_994
  let c0_i32_995 : BitVec 32 := 0#32
  let v1672 : BitVec 1 := Scalar.cmpi .slt v1668 c0_i32_995
  let v1673 : BitVec 1 := Scalar.xori v1671 v1672
  let c0_i32_993 : BitVec 32 := 0#32
  let v1670 : BitVec 1 := Scalar.cmpi .ne v1669 c0_i32_993
  let v1674 : BitVec 1 := Scalar.andi v1673 v1670
  let v1675 : BitVec 32 := Scalar.addi v1669 v1668
  let v1676 : BitVec 32 := Scalar.select v1674 v1675 v1669
  let c1_i32_996 : BitVec 32 := 1#32
  let v1677 : BitVec 32 := Scalar.subi v1676 c1_i32_996
  let c21_i32_997 : BitVec 32 := 21#32
  let v1678 : BitVec 32 := Scalar.addi v1677 c21_i32_997
  ![v1678.toNat]
def k0_off130 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_989 : BitVec 32 := 5#32
  let v1666 : BitVec 32 := Scalar.subi v2 c5_i32_989
  let c8_i32_990 : BitVec 32 := 8#32
  let c0_i32_991 : BitVec 32 := 0#32
  let v1667 : BitVec 1 := Scalar.cmpi .eq c8_i32_990 c0_i32_991
  let c1_i32_992 : BitVec 32 := 1#32
  let v1668 : BitVec 32 := Scalar.select v1667 c1_i32_992 c8_i32_990
  let v1669 : BitVec 32 := Scalar.remsi v1666 v1668
  let c0_i32_994 : BitVec 32 := 0#32
  let v1671 : BitVec 1 := Scalar.cmpi .slt v1669 c0_i32_994
  let c0_i32_995 : BitVec 32 := 0#32
  let v1672 : BitVec 1 := Scalar.cmpi .slt v1668 c0_i32_995
  let v1673 : BitVec 1 := Scalar.xori v1671 v1672
  let c0_i32_993 : BitVec 32 := 0#32
  let v1670 : BitVec 1 := Scalar.cmpi .ne v1669 c0_i32_993
  let v1674 : BitVec 1 := Scalar.andi v1673 v1670
  let v1675 : BitVec 32 := Scalar.addi v1669 v1668
  let v1676 : BitVec 32 := Scalar.select v1674 v1675 v1669
  let c1_i32_996 : BitVec 32 := 1#32
  let v1677 : BitVec 32 := Scalar.subi v1676 c1_i32_996
  let c21_i32_997 : BitVec 32 := 21#32
  let v1678 : BitVec 32 := Scalar.addi v1677 c21_i32_997
  let c0_i32_1089 : BitVec 32 := 0#32
  let c0_i32_1090 : BitVec 32 := 0#32
  ![v1678.toNat, 0, 0]
def k0_off131 (d0 : Dev nD) : Fin 3 → Nat :=
  let c5_i32_980 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1653 : BitVec 32 := Scalar.subi c5_i32_980 v2
  let c8_i32_981 : BitVec 32 := 8#32
  let c0_i32_982 : BitVec 32 := 0#32
  let v1654 : BitVec 1 := Scalar.cmpi .eq c8_i32_981 c0_i32_982
  let c1_i32_983 : BitVec 32 := 1#32
  let v1655 : BitVec 32 := Scalar.select v1654 c1_i32_983 c8_i32_981
  let v1656 : BitVec 32 := Scalar.remsi v1653 v1655
  let c0_i32_985 : BitVec 32 := 0#32
  let v1658 : BitVec 1 := Scalar.cmpi .slt v1656 c0_i32_985
  let c0_i32_986 : BitVec 32 := 0#32
  let v1659 : BitVec 1 := Scalar.cmpi .slt v1655 c0_i32_986
  let v1660 : BitVec 1 := Scalar.xori v1658 v1659
  let c0_i32_984 : BitVec 32 := 0#32
  let v1657 : BitVec 1 := Scalar.cmpi .ne v1656 c0_i32_984
  let v1661 : BitVec 1 := Scalar.andi v1660 v1657
  let v1662 : BitVec 32 := Scalar.addi v1656 v1655
  let v1663 : BitVec 32 := Scalar.select v1661 v1662 v1656
  let c1_i32_987 : BitVec 32 := 1#32
  let v1664 : BitVec 32 := Scalar.subi v1663 c1_i32_987
  let c21_i32_988 : BitVec 32 := 21#32
  let v1665 : BitVec 32 := Scalar.addi v1664 c21_i32_988
  let c0_i32_1091 : BitVec 32 := 0#32
  let c0_i32_1092 : BitVec 32 := 0#32
  ![v1665.toNat, 0, 0]
def k0_dev39 : Nat :=
  let c0_i32_1088 : BitVec 32 := 0#32
  let c5_i32_1086 : BitVec 32 := 5#32
  let c1_i32_1087 : BitVec 32 := 1#32
  let v1785 : BitVec 32 := Scalar.muli c5_i32_1086 c1_i32_1087
  let v1786 : BitVec 32 := Scalar.addi c0_i32_1088 v1785
  v1786.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1018 : BitVec 32 := 6#32
  let v1708 : BitVec 1 := Scalar.cmpi .ne v2 c6_i32_1018
  let v1709 : BitVec 32 := Scalar.extui v1708
  let c0_i32_1019 : BitVec 32 := 0#32
  let v1710 : BitVec 1 := Scalar.cmpi .ne v1709 c0_i32_1019
  v1710

def k0_off132 (d0 : Dev nD) : Fin 3 → Nat :=
  let c6_i32_1000 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1682 : BitVec 32 := Scalar.subi c6_i32_1000 v2
  let c8_i32_1001 : BitVec 32 := 8#32
  let c0_i32_1002 : BitVec 32 := 0#32
  let v1683 : BitVec 1 := Scalar.cmpi .eq c8_i32_1001 c0_i32_1002
  let c1_i32_1003 : BitVec 32 := 1#32
  let v1684 : BitVec 32 := Scalar.select v1683 c1_i32_1003 c8_i32_1001
  let v1685 : BitVec 32 := Scalar.remsi v1682 v1684
  let c0_i32_1005 : BitVec 32 := 0#32
  let v1687 : BitVec 1 := Scalar.cmpi .slt v1685 c0_i32_1005
  let c0_i32_1006 : BitVec 32 := 0#32
  let v1688 : BitVec 1 := Scalar.cmpi .slt v1684 c0_i32_1006
  let v1689 : BitVec 1 := Scalar.xori v1687 v1688
  let c0_i32_1004 : BitVec 32 := 0#32
  let v1686 : BitVec 1 := Scalar.cmpi .ne v1685 c0_i32_1004
  let v1690 : BitVec 1 := Scalar.andi v1689 v1686
  let v1691 : BitVec 32 := Scalar.addi v1685 v1684
  let v1692 : BitVec 32 := Scalar.select v1690 v1691 v1685
  let c1_i32_1007 : BitVec 32 := 1#32
  let v1693 : BitVec 32 := Scalar.subi v1692 c1_i32_1007
  let c21_i32_1008 : BitVec 32 := 21#32
  let v1694 : BitVec 32 := Scalar.addi v1693 c21_i32_1008
  let v1781 : Index := Scalar.indexCast v1694
  let c0_1084 : Index := 0#32
  let c0_1085 : Index := 0#32
  ![v1781.toNat, 0, 0]
def k0_off133 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1009 : BitVec 32 := 6#32
  let v1695 : BitVec 32 := Scalar.subi v2 c6_i32_1009
  let c8_i32_1010 : BitVec 32 := 8#32
  let c0_i32_1011 : BitVec 32 := 0#32
  let v1696 : BitVec 1 := Scalar.cmpi .eq c8_i32_1010 c0_i32_1011
  let c1_i32_1012 : BitVec 32 := 1#32
  let v1697 : BitVec 32 := Scalar.select v1696 c1_i32_1012 c8_i32_1010
  let v1698 : BitVec 32 := Scalar.remsi v1695 v1697
  let c0_i32_1014 : BitVec 32 := 0#32
  let v1700 : BitVec 1 := Scalar.cmpi .slt v1698 c0_i32_1014
  let c0_i32_1015 : BitVec 32 := 0#32
  let v1701 : BitVec 1 := Scalar.cmpi .slt v1697 c0_i32_1015
  let v1702 : BitVec 1 := Scalar.xori v1700 v1701
  let c0_i32_1013 : BitVec 32 := 0#32
  let v1699 : BitVec 1 := Scalar.cmpi .ne v1698 c0_i32_1013
  let v1703 : BitVec 1 := Scalar.andi v1702 v1699
  let v1704 : BitVec 32 := Scalar.addi v1698 v1697
  let v1705 : BitVec 32 := Scalar.select v1703 v1704 v1698
  let c1_i32_1016 : BitVec 32 := 1#32
  let v1706 : BitVec 32 := Scalar.subi v1705 c1_i32_1016
  let c21_i32_1017 : BitVec 32 := 21#32
  let v1707 : BitVec 32 := Scalar.addi v1706 c21_i32_1017
  ![v1707.toNat]
def k0_off134 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1009 : BitVec 32 := 6#32
  let v1695 : BitVec 32 := Scalar.subi v2 c6_i32_1009
  let c8_i32_1010 : BitVec 32 := 8#32
  let c0_i32_1011 : BitVec 32 := 0#32
  let v1696 : BitVec 1 := Scalar.cmpi .eq c8_i32_1010 c0_i32_1011
  let c1_i32_1012 : BitVec 32 := 1#32
  let v1697 : BitVec 32 := Scalar.select v1696 c1_i32_1012 c8_i32_1010
  let v1698 : BitVec 32 := Scalar.remsi v1695 v1697
  let c0_i32_1014 : BitVec 32 := 0#32
  let v1700 : BitVec 1 := Scalar.cmpi .slt v1698 c0_i32_1014
  let c0_i32_1015 : BitVec 32 := 0#32
  let v1701 : BitVec 1 := Scalar.cmpi .slt v1697 c0_i32_1015
  let v1702 : BitVec 1 := Scalar.xori v1700 v1701
  let c0_i32_1013 : BitVec 32 := 0#32
  let v1699 : BitVec 1 := Scalar.cmpi .ne v1698 c0_i32_1013
  let v1703 : BitVec 1 := Scalar.andi v1702 v1699
  let v1704 : BitVec 32 := Scalar.addi v1698 v1697
  let v1705 : BitVec 32 := Scalar.select v1703 v1704 v1698
  let c1_i32_1016 : BitVec 32 := 1#32
  let v1706 : BitVec 32 := Scalar.subi v1705 c1_i32_1016
  let c21_i32_1017 : BitVec 32 := 21#32
  let v1707 : BitVec 32 := Scalar.addi v1706 c21_i32_1017
  let c0_i32_1089 : BitVec 32 := 0#32
  let c0_i32_1090 : BitVec 32 := 0#32
  ![v1707.toNat, 0, 0]
def k0_off135 (d0 : Dev nD) : Fin 3 → Nat :=
  let c6_i32_1000 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1682 : BitVec 32 := Scalar.subi c6_i32_1000 v2
  let c8_i32_1001 : BitVec 32 := 8#32
  let c0_i32_1002 : BitVec 32 := 0#32
  let v1683 : BitVec 1 := Scalar.cmpi .eq c8_i32_1001 c0_i32_1002
  let c1_i32_1003 : BitVec 32 := 1#32
  let v1684 : BitVec 32 := Scalar.select v1683 c1_i32_1003 c8_i32_1001
  let v1685 : BitVec 32 := Scalar.remsi v1682 v1684
  let c0_i32_1005 : BitVec 32 := 0#32
  let v1687 : BitVec 1 := Scalar.cmpi .slt v1685 c0_i32_1005
  let c0_i32_1006 : BitVec 32 := 0#32
  let v1688 : BitVec 1 := Scalar.cmpi .slt v1684 c0_i32_1006
  let v1689 : BitVec 1 := Scalar.xori v1687 v1688
  let c0_i32_1004 : BitVec 32 := 0#32
  let v1686 : BitVec 1 := Scalar.cmpi .ne v1685 c0_i32_1004
  let v1690 : BitVec 1 := Scalar.andi v1689 v1686
  let v1691 : BitVec 32 := Scalar.addi v1685 v1684
  let v1692 : BitVec 32 := Scalar.select v1690 v1691 v1685
  let c1_i32_1007 : BitVec 32 := 1#32
  let v1693 : BitVec 32 := Scalar.subi v1692 c1_i32_1007
  let c21_i32_1008 : BitVec 32 := 21#32
  let v1694 : BitVec 32 := Scalar.addi v1693 c21_i32_1008
  let c0_i32_1091 : BitVec 32 := 0#32
  let c0_i32_1092 : BitVec 32 := 0#32
  ![v1694.toNat, 0, 0]
def k0_dev40 : Nat :=
  let c0_i32_1088 : BitVec 32 := 0#32
  let c6_i32_1086 : BitVec 32 := 6#32
  let c1_i32_1087 : BitVec 32 := 1#32
  let v1785 : BitVec 32 := Scalar.muli c6_i32_1086 c1_i32_1087
  let v1786 : BitVec 32 := Scalar.addi c0_i32_1088 v1785
  v1786.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1038 : BitVec 32 := 7#32
  let v1737 : BitVec 1 := Scalar.cmpi .ne v2 c7_i32_1038
  let v1738 : BitVec 32 := Scalar.extui v1737
  let c0_i32_1039 : BitVec 32 := 0#32
  let v1739 : BitVec 1 := Scalar.cmpi .ne v1738 c0_i32_1039
  v1739

def k0_off136 (d0 : Dev nD) : Fin 3 → Nat :=
  let c7_i32_1020 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1711 : BitVec 32 := Scalar.subi c7_i32_1020 v2
  let c8_i32_1021 : BitVec 32 := 8#32
  let c0_i32_1022 : BitVec 32 := 0#32
  let v1712 : BitVec 1 := Scalar.cmpi .eq c8_i32_1021 c0_i32_1022
  let c1_i32_1023 : BitVec 32 := 1#32
  let v1713 : BitVec 32 := Scalar.select v1712 c1_i32_1023 c8_i32_1021
  let v1714 : BitVec 32 := Scalar.remsi v1711 v1713
  let c0_i32_1025 : BitVec 32 := 0#32
  let v1716 : BitVec 1 := Scalar.cmpi .slt v1714 c0_i32_1025
  let c0_i32_1026 : BitVec 32 := 0#32
  let v1717 : BitVec 1 := Scalar.cmpi .slt v1713 c0_i32_1026
  let v1718 : BitVec 1 := Scalar.xori v1716 v1717
  let c0_i32_1024 : BitVec 32 := 0#32
  let v1715 : BitVec 1 := Scalar.cmpi .ne v1714 c0_i32_1024
  let v1719 : BitVec 1 := Scalar.andi v1718 v1715
  let v1720 : BitVec 32 := Scalar.addi v1714 v1713
  let v1721 : BitVec 32 := Scalar.select v1719 v1720 v1714
  let c1_i32_1027 : BitVec 32 := 1#32
  let v1722 : BitVec 32 := Scalar.subi v1721 c1_i32_1027
  let c21_i32_1028 : BitVec 32 := 21#32
  let v1723 : BitVec 32 := Scalar.addi v1722 c21_i32_1028
  let v1781 : Index := Scalar.indexCast v1723
  let c0_1084 : Index := 0#32
  let c0_1085 : Index := 0#32
  ![v1781.toNat, 0, 0]
def k0_off137 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1029 : BitVec 32 := 7#32
  let v1724 : BitVec 32 := Scalar.subi v2 c7_i32_1029
  let c8_i32_1030 : BitVec 32 := 8#32
  let c0_i32_1031 : BitVec 32 := 0#32
  let v1725 : BitVec 1 := Scalar.cmpi .eq c8_i32_1030 c0_i32_1031
  let c1_i32_1032 : BitVec 32 := 1#32
  let v1726 : BitVec 32 := Scalar.select v1725 c1_i32_1032 c8_i32_1030
  let v1727 : BitVec 32 := Scalar.remsi v1724 v1726
  let c0_i32_1034 : BitVec 32 := 0#32
  let v1729 : BitVec 1 := Scalar.cmpi .slt v1727 c0_i32_1034
  let c0_i32_1035 : BitVec 32 := 0#32
  let v1730 : BitVec 1 := Scalar.cmpi .slt v1726 c0_i32_1035
  let v1731 : BitVec 1 := Scalar.xori v1729 v1730
  let c0_i32_1033 : BitVec 32 := 0#32
  let v1728 : BitVec 1 := Scalar.cmpi .ne v1727 c0_i32_1033
  let v1732 : BitVec 1 := Scalar.andi v1731 v1728
  let v1733 : BitVec 32 := Scalar.addi v1727 v1726
  let v1734 : BitVec 32 := Scalar.select v1732 v1733 v1727
  let c1_i32_1036 : BitVec 32 := 1#32
  let v1735 : BitVec 32 := Scalar.subi v1734 c1_i32_1036
  let c21_i32_1037 : BitVec 32 := 21#32
  let v1736 : BitVec 32 := Scalar.addi v1735 c21_i32_1037
  ![v1736.toNat]
def k0_off138 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1029 : BitVec 32 := 7#32
  let v1724 : BitVec 32 := Scalar.subi v2 c7_i32_1029
  let c8_i32_1030 : BitVec 32 := 8#32
  let c0_i32_1031 : BitVec 32 := 0#32
  let v1725 : BitVec 1 := Scalar.cmpi .eq c8_i32_1030 c0_i32_1031
  let c1_i32_1032 : BitVec 32 := 1#32
  let v1726 : BitVec 32 := Scalar.select v1725 c1_i32_1032 c8_i32_1030
  let v1727 : BitVec 32 := Scalar.remsi v1724 v1726
  let c0_i32_1034 : BitVec 32 := 0#32
  let v1729 : BitVec 1 := Scalar.cmpi .slt v1727 c0_i32_1034
  let c0_i32_1035 : BitVec 32 := 0#32
  let v1730 : BitVec 1 := Scalar.cmpi .slt v1726 c0_i32_1035
  let v1731 : BitVec 1 := Scalar.xori v1729 v1730
  let c0_i32_1033 : BitVec 32 := 0#32
  let v1728 : BitVec 1 := Scalar.cmpi .ne v1727 c0_i32_1033
  let v1732 : BitVec 1 := Scalar.andi v1731 v1728
  let v1733 : BitVec 32 := Scalar.addi v1727 v1726
  let v1734 : BitVec 32 := Scalar.select v1732 v1733 v1727
  let c1_i32_1036 : BitVec 32 := 1#32
  let v1735 : BitVec 32 := Scalar.subi v1734 c1_i32_1036
  let c21_i32_1037 : BitVec 32 := 21#32
  let v1736 : BitVec 32 := Scalar.addi v1735 c21_i32_1037
  let c0_i32_1089 : BitVec 32 := 0#32
  let c0_i32_1090 : BitVec 32 := 0#32
  ![v1736.toNat, 0, 0]
def k0_off139 (d0 : Dev nD) : Fin 3 → Nat :=
  let c7_i32_1020 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1711 : BitVec 32 := Scalar.subi c7_i32_1020 v2
  let c8_i32_1021 : BitVec 32 := 8#32
  let c0_i32_1022 : BitVec 32 := 0#32
  let v1712 : BitVec 1 := Scalar.cmpi .eq c8_i32_1021 c0_i32_1022
  let c1_i32_1023 : BitVec 32 := 1#32
  let v1713 : BitVec 32 := Scalar.select v1712 c1_i32_1023 c8_i32_1021
  let v1714 : BitVec 32 := Scalar.remsi v1711 v1713
  let c0_i32_1025 : BitVec 32 := 0#32
  let v1716 : BitVec 1 := Scalar.cmpi .slt v1714 c0_i32_1025
  let c0_i32_1026 : BitVec 32 := 0#32
  let v1717 : BitVec 1 := Scalar.cmpi .slt v1713 c0_i32_1026
  let v1718 : BitVec 1 := Scalar.xori v1716 v1717
  let c0_i32_1024 : BitVec 32 := 0#32
  let v1715 : BitVec 1 := Scalar.cmpi .ne v1714 c0_i32_1024
  let v1719 : BitVec 1 := Scalar.andi v1718 v1715
  let v1720 : BitVec 32 := Scalar.addi v1714 v1713
  let v1721 : BitVec 32 := Scalar.select v1719 v1720 v1714
  let c1_i32_1027 : BitVec 32 := 1#32
  let v1722 : BitVec 32 := Scalar.subi v1721 c1_i32_1027
  let c21_i32_1028 : BitVec 32 := 21#32
  let v1723 : BitVec 32 := Scalar.addi v1722 c21_i32_1028
  let c0_i32_1091 : BitVec 32 := 0#32
  let c0_i32_1092 : BitVec 32 := 0#32
  ![v1723.toNat, 0, 0]
def k0_dev41 : Nat :=
  let c0_i32_1088 : BitVec 32 := 0#32
  let c7_i32_1086 : BitVec 32 := 7#32
  let c1_i32_1087 : BitVec 32 := 1#32
  let v1785 : BitVec 32 := Scalar.muli c7_i32_1086 c1_i32_1087
  let v1786 : BitVec 32 := Scalar.addi c0_i32_1088 v1785
  v1786.toNat
@[reducible] def k0_t5_loop : Scf.Loop 32 :=
  let c14_i32_1041 : BitVec 32 := 14#32
  let c7_i32_1042 : BitVec 32 := 7#32
  let v1742 : BitVec 32 := Scalar.addi c14_i32_1041 c7_i32_1042
  let c1_i32_1043 : BitVec 32 := 1#32
  ⟨c14_i32_1041, v1742, c1_i32_1043⟩
def k0_off140 (k0_t5 : Fin k0_t5_loop.trips) : Fin 1 → Nat :=
  let c14_i32_1041 : BitVec 32 := 14#32
  let c1_i32_1043 : BitVec 32 := 1#32
  let arg12 : BitVec 32 := Scf.iv c14_i32_1041 c1_i32_1043 k0_t5
  ![arg12.toNat]
def k0_off141 (k0_t5 : Fin k0_t5_loop.trips) : Fin 3 → Nat :=
  let c14_i32_1041 : BitVec 32 := 14#32
  let c1_i32_1043 : BitVec 32 := 1#32
  let arg12 : BitVec 32 := Scf.iv c14_i32_1041 c1_i32_1043 k0_t5
  let c0_i32_1087 : BitVec 32 := 0#32
  let c0_i32_1088 : BitVec 32 := 0#32
  ![arg12.toNat, 0, 0]
@[reducible] def k0_t6_loop : Scf.Loop 32 :=
  let c0_i32_1052 : BitVec 32 := 0#32
  let c7_i32_1053 : BitVec 32 := 7#32
  let v1756 : BitVec 32 := Scalar.addi c0_i32_1052 c7_i32_1053
  let c1_i32_1054 : BitVec 32 := 1#32
  ⟨c0_i32_1052, v1756, c1_i32_1054⟩
def k0_off142 (k0_t6 : Fin k0_t6_loop.trips) : Fin 1 → Nat :=
  let c42_i32 : BitVec 32 := 42#32
  let c0_i32_1052 : BitVec 32 := 0#32
  let c1_i32_1054 : BitVec 32 := 1#32
  let arg12 : BitVec 32 := Scf.iv c0_i32_1052 c1_i32_1054 k0_t6
  let v1802 : BitVec 32 := Scalar.addi c42_i32 arg12
  ![v1802.toNat]
def k0_off143 (d0 : Dev nD) (k0_t6 : Fin k0_t6_loop.trips) : Fin 1 → Nat :=
  let c28_i32_1098 : BitVec 32 := 28#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_1052 : BitVec 32 := 0#32
  let c1_i32_1054 : BitVec 32 := 1#32
  let arg12 : BitVec 32 := Scf.iv c0_i32_1052 c1_i32_1054 k0_t6
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c14_i32_1097 : BitVec 32 := 14#32
  let v1801 : BitVec 32 := Scalar.addi v1800 c14_i32_1097
  let v1803 : BitVec 32 := Scalar.addi c28_i32_1098 v1801
  ![v1803.toNat]
def k0_off144 (d0 : Dev nD) (k0_t6 : Fin k0_t6_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_1052 : BitVec 32 := 0#32
  let c1_i32_1054 : BitVec 32 := 1#32
  let arg12 : BitVec 32 := Scf.iv c0_i32_1052 c1_i32_1054 k0_t6
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c14_i32_1097 : BitVec 32 := 14#32
  let v1801 : BitVec 32 := Scalar.addi v1800 c14_i32_1097
  let c0_i32_1102 : BitVec 32 := 0#32
  let c0_i32_1103 : BitVec 32 := 0#32
  ![v1801.toNat, 0, 0]
def k0_dev42 (d0 : Dev nD) (k0_t6 : Fin k0_t6_loop.trips) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_1052 : BitVec 32 := 0#32
  let c1_i32_1054 : BitVec 32 := 1#32
  let arg12 : BitVec 32 := Scf.iv c0_i32_1052 c1_i32_1054 k0_t6
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let c1_i32_1100 : BitVec 32 := 1#32
  let v1804 : BitVec 32 := Scalar.muli v1788 c1_i32_1100
  let v1805 : BitVec 32 := Scalar.addi c0_i32_1101 v1804
  v1805.toNat
@[reducible] def k0_t7_loop : Scf.Loop 32 :=
  let c21_i32_1057 : BitVec 32 := 21#32
  let c7_i32_1058 : BitVec 32 := 7#32
  let v1759 : BitVec 32 := Scalar.addi c21_i32_1057 c7_i32_1058
  let c1_i32_1059 : BitVec 32 := 1#32
  ⟨c21_i32_1057, v1759, c1_i32_1059⟩
def k0_off145 (k0_t7 : Fin k0_t7_loop.trips) : Fin 1 → Nat :=
  let c21_i32_1057 : BitVec 32 := 21#32
  let c1_i32_1059 : BitVec 32 := 1#32
  let arg12 : BitVec 32 := Scf.iv c21_i32_1057 c1_i32_1059 k0_t7
  ![arg12.toNat]
def k0_off146 (k0_t7 : Fin k0_t7_loop.trips) : Fin 3 → Nat :=
  let c21_i32_1057 : BitVec 32 := 21#32
  let c1_i32_1059 : BitVec 32 := 1#32
  let arg12 : BitVec 32 := Scf.iv c21_i32_1057 c1_i32_1059 k0_t7
  let c0_i32_1087 : BitVec 32 := 0#32
  let c0_i32_1088 : BitVec 32 := 0#32
  ![arg12.toNat, 0, 0]
@[reducible] def k0_t8_loop : Scf.Loop 32 :=
  let c0_i32_1068 : BitVec 32 := 0#32
  let c7_i32_1069 : BitVec 32 := 7#32
  let v1773 : BitVec 32 := Scalar.addi c0_i32_1068 c7_i32_1069
  let c1_i32_1070 : BitVec 32 := 1#32
  ⟨c0_i32_1068, v1773, c1_i32_1070⟩
def k0_off147 (k0_t8 : Fin k0_t8_loop.trips) : Fin 1 → Nat :=
  let c49_i32 : BitVec 32 := 49#32
  let c0_i32_1068 : BitVec 32 := 0#32
  let c1_i32_1070 : BitVec 32 := 1#32
  let arg12 : BitVec 32 := Scf.iv c0_i32_1068 c1_i32_1070 k0_t8
  let v1802 : BitVec 32 := Scalar.addi c49_i32 arg12
  ![v1802.toNat]
def k0_off148 (d0 : Dev nD) (k0_t8 : Fin k0_t8_loop.trips) : Fin 1 → Nat :=
  let c28_i32_1098 : BitVec 32 := 28#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_1068 : BitVec 32 := 0#32
  let c1_i32_1070 : BitVec 32 := 1#32
  let arg12 : BitVec 32 := Scf.iv c0_i32_1068 c1_i32_1070 k0_t8
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c21_i32_1097 : BitVec 32 := 21#32
  let v1801 : BitVec 32 := Scalar.addi v1800 c21_i32_1097
  let v1803 : BitVec 32 := Scalar.addi c28_i32_1098 v1801
  ![v1803.toNat]
def k0_off149 (d0 : Dev nD) (k0_t8 : Fin k0_t8_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_1068 : BitVec 32 := 0#32
  let c1_i32_1070 : BitVec 32 := 1#32
  let arg12 : BitVec 32 := Scf.iv c0_i32_1068 c1_i32_1070 k0_t8
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let v1789 : BitVec 32 := Scalar.subi v2 v1788
  let c8_i32_1090 : BitVec 32 := 8#32
  let c0_i32_1091 : BitVec 32 := 0#32
  let v1790 : BitVec 1 := Scalar.cmpi .eq c8_i32_1090 c0_i32_1091
  let c1_i32_1092 : BitVec 32 := 1#32
  let v1791 : BitVec 32 := Scalar.select v1790 c1_i32_1092 c8_i32_1090
  let v1792 : BitVec 32 := Scalar.remsi v1789 v1791
  let c0_i32_1094 : BitVec 32 := 0#32
  let v1794 : BitVec 1 := Scalar.cmpi .slt v1792 c0_i32_1094
  let c0_i32_1095 : BitVec 32 := 0#32
  let v1795 : BitVec 1 := Scalar.cmpi .slt v1791 c0_i32_1095
  let v1796 : BitVec 1 := Scalar.xori v1794 v1795
  let c0_i32_1093 : BitVec 32 := 0#32
  let v1793 : BitVec 1 := Scalar.cmpi .ne v1792 c0_i32_1093
  let v1797 : BitVec 1 := Scalar.andi v1796 v1793
  let v1798 : BitVec 32 := Scalar.addi v1792 v1791
  let v1799 : BitVec 32 := Scalar.select v1797 v1798 v1792
  let c1_i32_1096 : BitVec 32 := 1#32
  let v1800 : BitVec 32 := Scalar.subi v1799 c1_i32_1096
  let c21_i32_1097 : BitVec 32 := 21#32
  let v1801 : BitVec 32 := Scalar.addi v1800 c21_i32_1097
  let c0_i32_1102 : BitVec 32 := 0#32
  let c0_i32_1103 : BitVec 32 := 0#32
  ![v1801.toNat, 0, 0]
def k0_dev43 (d0 : Dev nD) (k0_t8 : Fin k0_t8_loop.trips) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1083 : BitVec 32 := 1#32
  let v1777 : BitVec 32 := Scalar.addi v2 c1_i32_1083
  let c0_i32_1068 : BitVec 32 := 0#32
  let c1_i32_1070 : BitVec 32 := 1#32
  let arg12 : BitVec 32 := Scf.iv c0_i32_1068 c1_i32_1070 k0_t8
  let v1778 : BitVec 32 := Scalar.addi v1777 arg12
  let c8_i32_1084 : BitVec 32 := 8#32
  let c0_i32_1085 : BitVec 32 := 0#32
  let v1779 : BitVec 1 := Scalar.cmpi .eq c8_i32_1084 c0_i32_1085
  let c1_i32_1086 : BitVec 32 := 1#32
  let v1780 : BitVec 32 := Scalar.select v1779 c1_i32_1086 c8_i32_1084
  let v1781 : BitVec 32 := Scalar.remsi v1778 v1780
  let c0_i32_1088 : BitVec 32 := 0#32
  let v1783 : BitVec 1 := Scalar.cmpi .slt v1781 c0_i32_1088
  let c0_i32_1089 : BitVec 32 := 0#32
  let v1784 : BitVec 1 := Scalar.cmpi .slt v1780 c0_i32_1089
  let v1785 : BitVec 1 := Scalar.xori v1783 v1784
  let c0_i32_1087 : BitVec 32 := 0#32
  let v1782 : BitVec 1 := Scalar.cmpi .ne v1781 c0_i32_1087
  let v1786 : BitVec 1 := Scalar.andi v1785 v1782
  let v1787 : BitVec 32 := Scalar.addi v1781 v1780
  let v1788 : BitVec 32 := Scalar.select v1786 v1787 v1781
  let c1_i32_1100 : BitVec 32 := 1#32
  let v1804 : BitVec 32 := Scalar.muli v1788 c1_i32_1100
  let v1805 : BitVec 32 := Scalar.addi c0_i32_1101 v1804
  v1805.toNat
@[reducible] def k0_t9_loop : Scf.Loop 32 :=
  let c0_i32_1072 : BitVec 32 := 0#32
  let c28_i32 : BitVec 32 := 28#32
  let v1774 : BitVec 32 := Scalar.addi c0_i32_1072 c28_i32
  let c1_i32_1073 : BitVec 32 := 1#32
  ⟨c0_i32_1072, v1774, c1_i32_1073⟩
def k0_off150 (k0_t9 : Fin k0_t9_loop.trips) : Fin 1 → Nat :=
  let c28_i32_1083 : BitVec 32 := 28#32
  let c0_i32_1072 : BitVec 32 := 0#32
  let c1_i32_1073 : BitVec 32 := 1#32
  let arg12 : BitVec 32 := Scf.iv c0_i32_1072 c1_i32_1073 k0_t9
  let v1777 : BitVec 32 := Scalar.addi c28_i32_1083 arg12
  ![v1777.toNat]
def k0_off151 (k0_t9 : Fin k0_t9_loop.trips) : Fin 3 → Nat :=
  let c0_i32_1072 : BitVec 32 := 0#32
  let c1_i32_1073 : BitVec 32 := 1#32
  let arg12 : BitVec 32 := Scf.iv c0_i32_1072 c1_i32_1073 k0_t9
  let c0_i32_1088 : BitVec 32 := 0#32
  let c0_i32_1089 : BitVec 32 := 0#32
  ![arg12.toNat, 0, 0]
def k0_off152 (k0_t9 : Fin k0_t9_loop.trips) : Fin 3 → Nat :=
  let c0_i32_1072 : BitVec 32 := 0#32
  let c1_i32_1073 : BitVec 32 := 1#32
  let arg12 : BitVec 32 := Scf.iv c0_i32_1072 c1_i32_1073 k0_t9
  let v1827 : Index := Scalar.indexCast arg12
  let c0_1113 : Index := 0#32
  let c0_1114 : Index := 0#32
  ![v1827.toNat, 0, 0]
def k0_off153 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1099 : BitVec 32 := 1#32
  let v1803 : BitVec 32 := Scalar.addi v2 c1_i32_1099
  let c0_i32_1072 : BitVec 32 := 0#32
  let c1_i32_1073 : BitVec 32 := 1#32
  let arg12 : BitVec 32 := Scf.iv c0_i32_1072 c1_i32_1073 k0_t9
  let c7_i32_1100 : BitVec 32 := 7#32
  let c0_i32_1101 : BitVec 32 := 0#32
  let v1804 : BitVec 1 := Scalar.cmpi .eq c7_i32_1100 c0_i32_1101
  let c1_i32_1102 : BitVec 32 := 1#32
  let v1805 : BitVec 32 := Scalar.select v1804 c1_i32_1102 c7_i32_1100
  let v1806 : BitVec 32 := Scalar.remsi arg12 v1805
  let c0_i32_1104 : BitVec 32 := 0#32
  let v1808 : BitVec 1 := Scalar.cmpi .slt v1806 c0_i32_1104
  let c0_i32_1105 : BitVec 32 := 0#32
  let v1809 : BitVec 1 := Scalar.cmpi .slt v1805 c0_i32_1105
  let v1810 : BitVec 1 := Scalar.xori v1808 v1809
  let c0_i32_1103 : BitVec 32 := 0#32
  let v1807 : BitVec 1 := Scalar.cmpi .ne v1806 c0_i32_1103
  let v1811 : BitVec 1 := Scalar.andi v1810 v1807
  let v1812 : BitVec 32 := Scalar.addi v1806 v1805
  let v1813 : BitVec 32 := Scalar.select v1811 v1812 v1806
  let v1814 : BitVec 32 := Scalar.addi v1803 v1813
  let c8_i32_1106 : BitVec 32 := 8#32
  let c0_i32_1107 : BitVec 32 := 0#32
  let v1815 : BitVec 1 := Scalar.cmpi .eq c8_i32_1106 c0_i32_1107
  let c1_i32_1108 : BitVec 32 := 1#32
  let v1816 : BitVec 32 := Scalar.select v1815 c1_i32_1108 c8_i32_1106
  let v1817 : BitVec 32 := Scalar.remsi v1814 v1816
  let c0_i32_1110 : BitVec 32 := 0#32
  let v1819 : BitVec 1 := Scalar.cmpi .slt v1817 c0_i32_1110
  let c0_i32_1111 : BitVec 32 := 0#32
  let v1820 : BitVec 1 := Scalar.cmpi .slt v1816 c0_i32_1111
  let v1821 : BitVec 1 := Scalar.xori v1819 v1820
  let c0_i32_1109 : BitVec 32 := 0#32
  let v1818 : BitVec 1 := Scalar.cmpi .ne v1817 c0_i32_1109
  let v1822 : BitVec 1 := Scalar.andi v1821 v1818
  let v1823 : BitVec 32 := Scalar.addi v1817 v1816
  let v1824 : BitVec 32 := Scalar.select v1822 v1823 v1817
  let c8_i32_1112 : BitVec 32 := 8#32
  let c0_i32_1093 : BitVec 32 := 0#32
  let v1787 : BitVec 1 := Scalar.cmpi .sgt arg12 c0_i32_1093
  let v1788 : BitVec 32 := Scalar.extui v1787
  let c0_i32_1094 : BitVec 32 := 0#32
  let v1789 : BitVec 1 := Scalar.cmpi .slt arg12 c0_i32_1094
  let v1790 : BitVec 32 := Scalar.extui v1789
  let v1791 : BitVec 32 := Scalar.subi v1788 v1790
  let c7_i32_1092 : BitVec 32 := 7#32
  let c0_i32_1095 : BitVec 32 := 0#32
  let v1792 : BitVec 1 := Scalar.cmpi .sgt c7_i32_1092 c0_i32_1095
  let v1793 : BitVec 32 := Scalar.extui v1792
  let c0_i32_1096 : BitVec 32 := 0#32
  let v1794 : BitVec 1 := Scalar.cmpi .slt c7_i32_1092 c0_i32_1096
  let v1795 : BitVec 32 := Scalar.extui v1794
  let v1796 : BitVec 32 := Scalar.subi v1793 v1795
  let v1797 : BitVec 1 := Scalar.cmpi .ne v1791 v1796
  let v1798 : BitVec 32 := Scalar.remsi arg12 c7_i32_1092
  let c0_i32_1097 : BitVec 32 := 0#32
  let v1799 : BitVec 1 := Scalar.cmpi .ne v1798 c0_i32_1097
  let v1800 : BitVec 1 := Scalar.andi v1797 v1799
  let v1786 : BitVec 32 := Scalar.divsi arg12 c7_i32_1092
  let c1_i32_1098 : BitVec 32 := 1#32
  let v1801 : BitVec 32 := Scalar.subi v1786 c1_i32_1098
  let v1802 : BitVec 32 := Scalar.select v1800 v1801 v1786
  let v1825 : BitVec 32 := Scalar.muli c8_i32_1112 v1802
  let v1826 : BitVec 32 := Scalar.addi v1824 v1825
  let c64_i32_1115 : BitVec 32 := 64#32
  let v1831 : BitVec 32 := Scalar.muli v1826 c64_i32_1115
  let v1832 : Index := Scalar.indexCast v1831
  let c0_1116 : Index := 0#32
  ![v1832.toNat, 0]
@[reducible] def k0_t10_loop : Scf.Loop 32 :=
  let c0_i32_1075 : BitVec 32 := 0#32
  let c28_i32_1076 : BitVec 32 := 28#32
  let v1775 : BitVec 32 := Scalar.addi c0_i32_1075 c28_i32_1076
  let c1_i32_1077 : BitVec 32 := 1#32
  ⟨c0_i32_1075, v1775, c1_i32_1077⟩
def k0_off154 (k0_t10 : Fin k0_t10_loop.trips) : Fin 1 → Nat :=
  let c0_i32_1075 : BitVec 32 := 0#32
  let c1_i32_1077 : BitVec 32 := 1#32
  let arg12 : BitVec 32 := Scf.iv c0_i32_1075 c1_i32_1077 k0_t10
  ![arg12.toNat]
@[reducible] def k0_t11_loop : Scf.Loop 32 :=
  let c28_i32_1079 : BitVec 32 := 28#32
  let c28_i32_1080 : BitVec 32 := 28#32
  let v1776 : BitVec 32 := Scalar.addi c28_i32_1079 c28_i32_1080
  let c1_i32_1081 : BitVec 32 := 1#32
  ⟨c28_i32_1079, v1776, c1_i32_1081⟩
def k0_off155 (k0_t11 : Fin k0_t11_loop.trips) : Fin 1 → Nat :=
  let c28_i32_1079 : BitVec 32 := 28#32
  let c1_i32_1081 : BitVec 32 := 1#32
  let arg12 : BitVec 32 := Scf.iv c28_i32_1079 c1_i32_1081 k0_t11
  ![arg12.toNat]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x1024 : Shape := ⟨2, ![2048, 1024]⟩
abbrev S1024x8192 : Shape := ⟨2, ![1024, 8192]⟩
abbrev S2048x8192 : Shape := ⟨2, ![2048, 8192]⟩
abbrev S8192x1024 : Shape := ⟨2, ![8192, 1024]⟩
abbrev S2048x64x128 : Shape := ⟨3, ![2048, 64, 128]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S64x2048x2048 : Shape := ⟨3, ![64, 2048, 2048]⟩
abbrev S1x2048x2048 : Shape := ⟨3, ![1, 2048, 2048]⟩
abbrev S64x2048 : Shape := ⟨2, ![64, 2048]⟩
abbrev S64x2048x1 : Shape := ⟨3, ![64, 2048, 1]⟩
abbrev S1x2048x1 : Shape := ⟨3, ![1, 2048, 1]⟩
abbrev S64x128x2048 : Shape := ⟨3, ![64, 128, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S2048x8192, .bf16⟩
  | .hbm, ⟨3, _⟩ => ⟨S2048x8192, .bf16⟩
  | .hbm, ⟨4, _⟩ => ⟨S8192x1024, .bf16⟩
  | .hbm, ⟨5, _⟩ => ⟨S2048x1024, .f32⟩
  | .hbm, ⟨6, _⟩ => ⟨S1024x8192, .f32⟩
  | .hbm, ⟨7, _⟩ => ⟨S2048x8192, .f32⟩
  | .hbm, ⟨8, _⟩ => ⟨S2048x8192, .f32⟩
  | .hbm, ⟨9, _⟩ => ⟨S8192x1024, .f32⟩
  | .hbm, ⟨10, _⟩ => ⟨S2048x8192, .f32⟩
  | .hbm, ⟨11, _⟩ => ⟨S2048x64x128, .f32⟩
  | .hbm, ⟨12, _⟩ => ⟨S2048x64x128, .f32⟩
  | .hbm, ⟨13, _⟩ => ⟨S2048x64x128, .f32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S2048, .i32⟩
  | .hbm, ⟨35, _⟩ => ⟨S_, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S1x2048, .i32⟩
  | .hbm, ⟨54, _⟩ => ⟨S2048x2048, .i32⟩
  | .hbm, ⟨55, _⟩ => ⟨S2048x2048, .i32⟩
  | .hbm, ⟨56, _⟩ => ⟨S2048x2048, .i1⟩
  | .hbm, ⟨57, _⟩ => ⟨S64x2048x2048, .f32⟩
  | .hbm, ⟨58, _⟩ => ⟨S_, .f32⟩
  | .hbm, ⟨59, _⟩ => ⟨S64x2048x2048, .f32⟩
  | .hbm, ⟨60, _⟩ => ⟨S64x2048x2048, .f32⟩
  | .hbm, ⟨61, _⟩ => ⟨S1x2048x2048, .i1⟩
  | .hbm, ⟨62, _⟩ => ⟨S_, .f32⟩
  | .hbm, ⟨63, _⟩ => ⟨S_, .f32⟩
  | .hbm, ⟨64, _⟩ => ⟨S64x2048x2048, .i1⟩
  | .hbm, ⟨65, _⟩ => ⟨S64x2048x2048, .f32⟩
  | .hbm, ⟨66, _⟩ => ⟨S64x2048x2048, .f32⟩
  | .hbm, ⟨67, _⟩ => ⟨S_, .f32⟩
  | .hbm, ⟨68, _⟩ => ⟨S64x2048, .f32⟩
  | .hbm, ⟨69, _⟩ => ⟨S64x2048x1, .f32⟩
  | .hbm, ⟨70, _⟩ => ⟨S64x2048x2048, .f32⟩
  | .hbm, ⟨71, _⟩ => ⟨S64x2048x2048, .f32⟩
  | .hbm, ⟨72, _⟩ => ⟨S64x2048x2048, .f32⟩
  | .hbm, ⟨73, _⟩ => ⟨S_, .i1⟩
  | .hbm, ⟨74, _⟩ => ⟨S2048, .i1⟩
  | .hbm, ⟨75, _⟩ => ⟨S1x2048x1, .i1⟩
  | .hbm, ⟨76, _⟩ => ⟨S_, .f32⟩
  | .hbm, ⟨77, _⟩ => ⟨S64x2048, .f32⟩
  | .hbm, ⟨78, _⟩ => ⟨S64x2048x1, .f32⟩
  | .hbm, ⟨79, _⟩ => ⟨S_, .f32⟩
  | .hbm, ⟨80, _⟩ => ⟨S_, .f32⟩
  | .hbm, ⟨81, _⟩ => ⟨S64x2048x1, .i1⟩
  | .hbm, ⟨82, _⟩ => ⟨S64x2048x1, .f32⟩
  | .hbm, ⟨83, _⟩ => ⟨S64x2048x1, .f32⟩
  | .hbm, ⟨84, _⟩ => ⟨S64x2048x2048, .f32⟩
  | .hbm, ⟨85, _⟩ => ⟨S64x2048x2048, .f32⟩
  | .hbm, ⟨86, _⟩ => ⟨S1x2048x1, .i1⟩
  | .hbm, ⟨87, _⟩ => ⟨S_, .f32⟩
  | .hbm, ⟨88, _⟩ => ⟨S_, .f32⟩
  | .hbm, ⟨89, _⟩ => ⟨S64x2048x2048, .i1⟩
  | .hbm, ⟨90, _⟩ => ⟨S64x2048x2048, .f32⟩
  | .hbm, ⟨91, _⟩ => ⟨S64x2048x2048, .f32⟩
  | .hbm, ⟨92, _⟩ => ⟨S64x128x2048, .f32⟩
  | .hbm, ⟨93, _⟩ => ⟨S2048x64x128, .f32⟩
  | .hbm, ⟨94, _⟩ => ⟨S2048x8192, .f32⟩
  | .hbm, ⟨95, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v22 : Ref sig .tc := ⟨.hbm, 66, rfl⟩
abbrev main_cst_2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_3 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_6 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩

abbrev nD : Nat := 1
abbrev τ : Topo := Topo.v7x

variable {F : FTy → Type} [FloatOps F]
-- ==== Proof.Slots.lean ====
/-
# The slots of the exchange buffers

An exchange buffer is `n` slots of 64 by 1024 elements. A slot with known contents is owned on its own (`slotPts`), so
that each of a buffer's slots can be away in a transfer, or lent to another device, while the others are used. Here: a
buffer cut into its slots and put together again, a load, a store, the reading of seven neighbouring slots at once, and
a slot cut into seven equal shares.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's resource algebra beside the staging's; its cells have at most seven contributors. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- What one slot holds, and what one transfer carries. -/
abbrev Msg (F : FTy → Type) : Type := S1x64x1024.Idx → Elt F .bf16

/-- An exchange buffer of `n` slots. -/
abbrev Sc (n : ℕ) : Type := Memref sig .tc .vmem ⟨3, ![n, 64, 1024]⟩ .bf16

theorem slot_inb (n k : ℕ) (h : 0 < n) : ∀ a, (![k % n, 0, 0] : Fin 3 → ℕ) a + S1x64x1024.size a ≤ (⟨3, ![n, 64, 1024]⟩ : Shape).size a := by
  intro a
  have := Nat.mod_lt k h
  fin_cases a
  · show k % n + 1 ≤ n; omega
  · show 0 + 64 ≤ 64; omega
  · show 0 + 1024 ≤ 1024; omega

/-- The `k`-th slot. -/
abbrev slotR (n : ℕ) [NeZero n] (k : ℕ) : Rect ⟨3, ![n, 64, 1024]⟩ :=
  Rect.unit (s := ⟨3, ![n, 64, 1024]⟩) ![k % n, 0, 0] S1x64x1024.size (slot_inb n k (Nat.pos_of_ne_zero (NeZero.ne n)))

section
variable {n : ℕ} [NeZero n] (M : Sc n)

/-- The slot as a view. -/
abbrev slotV (k : ℕ) : View sig .tc .vmem S1x64x1024 .bf16 := M.access (slotR n k)

theorem rect_eq {k : ℕ} (hk : k < n) {off : Fin 3 → ℕ} (ho : off = ![k, 0, 0])
    (inb : ∀ a, off a + S1x64x1024.size a ≤ (⟨3, ![n, 64, 1024]⟩ : Shape).size a) :
    Rect.unit (s := ⟨3, ![n, 64, 1024]⟩) off S1x64x1024.size inb = slotR n k :=
  Rect.unit_congr (by rw [ho, Nat.mod_eq_of_lt hk]) _ _

/-- A buffer with `w` in its slot `k`, everything else filled with one element of `w`. -/
def canon (k : ℕ) (w : Msg F) : (slotV M k).ty.Contents (Elt F) :=
  (slotV M k).write (Elt F) (fun _ => cast (congrArg (Elt F) (slotV M k).elt_eq.symm) (w (Shape.Idx.first (by decide)))) w Finset.univ

omit [FloatOps F] in
theorem read_canon (k : ℕ) (w : Msg F) : (slotV M k).read (Elt F) (canon M k w) = w :=
  funext fun x => View.read_write_of_mem _ _ (Finset.mem_univ x)

/-- Slot `k` of device `c`'s buffer `M`, a share `q` of it, holding `w`. -/
def slotPts (c : Dev nD) (k : ℕ) (q : PosShare TreeShare) (w : Msg F) : sProp 𝕄 :=
  (slotV M k).loc (c : Thread nD τ) ↦[(slotV M k).set]{q} canon M k w

omit [FloatOps F] in
instance slotPts_storable (c : Dev nD) (k : ℕ) (q) (w) : BI.Storable (upEmb : UEmb _ 𝕄) (slotPts (F := F) M c k q w) := by
  unfold slotPts; infer_instance

omit [FloatOps F] in
/-- A slot whose contents read `w`, whatever the rest of the buffer is taken to hold. -/
theorem slot_of_read (c : Dev nD) (k : ℕ) (q : PosShare TreeShare) (w : Msg F) (f : (slotV M k).ty.Contents (Elt F))
    (h : (slotV M k).read (Elt F) f = w) :
    ((slotV M k).loc (c : Thread nD τ) ↦[(slotV M k).set]{q} f : sProp 𝕄) = slotPts M c k q w := by
  unfold slotPts canon
  refine pointsTo_congr fun i hi => ?_
  rw [← h, View.write_read_eq_piecewise, Finset.piecewise_eq_of_mem]
  exact hi

omit [FloatOps F] in
theorem slots_disjoint {k k' : ℕ} (hk : k < n) (hk' : k' < n) (h : k ≠ k') : Disjoint (slotV M k).set (slotV M k').set := by
  rw [View.set_slice, View.set_slice, Finset.disjoint_map, Finset.disjoint_left]
  intro i hi hi'
  have h1 := (Rect.mem_set_unit.mp hi) 0
  have h2 := (Rect.mem_set_unit.mp hi') 0
  have e1 : k % n = k := Nat.mod_eq_of_lt hk
  have e2 : k' % n = k' := Nat.mod_eq_of_lt hk'
  have h1' : k % n ≤ (i 0 : ℕ) ∧ (i 0 : ℕ) < k % n + 1 := h1
  have h2' : k' % n ≤ (i 0 : ℕ) ∧ (i 0 : ℕ) < k' % n + 1 := h2
  omega

omit [FloatOps F] in
theorem slots_union : (Finset.range n).biUnion (fun k => (slotV M k).set) = M.view.set := by
  apply Finset.Subset.antisymm
  · intro i hi
    obtain ⟨k, -, hk⟩ := Finset.mem_biUnion.mp hi
    exact View.set_slice_subset _ _ hk
  · intro i hi
    obtain ⟨x, -, rfl⟩ := Finset.mem_map.mp hi
    have hx : (x 0 : ℕ) < n := (x 0).isLt
    refine Finset.mem_biUnion.mpr ⟨(x 0 : ℕ), Finset.mem_range.mpr hx, ?_⟩
    rw [View.set_slice]
    refine Finset.mem_map_of_mem _ (Rect.mem_set_unit.mpr fun a => ?_)
    fin_cases a
    · show (x 0 : ℕ) % n ≤ (x 0 : ℕ) ∧ (x 0 : ℕ) < (x 0 : ℕ) % n + 1
      rw [Nat.mod_eq_of_lt hx]; omega
    · have : (x 1 : ℕ) < 64 := (x 1).isLt
      show 0 ≤ (x 1 : ℕ) ∧ (x 1 : ℕ) < 0 + 64; omega
    · have : (x 2 : ℕ) < 1024 := (x 2).isLt
      show 0 ≤ (x 2 : ℕ) ∧ (x 2 : ℕ) < 0 + 1024; omega

omit [FloatOps F] in
/-- The buffer cut into its slots. -/
theorem slots_split (c : Dev nD) (q : PosShare TreeShare) (f : M.view.ty.Contents (Elt F)) :
    (M.view.loc (c : Thread nD τ) ↦[M.view.set]{q} f : sProp 𝕄) ⊢ bigSep (Finset.range n) fun k => iprop(∃ w, slotPts M c k q w) := by
  rw [← slots_union M]
  refine (Entails.of_eq (pointsTo_biUnion (ℓ := M.view.loc (c : Thread nD τ)) (Finset.range n) (fun k => (slotV M k).set)
    (fun k hk k' hk' h => slots_disjoint M (Finset.mem_range.mp hk) (Finset.mem_range.mp hk') h))).trans ?_
  refine bigSep_mono fun k _ => ?_
  show (View.loc (c : Thread nD τ) (slotV M k) ↦[(slotV M k).set]{q} f : sProp 𝕄) ⊢ iprop(∃ w, slotPts M c k q w)
  iintro H
  iexists ((slotV M k).read (Elt F) f)
  iapply (Entails.of_eq (slot_of_read M c k q _ f rfl)) $$ H

instance msg_nonempty : Nonempty (Msg F) := ⟨fun _ => (FloatOps.ofBits .bf16 0 : F .bf16)⟩

/-- The slots put together again. -/
theorem slots_join (c : Dev nD) (q : PosShare TreeShare) :
    (bigSep (Finset.range n) fun k => iprop(∃ w, slotPts (F := F) M c k q w) : sProp 𝕄)
      ⊢ iprop(∃ f : M.view.ty.Contents (Elt F), M.view.loc (c : Thread nD τ) ↦[M.view.set]{q} f) := by
  iintro H
  ihave H := (BI.bigSep_exists_pi (Finset.range n) (fun (k : ℕ) (w : Msg F) => slotPts M c k q w)) $$ H
  icases H with ⟨%w, H⟩
  unfold slotPts
  ihave H := (pointsTo_biUnion_join (ℓ := M.view.loc (c : Thread nD τ)) (Finset.range n) (fun k => (slotV M k).set) (fun k => canon M k (w k)) (canon M 0 (w 0))
    (fun k hk k' hk' h => slots_disjoint M (Finset.mem_range.mp hk) (Finset.mem_range.mp hk') h)) $$ H
  icases H with ⟨%g, -, H⟩
  iexists g
  rw [← slots_union M]
  iexact H

/-! ## Accesses -/

/-- A load of a slot, the slot named by any offsets equal to its own. -/
theorem wp_load_slot (c : Dev nD) {α : Type} {Q : α → sProp 𝕄} {k : ℕ} (hk : k < n) {q : PosShare TreeShare} (w : Msg F) {off : Fin 3 → ℕ} (ho : off = ![k, 0, 0])
    {inb : ∀ a, off a + S1x64x1024.size a ≤ (⟨3, ![n, 64, 1024]⟩ : Shape).size a}
    {hl : M.view.LoadsAt (Rect.unit (s := ⟨3, ![n, 64, 1024]⟩) off S1x64x1024.size inb).toLoadRect}
    {p : Msg F → Prog (TpuEff nD τ sig (Elt F) Λ₀ .tc) α} :
    slotPts M c k q w ⊢ iprop((slotPts M c k q w -∗ wp frame (wpE (defs₀ (F := F)) 𝒱₀ (c : Thread nD τ) none) Set.univ (p w) Q)
      -∗ wp frame (wpE (defs₀ (F := F)) 𝒱₀ (c : Thread nD τ) none) Set.univ
          (.op (.load M (Rect.unit (s := ⟨3, ![n, 64, 1024]⟩) off S1x64x1024.size inb).toLoadRect hl) p) Q) := by
  obtain rfl : off = ![k % n, 0, 0] := by rw [ho, Nat.mod_eq_of_lt hk]
  have h := wp_load_rect (defs := defs₀ (F := F)) (Γ := []) 𝒱₀ (c : Thread nD τ) none Set.univ (m := M) (r := slotR n k) (hl := hl) (k := p) (Q := Q) (q := q) (f := canon M k w) (subset_refl (slotV M k).set)
  rw [read_canon] at h
  exact h

/-- A store over a slot. -/
theorem wp_store_slot (c : Dev nD) {α : Type} {Q : α → sProp 𝕄} {k : ℕ} (hk : k < n) (w₀ w : Msg F) {off : Fin 3 → ℕ} (ho : off = ![k, 0, 0])
    {inb : ∀ a, off a + S1x64x1024.size a ≤ (⟨3, ![n, 64, 1024]⟩ : Shape).size a}
    {hx : (M.access (Rect.unit (s := ⟨3, ![n, 64, 1024]⟩) off S1x64x1024.size inb)).Stores Finset.univ} {hm}
    {p : PUnit → Prog (TpuEff nD τ sig (Elt F) Λ₀ .tc) α} :
    slotPts M c k fullShare w₀ ⊢ iprop((slotPts M c k fullShare w -∗ wp frame (wpE (defs₀ (F := F)) 𝒱₀ (c : Thread nD τ) none) Set.univ (p ⟨⟩) Q)
      -∗ wp frame (wpE (defs₀ (F := F)) 𝒱₀ (c : Thread nD τ) none) Set.univ
          (.op (.store M (Rect.unit (s := ⟨3, ![n, 64, 1024]⟩) off S1x64x1024.size inb) w Finset.univ hx hm) p) Q) := by
  obtain rfl : off = ![k % n, 0, 0] := by rw [ho, Nat.mod_eq_of_lt hk]
  have h := wp_store (defs := defs₀ (F := F)) (Γ := []) 𝒱₀ (c : Thread nD τ) none Set.univ (m := M) (r := slotR n k) (w := w) (Mk := Finset.univ) (hx := hx) (hm := hm) (k := p) (Q := Q)
    (f := canon M k w₀) (subset_refl (slotV M k).set)
  rw [slot_of_read M c k fullShare w _ (funext fun x => View.read_write_of_mem _ _ (Finset.mem_univ x))] at h
  exact h

omit [FloatOps F] in
/-- A slot of the first buffer copied to a slot of a second, both written as 64 by 1024: the second then holds what the first did. -/
theorem landed_slot {n' : ℕ} [NeZero n'] (M' : Sc n') (k k' : ℕ) (w : Msg F) (fd : (slotV M' k').ty.Contents (Elt F))
    (h h' : S64x1024.numel = S1x64x1024.numel) :
    (slotV M' k').read (Elt F) (((slotV M' k').reshape S64x1024 h').write (Elt F) fd
      (((slotV M k).reshape S64x1024 h).read (Elt F) (canon M k w)) Finset.univ) = w := by
  funext x
  obtain ⟨y, rfl⟩ := (Shape.reshapeEquiv h').surjective x
  show ((slotV M' k').reshape S64x1024 h').read (Elt F) (((slotV M' k').reshape S64x1024 h').write (Elt F) fd
      (((slotV M k).reshape S64x1024 h).read (Elt F) (canon M k w)) Finset.univ) y = _
  rw [View.read_write_of_mem _ _ (Finset.mem_univ y)]
  show (slotV M k).read (Elt F) (canon M k w) (Shape.reshapeEquiv h y) = _
  rw [read_canon]

/-! ## Several slots at once -/

omit [FloatOps F] in
/-- Some slots as one piece of the buffer, -/
theorem some_join (c : Dev nD) (S : Finset ℕ) (K : ℕ → ℕ) (w : ℕ → Msg F) (f₀ : M.view.ty.Contents (Elt F))
    (hd : ∀ t ∈ S, ∀ t' ∈ S, t ≠ t' → Disjoint (slotV M (K t)).set (slotV M (K t')).set) :
    (bigSep S fun j => slotPts M c (K j) fullShare (w j) : sProp 𝕄)
      ⊢ iprop(∃ g : M.view.ty.Contents (Elt F), ⌜∀ j ∈ S, (slotV M (K j)).read (Elt F) g = w j⌝
          ∗ M.view.loc (c : Thread nD τ) ↦[S.biUnion fun j => (slotV M (K j)).set]{fullShare} g) := by
  unfold slotPts
  iintro H
  ihave H := (pointsTo_biUnion_join (ℓ := M.view.loc (c : Thread nD τ)) S (fun j => (slotV M (K j)).set)
    (fun j => canon M (K j) (w j)) f₀ hd) $$ H
  icases H with ⟨%g, %hg, H⟩
  iexists g
  isplitr
  · ipureintro
    intro j hj
    rw [← read_canon M (K j) (w j)]
    funext x
    rw [View.read_apply, View.read_apply, hg j hj _ (Finset.mem_map_of_mem _ (Finset.mem_univ x))]
  · iexact H

omit [FloatOps F] in
/-- and back. -/
theorem some_split (c : Dev nD) (S : Finset ℕ) (K : ℕ → ℕ) (q : PosShare TreeShare) (w : ℕ → Msg F) (g : M.view.ty.Contents (Elt F)) (hg : ∀ j ∈ S, (slotV M (K j)).read (Elt F) g = w j)
    (hd : ∀ t ∈ S, ∀ t' ∈ S, t ≠ t' → Disjoint (slotV M (K t)).set (slotV M (K t')).set) :
    (M.view.loc (c : Thread nD τ) ↦[S.biUnion fun j => (slotV M (K j)).set]{q} g : sProp 𝕄)
      ⊢ (bigSep S fun j => slotPts M c (K j) q (w j)) := by
  have e : ∀ j ∈ S, ((slotV M (K j)).loc (c : Thread nD τ) ↦[(slotV M (K j)).set]{q} g : sProp 𝕄) = slotPts M c (K j) q (w j) :=
    fun j hj => by have h := slot_of_read M c (K j) q (w j) g (hg j hj); exact h
  rw [← bigSep_congr e]
  exact Entails.of_eq (pointsTo_biUnion (ℓ := M.view.loc (c : Thread nD τ)) S (fun j => (slotV M (K j)).set) hd)

/-! ## Seven shares of a slot -/

/-- One of seven equal shares. -/
abbrev seventh (i : Fin 7) : PosShare TreeShare := Idealize.ShloMosaic.pieceOf fullShare 7 (by decide) i

omit [FloatOps F] in
theorem slot_sevenths (c : Dev nD) (k : ℕ) (w : Msg F) :
    (slotPts M c k fullShare w : sProp 𝕄) = bigSep Finset.univ fun i : Fin 7 => slotPts M c k (seventh i) w := by
  unfold slotPts
  exact Idealize.ShloMosaic.pointsTo_piecesOf _ _ _ _

end

/-! ## Seven slots read at once -/

/-- Seven messages one below the other. -/
def stack (w : ℕ → Msg F) : S7x64x1024.Idx → Elt F .bf16 := fun i =>
  w (i 0 : ℕ) (Fin.cons (α := fun a => Fin (S1x64x1024.size a)) ⟨0, Nat.one_pos⟩ (Fin.cons (i 1) (Fin.cons (i 2) (fun a => a.elim0))))

section Seven
variable (M : Sc 28) {k : ℕ} (hk : k + 7 ≤ 28) (inb : ∀ a, (![k, 0, 0] : Fin 3 → ℕ) a + S7x64x1024.size a ≤ S28x64x1024.size a)

/-- Seven slots as one view. -/
abbrev sevenV : View sig .tc .vmem S7x64x1024 .bf16 := M.access (Rect.unit (s := S28x64x1024) ![k, 0, 0] S7x64x1024.size inb)

include hk in
theorem seven_disjoint : ∀ j ∈ Finset.range 7, ∀ j' ∈ Finset.range 7, j ≠ j' → Disjoint (slotV M (k + j)).set (slotV M (k + j')).set :=
  fun j hj j' hj' h => slots_disjoint M (by have := Finset.mem_range.mp hj; omega) (by have := Finset.mem_range.mp hj'; omega) (by omega)

include hk in
theorem seven_sub : (sevenV M inb).set ⊆ (Finset.range 7).biUnion fun j => (slotV M (k + j)).set := by
  intro i hi
  rw [View.set_slice] at hi
  obtain ⟨x, hx, rfl⟩ := Finset.mem_map.mp hi
  have h0 : k ≤ (x 0 : ℕ) ∧ (x 0 : ℕ) < k + 7 := Rect.mem_set_unit.mp hx 0
  refine Finset.mem_biUnion.mpr ⟨(x 0 : ℕ) - k, Finset.mem_range.mpr (by omega), ?_⟩
  rw [View.set_slice]
  refine Finset.mem_map_of_mem _ (Rect.mem_set_unit.mpr fun a => ?_)
  fin_cases a
  · show (k + ((x 0 : ℕ) - k)) % 28 ≤ (x 0 : ℕ) ∧ (x 0 : ℕ) < (k + ((x 0 : ℕ) - k)) % 28 + 1
    rw [Nat.mod_eq_of_lt (by omega)]; omega
  · have : (x 1 : ℕ) < 64 := (x 1).isLt
    show 0 ≤ (x 1 : ℕ) ∧ (x 1 : ℕ) < 0 + 64; omega
  · have : (x 2 : ℕ) < 1024 := (x 2).isLt
    show 0 ≤ (x 2 : ℕ) ∧ (x 2 : ℕ) < 0 + 1024; omega

include hk in
omit [FloatOps F] in
theorem seven_read (w : ℕ → Msg F) (g : M.view.ty.Contents (Elt F)) (hg : ∀ j, j < 7 → (slotV M (k + j)).read (Elt F) g = w j) :
    (sevenV M inb).read (Elt F) g = stack w := by
  funext x
  have hx0 : (x 0 : ℕ) < 7 := (x 0).isLt
  unfold stack
  rw [← hg (x 0 : ℕ) hx0, View.read_apply, View.read_apply]
  refine congrArg (fun i => cast _ (g i)) ?_
  refine congrArg M.view.emb (funext fun a => Fin.ext ?_)
  fin_cases a
  · show k + 1 * (x 0 : ℕ) = (k + (x 0 : ℕ)) % 28 + 1 * 0
    rw [Nat.mod_eq_of_lt (by omega)]; omega
  · rfl
  · rfl

end Seven

/-- A load of the seven slots from `k` on. -/
theorem wp_load_seven (M : Sc 28) (c : Dev nD) {α : Type} {Q : α → sProp 𝕄} {k : ℕ} (hk : k + 7 ≤ 28) (w : ℕ → Msg F) {off : Fin 3 → ℕ} (ho : off = ![k, 0, 0])
    {inb : ∀ a, off a + S7x64x1024.size a ≤ S28x64x1024.size a}
    {hl : M.view.LoadsAt (Rect.unit (s := S28x64x1024) off S7x64x1024.size inb).toLoadRect}
    {p : (S7x64x1024.Idx → Elt F .bf16) → Prog (TpuEff nD τ sig (Elt F) Λ₀ .tc) α} :
    (bigSep (Finset.range 7) fun j => slotPts M c (k + j) fullShare (w j))
      ⊢ iprop(((bigSep (Finset.range 7) fun j => slotPts M c (k + j) fullShare (w j))
            -∗ wp frame (wpE (defs₀ (F := F)) 𝒱₀ (c : Thread nD τ) none) Set.univ (p (stack w)) Q)
      -∗ wp frame (wpE (defs₀ (F := F)) 𝒱₀ (c : Thread nD τ) none) Set.univ
          (.op (.load M (Rect.unit (s := S28x64x1024) off S7x64x1024.size inb).toLoadRect hl) p) Q) := by
  subst ho
  iintro H Hk
  ihave H := (some_join M c (Finset.range 7) (fun j => k + j) w (canon M 0 (w 0)) (seven_disjoint M hk)) $$ H
  icases H with ⟨%g, %hg, H⟩
  have h := wp_load_rect (defs := defs₀ (F := F)) (Γ := []) 𝒱₀ (c : Thread nD τ) none Set.univ (m := M) (r := Rect.unit (s := S28x64x1024) ![k, 0, 0] S7x64x1024.size inb) (hl := hl)
    (k := p) (Q := Q) (q := fullShare) (f := g) (seven_sub M hk inb)
  rw [seven_read M hk inb w g fun j hj => hg j (Finset.mem_range.mpr hj)] at h
  iapply h $$ H
  iintro H
  iapply Hk
  iapply (some_split M c (Finset.range 7) (fun j => k + j) fullShare w g hg (seven_disjoint M hk)) $$ H

end Cert.RingProof
end
-- ==== Proof.Base.lean ====
/-
# The exchange: who sends what to whom, over which semaphores

Eight devices. Device `c` sends the other seven their 64-row pieces of each of the four row quarters of its partial result
(28 messages), and later its own reduced piece of each quarter to all seven (28 more). The 56 transfers are numbered by the
receive semaphore they complete on: number `k` goes from `c` to `ow c k`, and the device whose number `k` lands on `c` is
`fr c k`. Before any of it, every device signals the barrier semaphore of the seven others and waits for seven signals on
its own: a signal lends its receiver the sender's landing slots.

This file states the semaphores, what is handed over with each of their units (`exch`), and what each device owes.
-/
module

public import proofs.«01_k».proof.Proof.Slots

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Numbering -/

theorem dev_lt (n : ℕ) : n % 8 < nD := Nat.mod_lt _ (by decide)

/-- Where `c`'s transfer number `k` goes. -/
def ow (c : Dev nD) (k : ℕ) : Dev nD := ⟨(c.val + 7 - k % 7) % 8, dev_lt _⟩
/-- Whose transfer number `k` lands on `c`. -/
def fr (c : Dev nD) (k : ℕ) : Dev nD := ⟨(c.val + 1 + k % 7) % 8, dev_lt _⟩
/-- The number with the quarter's seven in the other order. -/
def isl (k : ℕ) : ℕ := 7 * (k / 7) + 6 - k % 7
/-- Which of the 32 row pieces transfer `k < 28` carries. -/
def sub (c : Dev nD) (k : ℕ) : ℕ := 8 * (k / 7) + (ow c k).val
/-- The number of the transfer that carries piece `s`. -/
def js (c : Dev nD) (s : ℕ) : ℕ := 7 * (s / 8) + (c.val + 7 - s % 8) % 8
/-- The send semaphore of transfer `k`. -/
def sc (k : ℕ) : ℕ := if k < 28 then k else 28 + isl (k - 28)

theorem dev_val_lt (c : Dev nD) : c.val < 8 := c.isLt

theorem ow_fr (c : Dev nD) (k : ℕ) : ow (fr c k) k = c := by
  have := dev_val_lt c
  exact Fin.ext (by show ((c.val + 1 + k % 7) % 8 + 7 - k % 7) % 8 = c.val; omega)
theorem fr_ow (c : Dev nD) (k : ℕ) : fr (ow c k) k = c := by
  have := dev_val_lt c
  exact Fin.ext (by show ((c.val + 7 - k % 7) % 8 + 1 + k % 7) % 8 = c.val; omega)
theorem isl_isl (k : ℕ) : isl (isl k) = k := by unfold isl; omega
theorem isl_lt {k : ℕ} (h : k < 28) : isl k < 28 := by unfold isl; omega
theorem isl_div (k : ℕ) : isl k / 7 = k / 7 := by unfold isl; omega
theorem sc_sc (k : ℕ) : sc (sc k) = k := by
  unfold sc
  by_cases h : k < 28
  · rw [if_pos h, if_pos h]
  · rw [if_neg h, if_neg (by omega), Nat.add_sub_cancel_left, isl_isl]; omega
theorem sc_lt {k : ℕ} (h : k < 56) : sc k < 56 := by unfold sc isl; split <;> omega
theorem js_lt {c : Dev nD} {s : ℕ} (h : s < 32) (hc : s % 8 ≠ c.val) : js c s < 28 := by have := dev_val_lt c; unfold js; omega
theorem ow_js {c : Dev nD} {s : ℕ} (hc : s % 8 ≠ c.val) : (ow c (js c s)).val = s % 8 := by
  have := dev_val_lt c
  show (c.val + 7 - (7 * (s / 8) + (c.val + 7 - s % 8) % 8) % 7) % 8 = s % 8
  omega
theorem sub_js {c : Dev nD} {s : ℕ} (hc : s % 8 ≠ c.val) : sub c (js c s) = s := by
  have h := ow_js hc
  have := dev_val_lt c
  unfold sub; rw [h]
  unfold js; omega

/-! ## The exchange buffers and the semaphores -/

abbrev m6 : Sc 28 := Memref.whole cc0_scratch0
abbrev m7 : Sc 28 := Memref.whole cc0_scratch1
abbrev m8 : Sc 4 := Memref.whole cc0_scratch2
abbrev m9 : Sc 28 := Memref.whole cc0_scratch3

abbrev barS : Sem sig := (SemArray.scalar (sig.barrier 0 rfl) : Sems sig S_).sem

theorem snd_lt (k : ℕ) : 6 + k % 56 < 118 := by have := Nat.mod_lt k (show 0 < 56 by decide); omega
theorem rcv_lt (k : ℕ) : 62 + k % 56 < 118 := by have := Nat.mod_lt k (show 0 < 56 by decide); omega

def sndS (k : ℕ) : DmaSem sig := (⟨6 + k % 56, snd_lt k⟩ : Fin 118)
def rcvS (k : ℕ) : DmaSem sig := (⟨62 + k % 56, rcv_lt k⟩ : Fin 118)

abbrev barC (c : Dev nD) : GSem nD τ sig := ((c : Thread nD τ), .reg barS)
abbrev sndC (c : Dev nD) (k : ℕ) : GSem nD τ sig := ((c : Thread nD τ), .dma (sndS k))
abbrev rcvC (c : Dev nD) (k : ℕ) : GSem nD τ sig := ((c : Thread nD τ), .dma (rcvS k))

/-- What a semaphore is for. -/
inductive Cls where
  | bar | snd (k : ℕ) | rcv (k : ℕ) | other

def cls : SemLoc sig → Cls
  | .reg _ => .bar
  | .dma q => if (q : Fin 118).val < 6 then .other else if (q : Fin 118).val < 62 then .snd ((q : Fin 118).val - 6) else .rcv ((q : Fin 118).val - 62)

theorem cls_bar : cls (.reg barS) = .bar := rfl
theorem cls_snd {k : ℕ} (h : k < 56) : cls (.dma (sndS k)) = .snd k := by
  have e : ((sndS k : Fin 118)).val = 6 + k := by show 6 + k % 56 = 6 + k; rw [Nat.mod_eq_of_lt h]
  unfold cls; dsimp only; rw [e, if_neg (by omega), if_pos (by omega)]; congr 1; omega
theorem cls_rcv {k : ℕ} (h : k < 56) : cls (.dma (rcvS k)) = .rcv k := by
  have e : ((rcvS k : Fin 118)).val = 62 + k := by show 62 + k % 56 = 62 + k; rw [Nat.mod_eq_of_lt h]
  unfold cls; dsimp only; rw [e, if_neg (by omega), if_neg (by omega)]; congr 1; omega

/-- What one transfer's arrival adds to its semaphores. -/
def N : ℕ := (slotV m7 0).dmaCredit
theorem N_eq : N = RefSig.tileCredit S64x1024 .bf16 := by decide
theorem N_pos : 0 < N := by decide

/-! ## What is handed over -/

/-- The messages: what device `c` sends of row piece `s`, and its reduced piece of quarter `q`. -/
structure Msgs (F : FTy → Type) where
  rs : Dev nD → ℕ → Msg F
  ag : Dev nD → ℕ → Msg F

variable (V : Msgs F)

/-- The landing slot of transfer `k` on device `p`, at some contents. -/
def landing (p : Dev nD) (k : ℕ) : sProp 𝕄 :=
  if k < 28 then iprop(∃ w, slotPts m7 p k fullShare w) else iprop(∃ w, slotPts m9 p (k - 28) fullShare w)

/-- What the `k`-th signal on `p`'s barrier semaphore lends `p`: the sender's landing slots for `p`'s transfers. -/
def barPay (p : Dev nD) (k : ℕ) : sProp 𝕄 := bigSep (Finset.range 8) fun q => landing (ow p k) (7 * q + k)

/-- What receive semaphore `k` of `p` hands over: the landing slot, with the message in it. -/
def rcvPay (p : Dev nD) (k : ℕ) : sProp 𝕄 :=
  if k < 28 then slotPts m7 p k fullShare (V.rs (fr p k) (8 * (k / 7) + p.val)) else slotPts m9 p (k - 28) fullShare (V.ag (fr p k) ((k - 28) / 7))

/-- One of the seven shares of a reduced piece that `c` sends out. -/
def piece (c : Dev nD) (t : ℕ) : sProp 𝕄 := slotPts m8 c (t / 7) (seventh ⟨t % 7, Nat.mod_lt _ (by decide)⟩) (V.ag c (t / 7))

/-- What send semaphore `k` of `c` hands back: what was sent. -/
def sndPay (c : Dev nD) (k : ℕ) : sProp 𝕄 :=
  if k < 28 then slotPts m6 c (isl k) fullShare (V.rs c (sub c k)) else piece V c (k - 28)

omit [FloatOps F] in
instance landing_storable (p : Dev nD) (k : ℕ) : BI.Storable (upEmb : UEmb _ 𝕄) (landing (F := F) p k) := by unfold landing; split <;> infer_instance
omit [FloatOps F] in
instance barPay_storable (p : Dev nD) (k : ℕ) : BI.Storable (upEmb : UEmb _ 𝕄) (barPay (F := F) p k) := by unfold barPay; infer_instance
omit [FloatOps F] in
instance rcvPay_storable (p : Dev nD) (k : ℕ) : BI.Storable (upEmb : UEmb _ 𝕄) (rcvPay V p k) := by unfold rcvPay; split <;> infer_instance
omit [FloatOps F] in
instance piece_storable (p : Dev nD) (k : ℕ) : BI.Storable (upEmb : UEmb _ 𝕄) (piece V p k) := by unfold piece; infer_instance
omit [FloatOps F] in
instance sndPay_storable (p : Dev nD) (k : ℕ) : BI.Storable (upEmb : UEmb _ 𝕄) (sndPay V p k) := by unfold sndPay; split <;> infer_instance

def dutiesOf : Cls → Finset (Fin 7)
  | .bar => Finset.univ | .snd _ => {0} | .rcv _ => {0} | .other => ∅
def amountOf : Cls → ℕ
  | .bar => 1 | _ => N
def payOf (c : Dev nD) (d : Fin 7) : Cls → sProp 𝕄
  | .bar => barPay c d.val | .snd k => sndPay V c k | .rcv k => rcvPay V c k | .other => iprop(emp)

/-- Every semaphore is used for one round: the barrier's with seven units, a transfer's with what one arrival adds. -/
def exch : Rounds.Schedule (GSem nD τ sig) (Fin 7) 𝕄 where
  duties g r := if r = 0 ∧ g.1.2 = .tc then dutiesOf (cls g.2) else ∅
  unitless _ := False
  amount g _ _ := amountOf (cls g.2)
  payload g _ d := payOf V g.1.1 d (cls g.2)
  amount_pos g _ _ _ := by
    show 0 < amountOf (cls g.2)
    unfold amountOf; split
    · exact Nat.one_pos
    · exact N_pos

instance exch_storable (g : GSem nD τ sig) (r : ℕ) (d : Fin 7) : BI.Storable (upEmb : UEmb _ 𝕄) ((exch V).payload g r d) := by
  show BI.Storable upEmb (payOf V g.1.1 d (cls g.2))
  unfold payOf; split <;> infer_instance

section Sched
variable (c : Dev nD) {k : ℕ} (hk : k < 56)

theorem duties_bar : (exch V).duties (barC c) 0 = Finset.univ := by dsimp only [exch]; rw [if_pos ⟨rfl, rfl⟩]; rfl
include hk in
theorem duties_snd : (exch V).duties (sndC c k) 0 = {0} := by dsimp only [exch]; rw [if_pos ⟨rfl, rfl⟩, cls_snd hk]; rfl
include hk in
theorem duties_rcv : (exch V).duties (rcvC c k) 0 = {0} := by dsimp only [exch]; rw [if_pos ⟨rfl, rfl⟩, cls_rcv hk]; rfl
theorem duties_later (g : GSem nD τ sig) : ∀ r, 1 ≤ r → (exch V).duties g r = ∅ := fun r hr => by
  dsimp only [exch]; rw [if_neg fun h => by omega]

theorem amount_bar (d) : (exch V).amount (barC c) 0 d = 1 := rfl
include hk in
theorem amount_snd (d) : (exch V).amount (sndC c k) 0 d = N := by dsimp only [exch]; rw [cls_snd hk]; rfl
include hk in
theorem amount_rcv (d) : (exch V).amount (rcvC c k) 0 d = N := by dsimp only [exch]; rw [cls_rcv hk]; rfl

theorem expect_bar : (exch V).expect (barC c) 0 = 7 := by
  unfold Schedule.expect Schedule.amountOf; rw [duties_bar, Finset.sum_congr rfl fun d _ => amount_bar V c d]; rfl
include hk in
theorem expect_snd : (exch V).expect (sndC c k) 0 = N := by
  unfold Schedule.expect Schedule.amountOf; rw [duties_snd V c hk, Finset.sum_singleton, amount_snd V c hk]
include hk in
theorem expect_rcv : (exch V).expect (rcvC c k) 0 = N := by
  unfold Schedule.expect Schedule.amountOf; rw [duties_rcv V c hk, Finset.sum_singleton, amount_rcv V c hk]

theorem payload_bar (d : Fin 7) : (exch V).payload (barC c) 0 d = barPay c d.val := rfl
include hk in
theorem payload_snd (d) : (exch V).payload (sndC c k) 0 d = sndPay V c k := by
  show payOf V c d (cls (.dma (sndS k))) = _; rw [cls_snd hk]; rfl
include hk in
theorem payload_rcv (d) : (exch V).payload (rcvC c k) 0 d = rcvPay V c k := by
  show payOf V c d (cls (.dma (rcvS k))) = _; rw [cls_rcv hk]; rfl

theorem rest_bar : bigSep ((exch V).duties (barC c) 0 \ ∅) (fun d => (exch V).payload (barC c) 0 d) = bigSep Finset.univ fun d : Fin 7 => barPay (F := F) c d.val := by
  rw [Finset.sdiff_empty, duties_bar]; rfl
include hk in
theorem rest_snd : bigSep ((exch V).duties (sndC c k) 0 \ ∅) (fun d => (exch V).payload (sndC c k) 0 d) = sndPay V c k := by
  rw [Finset.sdiff_empty, duties_snd V c hk, bigSep_singleton, payload_snd V c hk]
include hk in
theorem rest_rcv : bigSep ((exch V).duties (rcvC c k) 0 \ ∅) (fun d => (exch V).payload (rcvC c k) 0 d) = rcvPay V c k := by
  rw [Finset.sdiff_empty, duties_rcv V c hk, bigSep_singleton, payload_rcv V c hk]

end Sched

/-! ## What each device owes; the order of the waits

Debt `i < 56` is transfer `i`'s arrival, debt `56 + k` the signal to `fr c k`. -/

def debtC (c : Dev nD) (i : ℕ) : GSem nD τ sig := if i < 56 then rcvC (ow c i) i else barC (fr c i)
def debtN (i : ℕ) : ℕ := if i < 56 then N else 1

def O (c : Dev nD) (D : Finset ℕ) : CellTallies nD τ sig Unit := ∑ i ∈ D, tallyAt (debtC c i) () (debtN i)

theorem O_empty (c : Dev nD) : O c ∅ = 0 := Finset.sum_empty
theorem O_insert (c : Dev nD) {D : Finset ℕ} {i : ℕ} (h : i ∉ D) : O c (insert i D) = O c D + tallyAt (debtC c i) () (debtN i) := by
  unfold O; rw [Finset.sum_insert h, add_comm]

def L (g : GSem nD τ sig) : Finset Unit := if g.1.2 = .tc then {()} else ∅
def lvOf : Cls → ℕ
  | .bar => 1 | .rcv k => if k < 28 then 2 + k / 7 else 12 | _ => 0
def lv (g : GSem nD τ sig) (_ : Unit) : ℕ := lvOf (cls g.2)

theorem L_of_ne (g : GSem nD τ sig) (h : g.1.2 ≠ .tc) : L g = ∅ := if_neg h
theorem L_tc (c : Dev nD) (sm : SemLoc sig) : L ((c : Thread nD τ), sm) = {()} := if_pos rfl

theorem O_pos {c : Dev nD} {D : Finset ℕ} {g : GSem nD τ sig} {u : Unit} (h : 0 < O c D g u) : ∃ i ∈ D, g = debtC c i := by
  induction D using Finset.induction_on with
  | empty => rw [O_empty] at h; exact absurd h (Nat.lt_irrefl 0)
  | insert i D hi ih =>
    rw [O_insert c hi, Pi.add_apply, Finsupp.add_apply, tallyAt_apply] at h
    by_cases hg : g = debtC c i ∧ u = ()
    · exact ⟨i, Finset.mem_insert_self _ _, hg.1⟩
    · rw [if_neg hg, Nat.add_zero] at h
      obtain ⟨j, hj, e⟩ := ih h
      exact ⟨j, Finset.mem_insert_of_mem hj, e⟩

theorem debtC_tc (c : Dev nD) (i : ℕ) : (debtC c i).1.2 = .tc := by unfold debtC; split <;> rfl

/-- A wait is in order when all that is still owed is of a later level. -/
theorem mayWait (c : Dev nD) (sm : SemLoc sig) (D : Finset ℕ) (h : ∀ i ∈ D, lvOf (cls sm) < lvOf (cls (debtC c i).2)) :
    (levAts L lv : sProp 𝕄) ⊢ MayWait (c : Thread nD τ) sm () (O c D) :=
  MayOwe.of_cut (L := L) (lev := lv) (lvOf (cls sm)) (fun p hp => by rw [Finset.mem_singleton.mp hp, L_tc]; exact Finset.mem_singleton_self _)
    (fun g u hg => by obtain ⟨i, hi, rfl⟩ := O_pos hg; unfold L; rw [if_pos (debtC_tc c i)]; exact Finset.mem_singleton_self _)
    (fun p hp => by rw [Finset.mem_singleton.mp hp]; exact le_refl _)
    (fun g u hg => by obtain ⟨i, hi, rfl⟩ := O_pos hg; exact h i hi)

theorem lv_debt (c : Dev nD) {i : ℕ} (hi : i < 63) : lvOf (cls (debtC c i).2) = if i < 28 then 2 + i / 7 else if i < 56 then 12 else 1 := by
  unfold debtC
  by_cases h : i < 56
  · rw [if_pos h]; show lvOf (cls (.dma (rcvS i))) = _; rw [cls_rcv h]; unfold lvOf; dsimp only
    rw [if_pos h]
  · rw [if_neg h, if_neg (by omega : ¬ i < 28), if_neg h]; rfl

/-- The transfers not yet sent: of the first kind those of pieces `s` and later, of the second those of steps `a` and later. -/
def D (c : Dev nD) (s a : ℕ) : Finset ℕ := (Finset.range 56).filter fun k => if k < 28 then s ≤ sub c k else a ≤ isl (k - 28)

theorem mem_D {c : Dev nD} {s a k : ℕ} : k ∈ D c s a ↔ k < 56 ∧ (if k < 28 then s ≤ 8 * (k / 7) + (c.val + 7 - k % 7) % 8 else a ≤ isl (k - 28)) := by
  unfold D; rw [Finset.mem_filter, Finset.mem_range]; rfl

theorem D_all (c : Dev nD) : D c 0 0 = Finset.range 56 := by
  ext k; rw [mem_D, Finset.mem_range]; simp
theorem D_none (c : Dev nD) : D c 32 28 = ∅ := by
  ext k; rw [mem_D]; have := dev_val_lt c; unfold isl
  simp only [Finset.notMem_empty, iff_false]; split <;> omega

theorem D_own (c : Dev nD) {s : ℕ} (a : ℕ) (hs : s % 8 = c.val) : D c s a = D c (s + 1) a := by
  ext k; rw [mem_D, mem_D]; have := dev_val_lt c; split <;> omega

theorem D_send (c : Dev nD) {s : ℕ} (a : ℕ) (h : s < 32) (hs : s % 8 ≠ c.val) :
    D c s a = insert (js c s) (D c (s + 1) a) ∧ js c s ∉ D c (s + 1) a := by
  have := dev_val_lt c
  have hj := js_lt h hs
  constructor
  · ext k; rw [Finset.mem_insert, mem_D, mem_D]; unfold js at *; split <;> omega
  · rw [mem_D, if_pos hj]; unfold js at *; omega

theorem D_gather (c : Dev nD) (s : ℕ) {t : ℕ} (h : t < 28) :
    D c s t = insert (28 + isl t) (D c s (t + 1)) ∧ 28 + isl t ∉ D c s (t + 1) := by
  have h2 := isl_isl t
  constructor
  · ext k; rw [Finset.mem_insert, mem_D, mem_D]; unfold isl at *; split <;> omega
  · rw [mem_D, if_neg (by omega), Nat.add_sub_cancel_left, h2]; omega

end Cert.RingProof
end
-- ==== Proof.State.lean ====
/-
# What a device holds while it works

`St` is what device `c` holds between two operations: what it still owes and the tokens, landing slots and (first kind)
source slots of the transfers it has not sent; the credits of those it has; its reduced pieces; its receive semaphores,
`w` of them waited for; its five blocks; and its partial result, known row piece by row piece (`T`).
-/
module

public import proofs.«01_k».proof.Proof.Base
public import Idealize.SL.BI.BigOpNat

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores as the program names them -/

theorem row1 (i : S56.Idx) : (S56.rowMajor i : ℕ) = (i 0 : ℕ) := Shape.rowMajor_val_one i
theorem at_zero (i : S1.Idx) : (i 0 : ℕ) = 0 := by have h : (i 0 : ℕ) < 1 := (i 0).isLt; omega

theorem sem_sndS {k : ℕ} (hk : k < 56) {off : Fin 1 → ℕ} (ho : off = ![k]) (inb : ∀ a, off a + S1.size a ≤ S56.size a) :
    ((cc0_scratch4.slice (Rect.unit (s := S56) off S1.size inb) : DmaSems sig S1).squeeze S_ squeezes_S1_S_ : DmaSems sig S_).sem = sndS k := by
  subst ho
  refine Fin.ext ?_
  show 6 + (S56.rowMajor _ : ℕ) = 6 + k % 56
  rw [Nat.mod_eq_of_lt hk]
  refine congrArg (6 + ·) ((row1 _).trans ?_)
  exact congrArg (k + 1 * ·) (at_zero _)
theorem sem_rcvS {k : ℕ} (hk : k < 56) {off : Fin 1 → ℕ} (ho : off = ![k]) (inb : ∀ a, off a + S1.size a ≤ S56.size a) :
    ((cc0_scratch5.slice (Rect.unit (s := S56) off S1.size inb) : DmaSems sig S1).squeeze S_ squeezes_S1_S_ : DmaSems sig S_).sem = rcvS k := by
  subst ho
  refine Fin.ext ?_
  show 62 + (S56.rowMajor _ : ℕ) = 62 + k % 56
  rw [Nat.mod_eq_of_lt hk]
  refine congrArg (62 + ·) ((row1 _).trans ?_)
  exact congrArg (k + 1 * ·) (at_zero _)

/-! ## The semaphores every device knows of -/

/-- The barrier semaphore, the 56 send semaphores, the 56 receive semaphores. -/
def ksem (i : Fin 113) : SemLoc sig := if h : i.val = 0 then .reg barS else .dma (⟨5 + i.val, by have := i.isLt; omega⟩ : Fin 118)
abbrev kcell (x : Dev nD × Fin 113) : GSem nD τ sig := ((x.1 : Thread nD τ), ksem x.2)

theorem ksem_bar : ksem 0 = .reg barS := rfl
theorem ksem_snd (k : ℕ) : ksem ⟨1 + k % 56, by have := Nat.mod_lt k (show 0 < 56 by decide); omega⟩ = .dma (sndS k) := by
  unfold ksem; rw [dif_neg (by show ¬ 1 + k % 56 = 0; omega)]
  exact congrArg SemLoc.dma (Fin.ext (by show 5 + (1 + k % 56) = 6 + k % 56; omega))
theorem ksem_rcv (k : ℕ) : ksem ⟨57 + k % 56, by have := Nat.mod_lt k (show 0 < 56 by decide); omega⟩ = .dma (rcvS k) := by
  unfold ksem; rw [dif_neg (by show ¬ 57 + k % 56 = 0; omega)]
  exact congrArg SemLoc.dma (Fin.ext (by show 5 + (57 + k % 56) = 62 + k % 56; omega))

variable (V : Msgs F)

def known (g : GSem nD τ sig) : sProp 𝕄 := iprop((∃ κ, cellInv ER (exch V) κ g) ∗ reached ER g 0)
instance known_persistent (g : GSem nD τ sig) : Persistent (known V g) := by unfold known; infer_instance

/-- The semaphores' invariants, and the order of the waits. -/
def Rec : sProp 𝕄 := iprop((bigSep Finset.univ fun x : Dev nD × Fin 113 => known V (kcell x)) ∗ levAts L lv)
instance rec_persistent : Persistent (Rec V) := by unfold Rec; infer_instance

theorem rec_elim (x : Dev nD × Fin 113) : (bigSep Finset.univ fun x : Dev nD × Fin 113 => known V (kcell x) : sProp 𝕄) ⊢ known V (kcell x) :=
  bigSep_elim (Finset.mem_univ x)

theorem rec_bar (c : Dev nD) : Rec V ⊢ known V (barC c) := by
  unfold Rec
  iintro ⟨H, -⟩
  iapply (rec_elim V (c, 0)) $$ H
theorem rec_snd (c : Dev nD) (k : ℕ) : Rec V ⊢ known V (sndC c k) := by
  unfold Rec sndC
  rw [← ksem_snd k]
  iintro ⟨H, -⟩
  iapply (rec_elim V (c, _)) $$ H
theorem rec_rcv (c : Dev nD) (k : ℕ) : Rec V ⊢ known V (rcvC c k) := by
  unfold Rec rcvC
  rw [← ksem_rcv k]
  iintro ⟨H, -⟩
  iapply (rec_elim V (c, _)) $$ H
theorem rec_lev : Rec V ⊢ levAts L lv := by
  unfold Rec
  iintro ⟨-, H⟩; iexact H

/-! ## A transfer out of a slot into a peer's slot -/

section Send
variable {n n' : ℕ} [NeZero n] [NeZero n'] (M : Sc n) (M' : Sc n')

theorem wp_send_slot (c p : Dev nD) {i j : ℕ} (hi : i < n) (hj : j < n') (q : PosShare TreeShare) (w w₀ : Msg F) {sS sR : DmaSem sig} {κ₁ κ₂ : ℕ}
    {oi oj : Fin 3 → ℕ} (ho : oi = ![i, 0, 0]) (ho' : oj = ![j, 0, 0])
    {inb : ∀ a, oi a + S1x64x1024.size a ≤ (⟨3, ![n, 64, 1024]⟩ : Shape).size a} {inb' : ∀ a, oj a + S1x64x1024.size a ≤ (⟨3, ![n', 64, 1024]⟩ : Shape).size a}
    {hr hr' hsc hsrc hdst hsem}
    (hd₁ : (0 : Fin 7) ∈ (exch V).duties ((c : Thread nD τ), .dma sS) 0) (hd₂ : (0 : Fin 7) ∈ (exch V).duties ((p : Thread nD τ), .dma sR) 0)
    (ha₁ : (exch V).amount ((c : Thread nD τ), .dma sS) 0 0 = N) (ha₂ : (exch V).amount ((p : Thread nD τ), .dma sR) 0 0 = N)
    {O₀ : CellTallies nD τ sig Unit} (O : CellTallies nD τ sig Unit) (hO : O₀ = O + tallyAt ((p : Thread nD τ), .dma sR) () N) (W : Waits sig Unit)
    (hp₁ : slotPts M c i q w ⊢ (exch V).payload ((c : Thread nD τ), .dma sS) 0 0)
    (hp₂ : slotPts M' p j fullShare w ⊢ (exch V).payload ((p : Thread nD τ), .dma sR) 0 0)
    {α : Type} {Q : α → sProp 𝕄} {k : PUnit → Prog (TpuEff nD τ sig (Elt F) Λ₀ .tc) α} :
    iprop(cellInv ER (exch V) κ₁ ((c : Thread nD τ), .dma sS) ∗ cellInv ER (exch V) κ₂ ((p : Thread nD τ), .dma sR)
        ∗ slotPts M c i q w ∗ slotPts M' p j fullShare w₀ ∗ owes (c : Thread nD τ) O₀ W
        ∗ dutyTok ER ((c : Thread nD τ), .dma sS) 0 0 ∗ reached ER ((c : Thread nD τ), .dma sS) 0
        ∗ dutyTok ER ((p : Thread nD τ), .dma sR) 0 0 ∗ reached ER ((p : Thread nD τ), .dma sR) 0)
      ⊢ iprop(((cred (tallyAt ((c : Thread nD τ), .dma sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := ⟨3, ![n, 64, 1024]⟩) oi S1x64x1024.size inb) hr).squeeze S64x1024 squeezes_S1x64x1024_S64x1024)
                (.remote (Dev.tc p : Thread nD τ) ((M'.slice (Rect.unit (s := ⟨3, ![n', 64, 1024]⟩) oj S1x64x1024.size inb') hr').squeeze S64x1024 squeezes_S1x64x1024_S64x1024) (.dma sS) hsc)
                (.dma sR) hsrc hdst hsem) k) Q) := by
  obtain rfl : oi = ![i % n, 0, 0] := by rw [ho, Nat.mod_eq_of_lt hi]
  obtain rfl : oj = ![j % n', 0, 0] := by rw [ho', Nat.mod_eq_of_lt hj]
  have e₁ : (((M.slice (slotR n i) hr).squeeze S64x1024 squeezes_S1x64x1024_S64x1024).view.loc (c : Thread nD τ)
      ↦[((M.slice (slotR n i) hr).squeeze S64x1024 squeezes_S1x64x1024_S64x1024).view.set]{q} canon M i w : sProp 𝕄) = slotPts M c i q w := by
    have hs := View.set_reshape (slotV M i) (s' := S64x1024) (by decide)
    exact congrArg (fun S => ((slotV M i).loc (c : Thread nD τ) ↦[S]{q} canon M i w : sProp 𝕄)) hs
  have e₂ : ∀ f : (slotV M' j).ty.Contents (Elt F), (((M'.slice (slotR n' j) hr').squeeze S64x1024 squeezes_S1x64x1024_S64x1024).view.loc (p : Thread nD τ)
      ↦[((M'.slice (slotR n' j) hr').squeeze S64x1024 squeezes_S1x64x1024_S64x1024).view.set]{fullShare} f : sProp 𝕄)
      = ((slotV M' j).loc (p : Thread nD τ) ↦[(slotV M' j).set]{fullShare} f : sProp 𝕄) := fun f => by
    have hs := View.set_reshape (slotV M' j) (s' := S64x1024) (by decide)
    exact congrArg (fun S => ((slotV M' j).loc (p : Thread nD τ) ↦[S]{fullShare} f : sProp 𝕄)) hs
  have h := Rounds.wp_send_pointsTo (defs := defs₀ (F := F)) (Γ := []) 𝒱₀ ER (exch V) (c : Thread nD τ) none (κ₁ := κ₁) (κ₂ := κ₂) (r₁ := 0) (r₂ := 0) (d₁ := 0) (d₂ := 0) (c' := (p : Thread nD τ))
    (src := (M.slice (slotR n i) hr).squeeze S64x1024 squeezes_S1x64x1024_S64x1024)
    (dst := (M'.slice (slotR n' j) hr').squeeze S64x1024 squeezes_S1x64x1024_S64x1024) (sS := .dma sS) (sem := .dma sR)
    (hsc := hsc) (hsrc := hsrc) (hdst := hdst) (hsem := hsem) (k := k) (Q := Q) (q := q) (fs := canon M i w) (fd := canon M' j w₀)
    hd₁ hd₂ () () N rfl ha₁ ha₂ O hO (W := W) (by rw [e₁]; exact hp₁)
    (by
      rw [e₂]
      have h3 := landed_slot M M' i j w (canon M' j w₀) (by decide) (by decide)
      have h4 := slot_of_read M' p j fullShare w _ h3
      rw [← h4] at hp₂
      exact hp₂) (Es := Set.univ)
  rw [e₁, e₂] at h
  exact h

end Send

/-! ## The state -/

/-- A device's five blocks, as its staging buffers hold them. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

abbrev m0 : Memref sig .tc .vmem S2048x1024 .bf16 := Memref.whole cc0_stg0_0
abbrev m1 : Memref sig .tc .vmem S1024x1024 .bf16 := Memref.whole cc0_stg1_0
abbrev m2 : Memref sig .tc .vmem S2048x1024 .bf16 := Memref.whole cc0_stg2_0
abbrev m3 : Memref sig .tc .vmem S2048x1024 .bf16 := Memref.whole cc0_stg3_0
abbrev m4 : Memref sig .tc .vmem S1024x1024 .bf16 := Memref.whole cc0_stg4_0
abbrev m5 : Memref sig .tc .vmem S2048x1024 .f32 := Memref.whole cc0_stg5_0

/-- What a row piece of the result holds. -/
abbrev Rows (F : FTy → Type) : Type := S64x1024.Idx → Elt F .f32

theorem row_inb (s : ℕ) : ∀ a, (![64 * (s % 32), 0] : Fin 2 → ℕ) a + S64x1024.size a ≤ S2048x1024.size a := by
  intro a
  have := Nat.mod_lt s (show 0 < 32 by decide)
  fin_cases a
  · show 64 * (s % 32) + 64 ≤ 2048; omega
  · show 0 + 1024 ≤ 1024; omega
theorem pair_inb (p : ℕ) : ∀ a, (![512 * (p % 4), 0] : Fin 2 → ℕ) a + S512x1024.size a ≤ S2048x1024.size a := by
  intro a
  have := Nat.mod_lt p (show 0 < 4 by decide)
  fin_cases a
  · show 512 * (p % 4) + 512 ≤ 2048; omega
  · show 0 + 1024 ≤ 1024; omega

/-- The `s`-th of the 32 row pieces; the `p`-th of the 4 row quarters. -/
abbrev rowR (s : ℕ) : Rect S2048x1024 := Rect.unit (s := S2048x1024) ![64 * (s % 32), 0] S64x1024.size (row_inb s)
abbrev pairR (p : ℕ) : Rect S2048x1024 := Rect.unit (s := S2048x1024) ![512 * (p % 4), 0] S512x1024.size (pair_inb p)

def rowsOf (M : Memref sig .tc .vmem S2048x1024 .f32) (f : M.view.ty.Contents (Elt F)) (s : ℕ) : Rows F := (M.access (rowR s)).read (Elt F) f

/-- The `j`-th 64 rows of 512. -/
def cut (w : S512x1024.Idx → Elt F .f32) (j : ℕ) : Rows F := fun i =>
  w (Fin.cons (α := fun a => Fin (S512x1024.size a)) (⟨64 * (j % 8) + (i 0 : ℕ), by
    have h : (i 0 : ℕ) < 64 := (i 0).isLt
    have := Nat.mod_lt j (show 0 < 8 by decide)
    show _ < 512; omega⟩ : Fin 512) (Fin.cons (i 1) (fun a => a.elim0)))

def Owe (c : Dev nD) (Dn : Finset ℕ) : sProp 𝕄 := iprop(∃ W, owes (c : Thread nD τ) (O c Dn) W)

/-- The source slot of a transfer of the first kind. -/
def srcSlot (c : Dev nD) (k : ℕ) : sProp 𝕄 := if k < 28 then iprop(∃ w, slotPts m6 c (isl k) fullShare w) else iprop(emp)
/-- What sending transfer `k` takes. -/
def kit (c : Dev nD) (k : ℕ) : sProp 𝕄 :=
  iprop((dutyTok ER (sndC c (sc k)) 0 (0 : Fin 7) ∗ dutyTok ER (rcvC (ow c k) k) 0 (0 : Fin 7)) ∗ landing (ow c k) k ∗ srcSlot c k)
def Kits (c : Dev nD) (Dn : Finset ℕ) : sProp 𝕄 := bigSep Dn (kit c)
def Sent (c : Dev nD) (Dn : Finset ℕ) : sProp 𝕄 := bigSep (Finset.range 56 \ Dn) fun k => cred (tallyAt (sndC c (sc k)) () N)
def Red (c : Dev nD) (g : ℕ) (P : Finset ℕ) : sProp 𝕄 :=
  iprop((bigSep (Finset.Ico g 4) fun q => iprop(∃ w, slotPts m8 c q fullShare w)) ∗ bigSep P (piece V c))
def Rcv (c : Dev nD) (w : ℕ) : sProp 𝕄 :=
  iprop((bigSep (Finset.Ico w 56) fun k => iprop(cred (tallyAt (rcvC c k) () N) ∗ atPos ER (rcvC c k) 0 ∅ 0))
    ∗ bigSep (Finset.range w) fun k => iprop(atPos ER (rcvC c k) 1 ∅ 0 ∗ rcvPay V c k))

variable (I : Ins F)

def Inp (c : Dev nD) : sProp 𝕄 :=
  iprop((((c : Thread nD τ).loc cc0_stg0_0) ↦{fullShare} I.x) ∗ (((c : Thread nD τ).loc cc0_stg1_0) ↦{fullShare} I.wq)
    ∗ (((c : Thread nD τ).loc cc0_stg2_0) ↦{fullShare} I.k) ∗ (((c : Thread nD τ).loc cc0_stg3_0) ↦{fullShare} I.v)
    ∗ (((c : Thread nD τ).loc cc0_stg4_0) ↦{fullShare} I.wo))

def Out (c : Dev nD) (T : ℕ → Rows F) : sProp 𝕄 :=
  iprop(∃ f : (cc0_stg5_0 : Ref sig .tc).ty.Contents (Elt F), ⌜∀ s, s < 32 → rowsOf m5 f s = T s⌝ ∗ (((c : Thread nD τ).loc cc0_stg5_0) ↦{fullShare} f))

def St (c : Dev nD) (Dn : Finset ℕ) (g : ℕ) (P : Finset ℕ) (w : ℕ) (T : ℕ → Rows F) : sProp 𝕄 :=
  iprop(Rec V ∗ Owe c Dn ∗ Kits c Dn ∗ Sent c Dn ∗ Red V c g P ∗ Rcv V c w ∗ Inp I c ∗ Out c T)

end Cert.RingProof
end
-- ==== Proof.Steps.lean ====
/-
# One operation at a time

Each theorem takes one operation of the program from the state before it to the state after it.
-/
module

public import proofs.«01_k».proof.Proof.State

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

/-! ## Loads of the device's own blocks -/

theorem st_in0 {α : Type} {Q : α → sProp 𝕄} {r : LoadRect S2048x1024} {hl : m0.view.LoadsAt r} {p : (r.shape.Idx → Elt F .bf16) → Prog (TpuEff nD τ sig (Elt F) Λ₀ .tc) α} :
    St V I c Dn g P w T ⊢ iprop((St V I c Dn g P w T -∗ wp frame (wpE (defs₀ (F := F)) 𝒱₀ (c : Thread nD τ) none) Set.univ (p (m0.view.readAt (Elt F) r I.x)) Q)
      -∗ wp frame (wpE (defs₀ (F := F)) 𝒱₀ (c : Thread nD τ) none) Set.univ (.op (.load m0 r hl) p) Q) := by
  unfold St Inp
  iintro ⟨HR, HO, HK, HC, H8, HV, ⟨H0, H1, H2, H3, H4⟩, HT⟩ Hk
  have h := wp_load (defs := defs₀ (F := F)) (Γ := []) 𝒱₀ (c : Thread nD τ) none Set.univ (m := m0) (r := r) (hl := hl) (k := p) (Q := Q) (q := fullShare) (f := I.x) (S := Finset.univ) (Finset.subset_univ _)
  iapply h $$ H0
  iintro H0
  iapply Hk
  iframe HR HO HK HC H8 HV HT
  iframe H0 H1 H2 H3
  iexact H4

theorem st_in1 {α : Type} {Q : α → sProp 𝕄} {r : LoadRect S1024x1024} {hl : m1.view.LoadsAt r} {p : (r.shape.Idx → Elt F .bf16) → Prog (TpuEff nD τ sig (Elt F) Λ₀ .tc) α} :
    St V I c Dn g P w T ⊢ iprop((St V I c Dn g P w T -∗ wp frame (wpE (defs₀ (F := F)) 𝒱₀ (c : Thread nD τ) none) Set.univ (p (m1.view.readAt (Elt F) r I.wq)) Q)
      -∗ wp frame (wpE (defs₀ (F := F)) 𝒱₀ (c : Thread nD τ) none) Set.univ (.op (.load m1 r hl) p) Q) := by
  unfold St Inp
  iintro ⟨HR, HO, HK, HC, H8, HV, ⟨H0, H1, H2, H3, H4⟩, HT⟩ Hk
  have h := wp_load (defs := defs₀ (F := F)) (Γ := []) 𝒱₀ (c : Thread nD τ) none Set.univ (m := m1) (r := r) (hl := hl) (k := p) (Q := Q) (q := fullShare) (f := I.wq) (S := Finset.univ) (Finset.subset_univ _)
  iapply h $$ H1
  iintro H1
  iapply Hk
  iframe HR HO HK HC H8 HV HT
  iframe H0 H1 H2 H3
  iexact H4

theorem st_in2 {α : Type} {Q : α → sProp 𝕄} {r : LoadRect S2048x1024} {hl : m2.view.LoadsAt r} {p : (r.shape.Idx → Elt F .bf16) → Prog (TpuEff nD τ sig (Elt F) Λ₀ .tc) α} :
    St V I c Dn g P w T ⊢ iprop((St V I c Dn g P w T -∗ wp frame (wpE (defs₀ (F := F)) 𝒱₀ (c : Thread nD τ) none) Set.univ (p (m2.view.readAt (Elt F) r I.k)) Q)
      -∗ wp frame (wpE (defs₀ (F := F)) 𝒱₀ (c : Thread nD τ) none) Set.univ (.op (.load m2 r hl) p) Q) := by
  unfold St Inp
  iintro ⟨HR, HO, HK, HC, H8, HV, ⟨H0, H1, H2, H3, H4⟩, HT⟩ Hk
  have h := wp_load (defs := defs₀ (F := F)) (Γ := []) 𝒱₀ (c : Thread nD τ) none Set.univ (m := m2) (r := r) (hl := hl) (k := p) (Q := Q) (q := fullShare) (f := I.k) (S := Finset.univ) (Finset.subset_univ _)
  iapply h $$ H2
  iintro H2
  iapply Hk
  iframe HR HO HK HC H8 HV HT
  iframe H0 H1 H2 H3
  iexact H4

theorem st_in3 {α : Type} {Q : α → sProp 𝕄} {r : LoadRect S2048x1024} {hl : m3.view.LoadsAt r} {p : (r.shape.Idx → Elt F .bf16) → Prog (TpuEff nD τ sig (Elt F) Λ₀ .tc) α} :
    St V I c Dn g P w T ⊢ iprop((St V I c Dn g P w T -∗ wp frame (wpE (defs₀ (F := F)) 𝒱₀ (c : Thread nD τ) none) Set.univ (p (m3.view.readAt (Elt F) r I.v)) Q)
      -∗ wp frame (wpE (defs₀ (F := F)) 𝒱₀ (c : Thread nD τ) none) Set.univ (.op (.load m3 r hl) p) Q) := by
  unfold St Inp
  iintro ⟨HR, HO, HK, HC, H8, HV, ⟨H0, H1, H2, H3, H4⟩, HT⟩ Hk
  have h := wp_load (defs := defs₀ (F := F)) (Γ := []) 𝒱₀ (c : Thread nD τ) none Set.univ (m := m3) (r := r) (hl := hl) (k := p) (Q := Q) (q := fullShare) (f := I.v) (S := Finset.univ) (Finset.subset_univ _)
  iapply h $$ H3
  iintro H3
  iapply Hk
  iframe HR HO HK HC H8 HV HT
  iframe H0 H1 H2 H3
  iexact H4

theorem st_in4 {α : Type} {Q : α → sProp 𝕄} {r : LoadRect S1024x1024} {hl : m4.view.LoadsAt r} {p : (r.shape.Idx → Elt F .bf16) → Prog (TpuEff nD τ sig (Elt F) Λ₀ .tc) α} :
    St V I c Dn g P w T ⊢ iprop((St V I c Dn g P w T -∗ wp frame (wpE (defs₀ (F := F)) 𝒱₀ (c : Thread nD τ) none) Set.univ (p (m4.view.readAt (Elt F) r I.wo)) Q)
      -∗ wp frame (wpE (defs₀ (F := F)) 𝒱₀ (c : Thread nD τ) none) Set.univ (.op (.load m4 r hl) p) Q) := by
  unfold St Inp
  iintro ⟨HR, HO, HK, HC, H8, HV, ⟨H0, H1, H2, H3, H4⟩, HT⟩ Hk
  have h := wp_load (defs := defs₀ (F := F)) (Γ := []) 𝒱₀ (c : Thread nD τ) none Set.univ (m := m4) (r := r) (hl := hl) (k := p) (Q := Q) (q := fullShare) (f := I.wo) (S := Finset.univ) (Finset.subset_univ _)
  iapply h $$ H4
  iintro H4
  iapply Hk
  iframe HR HO HK HC H8 HV HT
  iframe H0 H1 H2 H3
  iexact H4

/-! ## The partial result -/

omit [FloatOps F] in
theorem rows_write_same (M : Memref sig .tc .vmem S2048x1024 .f32) (f : M.view.ty.Contents (Elt F)) (s : ℕ) (v : Rows F) :
    rowsOf M ((M.access (rowR s)).write (Elt F) f v Finset.univ) s = v := funext fun x => View.read_write_of_mem _ _ (Finset.mem_univ x)

omit [FloatOps F] in
theorem rows_write_other (M : Memref sig .tc .vmem S2048x1024 .f32) (f : M.view.ty.Contents (Elt F)) {s s' : ℕ} (hs : s < 32) (hs' : s' < 32) (h : s' ≠ s) (v : Rows F) :
    rowsOf M ((M.access (rowR s)).write (Elt F) f v Finset.univ) s' = rowsOf M f s' := by
  have e1 : s % 32 = s := Nat.mod_eq_of_lt hs
  have e2 : s' % 32 = s' := Nat.mod_eq_of_lt hs'
  funext x
  show (M.access (rowR s')).read (Elt F) _ x = (M.access (rowR s')).read (Elt F) _ x
  rw [View.read_apply, View.read_apply, View.write_of_not_mem]
  intro hm
  have hm : (M.access (rowR s')).emb x ∈ (M.access (rowR s)).set := hm
  rw [View.set_slice] at hm
  obtain ⟨y, hy, he⟩ := Finset.mem_map.mp hm
  have h0 : 64 * (s % 32) ≤ (y 0 : ℕ) ∧ (y 0 : ℕ) < 64 * (s % 32) + 64 := Rect.mem_set_unit.mp hy 0
  have hx : (x 0 : ℕ) < 64 := (x 0).isLt
  have h1 : (y 0 : ℕ) = 64 * (s' % 32) + 1 * (x 0 : ℕ) := congrArg (fun i : S2048x1024.Idx => (i 0 : ℕ)) (M.view.emb.injective he)
  omega

omit [FloatOps F] in
theorem rows_write_pair (M : Memref sig .tc .vmem S2048x1024 .f32) (f : M.view.ty.Contents (Elt F)) {p s : ℕ} (hp : p < 4) (hs : s < 32) (v : S512x1024.Idx → Elt F .f32) :
    rowsOf M ((M.access (pairR p)).write (Elt F) f v Finset.univ) s = if s / 8 = p then cut v (s % 8) else rowsOf M f s := by
  have e1 : s % 32 = s := Nat.mod_eq_of_lt hs
  have e2 : p % 4 = p := Nat.mod_eq_of_lt hp
  by_cases h : s / 8 = p
  · rw [if_pos h]
    funext x
    have hx : (x 0 : ℕ) < 64 := (x 0).isLt
    show (M.access (rowR s)).read (Elt F) _ x = _
    unfold cut
    rw [← View.read_write_of_mem (v := M.access (pairR p)) f v (Finset.mem_univ _), View.read_apply, View.read_apply]
    refine congrArg (fun i => cast _ ((M.access (pairR p)).write (Elt F) f v Finset.univ i)) ?_
    refine congrArg M.view.emb (funext fun a => Fin.ext ?_)
    fin_cases a
    · show 64 * (s % 32) + 1 * (x 0 : ℕ) = 512 * (p % 4) + 1 * (64 * (s % 8 % 8) + (x 0 : ℕ)); omega
    · rfl
  · rw [if_neg h]
    funext x
    show (M.access (rowR s)).read (Elt F) _ x = (M.access (rowR s)).read (Elt F) _ x
    rw [View.read_apply, View.read_apply, View.write_of_not_mem]
    intro hm
    have hm : (M.access (rowR s)).emb x ∈ (M.access (pairR p)).set := hm
    rw [View.set_slice] at hm
    obtain ⟨y, hy, he⟩ := Finset.mem_map.mp hm
    have h0 : 512 * (p % 4) ≤ (y 0 : ℕ) ∧ (y 0 : ℕ) < 512 * (p % 4) + 512 := Rect.mem_set_unit.mp hy 0
    have hx : (x 0 : ℕ) < 64 := (x 0).isLt
    have h1 : (y 0 : ℕ) = 64 * (s % 32) + 1 * (x 0 : ℕ) := congrArg (fun i : S2048x1024.Idx => (i 0 : ℕ)) (M.view.emb.injective he)
    omega

/-- A load of any of it. -/
theorem st_out {α : Type} {Q : α → sProp 𝕄} {r : LoadRect S2048x1024} {hl : m5.view.LoadsAt r} {p : (r.shape.Idx → Elt F .f32) → Prog (TpuEff nD τ sig (Elt F) Λ₀ .tc) α} :
    St V I c Dn g P w T ⊢ iprop((∀ v, St V I c Dn g P w T -∗ wp frame (wpE (defs₀ (F := F)) 𝒱₀ (c : Thread nD τ) none) Set.univ (p v) Q)
      -∗ wp frame (wpE (defs₀ (F := F)) 𝒱₀ (c : Thread nD τ) none) Set.univ (.op (.load m5 r hl) p) Q) := by
  unfold St Out
  iintro ⟨HR, HO, HK, HC, H8, HV, HI, ⟨%f, %hf, HT⟩⟩ Hk
  have h := wp_load (defs := defs₀ (F := F)) (Γ := []) 𝒱₀ (c : Thread nD τ) none Set.univ (m := m5) (r := r) (hl := hl) (k := p) (Q := Q) (q := fullShare) (f := f) (S := Finset.univ) (Finset.subset_univ _)
  iapply h $$ HT
  iintro HT
  iapply Hk $$ %(m5.view.readAt (Elt F) r f)
  iframe HR HO HK HC H8 HV HI
  iexists f
  isplitr
  · ipureintro; exact hf
  · iexact HT

/-- A load of a row piece. -/
theorem st_rows {α : Type} {Q : α → sProp 𝕄} {s : ℕ} (hs : s < 32) {off : Fin 2 → ℕ} (ho : off = ![64 * s, 0]) {inb : ∀ a, off a + S64x1024.size a ≤ S2048x1024.size a}
    {hl : m5.view.LoadsAt (Rect.unit (s := S2048x1024) off S64x1024.size inb).toLoadRect} {p : Rows F → Prog (TpuEff nD τ sig (Elt F) Λ₀ .tc) α} :
    St V I c Dn g P w T ⊢ iprop((St V I c Dn g P w T -∗ wp frame (wpE (defs₀ (F := F)) 𝒱₀ (c : Thread nD τ) none) Set.univ (p (T s)) Q)
      -∗ wp frame (wpE (defs₀ (F := F)) 𝒱₀ (c : Thread nD τ) none) Set.univ (.op (.load m5 (Rect.unit (s := S2048x1024) off S64x1024.size inb).toLoadRect hl) p) Q) := by
  obtain rfl : off = ![64 * (s % 32), 0] := by rw [ho, Nat.mod_eq_of_lt hs]
  unfold St Out
  iintro ⟨HR, HO, HK, HC, H8, HV, HI, ⟨%f, %hf, HT⟩⟩ Hk
  have h := wp_load (defs := defs₀ (F := F)) (Γ := []) 𝒱₀ (c : Thread nD τ) none Set.univ (m := m5) (r := (rowR s).toLoadRect) (hl := hl) (k := p) (Q := Q) (q := fullShare) (f := f) (S := Finset.univ) (Finset.subset_univ _)
  have e : m5.view.readAt (Elt F) (rowR s).toLoadRect f = T s := hf s hs
  rw [e] at h
  iapply h $$ HT
  iintro HT
  iapply Hk
  iframe HR HO HK HC H8 HV HI
  iexists f
  isplitr
  · ipureintro; exact hf
  · iexact HT

/-- A store of a row piece. -/
theorem st_set_rows {α : Type} {Q : α → sProp 𝕄} {s : ℕ} (hs : s < 32) (v : Rows F) {off : Fin 2 → ℕ} (ho : off = ![64 * s, 0]) {inb : ∀ a, off a + S64x1024.size a ≤ S2048x1024.size a}
    {hx : (m5.access (Rect.unit (s := S2048x1024) off S64x1024.size inb)).Stores Finset.univ} {hm} {p : PUnit → Prog (TpuEff nD τ sig (Elt F) Λ₀ .tc) α} :
    St V I c Dn g P w T ⊢ iprop((St V I c Dn g P w (Function.update T s v) -∗ wp frame (wpE (defs₀ (F := F)) 𝒱₀ (c : Thread nD τ) none) Set.univ (p ⟨⟩) Q)
      -∗ wp frame (wpE (defs₀ (F := F)) 𝒱₀ (c : Thread nD τ) none) Set.univ (.op (.store m5 (Rect.unit (s := S2048x1024) off S64x1024.size inb) v Finset.univ hx hm) p) Q) := by
  obtain rfl : off = ![64 * (s % 32), 0] := by rw [ho, Nat.mod_eq_of_lt hs]
  unfold St Out
  iintro ⟨HR, HO, HK, HC, H8, HV, HI, ⟨%f, %hf, HT⟩⟩ Hk
  have h := wp_store (defs := defs₀ (F := F)) (Γ := []) 𝒱₀ (c : Thread nD τ) none Set.univ (m := m5) (r := rowR s) (w := v) (Mk := Finset.univ) (hx := hx) (hm := hm) (k := p) (Q := Q)
    (f := f) (S := Finset.univ) (Finset.subset_univ _)
  iapply h $$ HT
  iintro HT
  iapply Hk
  iframe HR HO HK HC H8 HV HI
  iexists ((m5.access (rowR s)).write (Elt F) f v Finset.univ)
  isplitr
  · ipureintro
    intro s' hs'
    by_cases e : s' = s
    · subst e; rw [Function.update_self]; exact rows_write_same m5 f s' v
    · rw [Function.update_of_ne e, rows_write_other m5 f hs hs' e]; exact hf s' hs'
  · iexact HT

/-- A store of a row quarter. -/
theorem st_set_pair {α : Type} {Q : α → sProp 𝕄} {pr : ℕ} (hpr : pr < 4) (v : S512x1024.Idx → Elt F .f32) {off : Fin 2 → ℕ} (ho : off = ![512 * pr, 0]) {inb : ∀ a, off a + S512x1024.size a ≤ S2048x1024.size a}
    {hx : (m5.access (Rect.unit (s := S2048x1024) off S512x1024.size inb)).Stores Finset.univ} {hm} {p : PUnit → Prog (TpuEff nD τ sig (Elt F) Λ₀ .tc) α} :
    St V I c Dn g P w T ⊢ iprop((St V I c Dn g P w (fun s => if s / 8 = pr then cut v (s % 8) else T s) -∗ wp frame (wpE (defs₀ (F := F)) 𝒱₀ (c : Thread nD τ) none) Set.univ (p ⟨⟩) Q)
      -∗ wp frame (wpE (defs₀ (F := F)) 𝒱₀ (c : Thread nD τ) none) Set.univ (.op (.store m5 (Rect.unit (s := S2048x1024) off S512x1024.size inb) v Finset.univ hx hm) p) Q) := by
  obtain rfl : off = ![512 * (pr % 4), 0] := by rw [ho, Nat.mod_eq_of_lt hpr]
  unfold St Out
  iintro ⟨HR, HO, HK, HC, H8, HV, HI, ⟨%f, %hf, HT⟩⟩ Hk
  have h := wp_store (defs := defs₀ (F := F)) (Γ := []) 𝒱₀ (c : Thread nD τ) none Set.univ (m := m5) (r := pairR pr) (w := v) (Mk := Finset.univ) (hx := hx) (hm := hm) (k := p) (Q := Q)
    (f := f) (S := Finset.univ) (Finset.subset_univ _)
  iapply h $$ HT
  iintro HT
  iapply Hk
  iframe HR HO HK HC H8 HV HI
  iexists ((m5.access (pairR pr)).write (Elt F) f v Finset.univ)
  isplitr
  · ipureintro
    intro s' hs'
    rw [rows_write_pair m5 f hpr hs', hf s' hs']
  · iexact HT

/-! ## Waits for what arrives -/

theorem st_wait {α : Type} {Q : α → sProp 𝕄} (hw : w < 56) (hlev : ∀ i ∈ Dn, lvOf (.rcv w) < lvOf (cls (debtC c i).2)) {off : Fin 1 → ℕ} (ho : off = ![w])
    {inb : ∀ a, off a + S1.size a ≤ S56.size a} {src dst : Memref sig .tc .vmem S64x1024 .bf16} {h₁ h₂} {p : PUnit → Prog (TpuEff nD τ sig (Elt F) Λ₀ .tc) α} :
    St V I c Dn g P w T ⊢ iprop((St V I c Dn g P (w + 1) T -∗ wp frame (wpE (defs₀ (F := F)) 𝒱₀ (c : Thread nD τ) none) Set.univ (p ⟨⟩) Q)
      -∗ wp frame (wpE (defs₀ (F := F)) 𝒱₀ (c : Thread nD τ) none) Set.univ (.op (.waitDma2 ((cc0_scratch5.slice (Rect.unit (s := S56) off S1.size inb) : DmaSems sig S1).squeeze S_ squeezes_S1_S_ : DmaSems sig S_).sem src dst h₁ h₂) p) Q) := by
  rw [sem_rcvS hw ho]
  unfold St Owe Rcv
  rw [bigSep_Ico_succ_bot hw]
  iintro ⟨#HR, ⟨%W, HO⟩, HK, HC, H8, ⟨⟨⟨Hc, Ha⟩, Hx⟩, Hy⟩, HI, HT⟩ Hk
  ihave Hn := (rec_rcv V c w) $$ HR
  unfold known
  icases Hn with ⟨⟨%κ, Hi⟩, -⟩
  ihave Hl := (rec_lev V) $$ HR
  have hm := mayWait (F := F) c (.dma (rcvS w)) Dn (by rw [cls_rcv hw]; exact hlev)
  have h := Rounds.wp_wait_rest_token (defs := defs₀ (F := F)) (Γ := []) 𝒱₀ ER (exch V) (c : Thread nD τ) none (κ := κ) (sm := .dma (rcvS w)) (k := p) (Q := Q)
    (wpE_waitDma2_eq (src := src) (dst := dst) (hsrc := h₁) (hdst := h₂) 𝒱₀ (c : Thread nD τ) none Set.univ) (Set.mem_univ _) () (O := O c Dn) (W := W) (R := 0) (m := 0) (T := ∅)
    (k' := N) (by rw [expect_rcv V c hw, Nat.zero_add])
  rw [rest_rcv V c hw] at h
  iapply h $$ [Hi Hc HO Hl Ha]
  · iframe Hi Hc HO Ha
    iapply hm $$ Hl
  iintro ⟨HO, Ha, -, Hp⟩
  iapply Hk
  iframe HR HK HC H8 HI HT
  isplitl [HO]
  · iexists _; iexact HO
  isplitl [Hx]
  · iexact Hx
  rw [bigSep_range_succ]
  iframe Hy Ha
  iexact Hp

/-! ## The first kind of transfer -/

theorem bigSep_put {J : Type} [DecidableEq J] {s : Finset J} {i : J} (hi : i ∉ s) (Φ : J → sProp 𝕄) : bigSep (insert i s) Φ = iprop(Φ i ∗ bigSep s Φ) := bigSep_insert hi

theorem sent_insert {k : ℕ} {Dn' : Finset ℕ} (hk : k < 56) (hn : k ∉ Dn') :
    (iprop(Sent c (insert k Dn') ∗ cred (tallyAt (sndC c (sc k)) () N)) : sProp 𝕄) ⊢ Sent c Dn' := by
  unfold Sent
  have e : Finset.range 56 \ Dn' = insert k (Finset.range 56 \ insert k Dn') := by
    ext x; simp only [Finset.mem_insert, Finset.mem_sdiff, Finset.mem_range]
    by_cases hx : x = k
    · subst hx; simp [hk, hn]
    · simp [hx]
  rw [e, bigSep_put (by simp)]
  iintro ⟨H, Hc⟩
  iframe Hc
  iexact H

/-- A piece written to its source slot and sent. -/
theorem st_flight_rs {α : Type} {Q : α → sProp 𝕄} {k : ℕ} (hk : k < 28) {Dn' : Finset ℕ} (hD : Dn = insert k Dn') (hn : k ∉ Dn') (v : Msg F) (hv : v = V.rs c (sub c k))
    {dv : Dev nD} (hdv : dv = ow c k) {o₁ o₃ o₄ : Fin 3 → ℕ} {o₂ o₂' : Fin 1 → ℕ}
    (h₁ : o₁ = ![isl k, 0, 0]) (h₂ : o₂ = ![k]) (h₂' : o₂' = ![k]) (h₃ : o₃ = ![k, 0, 0]) (h₄ : o₄ = ![isl k, 0, 0])
    {inb₁ inb₁' : ∀ a, o₁ a + S1x64x1024.size a ≤ S28x64x1024.size a} {inb₃ : ∀ a, o₃ a + S1x64x1024.size a ≤ S28x64x1024.size a} {inb₄ : ∀ a, o₄ a + S1x64x1024.size a ≤ S28x64x1024.size a}
    {inb₂ : ∀ a, o₂ a + S1.size a ≤ S56.size a} {inb₂' : ∀ a, o₂' a + S1.size a ≤ S56.size a}
    {hl hx hm hr hr' hsc hsrc hdst hsem} {p : PUnit → Prog (TpuEff nD τ sig (Elt F) Λ₀ .tc) α} :
    St V I c Dn g P w T ⊢ iprop((St V I c Dn' g P w T -∗ wp frame (wpE (defs₀ (F := F)) 𝒱₀ (c : Thread nD τ) none) Set.univ (p ⟨⟩) Q)
      -∗ wp frame (wpE (defs₀ (F := F)) 𝒱₀ (c : Thread nD τ) none) Set.univ
        (.op (.load m6 (Rect.unit (s := S28x64x1024) o₁ S1x64x1024.size inb₁).toLoadRect hl) fun _ =>
          .op (.store m6 (Rect.unit (s := S28x64x1024) o₁ S1x64x1024.size inb₁') v Finset.univ hx hm) fun _ =>
          .op (.enqueueDma ((m6.slice (Rect.unit (s := S28x64x1024) o₄ S1x64x1024.size inb₄) hr).squeeze S64x1024 squeezes_S1x64x1024_S64x1024)
                (.remote (Dev.tc dv : Thread nD τ) ((m7.slice (Rect.unit (s := S28x64x1024) o₃ S1x64x1024.size inb₃) hr').squeeze S64x1024 squeezes_S1x64x1024_S64x1024)
                  (.dma ((cc0_scratch4.slice (Rect.unit (s := S56) o₂ S1.size inb₂) : DmaSems sig S1).squeeze S_ squeezes_S1_S_ : DmaSems sig S_).sem) hsc)
                (.dma ((cc0_scratch5.slice (Rect.unit (s := S56) o₂' S1.size inb₂') : DmaSems sig S1).squeeze S_ squeezes_S1_S_ : DmaSems sig S_).sem) hsrc hdst hsem) p) Q) := by
  subst hD hdv
  have hk5 : k < 56 := by omega
  have hsc' : sc k = k := if_pos hk
  revert hsem
  rw [sem_sndS hk5 h₂, sem_rcvS hk5 h₂']
  intro hsem
  unfold St Owe Kits
  rw [bigSep_put hn]
  have ek : kit (F := F) c k = iprop((dutyTok ER (sndC c k) 0 (0 : Fin 7) ∗ dutyTok ER (rcvC (ow c k) k) 0 (0 : Fin 7)) ∗ (∃ w, slotPts m7 (ow c k) k fullShare w) ∗ ∃ w, slotPts m6 c (isl k) fullShare w) := by
    unfold kit landing srcSlot; rw [if_pos hk, if_pos hk, hsc']
  rw [ek]
  iintro ⟨#HR, ⟨%W, HO⟩, ⟨⟨⟨Hd₁, Hd₂⟩, ⟨%w₀, Hl⟩, ⟨%w₁, Hs⟩⟩, HK⟩, HC, H8, HV, HI, HT⟩ Hk
  iapply (wp_load_slot m6 c (isl_lt hk) w₁ h₁) $$ Hs
  iintro Hs
  iapply (wp_store_slot m6 c (isl_lt hk) w₁ v h₁) $$ Hs
  iintro Hs
  ihave Hn₁ := (rec_snd V c k) $$ HR
  ihave Hn₂ := (rec_rcv V (ow c k) k) $$ HR
  unfold known
  icases Hn₁ with ⟨⟨%κ₁, Hi₁⟩, Hr₁⟩
  icases Hn₂ with ⟨⟨%κ₂, Hi₂⟩, Hr₂⟩
  have e0 : O c (insert k Dn') = O c Dn' + tallyAt (rcvC (ow c k) k) () N := by
    rw [O_insert c hn]; unfold debtC debtN; rw [if_pos hk5, if_pos hk5]
  have hp₁ : slotPts m6 c (isl k) fullShare v ⊢ (exch V).payload (sndC c k) 0 0 := by
    rw [payload_snd V c hk5]; unfold sndPay; rw [if_pos hk, hv]
  have hp₂ : slotPts m7 (ow c k) k fullShare v ⊢ (exch V).payload (rcvC (ow c k) k) 0 0 := by
    rw [payload_rcv V (ow c k) hk5]; unfold rcvPay; rw [if_pos hk, fr_ow, hv]; exact Entails.of_eq rfl
  iapply (wp_send_slot V m6 m7 c (ow c k) (isl_lt hk) hk fullShare v w₀ (κ₁ := κ₁) (κ₂ := κ₂) h₄ h₃
    (by rw [duties_snd V c hk5]; exact Finset.mem_singleton_self _) (by rw [duties_rcv V _ hk5]; exact Finset.mem_singleton_self _)
    (amount_snd V c hk5 0) (amount_rcv V _ hk5 0) (O c Dn') e0 W hp₁ hp₂) $$ [Hi₁ Hi₂ Hs Hl HO Hd₁ Hr₁ Hd₂ Hr₂]
  · iframe Hi₁ Hi₂ Hs Hl HO Hd₁ Hr₁ Hd₂
    iexact Hr₂
  iintro ⟨Hc, HO⟩
  iapply Hk
  iframe HR HK H8 HV HI HT
  isplitl [HO]
  · iexists W; iexact HO
  iapply (sent_insert c hk5 hn)
  rw [hsc']
  iframe HC
  iexact Hc

/-- The guarded sending of piece `s` of the result: nothing for the device's own piece. -/
theorem st_send_rs {α : Type} {Q : α → sProp 𝕄} {s a : ℕ} (hs : s < 32) (msg : Rows F → Msg F) (hv : msg (T s) = V.rs c s) {cond : BitVec 1} (hc : cond = 1#1 ↔ s % 8 ≠ c.val) {dec : Decidable (cond = 1#1)}
    {dv : ℕ} (hdv : dv = s % 8) {hlt : cond = 1#1 → dv < nD} {o₀ : Fin 2 → ℕ} {o₁ o₃ o₄ : Fin 3 → ℕ} {o₂ : Fin 1 → ℕ} (h₀ : o₀ = ![64 * s, 0])
    (ho : cond = 1#1 → o₁ = ![isl (js c s), 0, 0] ∧ o₂ = ![js c s] ∧ o₃ = ![js c s, 0, 0] ∧ o₄ = ![isl (js c s), 0, 0])
    {inb₀ : ∀ a, o₀ a + S64x1024.size a ≤ S2048x1024.size a}
    {inb₁ inb₁' : cond = 1#1 → ∀ a, o₁ a + S1x64x1024.size a ≤ S28x64x1024.size a} {inb₃ : cond = 1#1 → ∀ a, o₃ a + S1x64x1024.size a ≤ S28x64x1024.size a} {inb₄ : cond = 1#1 → ∀ a, o₄ a + S1x64x1024.size a ≤ S28x64x1024.size a}
    {inb₂ inb₂' : cond = 1#1 → ∀ a, o₂ a + S1.size a ≤ S56.size a}
    {hl₀ : cond = 1#1 → m5.view.LoadsAt (Rect.unit (s := S2048x1024) o₀ S64x1024.size inb₀).toLoadRect}
    {hl : ∀ h : cond = 1#1, m6.view.LoadsAt (Rect.unit (s := S28x64x1024) o₁ S1x64x1024.size (inb₁ h)).toLoadRect}
    {hx : ∀ h : cond = 1#1, (m6.access (Rect.unit (s := S28x64x1024) o₁ S1x64x1024.size (inb₁' h))).Stores Finset.univ}
    {hm : ∀ h : cond = 1#1, (Finset.univ : Finset (Rect.unit (s := S28x64x1024) o₁ S1x64x1024.size (inb₁' h)).shape.Idx) = Finset.univ ∨ ∀ a, (Rect.unit (s := S28x64x1024) o₁ S1x64x1024.size (inb₁' h)).stride a = 1}
    {hr : ∀ h : cond = 1#1, ∀ a, (Rect.unit (s := S28x64x1024) o₄ S1x64x1024.size (inb₄ h)).stride a = 1}
    {hr' : ∀ h : cond = 1#1, ∀ a, (Rect.unit (s := S28x64x1024) o₃ S1x64x1024.size (inb₃ h)).stride a = 1}
    {hsc : ∀ h : cond = 1#1, ((m7.slice (Rect.unit (s := S28x64x1024) o₃ S1x64x1024.size (inb₃ h)) (hr' h)).squeeze S64x1024 squeezes_S1x64x1024_S64x1024).view.ref.isScScratch = false}
    {hsrc : ∀ h : cond = 1#1, ((m6.slice (Rect.unit (s := S28x64x1024) o₄ S1x64x1024.size (inb₄ h)) (hr h)).squeeze S64x1024 squeezes_S1x64x1024_S64x1024).view.WordExact}
    {hdst : ∀ h : cond = 1#1, ((m7.slice (Rect.unit (s := S28x64x1024) o₃ S1x64x1024.size (inb₃ h)) (hr' h)).squeeze S64x1024 squeezes_S1x64x1024_S64x1024).view.WordExact}
    {hsem : ∀ h : cond = 1#1, DmaTarget.Typed .vmem (.dma ((cc0_scratch5.slice (Rect.unit (s := S56) o₂ S1.size (inb₂' h)) : DmaSems sig S1).squeeze S_ squeezes_S1_S_ : DmaSems sig S_).sem)
      (.remote (Dev.tc (⟨dv, hlt h⟩ : Dev nD) : Thread nD τ) ((m7.slice (Rect.unit (s := S28x64x1024) o₃ S1x64x1024.size (inb₃ h)) (hr' h)).squeeze S64x1024 squeezes_S1x64x1024_S64x1024)
        (.dma ((cc0_scratch4.slice (Rect.unit (s := S56) o₂ S1.size (inb₂ h)) : DmaSems sig S1).squeeze S_ squeezes_S1_S_ : DmaSems sig S_).sem) (hsc h))}
    {p : Prog (TpuEff nD τ sig (Elt F) Λ₀ .tc) α} :
    St V I c (D c s a) g P w T ⊢ iprop((St V I c (D c (s + 1) a) g P w T -∗ wp frame (wpE (defs₀ (F := F)) 𝒱₀ (c : Thread nD τ) none) Set.univ p Q)
      -∗ wp frame (wpE (defs₀ (F := F)) 𝒱₀ (c : Thread nD τ) none) Set.univ
        (dite (cond = 1#1) (fun h =>
          .op (.load m5 (Rect.unit (s := S2048x1024) o₀ S64x1024.size inb₀).toLoadRect (hl₀ h)) fun v =>
          .op (.load m6 (Rect.unit (s := S28x64x1024) o₁ S1x64x1024.size (inb₁ h)).toLoadRect (hl h)) fun _ =>
          .op (.store m6 (Rect.unit (s := S28x64x1024) o₁ S1x64x1024.size (inb₁' h)) (msg v) Finset.univ (hx h) (hm h)) fun _ =>
          .op (.enqueueDma ((m6.slice (Rect.unit (s := S28x64x1024) o₄ S1x64x1024.size (inb₄ h)) (hr h)).squeeze S64x1024 squeezes_S1x64x1024_S64x1024)
                (.remote (Dev.tc (⟨dv, hlt h⟩ : Dev nD) : Thread nD τ) ((m7.slice (Rect.unit (s := S28x64x1024) o₃ S1x64x1024.size (inb₃ h)) (hr' h)).squeeze S64x1024 squeezes_S1x64x1024_S64x1024)
                  (.dma ((cc0_scratch4.slice (Rect.unit (s := S56) o₂ S1.size (inb₂ h)) : DmaSems sig S1).squeeze S_ squeezes_S1_S_ : DmaSems sig S_).sem) (hsc h))
                (.dma ((cc0_scratch5.slice (Rect.unit (s := S56) o₂ S1.size (inb₂' h)) : DmaSems sig S1).squeeze S_ squeezes_S1_S_ : DmaSems sig S_).sem) (hsrc h) (hdst h) (hsem h)) fun _ => p)
          (fun _ => p)) Q) := by
  by_cases h : cond = 1#1
  · obtain ⟨h₁, h₂, h₃, h₄⟩ := ho h
    have hsc' := hc.mp h
    obtain ⟨hD, hn⟩ := D_send c a hs hsc'
    rw [dif_pos h]
    iintro HS Hk
    iapply (st_rows V I c hs h₀) $$ HS
    iintro HS
    iapply (st_flight_rs V I c (js_lt hs hsc') hD hn (msg (T s)) (by rw [hv, sub_js hsc']) (Fin.ext (hdv.trans (ow_js hsc').symm)) h₁ h₂ h₂ h₃ h₄) $$ HS
    iintro HS
    iapply Hk $$ HS
  · rw [dif_neg h, ← D_own c a (not_ne_iff.mp (fun e => h (hc.mpr e)))]
    iintro HS Hk
    iapply Hk $$ HS

/-! ## The reduction -/

theorem fr_mod {a b : ℕ} (h : a % 7 = b % 7) : fr c a = fr c b :=
  Fin.ext (by show (c.val + 1 + a % 7) % 8 = (c.val + 1 + b % 7) % 8; rw [h])

theorem ow_mod {a b : ℕ} (h : a % 7 = b % 7) : ow c a = ow c b :=
  Fin.ext (by show (c.val + 7 - a % 7) % 8 = (c.val + 7 - b % 7) % 8; rw [h])

/-- The seven pieces that arrived of quarter `q`. -/
def arrived (q : ℕ) : S7x64x1024.Idx → Elt F .bf16 := stack fun j => V.rs (fr c j) (8 * q + c.val)

theorem rcv_seven {q : ℕ} (hq : q < 4) (hw : 7 * q + 7 ≤ w) :
    (bigSep (Finset.range w) fun k => iprop(atPos ER (rcvC c k) 1 ∅ 0 ∗ rcvPay V c k) : sProp 𝕄)
      ⊢ iprop((bigSep (Finset.range 7) fun j => slotPts m7 c (7 * q + j) fullShare (V.rs (fr c j) (8 * q + c.val)))
        ∗ ((bigSep (Finset.range 7) fun j => slotPts m7 c (7 * q + j) fullShare (V.rs (fr c j) (8 * q + c.val)))
          -∗ bigSep (Finset.range w) fun k => iprop(atPos ER (rcvC c k) 1 ∅ 0 ∗ rcvPay V c k))) := by
  have hs : (Finset.range 7).map (addLeftEmbedding (7 * q)) ⊆ Finset.range w := by
    intro x hx
    obtain ⟨j, hj, rfl⟩ := Finset.mem_map.mp hx
    have := Finset.mem_range.mp hj
    exact Finset.mem_range.mpr (by show 7 * q + j < w; omega)
  have e : ∀ j ∈ Finset.range 7, iprop(atPos ER (rcvC c (7 * q + j)) 1 ∅ 0 ∗ rcvPay V c (7 * q + j))
      = iprop(atPos ER (rcvC c (7 * q + j)) 1 ∅ 0 ∗ slotPts m7 c (7 * q + j) fullShare (V.rs (fr c j) (8 * q + c.val))) := by
    intro j hj
    have hj := Finset.mem_range.mp hj
    have h1 : fr c (7 * q + j) = fr c j := fr_mod c (by omega)
    unfold rcvPay
    rw [if_pos (by omega), h1, show (7 * q + j) / 7 = q by omega]
  have e2 : (bigSep (Finset.range w) fun k => iprop(atPos ER (rcvC c k) 1 ∅ 0 ∗ rcvPay V c k) : sProp 𝕄)
      = iprop(((bigSep (Finset.range 7) fun j => atPos ER (rcvC c (7 * q + j)) 1 ∅ 0)
          ∗ (bigSep (Finset.range 7) fun j => slotPts m7 c (7 * q + j) fullShare (V.rs (fr c j) (8 * q + c.val))))
        ∗ bigSep (Finset.range w \ (Finset.range 7).map (addLeftEmbedding (7 * q))) fun k => iprop(atPos ER (rcvC c k) 1 ∅ 0 ∗ rcvPay V c k)) := by
    rw [bigSep_sdiff_split hs, bigSep_map]
    show BI.sep (bigSep (Finset.range 7) fun j => iprop(atPos ER (rcvC c (7 * q + j)) 1 ∅ 0 ∗ rcvPay V c (7 * q + j))) _ = _
    rw [bigSep_congr e, bigSep_sep']
    rfl
  rw [e2]
  iintro ⟨⟨Ha, Hs⟩, Hr⟩
  isplitl [Hs]
  · iexact Hs
  iintro Hs
  iframe Ha Hs
  iexact Hr

theorem st_seven {α : Type} {Q : α → sProp 𝕄} {q : ℕ} (hq : q < 4) (hw : 7 * q + 7 ≤ w) {off : Fin 3 → ℕ} (ho : off = ![7 * q, 0, 0])
    {inb : ∀ a, off a + S7x64x1024.size a ≤ S28x64x1024.size a}
    {hl : m7.view.LoadsAt (Rect.unit (s := S28x64x1024) off S7x64x1024.size inb).toLoadRect}
    {p : (S7x64x1024.Idx → Elt F .bf16) → Prog (TpuEff nD τ sig (Elt F) Λ₀ .tc) α} :
    St V I c Dn g P w T ⊢ iprop((St V I c Dn g P w T -∗ wp frame (wpE (defs₀ (F := F)) 𝒱₀ (c : Thread nD τ) none) Set.univ (p (arrived V c q)) Q)
      -∗ wp frame (wpE (defs₀ (F := F)) 𝒱₀ (c : Thread nD τ) none) Set.univ (.op (.load m7 (Rect.unit (s := S28x64x1024) off S7x64x1024.size inb).toLoadRect hl) p) Q) := by
  unfold St Rcv
  iintro ⟨HR, HO, HK, HC, H8, ⟨Hx, Hy⟩, HI, HT⟩ Hk
  ihave Hy := (rcv_seven V c hq hw) $$ Hy
  icases Hy with ⟨Hs, Hy⟩
  iapply (wp_load_seven m7 c (k := 7 * q) (by omega) (fun j => V.rs (fr c j) (8 * q + c.val)) ho) $$ Hs
  iintro Hs
  iapply Hk
  iframe HR HO HK HC H8 HI HT Hx
  iapply Hy $$ Hs

/-- The reduced piece of quarter `g` written to its slot, and the slot cut into seven shares. -/
theorem st_red {α : Type} {Q : α → sProp 𝕄} (hg : g < 4) (v : Msg F) (hv : v = V.ag c g) {off : Fin 3 → ℕ} (ho : off = ![g, 0, 0])
    {inb inb' : ∀ a, off a + S1x64x1024.size a ≤ S4x64x1024.size a} {hl hx hm} {p : PUnit → Prog (TpuEff nD τ sig (Elt F) Λ₀ .tc) α} :
    St V I c Dn g ∅ w T ⊢ iprop((St V I c Dn (g + 1) (Finset.Ico (7 * g) (7 * g + 7)) w T -∗ wp frame (wpE (defs₀ (F := F)) 𝒱₀ (c : Thread nD τ) none) Set.univ (p ⟨⟩) Q)
      -∗ wp frame (wpE (defs₀ (F := F)) 𝒱₀ (c : Thread nD τ) none) Set.univ (.op (.load m8 (Rect.unit (s := S4x64x1024) off S1x64x1024.size inb).toLoadRect hl) fun _ =>
          .op (.store m8 (Rect.unit (s := S4x64x1024) off S1x64x1024.size inb') v Finset.univ hx hm) p) Q) := by
  subst hv
  unfold St Red
  rw [bigSep_Ico_succ_bot hg]
  iintro ⟨HR, HO, HK, HC, ⟨⟨⟨%w₀, Hs⟩, H8⟩, -⟩, HV, HI, HT⟩ Hk
  iapply (wp_load_slot m8 c hg w₀ ho) $$ Hs
  iintro Hs
  iapply (wp_store_slot m8 c hg w₀ (V.ag c g) ho) $$ Hs
  iintro Hs
  iapply Hk
  iframe HR HO HK HC HV HI HT H8
  have e : slotPts m8 c g fullShare (V.ag c g) = bigSep (Finset.Ico (7 * g) (7 * g + 7)) (piece V c) := by
    rw [slot_sevenths]
    have hs : Finset.Ico (7 * g) (7 * g + 7) = (Finset.univ : Finset (Fin 7)).map (Fin.valEmbedding.trans (addLeftEmbedding (7 * g))) := by
      ext x
      simp only [Finset.mem_Ico, Finset.mem_map, Finset.mem_univ, true_and]
      constructor
      · rintro ⟨h1, h2⟩
        exact ⟨⟨x - 7 * g, by omega⟩, by show 7 * g + (x - 7 * g) = x; omega⟩
      · rintro ⟨i, rfl⟩
        have := i.isLt
        constructor
        · show 7 * g ≤ 7 * g + i.val; omega
        · show 7 * g + i.val < 7 * g + 7; omega
    rw [hs, bigSep_map]
    refine bigSep_congr fun i _ => ?_
    show _ = piece V c (7 * g + i.val)
    have hi := i.isLt
    unfold piece
    have e1 : (7 * g + i.val) / 7 = g := by omega
    have e2 : (⟨(7 * g + i.val) % 7, Nat.mod_lt _ (by decide)⟩ : Fin 7) = i := Fin.ext (by show (7 * g + i.val) % 7 = i.val; omega)
    rw [e1, e2]
  iapply (Entails.of_eq e) $$ Hs

/-! ## The second kind of transfer -/

theorem st_flight_ag {α : Type} {Q : α → sProp 𝕄} {s t : ℕ} (ht : t < 28) {P' : Finset ℕ} (hP : P = insert t P') (hnP : t ∉ P')
    {dv : Dev nD} (hdv : dv = ow c (isl t)) {o₃ o₄ : Fin 3 → ℕ} {o₂ o₂' : Fin 1 → ℕ}
    (h₂ : o₂ = ![28 + t]) (h₂' : o₂' = ![28 + isl t]) (h₃ : o₃ = ![isl t, 0, 0]) (h₄ : o₄ = ![t / 7, 0, 0])
    {inb₃ : ∀ a, o₃ a + S1x64x1024.size a ≤ S28x64x1024.size a} {inb₄ : ∀ a, o₄ a + S1x64x1024.size a ≤ S4x64x1024.size a}
    {inb₂ : ∀ a, o₂ a + S1.size a ≤ S56.size a} {inb₂' : ∀ a, o₂' a + S1.size a ≤ S56.size a}
    {hr hr' hsc hsrc hdst hsem} {p : PUnit → Prog (TpuEff nD τ sig (Elt F) Λ₀ .tc) α} :
    St V I c (D c s t) g P w T ⊢ iprop((St V I c (D c s (t + 1)) g P' w T -∗ wp frame (wpE (defs₀ (F := F)) 𝒱₀ (c : Thread nD τ) none) Set.univ (p ⟨⟩) Q)
      -∗ wp frame (wpE (defs₀ (F := F)) 𝒱₀ (c : Thread nD τ) none) Set.univ
          (.op (.enqueueDma ((m8.slice (Rect.unit (s := S4x64x1024) o₄ S1x64x1024.size inb₄) hr).squeeze S64x1024 squeezes_S1x64x1024_S64x1024)
                (.remote (Dev.tc dv : Thread nD τ) ((m9.slice (Rect.unit (s := S28x64x1024) o₃ S1x64x1024.size inb₃) hr').squeeze S64x1024 squeezes_S1x64x1024_S64x1024)
                  (.dma ((cc0_scratch4.slice (Rect.unit (s := S56) o₂ S1.size inb₂) : DmaSems sig S1).squeeze S_ squeezes_S1_S_ : DmaSems sig S_).sem) hsc)
                (.dma ((cc0_scratch5.slice (Rect.unit (s := S56) o₂' S1.size inb₂') : DmaSems sig S1).squeeze S_ squeezes_S1_S_ : DmaSems sig S_).sem) hsrc hdst hsem) p) Q) := by
  have hi := isl_lt ht
  obtain ⟨hD, hn⟩ := D_gather c s ht
  have hk5 : 28 + isl t < 56 := by omega
  have ht5 : 28 + t < 56 := by omega
  have hk28 : ¬ 28 + isl t < 28 := by omega
  have hsub : 28 + isl t - 28 = isl t := Nat.add_sub_cancel_left ..
  have eow : ow c (28 + isl t) = ow c (isl t) := ow_mod c (by omega)
  have hsc' : sc (28 + isl t) = 28 + t := by unfold sc; rw [if_neg hk28, hsub, isl_isl]
  rw [hD]
  subst hP hdv
  revert hsem
  rw [sem_sndS ht5 h₂, sem_rcvS hk5 h₂']
  intro hsem
  unfold St Owe Kits Red
  rw [bigSep_put hn, bigSep_put hnP]
  have ek : kit (F := F) c (28 + isl t) = iprop((dutyTok ER (sndC c (28 + t)) 0 (0 : Fin 7) ∗ dutyTok ER (rcvC (ow c (isl t)) (28 + isl t)) 0 (0 : Fin 7)) ∗ (∃ w, slotPts m9 (ow c (isl t)) (isl t) fullShare w) ∗ emp) := by
    unfold kit landing srcSlot; rw [if_neg hk28, if_neg hk28, hsc', hsub, eow]
  rw [ek]
  iintro ⟨#HR, ⟨%W, HO⟩, ⟨⟨⟨Hd₁, Hd₂⟩, ⟨%w₀, Hl⟩, -⟩, HK⟩, HC, ⟨H8, ⟨Hs, HP⟩⟩, HV, HI, HT⟩ Hk
  ihave Hn₁ := (rec_snd V c (28 + t)) $$ HR
  ihave Hn₂ := (rec_rcv V (ow c (isl t)) (28 + isl t)) $$ HR
  unfold known
  icases Hn₁ with ⟨⟨%κ₁, Hi₁⟩, Hr₁⟩
  icases Hn₂ with ⟨⟨%κ₂, Hi₂⟩, Hr₂⟩
  have e0 : O c (insert (28 + isl t) (D c s (t + 1))) = O c (D c s (t + 1)) + tallyAt (rcvC (ow c (isl t)) (28 + isl t)) () N := by
    rw [O_insert c hn]; unfold debtC debtN; rw [if_pos hk5, if_pos hk5, eow]
  have hp₁ : slotPts m8 c (t / 7) (seventh ⟨t % 7, Nat.mod_lt _ (by decide)⟩) (V.ag c (t / 7)) ⊢ (exch V).payload (sndC c (28 + t)) 0 0 := by
    rw [payload_snd V c ht5]; unfold sndPay piece; rw [if_neg (by omega), Nat.add_sub_cancel_left]
  have hp₂ : slotPts m9 (ow c (isl t)) (isl t) fullShare (V.ag c (t / 7)) ⊢ (exch V).payload (rcvC (ow c (isl t)) (28 + isl t)) 0 0 := by
    rw [payload_rcv V _ hk5]; unfold rcvPay; rw [if_neg hk28, hsub, isl_div, ← eow, fr_ow]
  unfold piece
  iapply (wp_send_slot V m8 m9 c (ow c (isl t)) (i := t / 7) (by omega) hi (seventh ⟨t % 7, Nat.mod_lt _ (by decide)⟩) (V.ag c (t / 7)) w₀ (κ₁ := κ₁) (κ₂ := κ₂) h₄ h₃
    (by rw [duties_snd V c ht5]; exact Finset.mem_singleton_self _) (by rw [duties_rcv V _ hk5]; exact Finset.mem_singleton_self _)
    (amount_snd V c ht5 0) (amount_rcv V _ hk5 0) (O c (D c s (t + 1))) e0 W hp₁ hp₂) $$ [Hi₁ Hi₂ Hs Hl HO Hd₁ Hr₁ Hd₂ Hr₂]
  · iframe Hi₁ Hi₂ Hs Hl HO Hd₁ Hr₁ Hd₂
    iexact Hr₂
  iintro ⟨Hc, HO⟩
  iapply Hk
  iframe HR HK H8 HP HV HI HT
  isplitl [HO]
  · iexists W; iexact HO
  iapply (sent_insert c hk5 hn)
  rw [hsc']
  iframe HC
  iexact Hc

/-- A load of what arrived in slot `j` of the second landing buffer. -/
theorem st_landed {α : Type} {Q : α → sProp 𝕄} {j : ℕ} (hj : j < 28) (hw : 28 + j < w) {off : Fin 3 → ℕ} (ho : off = ![j, 0, 0])
    {inb : ∀ a, off a + S1x64x1024.size a ≤ S28x64x1024.size a}
    {hl : m9.view.LoadsAt (Rect.unit (s := S28x64x1024) off S1x64x1024.size inb).toLoadRect}
    {p : Msg F → Prog (TpuEff nD τ sig (Elt F) Λ₀ .tc) α} :
    St V I c Dn g P w T ⊢ iprop((St V I c Dn g P w T -∗ wp frame (wpE (defs₀ (F := F)) 𝒱₀ (c : Thread nD τ) none) Set.univ (p (V.ag (fr c j) (j / 7))) Q)
      -∗ wp frame (wpE (defs₀ (F := F)) 𝒱₀ (c : Thread nD τ) none) Set.univ (.op (.load m9 (Rect.unit (s := S28x64x1024) off S1x64x1024.size inb).toLoadRect hl) p) Q) := by
  unfold St Rcv
  have e : Finset.range w = insert (28 + j) ((Finset.range w).erase (28 + j)) := (Finset.insert_erase (Finset.mem_range.mpr hw)).symm
  have ep : rcvPay V c (28 + j) = slotPts m9 c j fullShare (V.ag (fr c j) (j / 7)) := by
    have h1 : fr c (28 + j) = fr c j := fr_mod c (by omega)
    unfold rcvPay; rw [if_neg (by omega), Nat.add_sub_cancel_left, h1]
  rw [e, bigSep_put (Finset.notMem_erase _ _), ep]
  iintro ⟨HR, HO, HK, HC, H8, ⟨Hx, ⟨⟨Ha, Hs⟩, Hy⟩⟩, HI, HT⟩ Hk
  iapply (wp_load_slot m9 c hj (V.ag (fr c j) (j / 7)) ho) $$ Hs
  iintro Hs
  iapply Hk
  iframe HR HO HK HC H8 HI HT Hx Ha Hs
  iexact Hy

end Cert.RingProof
end
-- ==== Proof.Entry.lean ====
/-
# The entry handshake, and the waits for the sends

Every device signals the barrier semaphores of the seven others, lending each the landing slots its transfers write, and waits for the seven signals of its own. At the end it waits for each of its sends to be done.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

/-! ## The handshake -/

def fin7 (k : ℕ) : Fin 7 := ⟨k % 7, Nat.mod_lt _ (by decide)⟩
theorem fin7_val {k : ℕ} (hk : k < 7) : (fin7 k).val = k := Nat.mod_eq_of_lt hk

/-- The debts after `j` of the signals. -/
def EE (j : ℕ) : Finset ℕ := Finset.range 56 ∪ Finset.Ico (56 + j) 63

theorem EE_zero : EE 0 = Finset.range 63 := by decide
theorem EE_seven : EE 7 = Finset.range 56 := by decide
theorem EE_succ {j : ℕ} (hj : j < 7) : EE j = insert (56 + j) (EE (j + 1)) ∧ 56 + j ∉ EE (j + 1) := by
  unfold EE
  constructor
  · ext x; simp only [Finset.mem_union, Finset.mem_range, Finset.mem_Ico, Finset.mem_insert]; omega
  · simp only [Finset.mem_union, Finset.mem_range, Finset.mem_Ico]; omega

/-- What is left to give after `j` of the signals. -/
def Bar (j : ℕ) : sProp 𝕄 :=
  iprop(Rec V ∗ Owe c (EE j) ∗ bigSep (Finset.Ico j 7) fun k => iprop(dutyTok ER (barC (fr c k)) 0 (fin7 k) ∗ barPay (fr c k) k))

theorem st_signal {α : Type} {Q : α → sProp 𝕄} {j : ℕ} (hj : j < 7) {d : Dev nD} (hd : d = fr c j) {v3 : Sems sig S_} (hv : v3 = SemArray.scalar (sig.barrier 0 rfl))
    {p : PUnit → Prog (TpuEff nD τ sig (Elt F) Λ₀ .tc) α} :
    Bar V c j ⊢ iprop((Bar V c (j + 1) -∗ wp frame (wpE (defs₀ (F := F)) 𝒱₀ (c : Thread nD τ) none) Set.univ (p ⟨⟩) Q)
      -∗ wp frame (wpE (defs₀ (F := F)) 𝒱₀ (c : Thread nD τ) none) Set.univ (.op (.semSignal (d, .tc) v3.sem (BitVec.toInt 1#32)) p) Q) := by
  subst hd hv
  obtain ⟨hE, hn⟩ := EE_succ hj
  unfold Bar Owe
  rw [hE, bigSep_Ico_succ_bot hj, O_insert c hn]
  have e0 : tallyAt (debtC c (56 + j)) () (debtN (56 + j)) = (tallyAt (barC (fr c j)) () 1 : CellTallies nD τ sig Unit) := by
    have h1 : fr c (56 + j) = fr c j := fr_mod c (by omega)
    unfold debtC debtN; rw [if_neg (by omega), if_neg (by omega), h1]
  rw [e0]
  iintro ⟨#HR, ⟨%W, HO⟩, ⟨⟨Hd, Hp⟩, Hs⟩⟩ Hk
  ihave Hn := (rec_bar V (fr c j)) $$ HR
  unfold known
  icases Hn with ⟨⟨%κ, Hi⟩, Hr⟩
  have h := Rounds.wp_signal (defs := defs₀ (F := F)) (Γ := []) 𝒱₀ ER (exch V) (c : Thread nD τ) none (dst := (fr c j : Thread nD τ)) (κ := κ) (k := p) (Q := Q)
    (d := fin7 j) (sem := barS) (k' := 1) (Es := Set.univ) (by rw [duties_bar]; exact Finset.mem_univ _) ((amount_bar V (fr c j) (fin7 j)).trans (by decide)) () (O c (EE (j + 1))) (W := W) rfl
  rw [payload_bar, fin7_val hj] at h
  iapply h $$ [Hi HO Hd Hp Hr]
  · iframe Hi HO Hd Hp; iexact Hr
  iintro HO
  iapply Hk
  iframe HR Hs
  iexists _; iexact HO

theorem st_bar_wait {α : Type} {Q : α → sProp 𝕄} {v3 : Sems sig S_} (hv : v3 = SemArray.scalar (sig.barrier 0 rfl)) {p : PUnit → Prog (TpuEff nD τ sig (Elt F) Λ₀ .tc) α} :
    iprop(Bar V c 7 ∗ cred (tallyAt (barC c) () 7) ∗ atPos ER (barC c) 0 ∅ 0) ⊢ iprop(((Rec V ∗ Owe c (Finset.range 56) ∗ atPos ER (barC c) 1 ∅ 0
        ∗ bigSep Finset.univ fun d : Fin 7 => barPay (F := F) c d.val) -∗ wp frame (wpE (defs₀ (F := F)) 𝒱₀ (c : Thread nD τ) none) Set.univ (p ⟨⟩) Q)
      -∗ wp frame (wpE (defs₀ (F := F)) 𝒱₀ (c : Thread nD τ) none) Set.univ (.op (.semWait v3.sem (BitVec.toInt 7#32)) p) Q) := by
  subst hv
  unfold Bar Owe
  rw [EE_seven]
  iintro ⟨⟨#HR, ⟨%W, HO⟩, -⟩, Hc, Ha⟩ Hk
  ihave Hn := (rec_bar V c) $$ HR
  ihave Hl := (rec_lev V) $$ HR
  unfold known
  icases Hn with ⟨⟨%κ, Hi⟩, -⟩
  have hm := mayWait (F := F) c (.reg barS) (Finset.range 56) (fun i hi => by
    have hi := Finset.mem_range.mp hi
    rw [lv_debt c (by omega), cls_bar]
    show 1 < _
    split
    · omega
    · omega)
  have h := Rounds.wp_wait_rest_token (defs := defs₀ (F := F)) (Γ := []) 𝒱₀ ER (exch V) (c : Thread nD τ) none (κ := κ) (sm := .reg barS) (k := p) (Q := Q)
    (wpE_semWait_eq 𝒱₀ (c : Thread nD τ) none Set.univ) (Set.mem_univ _) () (O := O c (Finset.range 56)) (W := W) (R := 0) (m := 0) (T := ∅)
    (k' := 7) (by rw [expect_bar])
  rw [rest_bar V c] at h
  iapply h $$ [Hi Hc HO Hl Ha]
  · iframe Hi Hc HO Ha
    iapply hm $$ Hl
  iintro ⟨HO, Ha, -, Hp⟩
  iapply Hk
  iframe HR Ha
  isplitl [HO]
  · iexists _; iexact HO
  iexact Hp

/-! ## The waits for the sends -/

/-- After `z` of the waits for the sends. -/
def Dr (z : ℕ) : sProp 𝕄 :=
  iprop(Rec V ∗ Owe c ∅ ∗ (bigSep (Finset.Ico z 56) fun k => iprop(cred (tallyAt (sndC c k) () N) ∗ atPos ER (sndC c k) 0 ∅ 0))
    ∗ bigSep (Finset.range z) fun k => iprop(atPos ER (sndC c k) 1 ∅ 0 ∗ sndPay V c k))

theorem st_drain {α : Type} {Q : α → sProp 𝕄} {z : ℕ} (hz : z < 56) {off : Fin 1 → ℕ} (ho : off = ![z])
    {inb : ∀ a, off a + S1.size a ≤ S56.size a} {src dst : Memref sig .tc .vmem S64x1024 .bf16} {h₁ h₂} {p : PUnit → Prog (TpuEff nD τ sig (Elt F) Λ₀ .tc) α} :
    Dr V c z ⊢ iprop((Dr V c (z + 1) -∗ wp frame (wpE (defs₀ (F := F)) 𝒱₀ (c : Thread nD τ) none) Set.univ (p ⟨⟩) Q)
      -∗ wp frame (wpE (defs₀ (F := F)) 𝒱₀ (c : Thread nD τ) none) Set.univ (.op (.waitDma2 ((cc0_scratch4.slice (Rect.unit (s := S56) off S1.size inb) : DmaSems sig S1).squeeze S_ squeezes_S1_S_ : DmaSems sig S_).sem src dst h₁ h₂) p) Q) := by
  rw [sem_sndS hz ho]
  unfold Dr Owe
  rw [bigSep_Ico_succ_bot hz]
  iintro ⟨#HR, ⟨%W, HO⟩, ⟨⟨Hc, Ha⟩, Hx⟩, Hy⟩ Hk
  ihave Hn := (rec_snd V c z) $$ HR
  unfold known
  icases Hn with ⟨⟨%κ, Hi⟩, -⟩
  ihave Hl := (rec_lev V) $$ HR
  have hm := mayWait (F := F) c (.dma (sndS z)) ∅ (fun i hi => absurd hi (Finset.notMem_empty i))
  have h := Rounds.wp_wait_rest_token (defs := defs₀ (F := F)) (Γ := []) 𝒱₀ ER (exch V) (c : Thread nD τ) none (κ := κ) (sm := .dma (sndS z)) (k := p) (Q := Q)
    (wpE_waitDma2_eq (src := src) (dst := dst) (hsrc := h₁) (hdst := h₂) 𝒱₀ (c : Thread nD τ) none Set.univ) (Set.mem_univ _) () (O := O c ∅) (W := W) (R := 0) (m := 0) (T := ∅)
    (k' := N) (by rw [expect_snd V c hz, Nat.zero_add])
  rw [rest_snd V c hz] at h
  iapply h $$ [Hi Hc HO Hl Ha]
  · iframe Hi Hc HO Ha
    iapply hm $$ Hl
  iintro ⟨HO, Ha, -, Hp⟩
  iapply Hk
  iframe HR Hx
  isplitl [HO]
  · iexists _; iexact HO
  rw [bigSep_range_succ]
  iframe Hy Ha
  iexact Hp

end Cert.RingProof
end
-- ==== Proof.Offsets.lean ====
/-
# Where the transfers go

The program computes the offsets of its slots and semaphores, and the device it sends to, from its own device number and the loop counter: here each is a plain number.
-/
module

public import proofs.«01_k».proof.Proof.Base

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem cond_0 : ∀ c : Dev nD, k0_cond1 c = 1#1 ↔ 0 % 8 ≠ c.val := by decide +kernel
theorem place_0 : ∀ c : Dev nD, k0_cond1 c = 1#1 → k0_off1 c = ![isl (js c 0), 0, 0] ∧ k0_off2 c = ![js c 0] ∧ k0_off3 c = ![js c 0, 0, 0] ∧ k0_off4 c = ![isl (js c 0), 0, 0] := by decide +kernel
theorem cond_1 : ∀ c : Dev nD, k0_cond2 c = 1#1 ↔ 1 % 8 ≠ c.val := by decide +kernel
theorem place_1 : ∀ c : Dev nD, k0_cond2 c = 1#1 → k0_off5 c = ![isl (js c 1), 0, 0] ∧ k0_off6 c = ![js c 1] ∧ k0_off7 c = ![js c 1, 0, 0] ∧ k0_off8 c = ![isl (js c 1), 0, 0] := by decide +kernel
theorem cond_2 : ∀ c : Dev nD, k0_cond3 c = 1#1 ↔ 2 % 8 ≠ c.val := by decide +kernel
theorem place_2 : ∀ c : Dev nD, k0_cond3 c = 1#1 → k0_off9 c = ![isl (js c 2), 0, 0] ∧ k0_off10 c = ![js c 2] ∧ k0_off11 c = ![js c 2, 0, 0] ∧ k0_off12 c = ![isl (js c 2), 0, 0] := by decide +kernel
theorem cond_3 : ∀ c : Dev nD, k0_cond4 c = 1#1 ↔ 3 % 8 ≠ c.val := by decide +kernel
theorem place_3 : ∀ c : Dev nD, k0_cond4 c = 1#1 → k0_off13 c = ![isl (js c 3), 0, 0] ∧ k0_off14 c = ![js c 3] ∧ k0_off15 c = ![js c 3, 0, 0] ∧ k0_off16 c = ![isl (js c 3), 0, 0] := by decide +kernel
theorem cond_4 : ∀ c : Dev nD, k0_cond5 c = 1#1 ↔ 4 % 8 ≠ c.val := by decide +kernel
theorem place_4 : ∀ c : Dev nD, k0_cond5 c = 1#1 → k0_off17 c = ![isl (js c 4), 0, 0] ∧ k0_off18 c = ![js c 4] ∧ k0_off19 c = ![js c 4, 0, 0] ∧ k0_off20 c = ![isl (js c 4), 0, 0] := by decide +kernel
theorem cond_5 : ∀ c : Dev nD, k0_cond6 c = 1#1 ↔ 5 % 8 ≠ c.val := by decide +kernel
theorem place_5 : ∀ c : Dev nD, k0_cond6 c = 1#1 → k0_off21 c = ![isl (js c 5), 0, 0] ∧ k0_off22 c = ![js c 5] ∧ k0_off23 c = ![js c 5, 0, 0] ∧ k0_off24 c = ![isl (js c 5), 0, 0] := by decide +kernel
theorem cond_6 : ∀ c : Dev nD, k0_cond7 c = 1#1 ↔ 6 % 8 ≠ c.val := by decide +kernel
theorem place_6 : ∀ c : Dev nD, k0_cond7 c = 1#1 → k0_off25 c = ![isl (js c 6), 0, 0] ∧ k0_off26 c = ![js c 6] ∧ k0_off27 c = ![js c 6, 0, 0] ∧ k0_off28 c = ![isl (js c 6), 0, 0] := by decide +kernel
theorem cond_7 : ∀ c : Dev nD, k0_cond8 c = 1#1 ↔ 7 % 8 ≠ c.val := by decide +kernel
theorem place_7 : ∀ c : Dev nD, k0_cond8 c = 1#1 → k0_off29 c = ![isl (js c 7), 0, 0] ∧ k0_off30 c = ![js c 7] ∧ k0_off31 c = ![js c 7, 0, 0] ∧ k0_off32 c = ![isl (js c 7), 0, 0] := by decide +kernel
theorem cond_8 : ∀ c : Dev nD, k0_cond9 c = 1#1 ↔ 8 % 8 ≠ c.val := by decide +kernel
theorem place_8 : ∀ c : Dev nD, k0_cond9 c = 1#1 → k0_off33 c = ![isl (js c 8), 0, 0] ∧ k0_off34 c = ![js c 8] ∧ k0_off35 c = ![js c 8, 0, 0] ∧ k0_off36 c = ![isl (js c 8), 0, 0] := by decide +kernel
theorem cond_9 : ∀ c : Dev nD, k0_cond10 c = 1#1 ↔ 9 % 8 ≠ c.val := by decide +kernel
theorem place_9 : ∀ c : Dev nD, k0_cond10 c = 1#1 → k0_off37 c = ![isl (js c 9), 0, 0] ∧ k0_off38 c = ![js c 9] ∧ k0_off39 c = ![js c 9, 0, 0] ∧ k0_off40 c = ![isl (js c 9), 0, 0] := by decide +kernel
theorem cond_10 : ∀ c : Dev nD, k0_cond11 c = 1#1 ↔ 10 % 8 ≠ c.val := by decide +kernel
theorem place_10 : ∀ c : Dev nD, k0_cond11 c = 1#1 → k0_off41 c = ![isl (js c 10), 0, 0] ∧ k0_off42 c = ![js c 10] ∧ k0_off43 c = ![js c 10, 0, 0] ∧ k0_off44 c = ![isl (js c 10), 0, 0] := by decide +kernel
theorem cond_11 : ∀ c : Dev nD, k0_cond12 c = 1#1 ↔ 11 % 8 ≠ c.val := by decide +kernel
theorem place_11 : ∀ c : Dev nD, k0_cond12 c = 1#1 → k0_off45 c = ![isl (js c 11), 0, 0] ∧ k0_off46 c = ![js c 11] ∧ k0_off47 c = ![js c 11, 0, 0] ∧ k0_off48 c = ![isl (js c 11), 0, 0] := by decide +kernel
theorem cond_12 : ∀ c : Dev nD, k0_cond13 c = 1#1 ↔ 12 % 8 ≠ c.val := by decide +kernel
theorem place_12 : ∀ c : Dev nD, k0_cond13 c = 1#1 → k0_off49 c = ![isl (js c 12), 0, 0] ∧ k0_off50 c = ![js c 12] ∧ k0_off51 c = ![js c 12, 0, 0] ∧ k0_off52 c = ![isl (js c 12), 0, 0] := by decide +kernel
theorem cond_13 : ∀ c : Dev nD, k0_cond14 c = 1#1 ↔ 13 % 8 ≠ c.val := by decide +kernel
theorem place_13 : ∀ c : Dev nD, k0_cond14 c = 1#1 → k0_off53 c = ![isl (js c 13), 0, 0] ∧ k0_off54 c = ![js c 13] ∧ k0_off55 c = ![js c 13, 0, 0] ∧ k0_off56 c = ![isl (js c 13), 0, 0] := by decide +kernel
theorem cond_14 : ∀ c : Dev nD, k0_cond15 c = 1#1 ↔ 14 % 8 ≠ c.val := by decide +kernel
theorem place_14 : ∀ c : Dev nD, k0_cond15 c = 1#1 → k0_off57 c = ![isl (js c 14), 0, 0] ∧ k0_off58 c = ![js c 14] ∧ k0_off59 c = ![js c 14, 0, 0] ∧ k0_off60 c = ![isl (js c 14), 0, 0] := by decide +kernel
theorem cond_15 : ∀ c : Dev nD, k0_cond16 c = 1#1 ↔ 15 % 8 ≠ c.val := by decide +kernel
theorem place_15 : ∀ c : Dev nD, k0_cond16 c = 1#1 → k0_off61 c = ![isl (js c 15), 0, 0] ∧ k0_off62 c = ![js c 15] ∧ k0_off63 c = ![js c 15, 0, 0] ∧ k0_off64 c = ![isl (js c 15), 0, 0] := by decide +kernel
theorem cond_16 : ∀ c : Dev nD, k0_cond17 c = 1#1 ↔ 16 % 8 ≠ c.val := by decide +kernel
theorem place_16 : ∀ c : Dev nD, k0_cond17 c = 1#1 → k0_off71 c = ![isl (js c 16), 0, 0] ∧ k0_off72 c = ![js c 16] ∧ k0_off73 c = ![js c 16, 0, 0] ∧ k0_off74 c = ![isl (js c 16), 0, 0] := by decide +kernel
theorem cond_17 : ∀ c : Dev nD, k0_cond18 c = 1#1 ↔ 17 % 8 ≠ c.val := by decide +kernel
theorem place_17 : ∀ c : Dev nD, k0_cond18 c = 1#1 → k0_off75 c = ![isl (js c 17), 0, 0] ∧ k0_off76 c = ![js c 17] ∧ k0_off77 c = ![js c 17, 0, 0] ∧ k0_off78 c = ![isl (js c 17), 0, 0] := by decide +kernel
theorem cond_18 : ∀ c : Dev nD, k0_cond19 c = 1#1 ↔ 18 % 8 ≠ c.val := by decide +kernel
theorem place_18 : ∀ c : Dev nD, k0_cond19 c = 1#1 → k0_off79 c = ![isl (js c 18), 0, 0] ∧ k0_off80 c = ![js c 18] ∧ k0_off81 c = ![js c 18, 0, 0] ∧ k0_off82 c = ![isl (js c 18), 0, 0] := by decide +kernel
theorem cond_19 : ∀ c : Dev nD, k0_cond20 c = 1#1 ↔ 19 % 8 ≠ c.val := by decide +kernel
theorem place_19 : ∀ c : Dev nD, k0_cond20 c = 1#1 → k0_off83 c = ![isl (js c 19), 0, 0] ∧ k0_off84 c = ![js c 19] ∧ k0_off85 c = ![js c 19, 0, 0] ∧ k0_off86 c = ![isl (js c 19), 0, 0] := by decide +kernel
theorem cond_20 : ∀ c : Dev nD, k0_cond21 c = 1#1 ↔ 20 % 8 ≠ c.val := by decide +kernel
theorem place_20 : ∀ c : Dev nD, k0_cond21 c = 1#1 → k0_off87 c = ![isl (js c 20), 0, 0] ∧ k0_off88 c = ![js c 20] ∧ k0_off89 c = ![js c 20, 0, 0] ∧ k0_off90 c = ![isl (js c 20), 0, 0] := by decide +kernel
theorem cond_21 : ∀ c : Dev nD, k0_cond22 c = 1#1 ↔ 21 % 8 ≠ c.val := by decide +kernel
theorem place_21 : ∀ c : Dev nD, k0_cond22 c = 1#1 → k0_off91 c = ![isl (js c 21), 0, 0] ∧ k0_off92 c = ![js c 21] ∧ k0_off93 c = ![js c 21, 0, 0] ∧ k0_off94 c = ![isl (js c 21), 0, 0] := by decide +kernel
theorem cond_22 : ∀ c : Dev nD, k0_cond23 c = 1#1 ↔ 22 % 8 ≠ c.val := by decide +kernel
theorem place_22 : ∀ c : Dev nD, k0_cond23 c = 1#1 → k0_off95 c = ![isl (js c 22), 0, 0] ∧ k0_off96 c = ![js c 22] ∧ k0_off97 c = ![js c 22, 0, 0] ∧ k0_off98 c = ![isl (js c 22), 0, 0] := by decide +kernel
theorem cond_23 : ∀ c : Dev nD, k0_cond24 c = 1#1 ↔ 23 % 8 ≠ c.val := by decide +kernel
theorem place_23 : ∀ c : Dev nD, k0_cond24 c = 1#1 → k0_off99 c = ![isl (js c 23), 0, 0] ∧ k0_off100 c = ![js c 23] ∧ k0_off101 c = ![js c 23, 0, 0] ∧ k0_off102 c = ![isl (js c 23), 0, 0] := by decide +kernel
theorem cond_24 : ∀ c : Dev nD, k0_cond25 c = 1#1 ↔ 24 % 8 ≠ c.val := by decide +kernel
theorem place_24 : ∀ c : Dev nD, k0_cond25 c = 1#1 → k0_off108 c = ![isl (js c 24), 0, 0] ∧ k0_off109 c = ![js c 24] ∧ k0_off110 c = ![js c 24, 0, 0] ∧ k0_off111 c = ![isl (js c 24), 0, 0] := by decide +kernel
theorem cond_25 : ∀ c : Dev nD, k0_cond26 c = 1#1 ↔ 25 % 8 ≠ c.val := by decide +kernel
theorem place_25 : ∀ c : Dev nD, k0_cond26 c = 1#1 → k0_off112 c = ![isl (js c 25), 0, 0] ∧ k0_off113 c = ![js c 25] ∧ k0_off114 c = ![js c 25, 0, 0] ∧ k0_off115 c = ![isl (js c 25), 0, 0] := by decide +kernel
theorem cond_26 : ∀ c : Dev nD, k0_cond27 c = 1#1 ↔ 26 % 8 ≠ c.val := by decide +kernel
theorem place_26 : ∀ c : Dev nD, k0_cond27 c = 1#1 → k0_off116 c = ![isl (js c 26), 0, 0] ∧ k0_off117 c = ![js c 26] ∧ k0_off118 c = ![js c 26, 0, 0] ∧ k0_off119 c = ![isl (js c 26), 0, 0] := by decide +kernel
theorem cond_27 : ∀ c : Dev nD, k0_cond28 c = 1#1 ↔ 27 % 8 ≠ c.val := by decide +kernel
theorem place_27 : ∀ c : Dev nD, k0_cond28 c = 1#1 → k0_off120 c = ![isl (js c 27), 0, 0] ∧ k0_off121 c = ![js c 27] ∧ k0_off122 c = ![js c 27, 0, 0] ∧ k0_off123 c = ![isl (js c 27), 0, 0] := by decide +kernel
theorem cond_28 : ∀ c : Dev nD, k0_cond29 c = 1#1 ↔ 28 % 8 ≠ c.val := by decide +kernel
theorem place_28 : ∀ c : Dev nD, k0_cond29 c = 1#1 → k0_off124 c = ![isl (js c 28), 0, 0] ∧ k0_off125 c = ![js c 28] ∧ k0_off126 c = ![js c 28, 0, 0] ∧ k0_off127 c = ![isl (js c 28), 0, 0] := by decide +kernel
theorem cond_29 : ∀ c : Dev nD, k0_cond30 c = 1#1 ↔ 29 % 8 ≠ c.val := by decide +kernel
theorem place_29 : ∀ c : Dev nD, k0_cond30 c = 1#1 → k0_off128 c = ![isl (js c 29), 0, 0] ∧ k0_off129 c = ![js c 29] ∧ k0_off130 c = ![js c 29, 0, 0] ∧ k0_off131 c = ![isl (js c 29), 0, 0] := by decide +kernel
theorem cond_30 : ∀ c : Dev nD, k0_cond31 c = 1#1 ↔ 30 % 8 ≠ c.val := by decide +kernel
theorem place_30 : ∀ c : Dev nD, k0_cond31 c = 1#1 → k0_off132 c = ![isl (js c 30), 0, 0] ∧ k0_off133 c = ![js c 30] ∧ k0_off134 c = ![js c 30, 0, 0] ∧ k0_off135 c = ![isl (js c 30), 0, 0] := by decide +kernel
theorem cond_31 : ∀ c : Dev nD, k0_cond32 c = 1#1 ↔ 31 % 8 ≠ c.val := by decide +kernel
theorem place_31 : ∀ c : Dev nD, k0_cond32 c = 1#1 → k0_off136 c = ![isl (js c 31), 0, 0] ∧ k0_off137 c = ![js c 31] ∧ k0_off138 c = ![js c 31, 0, 0] ∧ k0_off139 c = ![isl (js c 31), 0, 0] := by decide +kernel

/-! The loops. -/

theorem recv_0 : ∀ i : Fin k0_t1_loop.trips, k0_off65 i = ![0 + i.val] := by decide +kernel
theorem recv_1 : ∀ i : Fin k0_t3_loop.trips, k0_off103 i = ![7 + i.val] := by decide +kernel
theorem recv_2 : ∀ i : Fin k0_t5_loop.trips, k0_off140 i = ![14 + i.val] := by decide +kernel
theorem recv_3 : ∀ i : Fin k0_t7_loop.trips, k0_off145 i = ![21 + i.val] := by decide +kernel
theorem give_0 : ∀ i : Fin k0_t2_loop.trips, k0_off68 i = ![28 + (0 + i.val)] := by decide +kernel
theorem give_to_0 : ∀ (c : Dev nD) (i : Fin k0_t2_loop.trips), k0_off69 c i = ![28 + isl (0 + i.val)] ∧ k0_off70 c i = ![isl (0 + i.val), 0, 0] ∧ k0_dev24 c i = (ow c (isl (0 + i.val))).val := by decide +kernel
theorem give_1 : ∀ i : Fin k0_t4_loop.trips, k0_off105 i = ![28 + (7 + i.val)] := by decide +kernel
theorem give_to_1 : ∀ (c : Dev nD) (i : Fin k0_t4_loop.trips), k0_off106 c i = ![28 + isl (7 + i.val)] ∧ k0_off107 c i = ![isl (7 + i.val), 0, 0] ∧ k0_dev33 c i = (ow c (isl (7 + i.val))).val := by decide +kernel
theorem give_2 : ∀ i : Fin k0_t6_loop.trips, k0_off142 i = ![28 + (14 + i.val)] := by decide +kernel
theorem give_to_2 : ∀ (c : Dev nD) (i : Fin k0_t6_loop.trips), k0_off143 c i = ![28 + isl (14 + i.val)] ∧ k0_off144 c i = ![isl (14 + i.val), 0, 0] ∧ k0_dev42 c i = (ow c (isl (14 + i.val))).val := by decide +kernel
theorem give_3 : ∀ i : Fin k0_t8_loop.trips, k0_off147 i = ![28 + (21 + i.val)] := by decide +kernel
theorem give_to_3 : ∀ (c : Dev nD) (i : Fin k0_t8_loop.trips), k0_off148 c i = ![28 + isl (21 + i.val)] ∧ k0_off149 c i = ![isl (21 + i.val), 0, 0] ∧ k0_dev43 c i = (ow c (isl (21 + i.val))).val := by decide +kernel
theorem own_rows : ∀ c : Dev nD, k0_off67 c 0#32 = ![64 * (8 * 0 + c.val), 0] ∧ k0_off67 c 8#32 = ![64 * (8 * 1 + c.val), 0] ∧ k0_off67 c 16#32 = ![64 * (8 * 2 + c.val), 0] ∧ k0_off67 c 24#32 = ![64 * (8 * 3 + c.val), 0] := by decide +kernel
theorem land_sem : ∀ i : Fin k0_t9_loop.trips, k0_off150 i = ![28 + i.val] ∧ k0_off152 i = ![i.val, 0, 0] := by decide +kernel
theorem land_rows : ∀ (c : Dev nD) (i : Fin k0_t9_loop.trips), k0_off153 c i = ![64 * (8 * (i.val / 7) + (fr c i.val).val), 0] := by decide +kernel
theorem done_rs : ∀ i : Fin k0_t10_loop.trips, k0_off154 i = ![i.val] := by decide +kernel
theorem done_ag : ∀ i : Fin k0_t11_loop.trips, k0_off155 i = ![28 + i.val] := by decide +kernel
theorem peer_0 : ∀ c : Dev nD, k0_dev1 c = (fr c 0).val := by decide +kernel
theorem peer_1 : ∀ c : Dev nD, k0_dev2 c = (fr c 1).val := by decide +kernel
theorem peer_2 : ∀ c : Dev nD, k0_dev3 c = (fr c 2).val := by decide +kernel
theorem peer_3 : ∀ c : Dev nD, k0_dev4 c = (fr c 3).val := by decide +kernel
theorem peer_4 : ∀ c : Dev nD, k0_dev5 c = (fr c 4).val := by decide +kernel
theorem peer_5 : ∀ c : Dev nD, k0_dev6 c = (fr c 5).val := by decide +kernel
theorem peer_6 : ∀ c : Dev nD, k0_dev7 c = (fr c 6).val := by decide +kernel
theorem trips_all : k0_t1_loop.trips = 7 ∧ k0_t2_loop.trips = 7 ∧ k0_t3_loop.trips = 7 ∧ k0_t4_loop.trips = 7 ∧ k0_t5_loop.trips = 7 ∧ k0_t6_loop.trips = 7 ∧ k0_t7_loop.trips = 7 ∧ k0_t8_loop.trips = 7 ∧ k0_t9_loop.trips = 28 ∧ k0_t10_loop.trips = 28 ∧ k0_t11_loop.trips = 28 := by decide +kernel

end Cert.RingProof
end
-- ==== Proof.Loops.lean ====
/-
# The loops of the program

Each loop takes the state through its trips: seven waits for one quarter of the row pieces, seven sends of one reduced piece, the waits for the reduced pieces of the others, and the waits for the sends.
-/
module

public import proofs.«01_k».proof.Proof.Entry
public import proofs.«01_k».proof.Proof.Offsets

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

theorem run_loop {lp : Scf.Loop 32} {hok} {n : ℕ} (hn : lp.trips = n) (J : ℕ → sProp 𝕄) {body : Fin lp.trips → Unit → Prog (TpuEff nD τ sig (Elt F) Λ₀ .tc) Unit}
    (hbody : ∀ (k : Fin lp.trips) (u : Unit), J k.val ⊢ wp frame (wpE (defs₀ (F := F)) 𝒱₀ (c : Thread nD τ) none) Set.univ (body k u) (fun _ => J (k.val + 1)))
    {β : Type} {kk : Unit → Prog (TpuEff nD τ sig (Elt F) Λ₀ .tc) β} {Q : β → sProp 𝕄} :
    J 0 ⊢ iprop((J n -∗ wp frame (wpE (defs₀ (F := F)) 𝒱₀ (c : Thread nD τ) none) Set.univ (kk ⟨⟩) Q) -∗ wp frame (wpE (defs₀ (F := F)) 𝒱₀ (c : Thread nD τ) none) Set.univ (Scf.Loop.for lp hok ⟨⟩ body >>= kk) Q) := by
  subst hn
  have h := Scf.wp_for_bind frame (wpE (defs₀ (F := F)) 𝒱₀ (c : Thread nD τ) none) Set.univ lp.lb lp.ub lp.st hok (⟨⟩ : Unit) body (fun k _ => J k) (fun k u => hbody k u) (kk := kk) (Q := Q)
  iintro HJ Hk
  iapply h $$ HJ
  iintro %acc HJ
  iapply Hk $$ HJ

theorem quarter_first {s a w : ℕ} (hw : w < 28) (h : w / 7 < s / 8) : ∀ i ∈ D c s a, lvOf (.rcv w) < lvOf (cls (debtC c i).2) := by
  intro i hi
  obtain ⟨h56, h2⟩ := mem_D.mp hi
  rw [lv_debt c (by omega)]
  show (if w < 28 then 2 + w / 7 else 12) < _
  rw [if_pos hw]
  have := dev_val_lt c
  split_ifs at h2 ⊢ <;> omega

theorem run_t1 {s a : ℕ} (hs : 0 < s / 8) (v2 : BitVec 32) (v911 : BitVec 32) (c0_i32_540 : BitVec 32) {β : Type} {kk : Unit → Prog (TpuEff nD τ sig (Elt F) Λ₀ .tc) β} {Q : β → sProp 𝕄} :
    St V I c (D c s a) g P 0 T ⊢ iprop((St V I c (D c s a) g P 7 T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t1_loop k0_t1_ok ⟨⟩ (k0_t1_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v911 c0_i32_540) >>= kk) Q) := by
  refine run_loop c (n := 7) (by decide +kernel) (fun k => St V I c (D c s a) g P (0 + k) T) ?_
  intro k u
  have hk : k.val < 7 := lt_of_lt_of_eq k.isLt (by decide +kernel : k0_t1_loop.trips = 7)
  unfold k0_t1_body
  simp only [Prog.lift, Prog.bind_op, Prog.bind_ret, Prog.pure_eq_ret]
  iintro HS
  iapply (st_wait V I c (w := 0 + k.val) (by omega) (quarter_first c (by omega) (by omega)) (recv_0 k)) $$ HS
  iintro HS
  rw [wp_ret]; imodintro
  iexact HS

theorem run_t3 {s a : ℕ} (hs : 1 < s / 8) (v2 : BitVec 32) (v1308 : BitVec 32) (v1311 : BitVec 32) (v1312 : BitVec 32) (v1313 : BitVec 1) (c0_i32_784 : BitVec 32) {β : Type} {kk : Unit → Prog (TpuEff nD τ sig (Elt F) Λ₀ .tc) β} {Q : β → sProp 𝕄} :
    St V I c (D c s a) g P 7 T ⊢ iprop((St V I c (D c s a) g P 14 T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t3_loop k0_t3_ok ⟨⟩ (k0_t3_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1308 v1311 v1312 v1313 c0_i32_784) >>= kk) Q) := by
  refine run_loop c (n := 7) (by decide +kernel) (fun k => St V I c (D c s a) g P (7 + k) T) ?_
  intro k u
  have hk : k.val < 7 := lt_of_lt_of_eq k.isLt (by decide +kernel : k0_t3_loop.trips = 7)
  unfold k0_t3_body
  simp only [Prog.lift, Prog.bind_op, Prog.bind_ret, Prog.pure_eq_ret]
  iintro HS
  iapply (st_wait V I c (w := 7 + k.val) (by omega) (quarter_first c (by omega) (by omega)) (recv_1 k)) $$ HS
  iintro HS
  rw [wp_ret]; imodintro
  iexact HS

theorem run_t5 {s a : ℕ} (hs : 2 < s / 8) (v2 : BitVec 32) (v1713 : BitVec 32) (v1714 : BitVec 32) (v1715 : BitVec 1) (c0_i32_1025 : BitVec 32) {β : Type} {kk : Unit → Prog (TpuEff nD τ sig (Elt F) Λ₀ .tc) β} {Q : β → sProp 𝕄} :
    St V I c (D c s a) g P 14 T ⊢ iprop((St V I c (D c s a) g P 21 T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t5_loop k0_t5_ok ⟨⟩ (k0_t5_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1713 v1714 v1715 c0_i32_1025) >>= kk) Q) := by
  refine run_loop c (n := 7) (by decide +kernel) (fun k => St V I c (D c s a) g P (14 + k) T) ?_
  intro k u
  have hk : k.val < 7 := lt_of_lt_of_eq k.isLt (by decide +kernel : k0_t5_loop.trips = 7)
  unfold k0_t5_body
  simp only [Prog.lift, Prog.bind_op, Prog.bind_ret, Prog.pure_eq_ret]
  iintro HS
  iapply (st_wait V I c (w := 14 + k.val) (by omega) (quarter_first c (by omega) (by omega)) (recv_2 k)) $$ HS
  iintro HS
  rw [wp_ret]; imodintro
  iexact HS

theorem run_t7 {s a : ℕ} (hs : 3 < s / 8) (v2 : BitVec 32) (v1741 : BitVec 32) (v1745 : FVec F S64x1024 .f32) (v1748 : FVec F S64x1024 .f32) {β : Type} {kk : Unit → Prog (TpuEff nD τ sig (Elt F) Λ₀ .tc) β} {Q : β → sProp 𝕄} :
    St V I c (D c s a) g P 21 T ⊢ iprop((St V I c (D c s a) g P 28 T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t7_loop k0_t7_ok ⟨⟩ (k0_t7_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1741 v1745 v1748) >>= kk) Q) := by
  refine run_loop c (n := 7) (by decide +kernel) (fun k => St V I c (D c s a) g P (21 + k) T) ?_
  intro k u
  have hk : k.val < 7 := lt_of_lt_of_eq k.isLt (by decide +kernel : k0_t7_loop.trips = 7)
  unfold k0_t7_body
  simp only [Prog.lift, Prog.bind_op, Prog.bind_ret, Prog.pure_eq_ret]
  iintro HS
  iapply (st_wait V I c (w := 21 + k.val) (by omega) (quarter_first c (by omega) (by omega)) (recv_3 k)) $$ HS
  iintro HS
  rw [wp_ret]; imodintro
  iexact HS

theorem run_t2 {s : ℕ} (v2 : BitVec 32) (v911 : BitVec 32) (c0_i32_540 : BitVec 32) {β : Type} {kk : Unit → Prog (TpuEff nD τ sig (Elt F) Λ₀ .tc) β} {Q : β → sProp 𝕄} :
    St V I c (D c s 0) g (Finset.Ico (7 * 0) (7 * 0 + 7)) w T ⊢ iprop((St V I c (D c s 7) g ∅ w T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t2_loop k0_t2_ok ⟨⟩ (k0_t2_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v911 c0_i32_540) >>= kk) Q) := by
  refine run_loop c (n := 7) (by decide +kernel) (fun k => St V I c (D c s (0 + k)) g (Finset.Ico (0 + k) 7) w T) ?_
  intro k u
  have hk : k.val < 7 := lt_of_lt_of_eq k.isLt (by decide +kernel : k0_t2_loop.trips = 7)
  unfold k0_t2_body
  simp only [k0_part1_eq_skeleton]
  unfold k0_part1_skel
  simp only [Prog.lift, Prog.bind_op, Prog.bind_ret, Prog.pure_eq_ret]
  obtain ⟨h1, h2, h3⟩ := give_to_0 c k
  have hP : Finset.Ico (0 + k.val) 7 = insert (0 + k.val) (Finset.Ico (0 + (k.val + 1)) 7) := by
    ext x; simp only [Finset.mem_Ico, Finset.mem_insert]; omega
  iintro HS
  iapply (st_flight_ag V I c (t := 0 + k.val) (by omega) hP (by simp only [Finset.mem_Ico]; omega) (Fin.ext h3) (give_0 k) h1 h2 (by rw [show (0 + k.val) / 7 = 0 by omega])) $$ HS
  iintro HS
  rw [wp_ret]; imodintro
  iexact HS

theorem run_t4 {s : ℕ} (v2 : BitVec 32) (v1308 : BitVec 32) (v1311 : BitVec 32) (v1312 : BitVec 32) (v1313 : BitVec 1) (c0_i32_784 : BitVec 32) {β : Type} {kk : Unit → Prog (TpuEff nD τ sig (Elt F) Λ₀ .tc) β} {Q : β → sProp 𝕄} :
    St V I c (D c s 7) g (Finset.Ico (7 * 1) (7 * 1 + 7)) w T ⊢ iprop((St V I c (D c s 14) g ∅ w T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t4_loop k0_t4_ok ⟨⟩ (k0_t4_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1308 v1311 v1312 v1313 c0_i32_784) >>= kk) Q) := by
  refine run_loop c (n := 7) (by decide +kernel) (fun k => St V I c (D c s (7 + k)) g (Finset.Ico (7 + k) 14) w T) ?_
  intro k u
  have hk : k.val < 7 := lt_of_lt_of_eq k.isLt (by decide +kernel : k0_t4_loop.trips = 7)
  unfold k0_t4_body
  simp only [k0_part2_eq_skeleton]
  unfold k0_part2_skel
  simp only [Prog.lift, Prog.bind_op, Prog.bind_ret, Prog.pure_eq_ret]
  obtain ⟨h1, h2, h3⟩ := give_to_1 c k
  have hP : Finset.Ico (7 + k.val) 14 = insert (7 + k.val) (Finset.Ico (7 + (k.val + 1)) 14) := by
    ext x; simp only [Finset.mem_Ico, Finset.mem_insert]; omega
  iintro HS
  iapply (st_flight_ag V I c (t := 7 + k.val) (by omega) hP (by simp only [Finset.mem_Ico]; omega) (Fin.ext h3) (give_1 k) h1 h2 (by rw [show (7 + k.val) / 7 = 1 by omega])) $$ HS
  iintro HS
  rw [wp_ret]; imodintro
  iexact HS

theorem run_t6 {s : ℕ} (v2 : BitVec 32) (v1741 : BitVec 32) (v1745 : FVec F S64x1024 .f32) (v1748 : FVec F S64x1024 .f32) {β : Type} {kk : Unit → Prog (TpuEff nD τ sig (Elt F) Λ₀ .tc) β} {Q : β → sProp 𝕄} :
    St V I c (D c s 14) g (Finset.Ico (7 * 2) (7 * 2 + 7)) w T ⊢ iprop((St V I c (D c s 21) g ∅ w T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t6_loop k0_t6_ok ⟨⟩ (k0_t6_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1741 v1745 v1748) >>= kk) Q) := by
  refine run_loop c (n := 7) (by decide +kernel) (fun k => St V I c (D c s (14 + k)) g (Finset.Ico (14 + k) 21) w T) ?_
  intro k u
  have hk : k.val < 7 := lt_of_lt_of_eq k.isLt (by decide +kernel : k0_t6_loop.trips = 7)
  unfold k0_t6_body
  simp only [k0_part3_eq_skeleton]
  unfold k0_part3_skel
  simp only [Prog.lift, Prog.bind_op, Prog.bind_ret, Prog.pure_eq_ret]
  obtain ⟨h1, h2, h3⟩ := give_to_2 c k
  have hP : Finset.Ico (14 + k.val) 21 = insert (14 + k.val) (Finset.Ico (14 + (k.val + 1)) 21) := by
    ext x; simp only [Finset.mem_Ico, Finset.mem_insert]; omega
  iintro HS
  iapply (st_flight_ag V I c (t := 14 + k.val) (by omega) hP (by simp only [Finset.mem_Ico]; omega) (Fin.ext h3) (give_2 k) h1 h2 (by rw [show (14 + k.val) / 7 = 2 by omega])) $$ HS
  iintro HS
  rw [wp_ret]; imodintro
  iexact HS

theorem run_t8 {s : ℕ} (v2 : BitVec 32) (v1741 : BitVec 32) (v1745 : FVec F S64x1024 .f32) (v1748 : FVec F S64x1024 .f32) {β : Type} {kk : Unit → Prog (TpuEff nD τ sig (Elt F) Λ₀ .tc) β} {Q : β → sProp 𝕄} :
    St V I c (D c s 21) g (Finset.Ico (7 * 3) (7 * 3 + 7)) w T ⊢ iprop((St V I c (D c s 28) g ∅ w T -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t8_loop k0_t8_ok ⟨⟩ (k0_t8_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1741 v1745 v1748) >>= kk) Q) := by
  refine run_loop c (n := 7) (by decide +kernel) (fun k => St V I c (D c s (21 + k)) g (Finset.Ico (21 + k) 28) w T) ?_
  intro k u
  have hk : k.val < 7 := lt_of_lt_of_eq k.isLt (by decide +kernel : k0_t8_loop.trips = 7)
  unfold k0_t8_body
  simp only [k0_part4_eq_skeleton]
  unfold k0_part4_skel
  simp only [Prog.lift, Prog.bind_op, Prog.bind_ret, Prog.pure_eq_ret]
  obtain ⟨h1, h2, h3⟩ := give_to_3 c k
  have hP : Finset.Ico (21 + k.val) 28 = insert (21 + k.val) (Finset.Ico (21 + (k.val + 1)) 28) := by
    ext x; simp only [Finset.mem_Ico, Finset.mem_insert]; omega
  iintro HS
  iapply (st_flight_ag V I c (t := 21 + k.val) (by omega) hP (by simp only [Finset.mem_Ico]; omega) (Fin.ext h3) (give_3 k) h1 h2 (by rw [show (21 + k.val) / 7 = 3 by omega])) $$ HS
  iintro HS
  rw [wp_ret]; imodintro
  iexact HS

/-- The rows after quarter `q`'s own row piece was summed with the seven that arrived. -/
abbrev own (q : ℕ) (T : ℕ → Rows F) : ℕ → Rows F := Function.update T (8 * q + c.val) (k0_pay56 (T (8 * q + c.val)) (arrived V c q))

/-- The rows after `i` of the reduced pieces of the other devices were copied in. -/
def gathered (T : ℕ → Rows F) : ℕ → ℕ → Rows F
  | 0 => T
  | i + 1 => Function.update (gathered T i) (8 * (i / 7) + (fr c i).val) (k0_pay114 (V.ag (fr c i) (i / 7)))

theorem run_t9 (v2 : BitVec 32) (c0_i32_1072 : BitVec 32) {β : Type} {kk : Unit → Prog (TpuEff nD τ sig (Elt F) Λ₀ .tc) β} {Q : β → sProp 𝕄} :
    St V I c ∅ g P 28 T ⊢ iprop((St V I c ∅ g P 56 (gathered V c T 28) -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t9_loop k0_t9_ok ⟨⟩ (k0_t9_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 c0_i32_1072) >>= kk) Q) := by
  refine run_loop c (n := 28) (by decide +kernel) (fun k => St V I c ∅ g P (28 + k) (gathered V c T k)) ?_
  intro k u
  have hk : k.val < 28 := lt_of_lt_of_eq k.isLt (by decide +kernel : k0_t9_loop.trips = 28)
  unfold k0_t9_body
  simp only [k0_part5_eq_skeleton]
  unfold k0_part5_skel
  simp only [Prog.lift, Prog.bind_op, Prog.bind_ret, Prog.pure_eq_ret]
  obtain ⟨h1, h2⟩ := land_sem k
  have hf := dev_val_lt (fr c k.val)
  iintro HS
  iapply (st_wait V I c (w := 28 + k.val) (by omega) (fun i hi => absurd hi (Finset.notMem_empty i)) h1) $$ HS
  iintro HS
  iapply (st_landed V I c (j := k.val) hk (by omega) h2) $$ HS
  iintro HS
  iapply (st_rows V I c (s := 8 * (k.val / 7) + (fr c k.val).val) (by omega) (land_rows c k)) $$ HS
  iintro HS
  iapply (st_set_rows V I c (s := 8 * (k.val / 7) + (fr c k.val).val) (by omega) (k0_pay114 (V.ag (fr c k.val) (k.val / 7))) (land_rows c k)) $$ HS
  iintro HS
  rw [wp_ret]; imodintro
  iexact HS

theorem run_t10 {β : Type} {kk : Unit → Prog (TpuEff nD τ sig (Elt F) Λ₀ .tc) β} {Q : β → sProp 𝕄} :
    Dr V c 0 ⊢ iprop((Dr V c 28 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t10_loop k0_t10_ok ⟨⟩ (k0_t10_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 ) >>= kk) Q) := by
  refine run_loop c (n := 28) (by decide +kernel) (fun k => Dr V c (k)) ?_
  intro k u
  have hk : k.val < 28 := lt_of_lt_of_eq k.isLt (by decide +kernel : k0_t10_loop.trips = 28)
  unfold k0_t10_body
  simp only [Prog.lift, Prog.bind_op, Prog.bind_ret, Prog.pure_eq_ret]
  iintro HS
  iapply (st_drain V c (z := k.val) (by omega) (done_rs k)) $$ HS
  iintro HS
  rw [wp_ret]; imodintro
  iexact HS

theorem run_t11 {β : Type} {kk : Unit → Prog (TpuEff nD τ sig (Elt F) Λ₀ .tc) β} {Q : β → sProp 𝕄} :
    Dr V c 28 ⊢ iprop((Dr V c 56 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t11_loop k0_t11_ok ⟨⟩ (k0_t11_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 ) >>= kk) Q) := by
  refine run_loop c (n := 28) (by decide +kernel) (fun k => Dr V c (28 + k)) ?_
  intro k u
  have hk : k.val < 28 := lt_of_lt_of_eq k.isLt (by decide +kernel : k0_t11_loop.trips = 28)
  unfold k0_t11_body
  simp only [Prog.lift, Prog.bind_op, Prog.bind_ret, Prog.pure_eq_ret]
  iintro HS
  iapply (st_drain V c (z := 28 + k.val) (by omega) (done_ag k)) $$ HS
  iintro HS
  rw [wp_ret]; imodintro
  iexact HS

end Cert.RingProof
end
-- ==== Proof.Vals.lean ====
/-
# The values each device computes

The program computes its own contribution to the result for four blocks of 512 rows, one after the other. Each value of that computation is here a function of what the device reads.
-/
module

public import proofs.«01_k».proof.Proof.State

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

def in0 (I : Ins F) (r : LoadRect S2048x1024) : r.shape.Idx → Elt F .bf16 := m0.view.readAt (Elt F) r I.x

def in1 (I : Ins F) (r : LoadRect S1024x1024) : r.shape.Idx → Elt F .bf16 := m1.view.readAt (Elt F) r I.wq

def in2 (I : Ins F) (r : LoadRect S2048x1024) : r.shape.Idx → Elt F .bf16 := m2.view.readAt (Elt F) r I.k

def in3 (I : Ins F) (r : LoadRect S2048x1024) : r.shape.Idx → Elt F .bf16 := m3.view.readAt (Elt F) r I.v

def in4 (I : Ins F) (r : LoadRect S1024x1024) : r.shape.Idx → Elt F .bf16 := m4.view.readAt (Elt F) r I.wo

def w95 (I : Ins F) : IVec S512x512 32 := (iota .tc S512x512 32 [0] iota_S512x512_d0_w32)
def w_c64_i32 (I : Ins F) : BitVec 32 := 64#32
def w119 (I : Ins F) : IVec S512x512 32 := k0_pay1 (w95 I) (w_c64_i32 I)
def w122 (I : Ins F) : IVec S512x512 32 := k0_pay2
def w141 (I : Ins F) : IVec S512x512 1 := k0_pay3
def w142 (I : Ins F) : IVec S512x512 32 := k0_pay4
def w145 (I : Ins F) : IVec S512x512 1 := k0_pay5 (w119 I) (w122 I) (w141 I) (w142 I)
def w153 (I : Ins F) : FVec F S512x1024 .bf16 := k0_pay6 (in0 I (Rect.unit (s := S2048x1024) ![0, 0] S512x1024.size inb_S2048x1024_S512x1024_0_0).toLoadRect) (in1 I (Rect.unit (s := S1024x1024) ![0, 0] S1024x1024.size inb_S1024x1024_S1024x1024_0_0).toLoadRect)
def w168 (I : Ins F) : FVec F S512x128 .f32 := k0_pay7 (w119 I) (w122 I) (w141 I) (w142 I) (in0 I (Rect.unit (s := S2048x1024) ![0, 0] S512x1024.size inb_S2048x1024_S512x1024_0_0).toLoadRect) (in1 I (Rect.unit (s := S1024x1024) ![0, 0] S1024x1024.size inb_S1024x1024_S1024x1024_0_0).toLoadRect) (in2 I (Rect.unit (s := S2048x1024) ![0, 0] S512x128.size inb_S2048x1024_S512x128_0_0).toLoadRect) (in3 I (Rect.unit (s := S2048x1024) ![0, 0] S512x128.size inb_S2048x1024_S512x128_0_0).toLoadRect)
def w177 (I : Ins F) : FVec F S512x1 .f32 := k0_pay9 (w119 I) (w122 I) (w141 I) (w142 I) (in0 I (Rect.unit (s := S2048x1024) ![0, 0] S512x1024.size inb_S2048x1024_S512x1024_0_0).toLoadRect) (in1 I (Rect.unit (s := S1024x1024) ![0, 0] S1024x1024.size inb_S1024x1024_S1024x1024_0_0).toLoadRect) (in2 I (Rect.unit (s := S2048x1024) ![0, 128] S512x128.size inb_S2048x1024_S512x128_0_128).toLoadRect)
def w178 (I : Ins F) : FVec F S512x512 .bf16 := k0_pay10 (w119 I) (w122 I) (w141 I) (w142 I) (in0 I (Rect.unit (s := S2048x1024) ![0, 0] S512x1024.size inb_S2048x1024_S512x1024_0_0).toLoadRect) (in1 I (Rect.unit (s := S1024x1024) ![0, 0] S1024x1024.size inb_S1024x1024_S1024x1024_0_0).toLoadRect) (in2 I (Rect.unit (s := S2048x1024) ![0, 128] S512x128.size inb_S2048x1024_S512x128_0_128).toLoadRect)
def w180 (I : Ins F) : FVec F S512x128 .bf16 := k0_pay11 (in3 I (Rect.unit (s := S2048x1024) ![0, 128] S512x128.size inb_S2048x1024_S512x128_0_128).toLoadRect)
def w_cst_95 (I : Ins F) : FVec F S512x128 .f32 := (constant S512x128 .f32 0x00000000#32)
def w183 (I : Ins F) : FVec F S512x128 .f32 := k0_pay12 (w177 I) (w178 I) (w180 I) (w_cst_95 I)
def w198 (I : Ins F) : FVec F S512x128 .f32 := k0_pay13 (w145 I) (w153 I) (in2 I (Rect.unit (s := S2048x1024) ![0, 256] S512x128.size inb_S2048x1024_S512x128_0_256).toLoadRect) (in3 I (Rect.unit (s := S2048x1024) ![0, 256] S512x128.size inb_S2048x1024_S512x128_0_256).toLoadRect)
def w213 (I : Ins F) : FVec F S512x128 .f32 := k0_pay14 (w145 I) (w153 I) (in2 I (Rect.unit (s := S2048x1024) ![0, 384] S512x128.size inb_S2048x1024_S512x128_0_384).toLoadRect) (in3 I (Rect.unit (s := S2048x1024) ![0, 384] S512x128.size inb_S2048x1024_S512x128_0_384).toLoadRect)
def w220 (I : Ins F) : FVec F S512x512 .f32 := k0_pay15 (w145 I) (w153 I) (in2 I (Rect.unit (s := S2048x1024) ![0, 512] S512x128.size inb_S2048x1024_S512x128_0_512).toLoadRect)
def w228 (I : Ins F) : FVec F S512x128 .f32 := k0_pay16 (w220 I) (in3 I (Rect.unit (s := S2048x1024) ![0, 512] S512x128.size inb_S2048x1024_S512x128_0_512).toLoadRect)
def w243 (I : Ins F) : FVec F S512x128 .f32 := k0_pay17 (w145 I) (w153 I) (in2 I (Rect.unit (s := S2048x1024) ![0, 640] S512x128.size inb_S2048x1024_S512x128_0_640).toLoadRect) (in3 I (Rect.unit (s := S2048x1024) ![0, 640] S512x128.size inb_S2048x1024_S512x128_0_640).toLoadRect)
def w258 (I : Ins F) : FVec F S512x128 .f32 := k0_pay18 (w145 I) (w153 I) (in2 I (Rect.unit (s := S2048x1024) ![0, 768] S512x128.size inb_S2048x1024_S512x128_0_768).toLoadRect) (in3 I (Rect.unit (s := S2048x1024) ![0, 768] S512x128.size inb_S2048x1024_S512x128_0_768).toLoadRect)
def w259 (I : Ins F) : FVec F S512x128 .bf16 := k0_pay19 (w153 I)
def out_0 (I : Ins F) : S512x1024.Idx → Elt F .f32 := k0_pay20 (w145 I) (w168 I) (w183 I) (w198 I) (w213 I) (w228 I) (w243 I) (w258 I) (w259 I) (in2 I (Rect.unit (s := S2048x1024) ![0, 896] S512x128.size inb_S2048x1024_S512x128_0_896).toLoadRect) (in3 I (Rect.unit (s := S2048x1024) ![0, 896] S512x128.size inb_S2048x1024_S512x128_0_896).toLoadRect) (in4 I (Rect.unit (s := S1024x1024) ![0, 0] S1024x1024.size inb_S1024x1024_S1024x1024_0_0).toLoadRect)
def w519 (I : Ins F) : FVec F S512x1024 .bf16 := k0_pay29 (in0 I (Rect.unit (s := S2048x1024) ![512, 0] S512x1024.size inb_S2048x1024_S512x1024_512_0).toLoadRect) (in1 I (Rect.unit (s := S1024x1024) ![0, 0] S1024x1024.size inb_S1024x1024_S1024x1024_0_0).toLoadRect)
def w538 (I : Ins F) : FVec F S512x128 .f32 := k0_pay30 (w145 I) (in0 I (Rect.unit (s := S2048x1024) ![512, 0] S512x1024.size inb_S2048x1024_S512x1024_512_0).toLoadRect) (in1 I (Rect.unit (s := S1024x1024) ![0, 0] S1024x1024.size inb_S1024x1024_S1024x1024_0_0).toLoadRect) (in2 I (Rect.unit (s := S2048x1024) ![0, 0] S1024x128.size inb_S2048x1024_S1024x128_0_0).toLoadRect) (in3 I (Rect.unit (s := S2048x1024) ![0, 0] S1024x128.size inb_S2048x1024_S1024x128_0_0).toLoadRect)
def w539 (I : Ins F) : FVec F S512x128 .bf16 := k0_pay31 (in0 I (Rect.unit (s := S2048x1024) ![512, 0] S512x1024.size inb_S2048x1024_S512x1024_512_0).toLoadRect) (in1 I (Rect.unit (s := S1024x1024) ![0, 0] S1024x1024.size inb_S1024x1024_S1024x1024_0_0).toLoadRect)
def w541 (I : Ins F) : FVec F S1024x128 .bf16 := k0_pay32 (in2 I (Rect.unit (s := S2048x1024) ![0, 128] S1024x128.size inb_S2048x1024_S1024x128_0_128).toLoadRect)
def w_cst_319 (I : Ins F) : FVec F S512x1024 .f32 := (constant S512x1024 .f32 0x00000000#32)
def w557 (I : Ins F) : FVec F S512x128 .f32 := k0_pay33 (w145 I) (w539 I) (w541 I) (w_cst_319 I) (in3 I (Rect.unit (s := S2048x1024) ![0, 128] S1024x128.size inb_S2048x1024_S1024x128_0_128).toLoadRect)
def w576 (I : Ins F) : FVec F S512x128 .f32 := k0_pay34 (w145 I) (w519 I) (in2 I (Rect.unit (s := S2048x1024) ![0, 256] S1024x128.size inb_S2048x1024_S1024x128_0_256).toLoadRect) (in3 I (Rect.unit (s := S2048x1024) ![0, 256] S1024x128.size inb_S2048x1024_S1024x128_0_256).toLoadRect)
def w580 (I : Ins F) : FVec F S512x1024 .f32 := k0_pay35 (w519 I) (in2 I (Rect.unit (s := S2048x1024) ![0, 384] S1024x128.size inb_S2048x1024_S1024x128_0_384).toLoadRect)
def w584 (I : Ins F) : FVec F S512x512 .f32 := k0_pay36 (w145 I) (w519 I) (in2 I (Rect.unit (s := S2048x1024) ![0, 384] S1024x128.size inb_S2048x1024_S1024x128_0_384).toLoadRect)
def w595 (I : Ins F) : FVec F S512x128 .f32 := k0_pay37 (w580 I) (w584 I) (in3 I (Rect.unit (s := S2048x1024) ![0, 384] S1024x128.size inb_S2048x1024_S1024x128_0_384).toLoadRect)
def w614 (I : Ins F) : FVec F S512x128 .f32 := k0_pay38 (w145 I) (w519 I) (in2 I (Rect.unit (s := S2048x1024) ![0, 512] S1024x128.size inb_S2048x1024_S1024x128_0_512).toLoadRect) (in3 I (Rect.unit (s := S2048x1024) ![0, 512] S1024x128.size inb_S2048x1024_S1024x128_0_512).toLoadRect)
def w625 (I : Ins F) : FVec F S512x1024 .f32 := k0_pay39 (w145 I) (w519 I) (in2 I (Rect.unit (s := S2048x1024) ![0, 640] S1024x128.size inb_S2048x1024_S1024x128_0_640).toLoadRect)
def w627 (I : Ins F) : FVec F S512x1 .f32 := k0_pay40 (w145 I) (w519 I) (in2 I (Rect.unit (s := S2048x1024) ![0, 640] S1024x128.size inb_S2048x1024_S1024x128_0_640).toLoadRect)
def w633 (I : Ins F) : FVec F S512x128 .f32 := k0_pay41 (w625 I) (w627 I) (in3 I (Rect.unit (s := S2048x1024) ![0, 640] S1024x128.size inb_S2048x1024_S1024x128_0_640).toLoadRect)
def w652 (I : Ins F) : FVec F S512x128 .f32 := k0_pay42 (w145 I) (w519 I) (in2 I (Rect.unit (s := S2048x1024) ![0, 768] S1024x128.size inb_S2048x1024_S1024x128_0_768).toLoadRect) (in3 I (Rect.unit (s := S2048x1024) ![0, 768] S1024x128.size inb_S2048x1024_S1024x128_0_768).toLoadRect)
def w665 (I : Ins F) : FVec F S512x1 .f32 := k0_pay44 (w145 I) (w519 I) (in2 I (Rect.unit (s := S2048x1024) ![0, 896] S1024x128.size inb_S2048x1024_S1024x128_0_896).toLoadRect)
def w666 (I : Ins F) : FVec F S512x1024 .bf16 := k0_pay45 (w145 I) (w519 I) (in2 I (Rect.unit (s := S2048x1024) ![0, 896] S1024x128.size inb_S2048x1024_S1024x128_0_896).toLoadRect)
def w668 (I : Ins F) : FVec F S1024x128 .bf16 := k0_pay46 (in3 I (Rect.unit (s := S2048x1024) ![0, 896] S1024x128.size inb_S2048x1024_S1024x128_0_896).toLoadRect)
def w_cst_372 (I : Ins F) : FVec F S512x128 .f32 := (constant S512x128 .f32 0x00000000#32)
def out_1 (I : Ins F) : S512x1024.Idx → Elt F .f32 := k0_pay47 (w538 I) (w557 I) (w576 I) (w595 I) (w614 I) (w633 I) (w652 I) (w665 I) (w666 I) (w668 I) (w_cst_372 I) (in4 I (Rect.unit (s := S1024x1024) ![0, 0] S1024x1024.size inb_S1024x1024_S1024x1024_0_0).toLoadRect)
def w934 (I : Ins F) : FVec F S512x1024 .bf16 := k0_pay58 (in0 I (Rect.unit (s := S2048x1024) ![1024, 0] S512x1024.size inb_S2048x1024_S512x1024_1024_0).toLoadRect) (in1 I (Rect.unit (s := S1024x1024) ![0, 0] S1024x1024.size inb_S1024x1024_S1024x1024_0_0).toLoadRect)
def w938 (I : Ins F) : FVec F S512x1536 .f32 := k0_pay59 (in0 I (Rect.unit (s := S2048x1024) ![1024, 0] S512x1024.size inb_S2048x1024_S512x1024_1024_0).toLoadRect) (in1 I (Rect.unit (s := S1024x1024) ![0, 0] S1024x1024.size inb_S1024x1024_S1024x1024_0_0).toLoadRect) (in2 I (Rect.unit (s := S2048x1024) ![0, 0] S1536x128.size inb_S2048x1024_S1536x128_0_0).toLoadRect)
def w940 (I : Ins F) : FVec F S512x512 .f32 := k0_pay60 (in0 I (Rect.unit (s := S2048x1024) ![1024, 0] S512x1024.size inb_S2048x1024_S512x1024_1024_0).toLoadRect) (in1 I (Rect.unit (s := S1024x1024) ![0, 0] S1024x1024.size inb_S1024x1024_S1024x1024_0_0).toLoadRect) (in2 I (Rect.unit (s := S2048x1024) ![0, 0] S1536x128.size inb_S2048x1024_S1536x128_0_0).toLoadRect)
def w941 (I : Ins F) : FVec F S512x512 .f32 := k0_pay61 (F := F)
def w953 (I : Ins F) : FVec F S512x128 .f32 := k0_pay62 (w145 I) (w938 I) (w940 I) (w941 I) (in3 I (Rect.unit (s := S2048x1024) ![0, 0] S1536x128.size inb_S2048x1024_S1536x128_0_0).toLoadRect)
def w972 (I : Ins F) : FVec F S512x128 .f32 := k0_pay63 (w145 I) (w934 I) (in2 I (Rect.unit (s := S2048x1024) ![0, 128] S1536x128.size inb_S2048x1024_S1536x128_0_128).toLoadRect) (in3 I (Rect.unit (s := S2048x1024) ![0, 128] S1536x128.size inb_S2048x1024_S1536x128_0_128).toLoadRect)
def w983 (I : Ins F) : FVec F S512x1536 .f32 := k0_pay64 (w145 I) (w934 I) (in2 I (Rect.unit (s := S2048x1024) ![0, 256] S1536x128.size inb_S2048x1024_S1536x128_0_256).toLoadRect)
def w984 (I : Ins F) : FVec F S512 .f32 := k0_pay65 (w145 I) (w934 I) (in2 I (Rect.unit (s := S2048x1024) ![0, 256] S1536x128.size inb_S2048x1024_S1536x128_0_256).toLoadRect)
def w991 (I : Ins F) : FVec F S512x128 .f32 := k0_pay66 (w983 I) (w984 I) (in3 I (Rect.unit (s := S2048x1024) ![0, 256] S1536x128.size inb_S2048x1024_S1536x128_0_256).toLoadRect)
def w1010 (I : Ins F) : FVec F S512x128 .f32 := k0_pay67 (w145 I) (w934 I) (in2 I (Rect.unit (s := S2048x1024) ![0, 384] S1536x128.size inb_S2048x1024_S1536x128_0_384).toLoadRect) (in3 I (Rect.unit (s := S2048x1024) ![0, 384] S1536x128.size inb_S2048x1024_S1536x128_0_384).toLoadRect)
def w1023 (I : Ins F) : FVec F S512x1 .f32 := k0_pay69 (w145 I) (w934 I) (in2 I (Rect.unit (s := S2048x1024) ![0, 512] S1536x128.size inb_S2048x1024_S1536x128_0_512).toLoadRect)
def w1024 (I : Ins F) : FVec F S512x1536 .bf16 := k0_pay70 (w145 I) (w934 I) (in2 I (Rect.unit (s := S2048x1024) ![0, 512] S1536x128.size inb_S2048x1024_S1536x128_0_512).toLoadRect)
def w1026 (I : Ins F) : FVec F S1536x128 .bf16 := k0_pay71 (in3 I (Rect.unit (s := S2048x1024) ![0, 512] S1536x128.size inb_S2048x1024_S1536x128_0_512).toLoadRect)
def w1029 (I : Ins F) : FVec F S512x128 .f32 := k0_pay72 (w1023 I) (w1024 I) (w1026 I)
def w1048 (I : Ins F) : FVec F S512x128 .f32 := k0_pay73 (w145 I) (w934 I) (in2 I (Rect.unit (s := S2048x1024) ![0, 640] S1536x128.size inb_S2048x1024_S1536x128_0_640).toLoadRect) (in3 I (Rect.unit (s := S2048x1024) ![0, 640] S1536x128.size inb_S2048x1024_S1536x128_0_640).toLoadRect)
def w1067 (I : Ins F) : FVec F S512x128 .f32 := k0_pay74 (w145 I) (w934 I) (in2 I (Rect.unit (s := S2048x1024) ![0, 768] S1536x128.size inb_S2048x1024_S1536x128_0_768).toLoadRect) (in3 I (Rect.unit (s := S2048x1024) ![0, 768] S1536x128.size inb_S2048x1024_S1536x128_0_768).toLoadRect)
def w1068 (I : Ins F) : FVec F S512x128 .bf16 := k0_pay75 (w934 I)
def out_2 (I : Ins F) : S512x1024.Idx → Elt F .f32 := k0_pay76 (w145 I) (w953 I) (w972 I) (w991 I) (w1010 I) (w1029 I) (w1048 I) (w1067 I) (w1068 I) (in2 I (Rect.unit (s := S2048x1024) ![0, 896] S1536x128.size inb_S2048x1024_S1536x128_0_896).toLoadRect) (in3 I (Rect.unit (s := S2048x1024) ![0, 896] S1536x128.size inb_S2048x1024_S1536x128_0_896).toLoadRect) (in4 I (Rect.unit (s := S1024x1024) ![0, 0] S1024x1024.size inb_S1024x1024_S1024x1024_0_0).toLoadRect)
def w1342 (I : Ins F) : Vec F S512x1024 .bf16 := (in0 I (Rect.unit (s := S2048x1024) ![1536, 0] S512x1024.size inb_S2048x1024_S512x1024_1536_0).toLoadRect)
def w1349 (I : Ins F) : FVec F S512x1024 .bf16 := k0_pay87 (w1342 I) (in1 I (Rect.unit (s := S1024x1024) ![0, 0] S1024x1024.size inb_S1024x1024_S1024x1024_0_0).toLoadRect)
def w1368 (I : Ins F) : FVec F S512x128 .f32 := k0_pay88 (w145 I) (w1342 I) (in1 I (Rect.unit (s := S1024x1024) ![0, 0] S1024x1024.size inb_S1024x1024_S1024x1024_0_0).toLoadRect) (in2 I (Rect.unit (s := S2048x1024) ![0, 0] S2048x128.size inb_S2048x1024_S2048x128_0_0).toLoadRect) (in3 I (Rect.unit (s := S2048x1024) ![0, 0] S2048x128.size inb_S2048x1024_S2048x128_0_0).toLoadRect)
def w1381 (I : Ins F) : FVec F S512x1 .f32 := k0_pay90 (w145 I) (w1342 I) (in1 I (Rect.unit (s := S1024x1024) ![0, 0] S1024x1024.size inb_S1024x1024_S1024x1024_0_0).toLoadRect) (in2 I (Rect.unit (s := S2048x1024) ![0, 128] S2048x128.size inb_S2048x1024_S2048x128_0_128).toLoadRect)
def w1382 (I : Ins F) : FVec F S512x2048 .bf16 := k0_pay91 (w145 I) (w1342 I) (in1 I (Rect.unit (s := S1024x1024) ![0, 0] S1024x1024.size inb_S1024x1024_S1024x1024_0_0).toLoadRect) (in2 I (Rect.unit (s := S2048x1024) ![0, 128] S2048x128.size inb_S2048x1024_S2048x128_0_128).toLoadRect)
def w1383 (I : Ins F) : Vec F S2048x128 .bf16 := (in3 I (Rect.unit (s := S2048x1024) ![0, 128] S2048x128.size inb_S2048x1024_S2048x128_0_128).toLoadRect)
def w1387 (I : Ins F) : FVec F S512x128 .f32 := k0_pay92 (w1381 I) (w1382 I) (w1383 I)
def w1406 (I : Ins F) : FVec F S512x128 .f32 := k0_pay93 (w145 I) (w1349 I) (in2 I (Rect.unit (s := S2048x1024) ![0, 256] S2048x128.size inb_S2048x1024_S2048x128_0_256).toLoadRect) (in3 I (Rect.unit (s := S2048x1024) ![0, 256] S2048x128.size inb_S2048x1024_S2048x128_0_256).toLoadRect)
def w1425 (I : Ins F) : FVec F S512x128 .f32 := k0_pay94 (w145 I) (w1349 I) (in2 I (Rect.unit (s := S2048x1024) ![0, 384] S2048x128.size inb_S2048x1024_S2048x128_0_384).toLoadRect) (in3 I (Rect.unit (s := S2048x1024) ![0, 384] S2048x128.size inb_S2048x1024_S2048x128_0_384).toLoadRect)
def w1426 (I : Ins F) : FVec F S512x128 .bf16 := k0_pay95 (w1349 I)
def w1444 (I : Ins F) : FVec F S512x128 .f32 := k0_pay96 (w145 I) (w1426 I) (in2 I (Rect.unit (s := S2048x1024) ![0, 512] S2048x128.size inb_S2048x1024_S2048x128_0_512).toLoadRect) (in3 I (Rect.unit (s := S2048x1024) ![0, 512] S2048x128.size inb_S2048x1024_S2048x128_0_512).toLoadRect)
def w1463 (I : Ins F) : FVec F S512x128 .f32 := k0_pay97 (w145 I) (w1349 I) (in2 I (Rect.unit (s := S2048x1024) ![0, 640] S2048x128.size inb_S2048x1024_S2048x128_0_640).toLoadRect) (in3 I (Rect.unit (s := S2048x1024) ![0, 640] S2048x128.size inb_S2048x1024_S2048x128_0_640).toLoadRect)
def w1467 (I : Ins F) : FVec F S512x2048 .f32 := k0_pay98 (w1349 I) (in2 I (Rect.unit (s := S2048x1024) ![0, 768] S2048x128.size inb_S2048x1024_S2048x128_0_768).toLoadRect)
def out_3 (I : Ins F) : S512x1024.Idx → Elt F .f32 := k0_pay99 (w145 I) (w1349 I) (w1368 I) (w1387 I) (w1406 I) (w1425 I) (w1444 I) (w1463 I) (w1467 I) (in3 I (Rect.unit (s := S2048x1024) ![0, 768] S2048x128.size inb_S2048x1024_S2048x128_0_768).toLoadRect) (in2 I (Rect.unit (s := S2048x1024) ![0, 896] S2048x128.size inb_S2048x1024_S2048x128_0_896).toLoadRect) (in3 I (Rect.unit (s := S2048x1024) ![0, 896] S2048x128.size inb_S2048x1024_S2048x128_0_896).toLoadRect) (in4 I (Rect.unit (s := S1024x1024) ![0, 0] S1024x1024.size inb_S1024x1024_S1024x1024_0_0).toLoadRect)
end Cert.RingProof
end
-- ==== Proof.Parts1.lean ====
/-
# The parts of the program, in order (1 of 4)

Each theorem runs one part of the program from the state before it to the state after it, with the values it computes.
-/
module

public import proofs.«01_k».proof.Proof.Loops
public import proofs.«01_k».proof.Proof.Vals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

theorem part_9 {Q : (Σ' (v119 : IVec S512x512 32) (v122 : IVec S512x512 32) (v141 : IVec S512x512 1), IVec S512x512 32) → sProp 𝕄} :
    St V I c (D c 0 0) 0 ∅ 0 T ⊢ iprop((St V I c (D c 0 0) 0 ∅ 0 T -∗ Q ⟨w119 I, w122 I, w141 I, w142 I⟩)
      -∗ wp frame (wpE (defs₀ (F := F)) 𝒱₀ (c : Thread nD τ) none) Set.univ (k0_part9 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w95 I) (w_c64_i32 I)) Q) := by
  have hc := dev_val_lt c
  rw [k0_part9_eq_skeleton]; unfold k0_part9_skel
  simp only [w119, w122, w141, w142, in0, in1, in2, in3, in4, Prog.lift, Prog.bind_op, Prog.bind_ret, Prog.pure_eq_ret]
  iintro HS Hk
  rw [wp_ret]; imodintro
  iapply Hk $$  HS

theorem part_10 {Q : (Σ' (v145 : IVec S512x512 1) (v153 : FVec F S512x1024 .bf16) (v168 : FVec F S512x128 .f32) (v177 : FVec F S512x1 .f32) (v178 : FVec F S512x512 .bf16) (v180 : FVec F S512x128 .bf16), FVec F S512x128 .f32) → sProp 𝕄} :
    St V I c (D c 0 0) 0 ∅ 0 T ⊢ iprop((St V I c (D c 0 0) 0 ∅ 0 T -∗ Q ⟨w145 I, w153 I, w168 I, w177 I, w178 I, w180 I, w_cst_95 I⟩)
      -∗ wp frame (wpE (defs₀ (F := F)) 𝒱₀ (c : Thread nD τ) none) Set.univ (k0_part10 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w119 I) (w122 I) (w141 I) (w142 I)) Q) := by
  have hc := dev_val_lt c
  rw [k0_part10_eq_skeleton]; unfold k0_part10_skel
  simp only [w145, w153, w168, w177, w178, w180, w_cst_95, in0, in1, in2, in3, in4, Prog.lift, Prog.bind_op, Prog.bind_ret, Prog.pure_eq_ret]
  iintro HS Hk
  iapply (st_in0 V I c) $$ HS
  iintro HS
  iapply (st_in1 V I c) $$ HS
  iintro HS
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_11 {Q : (Σ' (v183 : FVec F S512x128 .f32) (v198 : FVec F S512x128 .f32) (v213 : FVec F S512x128 .f32), FVec F S512x512 .f32) → sProp 𝕄} :
    St V I c (D c 0 0) 0 ∅ 0 T ⊢ iprop((St V I c (D c 0 0) 0 ∅ 0 T -∗ Q ⟨w183 I, w198 I, w213 I, w220 I⟩)
      -∗ wp frame (wpE (defs₀ (F := F)) 𝒱₀ (c : Thread nD τ) none) Set.univ (k0_part11 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w153 I) (w177 I) (w178 I) (w180 I) (w_cst_95 I)) Q) := by
  have hc := dev_val_lt c
  rw [k0_part11_eq_skeleton]; unfold k0_part11_skel
  simp only [w183, w198, w213, w220, in0, in1, in2, in3, in4, Prog.lift, Prog.bind_op, Prog.bind_ret, Prog.pure_eq_ret]
  iintro HS Hk
  iapply (st_in2 V I c) $$ HS
  iintro HS
  iapply (st_in3 V I c) $$ HS
  iintro HS
  iapply (st_in2 V I c) $$ HS
  iintro HS
  iapply (st_in3 V I c) $$ HS
  iintro HS
  iapply (st_in2 V I c) $$ HS
  iintro HS
  rw [wp_ret]; imodintro
  iapply Hk $$  HS

theorem part_12 {Q : (Σ' (v228 : FVec F S512x128 .f32) (v243 : FVec F S512x128 .f32) (v258 : FVec F S512x128 .f32), FVec F S512x128 .bf16) → sProp 𝕄} :
    St V I c (D c 0 0) 0 ∅ 0 T ⊢ iprop((St V I c (D c 0 0) 0 ∅ 0 T -∗ Q ⟨w228 I, w243 I, w258 I, w259 I⟩)
      -∗ wp frame (wpE (defs₀ (F := F)) 𝒱₀ (c : Thread nD τ) none) Set.univ (k0_part12 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w153 I) (w220 I)) Q) := by
  have hc := dev_val_lt c
  rw [k0_part12_eq_skeleton]; unfold k0_part12_skel
  simp only [w228, w243, w258, w259, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_13 {v2 : BitVec 32} {Q : (Σ' (v292 : BitVec 32) (v293 : BitVec 32) (c8_i32_153 : BitVec 32), BitVec 1) → sProp 𝕄} :
    St V I c (D c 0 0) 0 ∅ 0 T ⊢ iprop((∀ (v292 : BitVec 32) (v293 : BitVec 32) (c8_i32_153 : BitVec 32) (v294 : BitVec 1), St V I c (D c 0 0) 0 ∅ 0 (fun r => if r / 8 = 0 then cut (out_0 I) (r % 8) else T r) -∗ Q ⟨v292, v293, c8_i32_153, v294⟩)
      -∗ wp frame (wpE (defs₀ (F := F)) 𝒱₀ (c : Thread nD τ) none) Set.univ (k0_part13 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 v2 (w145 I) (w168 I) (w183 I) (w198 I) (w213 I) (w228 I) (w243 I) (w258 I) (w259 I)) Q) := by
  have hc := dev_val_lt c
  rw [k0_part13_eq_skeleton]; unfold k0_part13_skel
  simp only [out_0, in0, in1, in2, in3, in4, Prog.lift, Prog.bind_op, Prog.bind_ret, Prog.pure_eq_ret]
  iintro HS Hk
  iapply (st_in2 V I c) $$ HS
  iintro HS
  iapply (st_in3 V I c) $$ HS
  iintro HS
  iapply (st_in4 V I c) $$ HS
  iintro HS
  iapply (st_out V I c) $$ HS
  iintro %vd HS
  iapply (st_set_pair V I c (pr := 0) (by omega) _ rfl) $$ HS
  iintro HS
  rw [wp_ret]; imodintro
  iapply Hk $$ %_ %_ %_ %_ HS

theorem part_14 (hT : ∀ r, r / 8 = 0 → k0_pay21 (T r) = V.rs c r) {v2 : BitVec 32} {v292 : BitVec 32} {v293 : BitVec 32} {c8_i32_153 : BitVec 32} {v294 : BitVec 1} {Q : (Σ' (v321 : BitVec 32) (v324 : BitVec 32) (v325 : BitVec 32) (v326 : BitVec 1), BitVec 1) → sProp 𝕄} :
    St V I c (D c 0 0) 0 ∅ 0 T ⊢ iprop((∀ (v321 : BitVec 32) (v324 : BitVec 32) (v325 : BitVec 32) (v326 : BitVec 1) (v329 : BitVec 1), St V I c (D c 1 0) 0 ∅ 0 T -∗ Q ⟨v321, v324, v325, v326, v329⟩)
      -∗ wp frame (wpE (defs₀ (F := F)) 𝒱₀ (c : Thread nD τ) none) Set.univ (k0_part14 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v292 v293 c8_i32_153 v294) Q) := by
  have hc := dev_val_lt c
  rw [k0_part14_eq_skeleton]; unfold k0_part14_skel
  simp only [Prog.lift, Prog.bind_op, Prog.bind_ret, Prog.pure_eq_ret]
  iintro HS Hk
  iapply (st_send_rs V I c (s := 0) (by omega) k0_pay21 (hT 0 rfl) (cond_0 c) (dv := k0_dev8) rfl (o₀ := ![0, 0]) rfl (place_0 c)) $$ HS
  iintro HS
  rw [wp_ret]; imodintro
  iapply Hk $$ %_ %_ %_ %_ %_ HS

theorem part_15 (hT : ∀ r, r / 8 = 0 → k0_pay21 (T r) = V.rs c r) {v2 : BitVec 32} {v321 : BitVec 32} {v324 : BitVec 32} {v325 : BitVec 32} {v326 : BitVec 1} {v329 : BitVec 1} {Q : (Σ' (v350 : BitVec 32), BitVec 32) → sProp 𝕄} :
    St V I c (D c 1 0) 0 ∅ 0 T ⊢ iprop((∀ (v350 : BitVec 32) (v365 : BitVec 32), St V I c (D c 2 0) 0 ∅ 0 T -∗ Q ⟨v350, v365⟩)
      -∗ wp frame (wpE (defs₀ (F := F)) 𝒱₀ (c : Thread nD τ) none) Set.univ (k0_part15 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v321 v324 v325 v326 v329) Q) := by
  have hc := dev_val_lt c
  rw [k0_part15_eq_skeleton]; unfold k0_part15_skel
  simp only [Prog.lift, Prog.bind_op, Prog.bind_ret, Prog.pure_eq_ret]
  iintro HS Hk
  iapply (st_send_rs V I c (s := 1) (by omega) k0_pay22 (hT 1 rfl) (cond_1 c) (dv := k0_dev9) rfl (o₀ := ![64, 0]) rfl (place_1 c)) $$ HS
  iintro HS
  rw [wp_ret]; imodintro
  iapply Hk $$ %_ %_ HS

theorem part_16 (hT : ∀ r, r / 8 = 0 → k0_pay21 (T r) = V.rs c r) {v2 : BitVec 32} {v350 : BitVec 32} {v365 : BitVec 32} {Q : (Σ' (v396 : BitVec 32), BitVec 32) → sProp 𝕄} :
    St V I c (D c 2 0) 0 ∅ 0 T ⊢ iprop((∀ (v396 : BitVec 32) (v398 : BitVec 32), St V I c (D c 4 0) 0 ∅ 0 T -∗ Q ⟨v396, v398⟩)
      -∗ wp frame (wpE (defs₀ (F := F)) 𝒱₀ (c : Thread nD τ) none) Set.univ (k0_part16 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v350 v365) Q) := by
  have hc := dev_val_lt c
  rw [k0_part16_eq_skeleton]; unfold k0_part16_skel
  simp only [Prog.lift, Prog.bind_op, Prog.bind_ret, Prog.pure_eq_ret]
  iintro HS Hk
  iapply (st_send_rs V I c (s := 2) (by omega) k0_pay23 (hT 2 rfl) (cond_2 c) (dv := k0_dev10) rfl (o₀ := ![128, 0]) rfl (place_2 c)) $$ HS
  iintro HS
  iapply (st_send_rs V I c (s := 3) (by omega) k0_pay24 (hT 3 rfl) (cond_3 c) (dv := k0_dev11) rfl (o₀ := ![192, 0]) rfl (place_3 c)) $$ HS
  iintro HS
  rw [wp_ret]; imodintro
  iapply Hk $$ %_ %_ HS

theorem part_17 (hT : ∀ r, r / 8 = 0 → k0_pay21 (T r) = V.rs c r) {v2 : BitVec 32} {v396 : BitVec 32} {v398 : BitVec 32} {Q : (Σ' (v428 : BitVec 32) (v433 : BitVec 1), BitVec 32) → sProp 𝕄} :
    St V I c (D c 4 0) 0 ∅ 0 T ⊢ iprop((∀ (v428 : BitVec 32) (v433 : BitVec 1) (v434 : BitVec 32), St V I c (D c 5 0) 0 ∅ 0 T -∗ Q ⟨v428, v433, v434⟩)
      -∗ wp frame (wpE (defs₀ (F := F)) 𝒱₀ (c : Thread nD τ) none) Set.univ (k0_part17 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v396 v398) Q) := by
  have hc := dev_val_lt c
  rw [k0_part17_eq_skeleton]; unfold k0_part17_skel
  simp only [Prog.lift, Prog.bind_op, Prog.bind_ret, Prog.pure_eq_ret]
  iintro HS Hk
  iapply (st_send_rs V I c (s := 4) (by omega) k0_pay25 (hT 4 rfl) (cond_4 c) (dv := k0_dev12) rfl (o₀ := ![256, 0]) rfl (place_4 c)) $$ HS
  iintro HS
  rw [wp_ret]; imodintro
  iapply Hk $$ %_ %_ %_ HS

theorem part_18 (hT : ∀ r, r / 8 = 0 → k0_pay21 (T r) = V.rs c r) {v2 : BitVec 32} {v428 : BitVec 32} {v433 : BitVec 1} {v434 : BitVec 32} {Q : (Σ' (v466 : BitVec 32) (v467 : BitVec 32) (c8_i32_273 : BitVec 32), BitVec 1) → sProp 𝕄} :
    St V I c (D c 5 0) 0 ∅ 0 T ⊢ iprop((∀ (v466 : BitVec 32) (v467 : BitVec 32) (c8_i32_273 : BitVec 32) (v468 : BitVec 1), St V I c (D c 6 0) 0 ∅ 0 T -∗ Q ⟨v466, v467, c8_i32_273, v468⟩)
      -∗ wp frame (wpE (defs₀ (F := F)) 𝒱₀ (c : Thread nD τ) none) Set.univ (k0_part18 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v428 v433 v434) Q) := by
  have hc := dev_val_lt c
  rw [k0_part18_eq_skeleton]; unfold k0_part18_skel
  simp only [Prog.lift, Prog.bind_op, Prog.bind_ret, Prog.pure_eq_ret]
  iintro HS Hk
  iapply (st_send_rs V I c (s := 5) (by omega) k0_pay26 (hT 5 rfl) (cond_5 c) (dv := k0_dev13) rfl (o₀ := ![320, 0]) rfl (place_5 c)) $$ HS
  iintro HS
  rw [wp_ret]; imodintro
  iapply Hk $$ %_ %_ %_ %_ HS

theorem part_19 (hT : ∀ r, r / 8 = 0 → k0_pay21 (T r) = V.rs c r) {v2 : BitVec 32} {v466 : BitVec 32} {v467 : BitVec 32} {c8_i32_273 : BitVec 32} {v468 : BitVec 1} {Q : (Σ' (v495 : BitVec 32) (v498 : BitVec 32) (v499 : BitVec 32) (v500 : BitVec 1), BitVec 1) → sProp 𝕄} :
    St V I c (D c 6 0) 0 ∅ 0 T ⊢ iprop((∀ (v495 : BitVec 32) (v498 : BitVec 32) (v499 : BitVec 32) (v500 : BitVec 1) (v503 : BitVec 1), St V I c (D c 7 0) 0 ∅ 0 T -∗ Q ⟨v495, v498, v499, v500, v503⟩)
      -∗ wp frame (wpE (defs₀ (F := F)) 𝒱₀ (c : Thread nD τ) none) Set.univ (k0_part19 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v466 v467 c8_i32_273 v468) Q) := by
  have hc := dev_val_lt c
  rw [k0_part19_eq_skeleton]; unfold k0_part19_skel
  simp only [Prog.lift, Prog.bind_op, Prog.bind_ret, Prog.pure_eq_ret]
  iintro HS Hk
  iapply (st_send_rs V I c (s := 6) (by omega) k0_pay27 (hT 6 rfl) (cond_6 c) (dv := k0_dev14) rfl (o₀ := ![384, 0]) rfl (place_6 c)) $$ HS
  iintro HS
  rw [wp_ret]; imodintro
  iapply Hk $$ %_ %_ %_ %_ %_ HS

end Cert.RingProof
end
-- ==== Proof.Parts2.lean ====
/-
# The parts of the program, in order (2 of 4)

Each theorem runs one part of the program from the state before it to the state after it, with the values it computes.
-/
module

public import proofs.«01_k».proof.Proof.Loops
public import proofs.«01_k».proof.Proof.Vals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

theorem part_20 (hT : ∀ r, r / 8 = 0 → k0_pay21 (T r) = V.rs c r) {v2 : BitVec 32} {v495 : BitVec 32} {v498 : BitVec 32} {v499 : BitVec 32} {v500 : BitVec 1} {v503 : BitVec 1} {Q : (Σ' (v519 : FVec F S512x1024 .bf16) (v538 : FVec F S512x128 .f32) (v539 : FVec F S512x128 .bf16) (v541 : FVec F S1024x128 .bf16), FVec F S512x1024 .f32) → sProp 𝕄} :
    St V I c (D c 7 0) 0 ∅ 0 T ⊢ iprop((St V I c (D c 8 0) 0 ∅ 0 T -∗ Q ⟨w519 I, w538 I, w539 I, w541 I, w_cst_319 I⟩)
      -∗ wp frame (wpE (defs₀ (F := F)) 𝒱₀ (c : Thread nD τ) none) Set.univ (k0_part20 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 (w145 I) v495 v498 v499 v500 v503) Q) := by
  have hc := dev_val_lt c
  rw [k0_part20_eq_skeleton]; unfold k0_part20_skel
  simp only [w519, w538, w539, w541, w_cst_319, in0, in1, in2, in3, in4, Prog.lift, Prog.bind_op, Prog.bind_ret, Prog.pure_eq_ret]
  iintro HS Hk
  iapply (st_send_rs V I c (s := 7) (by omega) k0_pay28 (hT 7 rfl) (cond_7 c) (dv := k0_dev15) rfl (o₀ := ![448, 0]) rfl (place_7 c)) $$ HS
  iintro HS
  iapply (st_in0 V I c) $$ HS
  iintro HS
  iapply (st_in1 V I c) $$ HS
  iintro HS
  iapply (st_in2 V I c) $$ HS
  iintro HS
  iapply (st_in3 V I c) $$ HS
  iintro HS
  iapply (st_in2 V I c) $$ HS
  iintro HS
  rw [wp_ret]; imodintro
  iapply Hk $$  HS

theorem part_21 {Q : (Σ' (v557 : FVec F S512x128 .f32) (v576 : FVec F S512x128 .f32) (v580 : FVec F S512x1024 .f32), FVec F S512x512 .f32) → sProp 𝕄} :
    St V I c (D c 8 0) 0 ∅ 0 T ⊢ iprop((St V I c (D c 8 0) 0 ∅ 0 T -∗ Q ⟨w557 I, w576 I, w580 I, w584 I⟩)
      -∗ wp frame (wpE (defs₀ (F := F)) 𝒱₀ (c : Thread nD τ) none) Set.univ (k0_part21 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w519 I) (w539 I) (w541 I) (w_cst_319 I)) Q) := by
  have hc := dev_val_lt c
  rw [k0_part21_eq_skeleton]; unfold k0_part21_skel
  simp only [w557, w576, w580, w584, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in2 V I c) $$ HS
  iintro HS
  rw [wp_ret]; imodintro
  iapply Hk $$  HS

theorem part_22 {Q : (Σ' (v595 : FVec F S512x128 .f32) (v614 : FVec F S512x128 .f32) (v625 : FVec F S512x1024 .f32), FVec F S512x1 .f32) → sProp 𝕄} :
    St V I c (D c 8 0) 0 ∅ 0 T ⊢ iprop((St V I c (D c 8 0) 0 ∅ 0 T -∗ Q ⟨w595 I, w614 I, w625 I, w627 I⟩)
      -∗ wp frame (wpE (defs₀ (F := F)) 𝒱₀ (c : Thread nD τ) none) Set.univ (k0_part22 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w519 I) (w580 I) (w584 I)) Q) := by
  have hc := dev_val_lt c
  rw [k0_part22_eq_skeleton]; unfold k0_part22_skel
  simp only [w595, w614, w625, w627, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in2 V I c) $$ HS
  iintro HS
  rw [wp_ret]; imodintro
  iapply Hk $$  HS

theorem part_23 {Q : (Σ' (v633 : FVec F S512x128 .f32) (v652 : FVec F S512x128 .f32) (v665 : FVec F S512x1 .f32) (v666 : FVec F S512x1024 .bf16) (v668 : FVec F S1024x128 .bf16), FVec F S512x128 .f32) → sProp 𝕄} :
    St V I c (D c 8 0) 0 ∅ 0 T ⊢ iprop((St V I c (D c 8 0) 0 ∅ 0 T -∗ Q ⟨w633 I, w652 I, w665 I, w666 I, w668 I, w_cst_372 I⟩)
      -∗ wp frame (wpE (defs₀ (F := F)) 𝒱₀ (c : Thread nD τ) none) Set.univ (k0_part23 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w519 I) (w625 I) (w627 I)) Q) := by
  have hc := dev_val_lt c
  rw [k0_part23_eq_skeleton]; unfold k0_part23_skel
  simp only [w633, w652, w665, w666, w668, w_cst_372, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_24 {v2 : BitVec 32} {Q : (Σ' (v690 : BitVec 32), BitVec 32) → sProp 𝕄} :
    St V I c (D c 8 0) 0 ∅ 0 T ⊢ iprop((∀ (v690 : BitVec 32) (c0_i32_396 : BitVec 32), St V I c (D c 8 0) 0 ∅ 0 (fun r => if r / 8 = 1 then cut (out_1 I) (r % 8) else T r) -∗ Q ⟨v690, c0_i32_396⟩)
      -∗ wp frame (wpE (defs₀ (F := F)) 𝒱₀ (c : Thread nD τ) none) Set.univ (k0_part24 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 v2 (w538 I) (w557 I) (w576 I) (w595 I) (w614 I) (w633 I) (w652 I) (w665 I) (w666 I) (w668 I) (w_cst_372 I)) Q) := by
  have hc := dev_val_lt c
  rw [k0_part24_eq_skeleton]; unfold k0_part24_skel
  simp only [out_1, in0, in1, in2, in3, in4, Prog.lift, Prog.bind_op, Prog.bind_ret, Prog.pure_eq_ret]
  iintro HS Hk
  iapply (st_in4 V I c) $$ HS
  iintro HS
  iapply (st_out V I c) $$ HS
  iintro %vd HS
  iapply (st_set_pair V I c (pr := 1) (by omega) _ rfl) $$ HS
  iintro HS
  rw [wp_ret]; imodintro
  iapply Hk $$ %_ %_ HS

theorem part_25 (hT : ∀ r, r / 8 = 1 → k0_pay21 (T r) = V.rs c r) {v2 : BitVec 32} {v690 : BitVec 32} {c0_i32_396 : BitVec 32} {Q : (Σ' (v736 : BitVec 32) (c8_i32_419 : BitVec 32), BitVec 1) → sProp 𝕄} :
    St V I c (D c 8 0) 0 ∅ 0 T ⊢ iprop((∀ (v736 : BitVec 32) (c8_i32_419 : BitVec 32) (v737 : BitVec 1), St V I c (D c 10 0) 0 ∅ 0 T -∗ Q ⟨v736, c8_i32_419, v737⟩)
      -∗ wp frame (wpE (defs₀ (F := F)) 𝒱₀ (c : Thread nD τ) none) Set.univ (k0_part25 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v690 c0_i32_396) Q) := by
  have hc := dev_val_lt c
  rw [k0_part25_eq_skeleton]; unfold k0_part25_skel
  simp only [Prog.lift, Prog.bind_op, Prog.bind_ret, Prog.pure_eq_ret]
  iintro HS Hk
  iapply (st_send_rs V I c (s := 8) (by omega) k0_pay48 (hT 8 rfl) (cond_8 c) (dv := k0_dev16) rfl (o₀ := ![512, 0]) rfl (place_8 c)) $$ HS
  iintro HS
  iapply (st_send_rs V I c (s := 9) (by omega) k0_pay49 (hT 9 rfl) (cond_9 c) (dv := k0_dev17) rfl (o₀ := ![576, 0]) rfl (place_9 c)) $$ HS
  iintro HS
  rw [wp_ret]; imodintro
  iapply Hk $$ %_ %_ %_ HS

theorem part_26 (hT : ∀ r, r / 8 = 1 → k0_pay21 (T r) = V.rs c r) {v2 : BitVec 32} {v736 : BitVec 32} {c8_i32_419 : BitVec 32} {v737 : BitVec 1} {Q : (Σ' (v767 : BitVec 32) (v768 : BitVec 32) (v769 : BitVec 1), BitVec 1) → sProp 𝕄} :
    St V I c (D c 10 0) 0 ∅ 0 T ⊢ iprop((∀ (v767 : BitVec 32) (v768 : BitVec 32) (v769 : BitVec 1) (v772 : BitVec 1), St V I c (D c 11 0) 0 ∅ 0 T -∗ Q ⟨v767, v768, v769, v772⟩)
      -∗ wp frame (wpE (defs₀ (F := F)) 𝒱₀ (c : Thread nD τ) none) Set.univ (k0_part26 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v736 c8_i32_419 v737) Q) := by
  have hc := dev_val_lt c
  rw [k0_part26_eq_skeleton]; unfold k0_part26_skel
  simp only [Prog.lift, Prog.bind_op, Prog.bind_ret, Prog.pure_eq_ret]
  iintro HS Hk
  iapply (st_send_rs V I c (s := 10) (by omega) k0_pay50 (hT 10 rfl) (cond_10 c) (dv := k0_dev18) rfl (o₀ := ![640, 0]) rfl (place_10 c)) $$ HS
  iintro HS
  rw [wp_ret]; imodintro
  iapply Hk $$ %_ %_ %_ %_ HS

theorem part_27 (hT : ∀ r, r / 8 = 1 → k0_pay21 (T r) = V.rs c r) {v2 : BitVec 32} {v767 : BitVec 32} {v768 : BitVec 32} {v769 : BitVec 1} {v772 : BitVec 1} {Q : (Σ' (v806 : BitVec 32) (v807 : BitVec 32), BitVec 32) → sProp 𝕄} :
    St V I c (D c 11 0) 0 ∅ 0 T ⊢ iprop((∀ (v806 : BitVec 32) (v807 : BitVec 32) (c8_i32_468 : BitVec 32), St V I c (D c 12 0) 0 ∅ 0 T -∗ Q ⟨v806, v807, c8_i32_468⟩)
      -∗ wp frame (wpE (defs₀ (F := F)) 𝒱₀ (c : Thread nD τ) none) Set.univ (k0_part27 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v767 v768 v769 v772) Q) := by
  have hc := dev_val_lt c
  rw [k0_part27_eq_skeleton]; unfold k0_part27_skel
  simp only [Prog.lift, Prog.bind_op, Prog.bind_ret, Prog.pure_eq_ret]
  iintro HS Hk
  iapply (st_send_rs V I c (s := 11) (by omega) k0_pay51 (hT 11 rfl) (cond_11 c) (dv := k0_dev19) rfl (o₀ := ![704, 0]) rfl (place_11 c)) $$ HS
  iintro HS
  rw [wp_ret]; imodintro
  iapply Hk $$ %_ %_ %_ HS

theorem part_28 (hT : ∀ r, r / 8 = 1 → k0_pay21 (T r) = V.rs c r) {v2 : BitVec 32} {v806 : BitVec 32} {v807 : BitVec 32} {c8_i32_468 : BitVec 32} {Q : (Σ' (v835 : BitVec 32) (v838 : BitVec 32) (v839 : BitVec 32) (v840 : BitVec 1) (v841 : BitVec 1), BitVec 32) → sProp 𝕄} :
    St V I c (D c 12 0) 0 ∅ 0 T ⊢ iprop((∀ (v835 : BitVec 32) (v838 : BitVec 32) (v839 : BitVec 32) (v840 : BitVec 1) (v841 : BitVec 1) (c0_i32_493 : BitVec 32), St V I c (D c 13 0) 0 ∅ 0 T -∗ Q ⟨v835, v838, v839, v840, v841, c0_i32_493⟩)
      -∗ wp frame (wpE (defs₀ (F := F)) 𝒱₀ (c : Thread nD τ) none) Set.univ (k0_part28 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v806 v807 c8_i32_468) Q) := by
  have hc := dev_val_lt c
  rw [k0_part28_eq_skeleton]; unfold k0_part28_skel
  simp only [Prog.lift, Prog.bind_op, Prog.bind_ret, Prog.pure_eq_ret]
  iintro HS Hk
  iapply (st_send_rs V I c (s := 12) (by omega) k0_pay52 (hT 12 rfl) (cond_12 c) (dv := k0_dev20) rfl (o₀ := ![768, 0]) rfl (place_12 c)) $$ HS
  iintro HS
  rw [wp_ret]; imodintro
  iapply Hk $$ %_ %_ %_ %_ %_ %_ HS

theorem part_29 (hT : ∀ r, r / 8 = 1 → k0_pay21 (T r) = V.rs c r) {v2 : BitVec 32} {v835 : BitVec 32} {v838 : BitVec 32} {v839 : BitVec 32} {v840 : BitVec 1} {v841 : BitVec 1} {c0_i32_493 : BitVec 32} {Q : (Σ' (v864 : BitVec 32), BitVec 32) → sProp 𝕄} :
    St V I c (D c 13 0) 0 ∅ 0 T ⊢ iprop((∀ (v864 : BitVec 32) (c6_i32_516 : BitVec 32), St V I c (D c 14 0) 0 ∅ 0 T -∗ Q ⟨v864, c6_i32_516⟩)
      -∗ wp frame (wpE (defs₀ (F := F)) 𝒱₀ (c : Thread nD τ) none) Set.univ (k0_part29 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v835 v838 v839 v840 v841 c0_i32_493) Q) := by
  have hc := dev_val_lt c
  rw [k0_part29_eq_skeleton]; unfold k0_part29_skel
  simp only [Prog.lift, Prog.bind_op, Prog.bind_ret, Prog.pure_eq_ret]
  iintro HS Hk
  iapply (st_send_rs V I c (s := 13) (by omega) k0_pay53 (hT 13 rfl) (cond_13 c) (dv := k0_dev21) rfl (o₀ := ![832, 0]) rfl (place_13 c)) $$ HS
  iintro HS
  rw [wp_ret]; imodintro
  iapply Hk $$ %_ %_ HS

theorem part_30 (hT : ∀ r, r / 8 = 1 → k0_pay21 (T r) = V.rs c r) {v2 : BitVec 32} {v864 : BitVec 32} {c6_i32_516 : BitVec 32} {Q : (Σ' (v911 : BitVec 32), BitVec 32) → sProp 𝕄} :
    St V I c (D c 14 0) 0 ∅ 0 T ⊢ iprop((∀ (v911 : BitVec 32) (c0_i32_540 : BitVec 32), St V I c (D c 16 0) 0 ∅ 0 T -∗ Q ⟨v911, c0_i32_540⟩)
      -∗ wp frame (wpE (defs₀ (F := F)) 𝒱₀ (c : Thread nD τ) none) Set.univ (k0_part30 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v864 c6_i32_516) Q) := by
  have hc := dev_val_lt c
  rw [k0_part30_eq_skeleton]; unfold k0_part30_skel
  simp only [Prog.lift, Prog.bind_op, Prog.bind_ret, Prog.pure_eq_ret]
  iintro HS Hk
  iapply (st_send_rs V I c (s := 14) (by omega) k0_pay54 (hT 14 rfl) (cond_14 c) (dv := k0_dev22) rfl (o₀ := ![896, 0]) rfl (place_14 c)) $$ HS
  iintro HS
  iapply (st_send_rs V I c (s := 15) (by omega) k0_pay55 (hT 15 rfl) (cond_15 c) (dv := k0_dev23) rfl (o₀ := ![960, 0]) rfl (place_15 c)) $$ HS
  iintro HS
  rw [wp_ret]; imodintro
  iapply Hk $$ %_ %_ HS

end Cert.RingProof
end
-- ==== Proof.Parts3.lean ====
/-
# The parts of the program, in order (3 of 4)

Each theorem runs one part of the program from the state before it to the state after it, with the values it computes.
-/
module

public import proofs.«01_k».proof.Proof.Loops
public import proofs.«01_k».proof.Proof.Vals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

theorem part_31 (hr0 : k0_pay57 (T (8 * 0 + c.val)) (arrived V c 0) = V.ag c 0) {v2 : BitVec 32} {v911 : BitVec 32} {c0_i32_540 : BitVec 32} {Q : (Σ' (v934 : FVec F S512x1024 .bf16) (v938 : FVec F S512x1536 .f32) (v940 : FVec F S512x512 .f32), FVec F S512x512 .f32) → sProp 𝕄} :
    St V I c (D c 16 0) 0 ∅ 0 T ⊢ iprop((St V I c (D c 16 7) 1 ∅ 7 (own V c 0 T) -∗ Q ⟨w934 I, w938 I, w940 I, w941 I⟩)
      -∗ wp frame (wpE (defs₀ (F := F)) 𝒱₀ (c : Thread nD τ) none) Set.univ (k0_part31 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v911 c0_i32_540) Q) := by
  have hc := dev_val_lt c
  rw [k0_part31_eq_skeleton]; unfold k0_part31_skel
  simp only [w934, w938, w940, w941, in0, in1, in2, in3, in4, Prog.lift, Prog.bind_op, Prog.bind_ret, Prog.pure_eq_ret]
  iintro HS Hk
  iapply (run_t1 V I c (s := 16) (by omega)) $$ HS
  iintro HS
  iapply (st_rows V I c (s := 8 * 0 + c.val) (by omega) (own_rows c).1) $$ HS
  iintro HS
  iapply (st_seven V I c (q := 0) (by omega) (by omega) rfl) $$ HS
  iintro HS
  iapply (st_rows V I c (s := 8 * 0 + c.val) (by omega) (own_rows c).1) $$ HS
  iintro HS
  iapply (st_set_rows V I c (s := 8 * 0 + c.val) (by omega) (k0_pay56 (T (8 * 0 + c.val)) (arrived V c 0)) (own_rows c).1) $$ HS
  iintro HS
  iapply (st_red V I c (g := 0) (by omega) _ hr0 rfl) $$ HS
  iintro HS
  iapply (run_t2 V I c) $$ HS
  iintro HS
  iapply (st_in0 V I c) $$ HS
  iintro HS
  iapply (st_in1 V I c) $$ HS
  iintro HS
  iapply (st_in2 V I c) $$ HS
  iintro HS
  rw [wp_ret]; imodintro
  iapply Hk $$  HS

theorem part_32 {Q : (Σ' (v953 : FVec F S512x128 .f32) (v972 : FVec F S512x128 .f32) (v983 : FVec F S512x1536 .f32), FVec F S512 .f32) → sProp 𝕄} :
    St V I c (D c 16 7) 1 ∅ 7 T ⊢ iprop((St V I c (D c 16 7) 1 ∅ 7 T -∗ Q ⟨w953 I, w972 I, w983 I, w984 I⟩)
      -∗ wp frame (wpE (defs₀ (F := F)) 𝒱₀ (c : Thread nD τ) none) Set.univ (k0_part32 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w934 I) (w938 I) (w940 I) (w941 I)) Q) := by
  have hc := dev_val_lt c
  rw [k0_part32_eq_skeleton]; unfold k0_part32_skel
  simp only [w953, w972, w983, w984, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in2 V I c) $$ HS
  iintro HS
  rw [wp_ret]; imodintro
  iapply Hk $$  HS

theorem part_33 {Q : (Σ' (v991 : FVec F S512x128 .f32) (v1010 : FVec F S512x128 .f32) (v1023 : FVec F S512x1 .f32) (v1024 : FVec F S512x1536 .bf16), FVec F S1536x128 .bf16) → sProp 𝕄} :
    St V I c (D c 16 7) 1 ∅ 7 T ⊢ iprop((St V I c (D c 16 7) 1 ∅ 7 T -∗ Q ⟨w991 I, w1010 I, w1023 I, w1024 I, w1026 I⟩)
      -∗ wp frame (wpE (defs₀ (F := F)) 𝒱₀ (c : Thread nD τ) none) Set.univ (k0_part33 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w934 I) (w983 I) (w984 I)) Q) := by
  have hc := dev_val_lt c
  rw [k0_part33_eq_skeleton]; unfold k0_part33_skel
  simp only [w991, w1010, w1023, w1024, w1026, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_34 {Q : (Σ' (v1029 : FVec F S512x128 .f32) (v1048 : FVec F S512x128 .f32) (v1067 : FVec F S512x128 .f32), FVec F S512x128 .bf16) → sProp 𝕄} :
    St V I c (D c 16 7) 1 ∅ 7 T ⊢ iprop((St V I c (D c 16 7) 1 ∅ 7 T -∗ Q ⟨w1029 I, w1048 I, w1067 I, w1068 I⟩)
      -∗ wp frame (wpE (defs₀ (F := F)) 𝒱₀ (c : Thread nD τ) none) Set.univ (k0_part34 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w934 I) (w1023 I) (w1024 I) (w1026 I)) Q) := by
  have hc := dev_val_lt c
  rw [k0_part34_eq_skeleton]; unfold k0_part34_skel
  simp only [w1029, w1048, w1067, w1068, in0, in1, in2, in3, in4, Prog.lift, Prog.bind_op, Prog.bind_ret, Prog.pure_eq_ret]
  iintro HS Hk
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_35 {v2 : BitVec 32} {Q : (Σ' (v1105 : BitVec 32), BitVec 32) → sProp 𝕄} :
    St V I c (D c 16 7) 1 ∅ 7 T ⊢ iprop((∀ (v1105 : BitVec 32) (c0_i32_639 : BitVec 32), St V I c (D c 16 7) 1 ∅ 7 (fun r => if r / 8 = 2 then cut (out_2 I) (r % 8) else T r) -∗ Q ⟨v1105, c0_i32_639⟩)
      -∗ wp frame (wpE (defs₀ (F := F)) 𝒱₀ (c : Thread nD τ) none) Set.univ (k0_part35 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 v2 (w145 I) (w953 I) (w972 I) (w991 I) (w1010 I) (w1029 I) (w1048 I) (w1067 I) (w1068 I)) Q) := by
  have hc := dev_val_lt c
  rw [k0_part35_eq_skeleton]; unfold k0_part35_skel
  simp only [out_2, in0, in1, in2, in3, in4, Prog.lift, Prog.bind_op, Prog.bind_ret, Prog.pure_eq_ret]
  iintro HS Hk
  iapply (st_in2 V I c) $$ HS
  iintro HS
  iapply (st_in3 V I c) $$ HS
  iintro HS
  iapply (st_in4 V I c) $$ HS
  iintro HS
  iapply (st_out V I c) $$ HS
  iintro %vd HS
  iapply (st_set_pair V I c (pr := 2) (by omega) _ rfl) $$ HS
  iintro HS
  rw [wp_ret]; imodintro
  iapply Hk $$ %_ %_ HS

theorem part_36 (hT : ∀ r, r / 8 = 2 → k0_pay21 (T r) = V.rs c r) {v2 : BitVec 32} {v1105 : BitVec 32} {c0_i32_639 : BitVec 32} {Q : (Σ' (v1134 : BitVec 32) (v1137 : BitVec 32) (v1138 : BitVec 32) (v1139 : BitVec 1), BitVec 32) → sProp 𝕄} :
    St V I c (D c 16 7) 1 ∅ 7 T ⊢ iprop((∀ (v1134 : BitVec 32) (v1137 : BitVec 32) (v1138 : BitVec 32) (v1139 : BitVec 1) (c0_i32_664 : BitVec 32), St V I c (D c 17 7) 1 ∅ 7 T -∗ Q ⟨v1134, v1137, v1138, v1139, c0_i32_664⟩)
      -∗ wp frame (wpE (defs₀ (F := F)) 𝒱₀ (c : Thread nD τ) none) Set.univ (k0_part36 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1105 c0_i32_639) Q) := by
  have hc := dev_val_lt c
  rw [k0_part36_eq_skeleton]; unfold k0_part36_skel
  simp only [Prog.lift, Prog.bind_op, Prog.bind_ret, Prog.pure_eq_ret]
  iintro HS Hk
  iapply (st_send_rs V I c (s := 16) (by omega) k0_pay77 (hT 16 rfl) (cond_16 c) (dv := k0_dev25) rfl (o₀ := ![1024, 0]) rfl (place_16 c)) $$ HS
  iintro HS
  rw [wp_ret]; imodintro
  iapply Hk $$ %_ %_ %_ %_ %_ HS

theorem part_37 (hT : ∀ r, r / 8 = 2 → k0_pay21 (T r) = V.rs c r) {v2 : BitVec 32} {v1134 : BitVec 32} {v1137 : BitVec 32} {v1138 : BitVec 32} {v1139 : BitVec 1} {c0_i32_664 : BitVec 32} {Q : (Σ' (v1163 : BitVec 32) (v1175 : BitVec 32), BitVec 32) → sProp 𝕄} :
    St V I c (D c 17 7) 1 ∅ 7 T ⊢ iprop((∀ (v1163 : BitVec 32) (v1175 : BitVec 32) (c14_i32_687 : BitVec 32), St V I c (D c 18 7) 1 ∅ 7 T -∗ Q ⟨v1163, v1175, c14_i32_687⟩)
      -∗ wp frame (wpE (defs₀ (F := F)) 𝒱₀ (c : Thread nD τ) none) Set.univ (k0_part37 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1134 v1137 v1138 v1139 c0_i32_664) Q) := by
  have hc := dev_val_lt c
  rw [k0_part37_eq_skeleton]; unfold k0_part37_skel
  simp only [Prog.lift, Prog.bind_op, Prog.bind_ret, Prog.pure_eq_ret]
  iintro HS Hk
  iapply (st_send_rs V I c (s := 17) (by omega) k0_pay78 (hT 17 rfl) (cond_17 c) (dv := k0_dev26) rfl (o₀ := ![1088, 0]) rfl (place_17 c)) $$ HS
  iintro HS
  rw [wp_ret]; imodintro
  iapply Hk $$ %_ %_ %_ HS

theorem part_38 (hT : ∀ r, r / 8 = 2 → k0_pay21 (T r) = V.rs c r) {v2 : BitVec 32} {v1163 : BitVec 32} {v1175 : BitVec 32} {c14_i32_687 : BitVec 32} {Q : (Σ' (v1209 : BitVec 32), BitVec 32) → sProp 𝕄} :
    St V I c (D c 18 7) 1 ∅ 7 T ⊢ iprop((∀ (v1209 : BitVec 32) (c8_i32_711 : BitVec 32), St V I c (D c 20 7) 1 ∅ 7 T -∗ Q ⟨v1209, c8_i32_711⟩)
      -∗ wp frame (wpE (defs₀ (F := F)) 𝒱₀ (c : Thread nD τ) none) Set.univ (k0_part38 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1163 v1175 c14_i32_687) Q) := by
  have hc := dev_val_lt c
  rw [k0_part38_eq_skeleton]; unfold k0_part38_skel
  simp only [Prog.lift, Prog.bind_op, Prog.bind_ret, Prog.pure_eq_ret]
  iintro HS Hk
  iapply (st_send_rs V I c (s := 18) (by omega) k0_pay79 (hT 18 rfl) (cond_18 c) (dv := k0_dev27) rfl (o₀ := ![1152, 0]) rfl (place_18 c)) $$ HS
  iintro HS
  iapply (st_send_rs V I c (s := 19) (by omega) k0_pay80 (hT 19 rfl) (cond_19 c) (dv := k0_dev28) rfl (o₀ := ![1216, 0]) rfl (place_19 c)) $$ HS
  iintro HS
  rw [wp_ret]; imodintro
  iapply Hk $$ %_ %_ HS

theorem part_39 (hT : ∀ r, r / 8 = 2 → k0_pay21 (T r) = V.rs c r) {v2 : BitVec 32} {v1209 : BitVec 32} {c8_i32_711 : BitVec 32} {Q : (Σ' (v1240 : BitVec 32) (v1241 : BitVec 32) (v1242 : BitVec 1) (v1243 : BitVec 1), BitVec 32) → sProp 𝕄} :
    St V I c (D c 20 7) 1 ∅ 7 T ⊢ iprop((∀ (v1240 : BitVec 32) (v1241 : BitVec 32) (v1242 : BitVec 1) (v1243 : BitVec 1) (c0_i32_736 : BitVec 32), St V I c (D c 21 7) 1 ∅ 7 T -∗ Q ⟨v1240, v1241, v1242, v1243, c0_i32_736⟩)
      -∗ wp frame (wpE (defs₀ (F := F)) 𝒱₀ (c : Thread nD τ) none) Set.univ (k0_part39 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1209 c8_i32_711) Q) := by
  have hc := dev_val_lt c
  rw [k0_part39_eq_skeleton]; unfold k0_part39_skel
  simp only [Prog.lift, Prog.bind_op, Prog.bind_ret, Prog.pure_eq_ret]
  iintro HS Hk
  iapply (st_send_rs V I c (s := 20) (by omega) k0_pay81 (hT 20 rfl) (cond_20 c) (dv := k0_dev29) rfl (o₀ := ![1280, 0]) rfl (place_20 c)) $$ HS
  iintro HS
  rw [wp_ret]; imodintro
  iapply Hk $$ %_ %_ %_ %_ %_ HS

theorem part_40 (hT : ∀ r, r / 8 = 2 → k0_pay21 (T r) = V.rs c r) {v2 : BitVec 32} {v1240 : BitVec 32} {v1241 : BitVec 32} {v1242 : BitVec 1} {v1243 : BitVec 1} {c0_i32_736 : BitVec 32} {Q : (Σ' (v1279 : BitVec 32), BitVec 32) → sProp 𝕄} :
    St V I c (D c 21 7) 1 ∅ 7 T ⊢ iprop((∀ (v1279 : BitVec 32) (c6_i32_759 : BitVec 32), St V I c (D c 22 7) 1 ∅ 7 T -∗ Q ⟨v1279, c6_i32_759⟩)
      -∗ wp frame (wpE (defs₀ (F := F)) 𝒱₀ (c : Thread nD τ) none) Set.univ (k0_part40 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1240 v1241 v1242 v1243 c0_i32_736) Q) := by
  have hc := dev_val_lt c
  rw [k0_part40_eq_skeleton]; unfold k0_part40_skel
  simp only [Prog.lift, Prog.bind_op, Prog.bind_ret, Prog.pure_eq_ret]
  iintro HS Hk
  iapply (st_send_rs V I c (s := 21) (by omega) k0_pay82 (hT 21 rfl) (cond_21 c) (dv := k0_dev30) rfl (o₀ := ![1344, 0]) rfl (place_21 c)) $$ HS
  iintro HS
  rw [wp_ret]; imodintro
  iapply Hk $$ %_ %_ HS

theorem part_41 (hT : ∀ r, r / 8 = 2 → k0_pay21 (T r) = V.rs c r) {v2 : BitVec 32} {v1279 : BitVec 32} {c6_i32_759 : BitVec 32} {Q : (Σ' (v1308 : BitVec 32) (v1311 : BitVec 32) (v1312 : BitVec 32) (v1313 : BitVec 1), BitVec 32) → sProp 𝕄} :
    St V I c (D c 22 7) 1 ∅ 7 T ⊢ iprop((∀ (v1308 : BitVec 32) (v1311 : BitVec 32) (v1312 : BitVec 32) (v1313 : BitVec 1) (c0_i32_784 : BitVec 32), St V I c (D c 23 7) 1 ∅ 7 T -∗ Q ⟨v1308, v1311, v1312, v1313, c0_i32_784⟩)
      -∗ wp frame (wpE (defs₀ (F := F)) 𝒱₀ (c : Thread nD τ) none) Set.univ (k0_part41 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1279 c6_i32_759) Q) := by
  have hc := dev_val_lt c
  rw [k0_part41_eq_skeleton]; unfold k0_part41_skel
  simp only [Prog.lift, Prog.bind_op, Prog.bind_ret, Prog.pure_eq_ret]
  iintro HS Hk
  iapply (st_send_rs V I c (s := 22) (by omega) k0_pay83 (hT 22 rfl) (cond_22 c) (dv := k0_dev31) rfl (o₀ := ![1408, 0]) rfl (place_22 c)) $$ HS
  iintro HS
  rw [wp_ret]; imodintro
  iapply Hk $$ %_ %_ %_ %_ %_ HS

theorem part_42 (hT : ∀ r, r / 8 = 2 → k0_pay21 (T r) = V.rs c r) (hr1 : k0_pay57 (T (8 * 1 + c.val)) (arrived V c 1) = V.ag c 1) {v2 : BitVec 32} {v1308 : BitVec 32} {v1311 : BitVec 32} {v1312 : BitVec 32} {v1313 : BitVec 1} {c0_i32_784 : BitVec 32} {Q : (Vec F S512x1024 .bf16) → sProp 𝕄} :
    St V I c (D c 23 7) 1 ∅ 7 T ⊢ iprop((St V I c (D c 24 14) 2 ∅ 14 (own V c 1 T) -∗ Q (w1342 I))
      -∗ wp frame (wpE (defs₀ (F := F)) 𝒱₀ (c : Thread nD τ) none) Set.univ (k0_part42 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1308 v1311 v1312 v1313 c0_i32_784) Q) := by
  have hc := dev_val_lt c
  rw [k0_part42_eq_skeleton]; unfold k0_part42_skel
  simp only [w1342, in0, in1, in2, in3, in4, Prog.lift, Prog.bind_op, Prog.bind_ret, Prog.pure_eq_ret]
  iintro HS Hk
  iapply (st_send_rs V I c (s := 23) (by omega) k0_pay84 (hT 23 rfl) (cond_23 c) (dv := k0_dev32) rfl (o₀ := ![1472, 0]) rfl (place_23 c)) $$ HS
  iintro HS
  iapply (run_t3 V I c (s := 24) (by omega)) $$ HS
  iintro HS
  iapply (st_rows V I c (s := 8 * 1 + c.val) (by omega) (own_rows c).2.1) $$ HS
  iintro HS
  iapply (st_seven V I c (q := 1) (by omega) (by omega) rfl) $$ HS
  iintro HS
  iapply (st_rows V I c (s := 8 * 1 + c.val) (by omega) (own_rows c).2.1) $$ HS
  iintro HS
  iapply (st_set_rows V I c (s := 8 * 1 + c.val) (by omega) (k0_pay56 (T (8 * 1 + c.val)) (arrived V c 1)) (own_rows c).2.1) $$ HS
  iintro HS
  iapply (st_red V I c (g := 1) (by omega) _ hr1 rfl) $$ HS
  iintro HS
  iapply (run_t4 V I c) $$ HS
  iintro HS
  iapply (st_in0 V I c) $$ HS
  iintro HS
  rw [wp_ret]; imodintro
  iapply Hk $$  HS

end Cert.RingProof
end
-- ==== Proof.Parts4.lean ====
/-
# The parts of the program, in order (4 of 4)

Each theorem runs one part of the program from the state before it to the state after it, with the values it computes.
-/
module

public import proofs.«01_k».proof.Proof.Loops
public import proofs.«01_k».proof.Proof.Vals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

theorem part_43 {Q : (Σ' (v1349 : FVec F S512x1024 .bf16) (v1368 : FVec F S512x128 .f32) (v1381 : FVec F S512x1 .f32) (v1382 : FVec F S512x2048 .bf16), Vec F S2048x128 .bf16) → sProp 𝕄} :
    St V I c (D c 24 14) 2 ∅ 14 T ⊢ iprop((St V I c (D c 24 14) 2 ∅ 14 T -∗ Q ⟨w1349 I, w1368 I, w1381 I, w1382 I, w1383 I⟩)
      -∗ wp frame (wpE (defs₀ (F := F)) 𝒱₀ (c : Thread nD τ) none) Set.univ (k0_part43 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w1342 I)) Q) := by
  have hc := dev_val_lt c
  rw [k0_part43_eq_skeleton]; unfold k0_part43_skel
  simp only [w1349, w1368, w1381, w1382, w1383, in0, in1, in2, in3, in4, Prog.lift, Prog.bind_op, Prog.bind_ret, Prog.pure_eq_ret]
  iintro HS Hk
  iapply (st_in1 V I c) $$ HS
  iintro HS
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_44 {Q : (Σ' (v1387 : FVec F S512x128 .f32) (v1406 : FVec F S512x128 .f32) (v1425 : FVec F S512x128 .f32), FVec F S512x128 .bf16) → sProp 𝕄} :
    St V I c (D c 24 14) 2 ∅ 14 T ⊢ iprop((St V I c (D c 24 14) 2 ∅ 14 T -∗ Q ⟨w1387 I, w1406 I, w1425 I, w1426 I⟩)
      -∗ wp frame (wpE (defs₀ (F := F)) 𝒱₀ (c : Thread nD τ) none) Set.univ (k0_part44 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w1349 I) (w1381 I) (w1382 I) (w1383 I)) Q) := by
  have hc := dev_val_lt c
  rw [k0_part44_eq_skeleton]; unfold k0_part44_skel
  simp only [w1387, w1406, w1425, w1426, in0, in1, in2, in3, in4, Prog.lift, Prog.bind_op, Prog.bind_ret, Prog.pure_eq_ret]
  iintro HS Hk
  iapply (st_in2 V I c) $$ HS
  iintro HS
  iapply (st_in3 V I c) $$ HS
  iintro HS
  iapply (st_in2 V I c) $$ HS
  iintro HS
  iapply (st_in3 V I c) $$ HS
  iintro HS
  rw [wp_ret]; imodintro
  iapply Hk $$  HS

theorem part_45 {Q : (Σ' (v1444 : FVec F S512x128 .f32) (v1463 : FVec F S512x128 .f32), FVec F S512x2048 .f32) → sProp 𝕄} :
    St V I c (D c 24 14) 2 ∅ 14 T ⊢ iprop((St V I c (D c 24 14) 2 ∅ 14 T -∗ Q ⟨w1444 I, w1463 I, w1467 I⟩)
      -∗ wp frame (wpE (defs₀ (F := F)) 𝒱₀ (c : Thread nD τ) none) Set.univ (k0_part45 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w1349 I) (w1426 I)) Q) := by
  have hc := dev_val_lt c
  rw [k0_part45_eq_skeleton]; unfold k0_part45_skel
  simp only [w1444, w1463, w1467, in0, in1, in2, in3, in4, Prog.lift, Prog.bind_op, Prog.bind_ret, Prog.pure_eq_ret]
  iintro HS Hk
  iapply (st_in2 V I c) $$ HS
  iintro HS
  iapply (st_in3 V I c) $$ HS
  iintro HS
  iapply (st_in2 V I c) $$ HS
  iintro HS
  iapply (st_in3 V I c) $$ HS
  iintro HS
  iapply (st_in2 V I c) $$ HS
  iintro HS
  rw [wp_ret]; imodintro
  iapply Hk $$  HS

theorem part_46 {Q : (BitVec 32) → sProp 𝕄} :
    St V I c (D c 24 14) 2 ∅ 14 T ⊢ iprop((∀ (c0_i32_881 : BitVec 32), St V I c (D c 24 14) 2 ∅ 14 (fun r => if r / 8 = 3 then cut (out_3 I) (r % 8) else T r) -∗ Q (c0_i32_881))
      -∗ wp frame (wpE (defs₀ (F := F)) 𝒱₀ (c : Thread nD τ) none) Set.univ (k0_part46 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 (w145 I) (w1349 I) (w1368 I) (w1387 I) (w1406 I) (w1425 I) (w1444 I) (w1463 I) (w1467 I)) Q) := by
  have hc := dev_val_lt c
  rw [k0_part46_eq_skeleton]; unfold k0_part46_skel
  simp only [out_3, in0, in1, in2, in3, in4, Prog.lift, Prog.bind_op, Prog.bind_ret, Prog.pure_eq_ret]
  iintro HS Hk
  iapply (st_in3 V I c) $$ HS
  iintro HS
  iapply (st_in2 V I c) $$ HS
  iintro HS
  iapply (st_in3 V I c) $$ HS
  iintro HS
  iapply (st_in4 V I c) $$ HS
  iintro HS
  iapply (st_out V I c) $$ HS
  iintro %vd HS
  iapply (st_set_pair V I c (pr := 3) (by omega) _ rfl) $$ HS
  iintro HS
  rw [wp_ret]; imodintro
  iapply Hk $$ %_ HS

theorem part_47 (hT : ∀ r, r / 8 = 3 → k0_pay21 (T r) = V.rs c r) {v2 : BitVec 32} {c0_i32_881 : BitVec 32} {Q : (Σ' (v1539 : BitVec 32) (v1540 : BitVec 32) (v1541 : BitVec 1), BitVec 32) → sProp 𝕄} :
    St V I c (D c 24 14) 2 ∅ 14 T ⊢ iprop((∀ (v1539 : BitVec 32) (v1540 : BitVec 32) (v1541 : BitVec 1) (c0_i32_905 : BitVec 32), St V I c (D c 25 14) 2 ∅ 14 T -∗ Q ⟨v1539, v1540, v1541, c0_i32_905⟩)
      -∗ wp frame (wpE (defs₀ (F := F)) 𝒱₀ (c : Thread nD τ) none) Set.univ (k0_part47 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 c0_i32_881) Q) := by
  have hc := dev_val_lt c
  rw [k0_part47_eq_skeleton]; unfold k0_part47_skel
  simp only [Prog.lift, Prog.bind_op, Prog.bind_ret, Prog.pure_eq_ret]
  iintro HS Hk
  iapply (st_send_rs V I c (s := 24) (by omega) k0_pay100 (hT 24 rfl) (cond_24 c) (dv := k0_dev34) rfl (o₀ := ![1536, 0]) rfl (place_24 c)) $$ HS
  iintro HS
  rw [wp_ret]; imodintro
  iapply Hk $$ %_ %_ %_ %_ HS

theorem part_48 (hT : ∀ r, r / 8 = 3 → k0_pay21 (T r) = V.rs c r) {v2 : BitVec 32} {v1539 : BitVec 32} {v1540 : BitVec 32} {v1541 : BitVec 1} {c0_i32_905 : BitVec 32} {Q : (Σ' (v1577 : BitVec 32), BitVec 32) → sProp 𝕄} :
    St V I c (D c 25 14) 2 ∅ 14 T ⊢ iprop((∀ (v1577 : BitVec 32) (c21_i32_928 : BitVec 32), St V I c (D c 26 14) 2 ∅ 14 T -∗ Q ⟨v1577, c21_i32_928⟩)
      -∗ wp frame (wpE (defs₀ (F := F)) 𝒱₀ (c : Thread nD τ) none) Set.univ (k0_part48 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1539 v1540 v1541 c0_i32_905) Q) := by
  have hc := dev_val_lt c
  rw [k0_part48_eq_skeleton]; unfold k0_part48_skel
  simp only [Prog.lift, Prog.bind_op, Prog.bind_ret, Prog.pure_eq_ret]
  iintro HS Hk
  iapply (st_send_rs V I c (s := 25) (by omega) k0_pay101 (hT 25 rfl) (cond_25 c) (dv := k0_dev35) rfl (o₀ := ![1600, 0]) rfl (place_25 c)) $$ HS
  iintro HS
  rw [wp_ret]; imodintro
  iapply Hk $$ %_ %_ HS

theorem part_49 (hT : ∀ r, r / 8 = 3 → k0_pay21 (T r) = V.rs c r) {v2 : BitVec 32} {v1577 : BitVec 32} {c21_i32_928 : BitVec 32} {Q : (Σ' (v1607 : BitVec 32) (v1610 : BitVec 32) (v1611 : BitVec 32), BitVec 32) → sProp 𝕄} :
    St V I c (D c 26 14) 2 ∅ 14 T ⊢ iprop((∀ (v1607 : BitVec 32) (v1610 : BitVec 32) (v1611 : BitVec 32) (c0_i32_953 : BitVec 32), St V I c (D c 27 14) 2 ∅ 14 T -∗ Q ⟨v1607, v1610, v1611, c0_i32_953⟩)
      -∗ wp frame (wpE (defs₀ (F := F)) 𝒱₀ (c : Thread nD τ) none) Set.univ (k0_part49 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1577 c21_i32_928) Q) := by
  have hc := dev_val_lt c
  rw [k0_part49_eq_skeleton]; unfold k0_part49_skel
  simp only [Prog.lift, Prog.bind_op, Prog.bind_ret, Prog.pure_eq_ret]
  iintro HS Hk
  iapply (st_send_rs V I c (s := 26) (by omega) k0_pay102 (hT 26 rfl) (cond_26 c) (dv := k0_dev36) rfl (o₀ := ![1664, 0]) rfl (place_26 c)) $$ HS
  iintro HS
  rw [wp_ret]; imodintro
  iapply Hk $$ %_ %_ %_ %_ HS

theorem part_50 (hT : ∀ r, r / 8 = 3 → k0_pay21 (T r) = V.rs c r) {v2 : BitVec 32} {v1607 : BitVec 32} {v1610 : BitVec 32} {v1611 : BitVec 32} {c0_i32_953 : BitVec 32} {Q : (Σ' (v1636 : BitVec 32) (v1647 : BitVec 32), BitVec 32) → sProp 𝕄} :
    St V I c (D c 27 14) 2 ∅ 14 T ⊢ iprop((∀ (v1636 : BitVec 32) (v1647 : BitVec 32) (c1_i32_976 : BitVec 32), St V I c (D c 28 14) 2 ∅ 14 T -∗ Q ⟨v1636, v1647, c1_i32_976⟩)
      -∗ wp frame (wpE (defs₀ (F := F)) 𝒱₀ (c : Thread nD τ) none) Set.univ (k0_part50 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1607 v1610 v1611 c0_i32_953) Q) := by
  have hc := dev_val_lt c
  rw [k0_part50_eq_skeleton]; unfold k0_part50_skel
  simp only [Prog.lift, Prog.bind_op, Prog.bind_ret, Prog.pure_eq_ret]
  iintro HS Hk
  iapply (st_send_rs V I c (s := 27) (by omega) k0_pay103 (hT 27 rfl) (cond_27 c) (dv := k0_dev37) rfl (o₀ := ![1728, 0]) rfl (place_27 c)) $$ HS
  iintro HS
  rw [wp_ret]; imodintro
  iapply Hk $$ %_ %_ %_ HS

theorem part_51 (hT : ∀ r, r / 8 = 3 → k0_pay21 (T r) = V.rs c r) {v2 : BitVec 32} {v1636 : BitVec 32} {v1647 : BitVec 32} {c1_i32_976 : BitVec 32} {Q : (BitVec 32) → sProp 𝕄} :
    St V I c (D c 28 14) 2 ∅ 14 T ⊢ iprop((∀ (c6_i32_1000 : BitVec 32), St V I c (D c 30 14) 2 ∅ 14 T -∗ Q (c6_i32_1000))
      -∗ wp frame (wpE (defs₀ (F := F)) 𝒱₀ (c : Thread nD τ) none) Set.univ (k0_part51 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1636 v1647 c1_i32_976) Q) := by
  have hc := dev_val_lt c
  rw [k0_part51_eq_skeleton]; unfold k0_part51_skel
  simp only [Prog.lift, Prog.bind_op, Prog.bind_ret, Prog.pure_eq_ret]
  iintro HS Hk
  iapply (st_send_rs V I c (s := 28) (by omega) k0_pay104 (hT 28 rfl) (cond_28 c) (dv := k0_dev38) rfl (o₀ := ![1792, 0]) rfl (place_28 c)) $$ HS
  iintro HS
  iapply (st_send_rs V I c (s := 29) (by omega) k0_pay105 (hT 29 rfl) (cond_29 c) (dv := k0_dev39) rfl (o₀ := ![1856, 0]) rfl (place_29 c)) $$ HS
  iintro HS
  rw [wp_ret]; imodintro
  iapply Hk $$ %_ HS

theorem part_52 (hT : ∀ r, r / 8 = 3 → k0_pay21 (T r) = V.rs c r) {v2 : BitVec 32} {c6_i32_1000 : BitVec 32} {Q : (Σ' (v1713 : BitVec 32) (v1714 : BitVec 32) (v1715 : BitVec 1), BitVec 32) → sProp 𝕄} :
    St V I c (D c 30 14) 2 ∅ 14 T ⊢ iprop((∀ (v1713 : BitVec 32) (v1714 : BitVec 32) (v1715 : BitVec 1) (c0_i32_1025 : BitVec 32), St V I c (D c 31 14) 2 ∅ 14 T -∗ Q ⟨v1713, v1714, v1715, c0_i32_1025⟩)
      -∗ wp frame (wpE (defs₀ (F := F)) 𝒱₀ (c : Thread nD τ) none) Set.univ (k0_part52 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 c6_i32_1000) Q) := by
  have hc := dev_val_lt c
  rw [k0_part52_eq_skeleton]; unfold k0_part52_skel
  simp only [Prog.lift, Prog.bind_op, Prog.bind_ret, Prog.pure_eq_ret]
  iintro HS Hk
  iapply (st_send_rs V I c (s := 30) (by omega) k0_pay106 (hT 30 rfl) (cond_30 c) (dv := k0_dev40) rfl (o₀ := ![1920, 0]) rfl (place_30 c)) $$ HS
  iintro HS
  rw [wp_ret]; imodintro
  iapply Hk $$ %_ %_ %_ %_ HS

theorem part_53 (hT : ∀ r, r / 8 = 3 → k0_pay21 (T r) = V.rs c r) {v2 : BitVec 32} {v1713 : BitVec 32} {v1714 : BitVec 32} {v1715 : BitVec 1} {c0_i32_1025 : BitVec 32} {Q : (Σ' (v1741 : BitVec 32) (v1745 : FVec F S64x1024 .f32), FVec F S64x1024 .f32) → sProp 𝕄} :
    St V I c (D c 31 14) 2 ∅ 14 T ⊢ iprop((∀ (v1741 : BitVec 32), St V I c (D c 32 14) 2 ∅ 21 T -∗ Q ⟨v1741, k0_pay108 (T (8 * 2 + c.val)), k0_pay109 (arrived V c 2)⟩)
      -∗ wp frame (wpE (defs₀ (F := F)) 𝒱₀ (c : Thread nD τ) none) Set.univ (k0_part53 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1713 v1714 v1715 c0_i32_1025) Q) := by
  have hc := dev_val_lt c
  rw [k0_part53_eq_skeleton]; unfold k0_part53_skel
  simp only [Prog.lift, Prog.bind_op, Prog.bind_ret, Prog.pure_eq_ret]
  iintro HS Hk
  iapply (st_send_rs V I c (s := 31) (by omega) k0_pay107 (hT 31 rfl) (cond_31 c) (dv := k0_dev41) rfl (o₀ := ![1984, 0]) rfl (place_31 c)) $$ HS
  iintro HS
  iapply (run_t5 V I c (s := 32) (by omega)) $$ HS
  iintro HS
  iapply (st_rows V I c (s := 8 * 2 + c.val) (by omega) (own_rows c).2.2.1) $$ HS
  iintro HS
  iapply (st_seven V I c (q := 2) (by omega) (by omega) rfl) $$ HS
  iintro HS
  rw [wp_ret]; imodintro
  iapply Hk $$ %_ HS

theorem part_54 (hr2 : k0_pay57 (T (8 * 2 + c.val)) (arrived V c 2) = V.ag c 2) (hr3 : k0_pay57 ((own V c 2 T) (8 * 3 + c.val)) (arrived V c 3) = V.ag c 3) {v2 : BitVec 32} {v1741 : BitVec 32} {Q : (BitVec 32) → sProp 𝕄} :
    St V I c (D c 32 14) 2 ∅ 21 T ⊢ iprop((∀ (c0_i32_1072 : BitVec 32), St V I c (D c 32 28) 4 ∅ 28 (own V c 3 (own V c 2 T)) -∗ Q (c0_i32_1072))
      -∗ wp frame (wpE (defs₀ (F := F)) 𝒱₀ (c : Thread nD τ) none) Set.univ (k0_part54 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 v1741 (k0_pay108 (T (8 * 2 + c.val))) (k0_pay109 (arrived V c 2))) Q) := by
  have hc := dev_val_lt c
  rw [k0_part54_eq_skeleton]; unfold k0_part54_skel
  simp only [Prog.lift, Prog.bind_op, Prog.bind_ret, Prog.pure_eq_ret]
  iintro HS Hk
  iapply (st_rows V I c (s := 8 * 2 + c.val) (by omega) (own_rows c).2.2.1) $$ HS
  iintro HS
  iapply (st_set_rows V I c (s := 8 * 2 + c.val) (by omega) (k0_pay56 (T (8 * 2 + c.val)) (arrived V c 2)) (own_rows c).2.2.1) $$ HS
  iintro HS
  iapply (st_red V I c (g := 2) (by omega) _ hr2 rfl) $$ HS
  iintro HS
  iapply (run_t6 V I c) $$ HS
  iintro HS
  iapply (run_t7 V I c (s := 32) (by omega)) $$ HS
  iintro HS
  iapply (st_rows V I c (s := 8 * 3 + c.val) (by omega) (own_rows c).2.2.2) $$ HS
  iintro HS
  iapply (st_seven V I c (q := 3) (by omega) (by omega) rfl) $$ HS
  iintro HS
  iapply (st_rows V I c (s := 8 * 3 + c.val) (by omega) (own_rows c).2.2.2) $$ HS
  iintro HS
  iapply (st_set_rows V I c (s := 8 * 3 + c.val) (by omega) (k0_pay56 ((own V c 2 T) (8 * 3 + c.val)) (arrived V c 3)) (own_rows c).2.2.2) $$ HS
  iintro HS
  iapply (st_red V I c (g := 3) (by omega) _ hr3 rfl) $$ HS
  iintro HS
  iapply (run_t8 V I c) $$ HS
  iintro HS
  rw [wp_ret]; imodintro
  iapply Hk $$ %_ HS

end Cert.RingProof
end
-- ==== Proof.Body.lean ====
/-
# The whole program on one device

From what a device starts with to what it ends with: the rows of its result hold, for each quarter, the sum of the eight contributions on the device that owns the piece, and the rounded sums of the other owners on the rest.
-/
module

public import proofs.«01_k».proof.Proof.Parts1
public import proofs.«01_k».proof.Proof.Parts2
public import proofs.«01_k».proof.Proof.Parts3
public import proofs.«01_k».proof.Proof.Parts4

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

/-- The four blocks of 512 rows of a device's own contribution. -/
def contrib (q : ℕ) (I : Ins F) : S512x1024.Idx → Elt F .f32 := if q = 0 then out_0 I else if q = 1 then out_1 I else if q = 2 then out_2 I else out_3 I

/-- The messages are what the program computes. -/
structure Fits : Prop where
  rs : ∀ s, s < 32 → V.rs c s = k0_pay21 (cut (contrib (s / 8) I) (s % 8))
  ag : ∀ q, q < 4 → V.ag c q = k0_pay57 (cut (contrib q I) c.val) (arrived V c q)

variable (T₀ : ℕ → Rows F)

abbrev rows1 : ℕ → Rows F := fun r => if r / 8 = 0 then cut (out_0 I) (r % 8) else T₀ r
abbrev rows2 : ℕ → Rows F := fun r => if r / 8 = 1 then cut (out_1 I) (r % 8) else rows1 I T₀ r
abbrev rows3 : ℕ → Rows F := own V c 0 (rows2 I T₀)
abbrev rows4 : ℕ → Rows F := fun r => if r / 8 = 2 then cut (out_2 I) (r % 8) else rows3 V I c T₀ r
abbrev rows5 : ℕ → Rows F := own V c 1 (rows4 V I c T₀)
abbrev rows6 : ℕ → Rows F := fun r => if r / 8 = 3 then cut (out_3 I) (r % 8) else rows5 V I c T₀ r
abbrev rows7 : ℕ → Rows F := own V c 3 (own V c 2 (rows6 V I c T₀))
/-- The rows of the result at the end. -/
def rowsEnd : ℕ → Rows F := gathered V c (rows7 V I c T₀) 28

section
variable {V I c} (hV : Fits V I c)
include hV

theorem sent_0 : ∀ r, r / 8 = 0 → k0_pay21 (rows1 I T₀ r) = V.rs c r := fun r h => by
  rw [hV.rs r (by omega)]; unfold rows1 contrib; rw [if_pos h, if_pos h]
theorem sent_1 : ∀ r, r / 8 = 1 → k0_pay21 (rows2 I T₀ r) = V.rs c r := fun r h => by
  rw [hV.rs r (by omega)]; unfold rows2 contrib; rw [if_pos h, if_neg (by omega), if_pos h]
theorem sent_2 : ∀ r, r / 8 = 2 → k0_pay21 (rows4 V I c T₀ r) = V.rs c r := fun r h => by
  rw [hV.rs r (by omega)]; unfold rows4 contrib; rw [if_pos h, if_neg (by omega), if_neg (by omega), if_pos h]
theorem sent_3 : ∀ r, r / 8 = 3 → k0_pay21 (rows6 V I c T₀ r) = V.rs c r := fun r h => by
  rw [hV.rs r (by omega)]; unfold rows6 contrib; rw [if_pos h, if_neg (by omega), if_neg (by omega), if_neg (by omega)]

theorem at_own_0 : rows2 I T₀ (8 * 0 + c.val) = cut (contrib 0 I) c.val := by
  have := dev_val_lt c
  unfold rows2 rows1 contrib; rw [if_neg (by omega), if_pos (by omega), if_pos rfl, show (8 * 0 + c.val) % 8 = c.val by omega]
theorem at_own_1 : rows4 V I c T₀ (8 * 1 + c.val) = cut (contrib 1 I) c.val := by
  have := dev_val_lt c
  unfold rows4 rows3 own; rw [if_neg (by omega), Function.update_of_ne (by omega)]
  unfold rows2 contrib; rw [if_pos (by omega), if_neg (by omega), if_pos rfl, show (8 * 1 + c.val) % 8 = c.val by omega]
theorem at_own_2 : rows6 V I c T₀ (8 * 2 + c.val) = cut (contrib 2 I) c.val := by
  have := dev_val_lt c
  unfold rows6 rows5 own; rw [if_neg (by omega), Function.update_of_ne (by omega)]
  unfold rows4 contrib; rw [if_pos (by omega), if_neg (by omega), if_neg (by omega), if_pos rfl, show (8 * 2 + c.val) % 8 = c.val by omega]
theorem at_own_3 : own V c 2 (rows6 V I c T₀) (8 * 3 + c.val) = cut (contrib 3 I) c.val := by
  have := dev_val_lt c
  unfold own; rw [Function.update_of_ne (by omega)]
  unfold rows6 contrib; rw [if_pos (by omega), if_neg (by omega), if_neg (by omega), if_neg (by omega), show (8 * 3 + c.val) % 8 = c.val by omega]

theorem given_0 : k0_pay57 (rows2 I T₀ (8 * 0 + c.val)) (arrived V c 0) = V.ag c 0 := by rw [at_own_0 T₀ hV, hV.ag 0 (by omega)]
theorem given_1 : k0_pay57 (rows4 V I c T₀ (8 * 1 + c.val)) (arrived V c 1) = V.ag c 1 := by rw [at_own_1 T₀ hV, hV.ag 1 (by omega)]
theorem given_2 : k0_pay57 (rows6 V I c T₀ (8 * 2 + c.val)) (arrived V c 2) = V.ag c 2 := by rw [at_own_2 T₀ hV, hV.ag 2 (by omega)]
theorem given_3 : k0_pay57 (own V c 2 (rows6 V I c T₀) (8 * 3 + c.val)) (arrived V c 3) = V.ag c 3 := by rw [at_own_3 T₀ hV, hV.ag 3 (by omega)]
end

/-! ## The first parts: the handshake -/

theorem part_6 {Q : (Σ' (d0 : Dev nD) (v2 : BitVec 32) (v3 : Sems sig S_) (v30 : BitVec 32) (c8_i32_18 : BitVec 32), BitVec 1) → sProp 𝕄} :
    Bar V c 0 ⊢ iprop((∀ (v2 : BitVec 32) (v30 : BitVec 32) (e : BitVec 32) (v31 : BitVec 1), Bar V c 2 -∗ Q ⟨c, v2, SemArray.scalar (sig.barrier 0 rfl), v30, e, v31⟩)
      -∗ wp frame (wpE (defs₀ (F := F)) 𝒱₀ (c : Thread nD τ) none) Set.univ (k0_part6 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5) Q) := by
  rw [k0_part6_eq_skeleton]; unfold k0_part6_skel
  simp only [semSignalWord, Prog.lift, Prog.bind_op, Prog.bind_ret, Prog.pure_eq_ret, wp_deviceId]
  iintro HS Hk
  iapply (st_signal V c (j := 0) (by omega) (Fin.ext (peer_0 c)) rfl) $$ HS
  iintro HS
  iapply (st_signal V c (j := 1) (by omega) (Fin.ext (peer_1 c)) rfl) $$ HS
  iintro HS
  rw [wp_ret]; imodintro
  iapply Hk $$ %_ %_ %_ %_ HS

theorem part_7 {v2 : BitVec 32} {v30 : BitVec 32} {e : BitVec 32} {v31 : BitVec 1} {Q : (Σ' (v59 : BitVec 32) (v64 : BitVec 1), BitVec 32) → sProp 𝕄} :
    Bar V c 2 ⊢ iprop((∀ (v59 : BitVec 32) (v64 : BitVec 1) (v65 : BitVec 32), Bar V c 4 -∗ Q ⟨v59, v64, v65⟩)
      -∗ wp frame (wpE (defs₀ (F := F)) 𝒱₀ (c : Thread nD τ) none) Set.univ (k0_part7 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 (SemArray.scalar (sig.barrier 0 rfl)) v30 e v31) Q) := by
  rw [k0_part7_eq_skeleton]; unfold k0_part7_skel
  simp only [semSignalWord, Prog.lift, Prog.bind_op, Prog.bind_ret, Prog.pure_eq_ret]
  iintro HS Hk
  iapply (st_signal V c (j := 2) (by omega) (Fin.ext (peer_2 c)) rfl) $$ HS
  iintro HS
  iapply (st_signal V c (j := 3) (by omega) (Fin.ext (peer_3 c)) rfl) $$ HS
  iintro HS
  rw [wp_ret]; imodintro
  iapply Hk $$ %_ %_ %_ HS

theorem part_8 {v2 : BitVec 32} {v59 : BitVec 32} {v64 : BitVec 1} {v65 : BitVec 32} {Q : (Σ' (v95 : IVec S512x512 32), BitVec 32) → sProp 𝕄} :
    iprop(Bar V c 4 ∗ cred (tallyAt (barC c) () 7) ∗ atPos ER (barC c) 0 ∅ 0) ⊢ iprop(((Rec V ∗ Owe c (Finset.range 56) ∗ atPos ER (barC c) 1 ∅ 0
        ∗ bigSep Finset.univ fun d : Fin 7 => barPay (F := F) c d.val) -∗ Q ⟨w95 I, w_c64_i32 I⟩)
      -∗ wp frame (wpE (defs₀ (F := F)) 𝒱₀ (c : Thread nD τ) none) Set.univ (k0_part8 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 c v2 (SemArray.scalar (sig.barrier 0 rfl)) v59 v64 v65) Q) := by
  rw [k0_part8_eq_skeleton]; unfold k0_part8_skel
  simp only [w95, w_c64_i32, semSignalWord, semWaitWord, Prog.lift, Prog.bind_op, Prog.bind_ret, Prog.pure_eq_ret]
  iintro ⟨HS, Hc, Ha⟩ Hk
  iapply (st_signal V c (j := 4) (by omega) (Fin.ext (peer_4 c)) rfl) $$ HS
  iintro HS
  iapply (st_signal V c (j := 5) (by omega) (Fin.ext (peer_5 c)) rfl) $$ HS
  iintro HS
  iapply (st_signal V c (j := 6) (by omega) (Fin.ext (peer_6 c)) rfl) $$ HS
  iintro HS
  iapply (st_bar_wait V c rfl) $$ [HS Hc Ha]
  · iframe HS Hc; iexact Ha
  iintro HS
  rw [wp_ret]; imodintro
  iapply Hk $$ HS

/-! ## What a device starts and ends with -/

theorem over_range {n : ℕ} (Φ : ℕ → sProp 𝕄) : bigSep (Finset.range n) Φ = bigSep Finset.univ fun i : Fin n => Φ i.val := by
  rw [← Nat.Iio_eq_range, ← Fin.map_valEmbedding_univ, bigSep_map]; rfl

theorem by_sevens (n : ℕ) (Φ : ℕ → sProp 𝕄) :
    (bigSep Finset.univ fun d : Fin 7 => bigSep (Finset.range n) fun q => Φ (7 * q + d.val)) = bigSep (Finset.range (n * 7)) Φ := by
  rw [over_range (n := n * 7)]
  refine Eq.trans ?_ (bigSep_univ_equiv ((Equiv.prodComm (Fin 7) (Fin n)).trans (finProdFinEquiv (m := n) (n := 7))) (fun k : Fin (n * 7) => Φ k.val)).symm
  rw [bigSep_univ_prod]
  refine bigSep_congr fun d _ => ?_
  rw [over_range (n := n)]
  refine bigSep_congr fun q _ => ?_
  show Φ (7 * q.val + d.val) = Φ (finProdFinEquiv (q, d) : Fin (n * 7)).val
  rw [show (finProdFinEquiv (q, d) : Fin (n * 7)).val = 7 * q.val + d.val from Nat.add_comm _ _]

theorem lent_all : (bigSep Finset.univ fun d : Fin 7 => barPay (F := F) c d.val) = bigSep (Finset.range 56) fun k => landing (F := F) (ow c k) k := by
  rw [show Finset.range 56 = Finset.range (8 * 7) from rfl, ← by_sevens]
  refine bigSep_congr fun d _ => ?_
  unfold barPay
  refine bigSep_congr fun q _ => ?_
  have hd := d.isLt
  rw [ow_mod c (a := 7 * q + d.val) (b := d.val) (by omega)]

/-- What a device starts with. -/
def Begin : sProp 𝕄 :=
  iprop(Bar V c 0 ∗ (cred (tallyAt (barC c) () 7) ∗ atPos ER (barC c) 0 ∅ 0)
    ∗ (bigSep (Finset.range 56) fun k => iprop(dutyTok ER (sndC c (sc k)) 0 (0 : Fin 7) ∗ dutyTok ER (rcvC (ow c k) k) 0 (0 : Fin 7)))
    ∗ (bigSep (Finset.range 56) fun k => srcSlot (F := F) c k) ∗ (bigSep (Finset.range 56) fun k => atPos ER (sndC c k) 0 ∅ 0)
    ∗ (bigSep (Finset.range 56) fun k => iprop(cred (tallyAt (rcvC c k) () N) ∗ atPos ER (rcvC c k) 0 ∅ 0))
    ∗ (bigSep (Finset.range 4) fun q => iprop(∃ w, slotPts m8 c q fullShare w)) ∗ Inp I c ∗ Out c T₀)

/-- What it ends with. -/
def Done (T : ℕ → Rows F) : sProp 𝕄 :=
  iprop(Rec V ∗ Owe c ∅ ∗ atPos ER (barC c) 1 ∅ 0 ∗ (bigSep (Finset.range 56) fun k => iprop(atPos ER (sndC c k) 1 ∅ 0 ∗ sndPay V c k))
    ∗ (bigSep (Finset.range 56) fun k => iprop(atPos ER (rcvC c k) 1 ∅ 0 ∗ rcvPay V c k)) ∗ Inp I c ∗ Out c T)

theorem kits_all : (iprop((bigSep (Finset.range 56) fun k => iprop(dutyTok ER (sndC c (sc k)) 0 (0 : Fin 7) ∗ dutyTok ER (rcvC (ow c k) k) 0 (0 : Fin 7)))
    ∗ (bigSep (Finset.range 56) fun k => landing (F := F) (ow c k) k) ∗ (bigSep (Finset.range 56) fun k => srcSlot (F := F) c k)) : sProp 𝕄) ⊢ Kits c (Finset.range 56) := by
  unfold Kits kit
  rw [bigSep_sep' _ (fun k => (iprop(dutyTok ER (sndC c (sc k)) 0 (0 : Fin 7) ∗ dutyTok ER (rcvC (ow c k) k) 0 (0 : Fin 7)) : sProp 𝕄)),
    bigSep_sep' _ (fun k => (landing (F := F) (ow c k) k : sProp 𝕄))]

theorem reorder {n : ℕ} (f : ℕ → ℕ) (hf : ∀ k, k < n → f k < n) (hff : ∀ k, f (f k) = k) (Φ : ℕ → sProp 𝕄) :
    (bigSep (Finset.range n) fun k => Φ (f k)) = bigSep (Finset.range n) Φ := by
  rw [over_range, over_range]
  exact (bigSep_univ_equiv (Equiv.ofBijective (fun i : Fin n => (⟨f i.val, hf _ i.isLt⟩ : Fin n))
    (Finite.injective_iff_bijective.mp fun i j h => Fin.ext (by rw [← hff i.val, show f i.val = f j.val from congrArg Fin.val h, hff]))) (fun k : Fin n => Φ k.val)).symm

theorem sent_all : (Sent (F := F) c ∅ : sProp 𝕄) = bigSep (Finset.range 56) fun k => cred (tallyAt (sndC c k) () N) := by
  unfold Sent
  rw [Finset.sdiff_empty]
  exact reorder sc (fun _ => sc_lt) sc_sc fun k => cred (tallyAt (sndC c k) () N)

theorem begin_st : iprop((Rec V ∗ Owe c (Finset.range 56)) ∗ (bigSep Finset.univ fun d : Fin 7 => barPay (F := F) c d.val)
    ∗ (bigSep (Finset.range 56) fun k => iprop(dutyTok ER (sndC c (sc k)) 0 (0 : Fin 7) ∗ dutyTok ER (rcvC (ow c k) k) 0 (0 : Fin 7)))
    ∗ (bigSep (Finset.range 56) fun k => srcSlot (F := F) c k)
    ∗ (bigSep (Finset.range 56) fun k => iprop(cred (tallyAt (rcvC c k) () N) ∗ atPos ER (rcvC c k) 0 ∅ 0))
    ∗ (bigSep (Finset.range 4) fun q => iprop(∃ w, slotPts m8 c q fullShare w)) ∗ Inp I c ∗ Out c T₀) ⊢ St V I c (D c 0 0) 0 ∅ 0 T₀ := by
  have e0 : Finset.Ico 0 56 = Finset.range 56 := by ext; simp
  have e1 : Finset.Ico 0 4 = Finset.range 4 := by ext; simp
  unfold St Red Rcv
  rw [D_all, lent_all, e0, e1]
  iintro ⟨⟨HR, HO⟩, Hl, Hd, Hs, Hv, H8, HI, HT⟩
  ihave HK := (kits_all c) $$ [Hl Hd Hs]
  · iframe Hd Hl; iexact Hs
  iframe HR HO HK Hv H8 HI HT
  unfold Sent
  rw [Finset.sdiff_self, Finset.range_zero, bigSep_empty, bigSep_empty, bigSep_empty]
  isplitl []
  · iempintro
  isplitl []
  · iempintro
  iempintro

theorem st_drains : iprop(St V I c (D c 32 28) 4 ∅ 56 T₀ ∗ (bigSep (Finset.range 56) fun k => atPos ER (sndC c k) 0 ∅ 0))
    ⊢ iprop(Dr V c 0 ∗ (bigSep (Finset.range 56) fun k => iprop(atPos ER (rcvC c k) 1 ∅ 0 ∗ rcvPay V c k)) ∗ Inp I c ∗ Out c T₀) := by
  have e0 : Finset.Ico 0 56 = Finset.range 56 := by ext; simp
  unfold St Rcv Dr
  rw [D_none, sent_all, e0]
  iintro ⟨⟨HR, HO, -, HC, -, ⟨-, Hv⟩, HI, HT⟩, Ha⟩
  iframe HR HO Hv HI HT
  rw [Finset.range_zero, bigSep_empty, bigSep_sep']
  iframe HC Ha
  iempintro

/-! ## The program -/

set_option maxHeartbeats 4000000 in
theorem body_part {Q : PUnit → sProp 𝕄} (hV : Fits V I c) :
    Begin V I c T₀ ⊢ iprop((iprop(Dr V c 28 ∗ atPos ER (barC c) 1 ∅ 0 ∗ (bigSep (Finset.range 56) fun k => iprop(atPos ER (rcvC c k) 1 ∅ 0 ∗ rcvPay V c k)) ∗ Inp I c ∗ Out c (rowsEnd V I c T₀)) -∗ Q ⟨⟩)
      -∗ wp frame (wpE (defs₀ (F := F)) 𝒱₀ (c : Thread nD τ) none) Set.univ (k0_part55 m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5) Q) := by
  rw [k0_part55_eq_skeleton]; unfold k0_part55_skel
  simp only [Prog.lift, Prog.bind_op, Prog.bind_ret, Prog.pure_eq_ret]
  unfold Begin
  iintro ⟨HB, ⟨Hcb, Hab⟩, Hd, Hs, Has, Hv, H8, HI, HT⟩ Hk
  rw [wp_bind]
  iapply (part_6 V c) $$ HB
  iintro %v2 %v30 %e1 %v31 HB
  dsimp only
  rw [wp_bind]
  iapply (part_7 V c) $$ HB
  iintro %v59 %v64 %v65 HB
  dsimp only
  rw [wp_bind]
  iapply (part_8 V I c) $$ [HB Hcb Hab]
  · iframe HB Hcb; iexact Hab
  iintro ⟨HR, HO, Hab, Hl⟩
  dsimp only
  ihave HS := (begin_st V I c T₀) $$ [HR HO Hl Hd Hs Hv H8 HI HT]
  · iframe HR HO Hl Hd Hs Hv H8 HI; iexact HT
  rw [wp_bind]
  iapply (part_9 V I c) $$ HS
  iintro  HS
  dsimp only
  rw [wp_bind]
  iapply (part_10 V I c) $$ HS
  iintro  HS
  dsimp only
  rw [wp_bind]
  iapply (part_11 V I c) $$ HS
  iintro  HS
  dsimp only
  rw [wp_bind]
  iapply (part_12 V I c) $$ HS
  iintro  HS
  dsimp only
  rw [wp_bind]
  iapply (part_13 V I c) $$ HS
  iintro %v292 %v293 %c8_i32_153 %v294 HS
  dsimp only
  rw [wp_bind]
  iapply (part_14 V I c (sent_0 T₀ hV)) $$ HS
  iintro %v321 %v324 %v325 %v326 %v329 HS
  dsimp only
  rw [wp_bind]
  iapply (part_15 V I c (sent_0 T₀ hV)) $$ HS
  iintro %v350 %v365 HS
  dsimp only
  rw [wp_bind]
  iapply (part_16 V I c (sent_0 T₀ hV)) $$ HS
  iintro %v396 %v398 HS
  dsimp only
  rw [wp_bind]
  iapply (part_17 V I c (sent_0 T₀ hV)) $$ HS
  iintro %v428 %v433 %v434 HS
  dsimp only
  rw [wp_bind]
  iapply (part_18 V I c (sent_0 T₀ hV)) $$ HS
  iintro %v466 %v467 %c8_i32_273 %v468 HS
  dsimp only
  rw [wp_bind]
  iapply (part_19 V I c (sent_0 T₀ hV)) $$ HS
  iintro %v495 %v498 %v499 %v500 %v503 HS
  dsimp only
  rw [wp_bind]
  iapply (part_20 V I c (sent_0 T₀ hV)) $$ HS
  iintro  HS
  dsimp only
  rw [wp_bind]
  iapply (part_21 V I c) $$ HS
  iintro  HS
  dsimp only
  rw [wp_bind]
  iapply (part_22 V I c) $$ HS
  iintro  HS
  dsimp only
  rw [wp_bind]
  iapply (part_23 V I c) $$ HS
  iintro  HS
  dsimp only
  rw [wp_bind]
  iapply (part_24 V I c) $$ HS
  iintro %v690 %c0_i32_396 HS
  dsimp only
  rw [wp_bind]
  iapply (part_25 V I c (sent_1 T₀ hV)) $$ HS
  iintro %v736 %c8_i32_419 %v737 HS
  dsimp only
  rw [wp_bind]
  iapply (part_26 V I c (sent_1 T₀ hV)) $$ HS
  iintro %v767 %v768 %v769 %v772 HS
  dsimp only
  rw [wp_bind]
  iapply (part_27 V I c (sent_1 T₀ hV)) $$ HS
  iintro %v806 %v807 %c8_i32_468 HS
  dsimp only
  rw [wp_bind]
  iapply (part_28 V I c (sent_1 T₀ hV)) $$ HS
  iintro %v835 %v838 %v839 %v840 %v841 %c0_i32_493 HS
  dsimp only
  rw [wp_bind]
  iapply (part_29 V I c (sent_1 T₀ hV)) $$ HS
  iintro %v864 %c6_i32_516 HS
  dsimp only
  rw [wp_bind]
  iapply (part_30 V I c (sent_1 T₀ hV)) $$ HS
  iintro %v911 %c0_i32_540 HS
  dsimp only
  rw [wp_bind]
  iapply (part_31 V I c (given_0 T₀ hV)) $$ HS
  iintro  HS
  dsimp only
  rw [wp_bind]
  iapply (part_32 V I c) $$ HS
  iintro  HS
  dsimp only
  rw [wp_bind]
  iapply (part_33 V I c) $$ HS
  iintro  HS
  dsimp only
  rw [wp_bind]
  iapply (part_34 V I c) $$ HS
  iintro  HS
  dsimp only
  rw [wp_bind]
  iapply (part_35 V I c) $$ HS
  iintro %v1105 %c0_i32_639 HS
  dsimp only
  rw [wp_bind]
  iapply (part_36 V I c (sent_2 T₀ hV)) $$ HS
  iintro %v1134 %v1137 %v1138 %v1139 %c0_i32_664 HS
  dsimp only
  rw [wp_bind]
  iapply (part_37 V I c (sent_2 T₀ hV)) $$ HS
  iintro %v1163 %v1175 %c14_i32_687 HS
  dsimp only
  rw [wp_bind]
  iapply (part_38 V I c (sent_2 T₀ hV)) $$ HS
  iintro %v1209 %c8_i32_711 HS
  dsimp only
  rw [wp_bind]
  iapply (part_39 V I c (sent_2 T₀ hV)) $$ HS
  iintro %v1240 %v1241 %v1242 %v1243 %c0_i32_736 HS
  dsimp only
  rw [wp_bind]
  iapply (part_40 V I c (sent_2 T₀ hV)) $$ HS
  iintro %v1279 %c6_i32_759 HS
  dsimp only
  rw [wp_bind]
  iapply (part_41 V I c (sent_2 T₀ hV)) $$ HS
  iintro %v1308 %v1311 %v1312 %v1313 %c0_i32_784 HS
  dsimp only
  rw [wp_bind]
  iapply (part_42 V I c (sent_2 T₀ hV) (given_1 T₀ hV)) $$ HS
  iintro  HS
  rw [wp_bind]
  iapply (part_43 V I c) $$ HS
  iintro  HS
  dsimp only
  rw [wp_bind]
  iapply (part_44 V I c) $$ HS
  iintro  HS
  dsimp only
  rw [wp_bind]
  iapply (part_45 V I c) $$ HS
  iintro  HS
  dsimp only
  rw [wp_bind]
  iapply (part_46 V I c) $$ HS
  iintro %c0_i32_881 HS
  rw [wp_bind]
  iapply (part_47 V I c (sent_3 T₀ hV)) $$ HS
  iintro %v1539 %v1540 %v1541 %c0_i32_905 HS
  dsimp only
  rw [wp_bind]
  iapply (part_48 V I c (sent_3 T₀ hV)) $$ HS
  iintro %v1577 %c21_i32_928 HS
  dsimp only
  rw [wp_bind]
  iapply (part_49 V I c (sent_3 T₀ hV)) $$ HS
  iintro %v1607 %v1610 %v1611 %c0_i32_953 HS
  dsimp only
  rw [wp_bind]
  iapply (part_50 V I c (sent_3 T₀ hV)) $$ HS
  iintro %v1636 %v1647 %c1_i32_976 HS
  dsimp only
  rw [wp_bind]
  iapply (part_51 V I c (sent_3 T₀ hV)) $$ HS
  iintro %c6_i32_1000 HS
  rw [wp_bind]
  iapply (part_52 V I c (sent_3 T₀ hV)) $$ HS
  iintro %v1713 %v1714 %v1715 %c0_i32_1025 HS
  dsimp only
  rw [wp_bind]
  iapply (part_53 V I c (sent_3 T₀ hV)) $$ HS
  iintro %v1741 HS
  dsimp only
  rw [wp_bind]
  iapply (part_54 V I c (given_2 T₀ hV) (given_3 T₀ hV)) $$ HS
  iintro %c0_i32_1072 HS
  rw [D_none]
  iapply (run_t9 V I c) $$ HS
  iintro HS
  ihave HS := (st_drains V I c (gathered V c (rows7 V I c T₀) 28)) $$ [HS Has]
  · rw [D_none]
    iframe HS
    iexact Has
  icases HS with ⟨HD, Hv, HI, HT⟩
  iapply (run_t10 V c) $$ HD
  iintro HD
  rw [wp_ret]; imodintro
  iapply Hk
  iframe HD Hab Hv HI
  iexact HT

theorem body {Q : PUnit → sProp 𝕄} (hV : Fits V I c) :
    Begin V I c T₀ ⊢ iprop((Done V I c (rowsEnd V I c T₀) -∗ |={Set.univ}=> Q ⟨⟩) -∗ wp frame (wpE (defs₀ (F := F)) 𝒱₀ (c : Thread nD τ) none) Set.univ (cc0__body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5) Q) := by
  rw [cc0__body_eq_skeleton]; unfold cc0__body_skel
  simp only [Prog.lift, Prog.bind_op, Prog.bind_ret, Prog.pure_eq_ret]
  iintro HS Hk
  rw [wp_bind]
  iapply (body_part V I c T₀ hV) $$ HS
  iintro ⟨HD, Hab, Hv, HI, HT⟩
  iapply (run_t11 V c) $$ HD
  iintro HD
  rw [wp_ret]
  iapply Hk
  unfold Dr Done
  icases HD with ⟨HR, HO, -, Hs⟩
  iframe HR HO Hab Hs Hv HI
  iexact HT

end Cert.RingProof
end
-- ==== Proof.Result.lean ====
/-
# The result on each device

The messages the eight devices exchange, from their blocks, and the rows of the result: on its own pieces a device keeps the sum it computed, on the others it holds what their owners sent.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

/-- The messages, from every device's blocks. -/
def msgs (J : Dev nD → Ins F) : Msgs F where
  rs c s := k0_pay21 (cut (contrib (s / 8) (J c)) (s % 8))
  ag c q := k0_pay57 (cut (contrib q (J c)) c.val) (stack fun j => k0_pay21 (cut (contrib ((8 * q + c.val) / 8) (J (fr c j))) ((8 * q + c.val) % 8)))

theorem msgs_fits (J : Dev nD → Ins F) (c : Dev nD) : Fits (msgs J) (J c) c := ⟨fun _ _ => rfl, fun _ _ => rfl⟩

/-- The rows of piece `r` of the result on device `c`. -/
def finalRow (r : ℕ) : Rows F :=
  if r % 8 = c.val then k0_pay56 (cut (contrib (r / 8) I) c.val) (arrived V c (r / 8)) else k0_pay114 (V.ag ⟨r % 8, dev_lt _⟩ (r / 8))

theorem gathered_row (n : ℕ) (hn : n ≤ 28) {r : ℕ} : gathered V c T n r = if ∃ i < n, r = 8 * (i / 7) + (fr c i).val then k0_pay114 (V.ag ⟨r % 8, dev_lt _⟩ (r / 8)) else T r := by
  induction n with
  | zero => rw [if_neg (by rintro ⟨i, hi, -⟩; omega)]; rfl
  | succ n ih =>
    have hf := dev_val_lt (fr c n)
    show Function.update (gathered V c T n) (8 * (n / 7) + (fr c n).val) (k0_pay114 (V.ag (fr c n) (n / 7))) r = _
    by_cases h : r = 8 * (n / 7) + (fr c n).val
    · rw [if_pos ⟨n, Nat.lt_succ_self n, h⟩, h, Function.update_self]
      have e1 : fr c n = ⟨(8 * (n / 7) + (fr c n).val) % 8, dev_lt _⟩ := Fin.ext (by show (fr c n).val = (8 * (n / 7) + (fr c n).val) % 8; omega)
      rw [← e1, show (8 * (n / 7) + (fr c n).val) / 8 = n / 7 by omega]
    · rw [Function.update_of_ne h, ih (by omega)]
      refine if_congr ⟨?_, ?_⟩ rfl rfl
      · rintro ⟨i, hi, e⟩; exact ⟨i, by omega, e⟩
      · rintro ⟨i, hi, e⟩
        refine ⟨i, ?_, e⟩
        rcases Nat.lt_succ_iff_lt_or_eq.mp hi with h' | rfl
        · exact h'
        · exact absurd e h

theorem rowsEnd_eq {V : Msgs F} {I : Ins F} {c : Dev nD} (T₀ : ℕ → Rows F) (hV : Fits V I c) {r : ℕ} (hr : r < 32) : rowsEnd V I c T₀ r = finalRow V I c r := by
  have hc := dev_val_lt c
  unfold rowsEnd finalRow
  rw [gathered_row V c 28 (le_refl _)]
  by_cases h : r % 8 = c.val
  · rw [if_pos h, if_neg (by
      rintro ⟨i, hi, e⟩
      have : (fr c i).val = (c.val + 1 + i % 7) % 8 := rfl
      omega)]
    obtain ⟨q, rfl, hq⟩ : ∃ q, r = 8 * q + c.val ∧ q < 4 := ⟨r / 8, by omega, by omega⟩
    rw [show (8 * q + c.val) / 8 = q by omega]
    unfold rows7
    obtain rfl | rfl | rfl | rfl : q = 3 ∨ q = 2 ∨ q = 1 ∨ q = 0 := by omega
    · rw [← at_own_3 T₀ hV, show own V c 3 _ _ = _ from Function.update_self _ _ _]
    · rw [← at_own_2 T₀ hV, show own V c 3 _ _ = _ from Function.update_of_ne (by omega) _ _, show own V c 2 _ _ = _ from Function.update_self _ _ _]
    · rw [← at_own_1 T₀ hV, show own V c 3 _ _ = _ from Function.update_of_ne (by omega) _ _, show own V c 2 _ _ = _ from Function.update_of_ne (by omega) _ _]
      show (if (8 * 1 + c.val) / 8 = 3 then _ else own V c 1 (rows4 V I c T₀) (8 * 1 + c.val)) = _
      rw [if_neg (by omega)]
      exact Function.update_self _ _ _
    · rw [← at_own_0 T₀ hV, show own V c 3 _ _ = _ from Function.update_of_ne (by omega) _ _, show own V c 2 _ _ = _ from Function.update_of_ne (by omega) _ _]
      show (if (8 * 0 + c.val) / 8 = 3 then _ else own V c 1 (rows4 V I c T₀) (8 * 0 + c.val)) = _
      rw [if_neg (by omega), show own V c 1 _ _ = _ from Function.update_of_ne (by omega) _ _]
      show (if (8 * 0 + c.val) / 8 = 2 then _ else own V c 0 (rows2 I T₀) (8 * 0 + c.val)) = _
      rw [if_neg (by omega)]
      exact Function.update_self _ _ _
  · rw [if_neg h, if_pos]
    refine ⟨7 * (r / 8) + (r % 8 + 7 - c.val) % 8, by omega, ?_⟩
    show r = 8 * ((7 * (r / 8) + (r % 8 + 7 - c.val) % 8) / 7) + (c.val + 1 + (7 * (r / 8) + (r % 8 + 7 - c.val) % 8) % 7) % 8
    omega

/-- A result assembled from its 32 row pieces. -/
def glue (T : ℕ → Rows F) : S2048x1024.Idx → Elt F .f32 := fun i =>
  T ((i 0 : ℕ) / 64) (Fin.cons (α := fun a => Fin (S64x1024.size a)) (⟨(i 0 : ℕ) % 64, Nat.mod_lt _ (by decide)⟩ : Fin 64) (Fin.cons (i 1) (fun a => a.elim0)))

omit [FloatOps F] in
theorem glue_rows {f : (cc0_stg5_0 : Ref sig .tc).ty.Contents (Elt F)} {T : ℕ → Rows F} (h : ∀ s, s < 32 → rowsOf m5 f s = T s) : f = glue T := by
  funext i
  have hi : (i 0 : ℕ) < 2048 := (i 0).isLt
  have := congrFun (h ((i 0 : ℕ) / 64) (by omega)) (Fin.cons (α := fun a => Fin (S64x1024.size a)) (⟨(i 0 : ℕ) % 64, Nat.mod_lt _ (by decide)⟩ : Fin 64) (Fin.cons (i 1) (fun a => a.elim0)))
  unfold glue
  refine Eq.trans ?_ this
  unfold rowsOf
  rw [View.read_apply]
  refine congrArg f (funext fun a => Fin.ext ?_)
  fin_cases a
  · show (i 0 : ℕ) = 64 * ((i 0 : ℕ) / 64 % 32) + 1 * ((i 0 : ℕ) % 64); omega
  · show (i 1 : ℕ) = 0 + 1 * (i 1 : ℕ); omega

/-- The result on device `c`. -/
def result (J : Dev nD → Ins F) : S2048x1024.Idx → Elt F .f32 := glue (finalRow (msgs J) (J c) c)

omit [FloatOps F] in
theorem glue_congr {T T' : ℕ → Rows F} (h : ∀ s, s < 32 → T s = T' s) : glue T = glue T' := funext fun i => by
  have hi : (i 0 : ℕ) < 2048 := (i 0).isLt
  unfold glue; rw [h _ (by omega)]

end Cert.RingProof
end
-- ==== Proof.Deal.lean ====
/-
# Dealing out and collecting

The conjunctions over a device’s semaphores, tokens, landing slots and source slots, regrouped from how they are made to how they are used, and back at the end.
-/
module

public import proofs.«01_k».proof.Proof.Result

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Msgs F) (I : Ins F) (c : Dev nD) {Dn : Finset ℕ} {g : ℕ} {P : Finset ℕ} {w : ℕ} {T : ℕ → Rows F}

theorem range_add (a b : ℕ) (Φ : ℕ → sProp 𝕄) : bigSep (Finset.range (a + b)) Φ = iprop(bigSep (Finset.range a) Φ ∗ bigSep (Finset.range b) fun k => Φ (a + k)) := by
  rw [over_range (n := a + b), bigSep_univ_equiv (finSumFinEquiv (m := a) (n := b)), bigSep_univ_sum, over_range (n := a), over_range (n := b)]
  refine congrArg₂ (fun x y => iprop(x ∗ y)) (bigSep_congr fun i _ => ?_) (bigSep_congr fun i _ => ?_)
  · rw [finSumFinEquiv_apply_left]; rfl
  · rw [finSumFinEquiv_apply_right]; rfl

theorem range_56 (Φ : ℕ → sProp 𝕄) : bigSep (Finset.range 56) Φ = iprop(bigSep (Finset.range 28) Φ ∗ bigSep (Finset.range 28) fun k => Φ (28 + k)) := range_add 28 28 Φ

/-! ## The semaphores -/

/-- The 112 transfer semaphores. -/
def osem (i : Fin 112) : SemLoc sig := ksem i.succ

theorem osem_snd {k : ℕ} (hk : k < 56) (h : k < 112) : osem ⟨k, h⟩ = .dma (sndS k) := by
  rw [← ksem_snd k]
  exact congrArg ksem (Fin.ext (by show k + 1 = 1 + k % 56; omega))
theorem osem_rcv {k : ℕ} (hk : k < 56) (h : 56 + k < 112) : osem ⟨56 + k, h⟩ = .dma (rcvS k) := by
  rw [← ksem_rcv k]
  exact congrArg ksem (Fin.ext (by show 56 + k + 1 = 57 + k % 56; omega))

theorem own_cells (Ψ : SemLoc sig → sProp 𝕄) :
    (bigSep Finset.univ fun i : Fin 112 => Ψ (osem i)) = iprop((bigSep (Finset.range 56) fun k => Ψ (.dma (sndS k))) ∗ bigSep (Finset.range 56) fun k => Ψ (.dma (rcvS k))) := by
  rw [bigSep_univ_equiv (finSumFinEquiv (m := 56) (n := 56)), bigSep_univ_sum, over_range (n := 56), over_range (n := 56)]
  refine congrArg₂ (fun x y => iprop(x ∗ y)) (bigSep_congr fun i _ => ?_) (bigSep_congr fun i _ => ?_)
  · rw [← osem_snd i.isLt (by have := i.isLt; omega), finSumFinEquiv_apply_left]; rfl
  · rw [← osem_rcv i.isLt (by have := i.isLt; omega), finSumFinEquiv_apply_right]; rfl

theorem all_cells (Ψ : SemLoc sig → sProp 𝕄) :
    (bigSep Finset.univ fun i : Fin 113 => Ψ (ksem i)) = iprop(Ψ (.reg barS) ∗ (bigSep (Finset.range 56) fun k => Ψ (.dma (sndS k))) ∗ bigSep (Finset.range 56) fun k => Ψ (.dma (rcvS k))) := by
  rw [bigSep_univ_equiv (finSumFinEquiv (m := 1) (n := 112)), bigSep_univ_sum, bigSep_univ_of_subsingleton (0 : Fin 1), ← own_cells]
  refine congrArg₂ (fun x y => iprop(x ∗ y)) ?_ (bigSep_congr fun i _ => ?_)
  · rfl
  · rw [finSumFinEquiv_apply_right]
    exact congrArg (fun j => Ψ (ksem j)) (Fin.ext (by show 1 + i.val = i.val + 1; omega))

theorem ksem_injective : Function.Injective ksem := by
  intro i j h
  unfold ksem at h
  by_cases hi : i.val = 0 <;> by_cases hj : j.val = 0
  · exact Fin.ext (by omega)
  · rw [dif_pos hi, dif_neg hj] at h; cases h
  · rw [dif_neg hi, dif_pos hj] at h; cases h
  · rw [dif_neg hi, dif_neg hj] at h
    have h := congrArg Fin.val (SemLoc.dma.inj h : (_ : Fin 118) = _)
    have h : 5 + i.val = 5 + j.val := h
    exact Fin.ext (by omega)

theorem kcell_injective : Function.Injective (kcell : Dev nD × Fin 113 → GSem nD τ sig) := by
  rintro ⟨c, k⟩ ⟨c', k'⟩ h
  obtain rfl : c = c' := congrArg (fun g : GSem nD τ sig => g.1.1) h
  obtain rfl : k = k' := ksem_injective (congrArg Prod.snd h)
  rfl

/-! ## The tokens -/

/-- One token for each unit of each semaphore: seven for a barrier's, one for each other. -/
def tokOf (x : Dev nD × (Fin 7 ⊕ (Fin 56 ⊕ Fin 56))) : GSem nD τ sig × ℕ × Fin 7 :=
  match x.2 with
  | .inl d => (barC x.1, 0, d)
  | .inr (.inl k) => (sndC x.1 k.val, 0, 0)
  | .inr (.inr k) => (rcvC x.1 k.val, 0, 0)

theorem tokOf_injective : Function.Injective tokOf := by
  rintro ⟨c, x⟩ ⟨c', x'⟩ h
  have h1 : c = c' := by
    have := congrArg (fun x : GSem nD τ sig × ℕ × Fin 7 => x.1.1.1) h
    rcases x with d | k | k <;> rcases x' with d' | k' | k' <;> exact this
  subst h1
  have key : ∀ y : Fin 7 ⊕ (Fin 56 ⊕ Fin 56), (cls (tokOf (c, y)).1.2, (tokOf (c, y)).2.2) = match y with
      | .inl d => (Cls.bar, d) | .inr (.inl k) => (Cls.snd k.val, 0) | .inr (.inr k) => (Cls.rcv k.val, 0) := by
    rintro (d | k | k)
    · rfl
    · exact Prod.ext (cls_snd k.isLt) rfl
    · exact Prod.ext (cls_rcv k.isLt) rfl
  have h2 := (key x).symm.trans ((congrArg (fun x : GSem nD τ sig × ℕ × Fin 7 => (cls x.1.2, x.2.2)) h).trans (key x'))
  rcases x with d | k | k <;> rcases x' with d' | k' | k'
  · obtain rfl : d = d' := (Prod.mk.inj h2).2; rfl
  · cases (Prod.mk.inj h2).1
  · cases (Prod.mk.inj h2).1
  · cases (Prod.mk.inj h2).1
  · obtain rfl := Fin.ext (Cls.snd.inj (Prod.mk.inj h2).1); rfl
  · cases (Prod.mk.inj h2).1
  · cases (Prod.mk.inj h2).1
  · cases (Prod.mk.inj h2).1
  · obtain rfl := Fin.ext (Cls.rcv.inj (Prod.mk.inj h2).1); rfl

/-- The tokens of a device's own semaphores. -/
def toks (c : Dev nD) : sProp 𝕄 :=
  iprop((bigSep Finset.univ fun d : Fin 7 => dutyTok ER (barC c) 0 d) ∗ (bigSep (Finset.range 56) fun k => dutyTok ER (sndC c k) 0 (0 : Fin 7))
    ∗ bigSep (Finset.range 56) fun k => dutyTok ER (rcvC c k) 0 (0 : Fin 7))
/-- The tokens of the units a device pays. -/
def payToks (c : Dev nD) : sProp 𝕄 :=
  iprop((bigSep Finset.univ fun d : Fin 7 => dutyTok ER (barC (fr c d.val)) 0 d)
    ∗ bigSep (Finset.range 56) fun k => iprop(dutyTok ER (sndC c (sc k)) 0 (0 : Fin 7) ∗ dutyTok ER (rcvC (ow c k) k) 0 (0 : Fin 7)))

/-- Round the ring by `k % 7 + 1`. -/
def turn (k : ℕ) : Dev nD ≃ Dev nD := ⟨fun c => fr c k, fun c => ow c k, fun c => ow_fr c k, fun c => fr_ow c k⟩

theorem around {n : ℕ} (e : Fin n → (Dev nD ≃ Dev nD)) (A : Dev nD → Fin n → sProp 𝕄) :
    (bigSep Finset.univ fun c => bigSep Finset.univ fun k => A c k) = bigSep Finset.univ fun c => bigSep Finset.univ fun k => A (e k c) k := by
  rw [bigSep_univ_comm, bigSep_univ_comm (fun c k => A (e k c) k)]
  exact bigSep_congr fun k _ => bigSep_univ_equiv (e k) fun c => A c k

theorem toks_around : (bigSep Finset.univ fun c : Dev nD => (toks c : sProp 𝕄)) = bigSep Finset.univ fun c : Dev nD => payToks c := by
  unfold toks payToks
  simp only [bigSep_sep']
  rw [around (fun k => turn k.val) (fun c (d : Fin 7) => (dutyTok ER (barC c) 0 d : sProp 𝕄))]
  have e1 : ∀ c : Dev nD, (bigSep (Finset.range 56) fun k => (dutyTok ER (sndC c (sc k)) 0 (0 : Fin 7) : sProp 𝕄)) = bigSep (Finset.range 56) fun k => dutyTok ER (sndC c k) 0 (0 : Fin 7) :=
    fun c => reorder sc (fun _ => sc_lt) sc_sc fun k => dutyTok ER (sndC c k) 0 (0 : Fin 7)
  have e2 : (bigSep Finset.univ fun c : Dev nD => bigSep (Finset.range 56) fun k => (dutyTok ER (rcvC c k) 0 (0 : Fin 7) : sProp 𝕄))
      = bigSep Finset.univ fun c : Dev nD => bigSep (Finset.range 56) fun k => dutyTok ER (rcvC (ow c k) k) 0 (0 : Fin 7) := by
    simp only [over_range (n := 56)]
    exact around (fun k => (turn k.val).symm) (fun c (k : Fin 56) => (dutyTok ER (rcvC c k.val) 0 (0 : Fin 7) : sProp 𝕄))
  rw [e2, bigSep_congr fun c _ => e1 c]
  rfl

/-! ## The exchange buffers at the start -/

theorem cut_up {n : ℕ} [NeZero n] (M : Sc n) (hM : M.view.set = Finset.univ) (c : Dev nD) :
    (iprop(∃ f : M.view.ty.Contents (Elt F), M.view.loc (c : Thread nD τ) ↦{fullShare} f) : sProp 𝕄) ⊢ bigSep (Finset.range n) fun k => iprop(∃ w, slotPts M c k fullShare w) := by
  have h := fun f => slots_split (F := F) M c fullShare f
  rw [hM] at h
  iintro ⟨%f, H⟩
  iapply (h f) $$ H

theorem put_together {n : ℕ} [NeZero n] (M : Sc n) (hM : M.view.set = Finset.univ) (c : Dev nD) :
    (bigSep (Finset.range n) fun k => iprop(∃ w, slotPts M c k fullShare w)) ⊢ (iprop(∃ f : M.view.ty.Contents (Elt F), M.view.loc (c : Thread nD τ) ↦{fullShare} f) : sProp 𝕄) := by
  have h := slots_join (F := F) M c fullShare
  rw [hM] at h
  exact h

theorem land_56 (c : Dev nD) : (iprop((bigSep (Finset.range 28) fun k => iprop(∃ w, slotPts m7 c k fullShare w)) ∗ bigSep (Finset.range 28) fun k => iprop(∃ w, slotPts m9 c k fullShare w)) : sProp 𝕄)
    = bigSep (Finset.range 56) fun k => landing (F := F) c k := by
  rw [range_56]
  refine congrArg₂ (fun x y => iprop(x ∗ y)) (bigSep_congr fun k hk => ?_) (bigSep_congr fun k hk => ?_)
  · unfold landing; rw [if_pos (Finset.mem_range.mp hk)]
  · unfold landing; rw [if_neg (by omega), Nat.add_sub_cancel_left]

theorem lend_56 (c : Dev nD) : (bigSep (Finset.range 56) fun k => landing (F := F) c k : sProp 𝕄) = bigSep Finset.univ fun d : Fin 7 => barPay (fr c d.val) d.val := by
  rw [show Finset.range 56 = Finset.range (8 * 7) from rfl, ← by_sevens]
  refine bigSep_congr fun d _ => ?_
  unfold barPay; rw [ow_fr]

theorem src_56 (c : Dev nD) : (bigSep (Finset.range 28) fun k => iprop(∃ w, slotPts m6 c k fullShare w) : sProp 𝕄) = bigSep (Finset.range 56) fun k => srcSlot (F := F) c k := by
  rw [range_56, ← reorder isl (fun _ => isl_lt) isl_isl fun k => iprop(∃ w, slotPts (F := F) m6 c k fullShare w),
    bigSep_congr (s := Finset.range 28) (Ψ := fun _ => (BI.emp : sProp 𝕄)) (Φ := fun k => srcSlot c (28 + k)) fun k _ => by unfold srcSlot; rw [if_neg (by omega)]; rfl, bigSep_emp_const]
  rw [bigSep_congr (s := Finset.range 28) (Φ := fun k => srcSlot (F := F) c k) (Ψ := fun k => iprop(∃ w, slotPts m6 c (isl k) fullShare w)) fun k hk => by
    unfold srcSlot; rw [if_pos (Finset.mem_range.mp hk)]]
  exact (equiv_iff.mp BI.sep_emp).symm

theorem bar_start (c : Dev nD) : (iprop(Rec V ∗ Owe c (Finset.range 63) ∗ (bigSep Finset.univ fun d : Fin 7 => dutyTok ER (barC (fr c d.val)) 0 d)
    ∗ bigSep Finset.univ fun d : Fin 7 => barPay (F := F) (fr c d.val) d.val) : sProp 𝕄) ⊢ Bar V c 0 := by
  unfold Bar
  rw [EE_zero, show Finset.Ico 0 7 = Finset.range 7 by ext; simp, over_range (n := 7), bigSep_sep']
  rw [bigSep_congr (s := Finset.univ) (Φ := fun d : Fin 7 => (dutyTok ER (barC (fr c d.val)) 0 (fin7 d.val) : sProp 𝕄)) (Ψ := fun d => dutyTok ER (barC (fr c d.val)) 0 d) fun d _ => by
    rw [show fin7 d.val = d from Fin.ext (fin7_val d.isLt)]]

/-! ## The end -/

theorem close_cells (f : ℕ → GSem nD τ sig) (hf : ∀ k, k < 56 → Rec V ⊢ known V (f k)) :
    iprop(Rec V ∗ bigSep (Finset.range 56) fun k => atPos ER (f k) 1 ∅ 0) ⊢ (|={Set.univ}=> bigSep (Finset.range 56) fun k => (semVal (f k) 0 : sProp 𝕄)) := by
  refine BIBase.Entails.trans (bigSep_with_persistent (R := Rec V) (Ψ := fun k => iprop(|={Set.univ}=> semVal (f k) 0)) fun k hk => ?_) (bigSep_fupd _ _)
  iintro ⟨HR, Ha⟩
  ihave Hk := (hf k (Finset.mem_range.mp hk)) $$ HR
  unfold known
  icases Hk with ⟨⟨%κ, Hκ⟩, -⟩
  iapply (Rounds.cell_close ER (exch V) (Set.mem_univ κ) (fun h => h) (R := 1) (duties_later V (f k)))
  isplitl [Hκ]
  · iexact Hκ
  iexact Ha

theorem close_bar : iprop(Rec V ∗ atPos ER (barC c) 1 ∅ 0) ⊢ (|={Set.univ}=> (semVal (barC c) 0 : sProp 𝕄)) := by
  iintro ⟨HR, Ha⟩
  ihave Hk := (rec_bar V c) $$ HR
  unfold known
  icases Hk with ⟨⟨%κ, Hκ⟩, -⟩
  iapply (Rounds.cell_close ER (exch V) (Set.mem_univ κ) (fun h => h) (R := 1) (duties_later V (barC c)))
  isplitl [Hκ]
  · iexact Hκ
  iexact Ha

theorem rcv_back : (bigSep (Finset.range 56) fun k => rcvPay V c k : sProp 𝕄) ⊢ bigSep (Finset.range 56) fun k => landing (F := F) c k :=
  bigSep_mono fun k _ => by
    show (rcvPay V c k : sProp 𝕄) ⊢ landing c k
    unfold rcvPay landing
    split
    · iintro H; iexists _; iexact H
    · iintro H; iexists _; iexact H

theorem snd_back : (bigSep (Finset.range 56) fun k => sndPay V c k : sProp 𝕄)
    ⊢ iprop((bigSep (Finset.range 28) fun k => iprop(∃ w, slotPts (F := F) m6 c k fullShare w)) ∗ bigSep (Finset.range 4) fun q => iprop(∃ w, slotPts (F := F) m8 c q fullShare w)) := by
  rw [range_56, ← reorder isl (fun _ => isl_lt) isl_isl fun k => iprop(∃ w, slotPts (F := F) m6 c k fullShare w)]
  refine BI.sep_mono (bigSep_mono fun k hk => ?_) ?_
  · show (sndPay V c k : sProp 𝕄) ⊢ iprop(∃ w, slotPts m6 c (isl k) fullShare w)
    unfold sndPay
    rw [if_pos (Finset.mem_range.mp hk)]
    iintro H; iexists _; iexact H
  · rw [show Finset.range 28 = Finset.range (4 * 7) from rfl, ← by_sevens 4 (fun k => sndPay V c (28 + k))]
    simp only [over_range (n := 4)]
    rw [bigSep_univ_comm]
    refine bigSep_mono fun q _ => ?_
    show (bigSep Finset.univ fun d : Fin 7 => sndPay V c (28 + (7 * q.val + d.val)) : sProp 𝕄) ⊢ iprop(∃ w, slotPts m8 c q.val fullShare w)
    have e : ∀ d : Fin 7, (sndPay V c (28 + (7 * q.val + d.val)) : sProp 𝕄) = slotPts m8 c q.val (seventh d) (V.ag c q.val) := fun d => by
      have hd := d.isLt
      unfold sndPay piece
      rw [if_neg (by omega), Nat.add_sub_cancel_left, show (7 * q.val + d.val) / 7 = q.val by omega,
        show (⟨(7 * q.val + d.val) % 7, Nat.mod_lt _ (by decide)⟩ : Fin 7) = d from Fin.ext (by show (7 * q.val + d.val) % 7 = d.val; omega)]
    rw [bigSep_congr fun d _ => e d, ← slot_sevenths]
    iintro H; iexists _; iexact H

end Cert.RingProof
end
-- ==== Proof.Launch.lean ====
/-
# The launch

Eight devices from arbitrary memory with every counter at zero: what the launch deals each of them, what each gives back, and the run of the whole program.
-/
module

public import proofs.«01_k».proof.Proof.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- A device's blocks. -/
def ins (c : Dev nD) : Ins F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

abbrev VV : Msgs F := msgs (ins m)

/-! ## What is dealt -/

/-- What the launch makes for device `c`: its semaphores' states, positions and tokens. -/
def G (c : Dev nD) : sProp 𝕄 :=
  iprop((bigSep Finset.univ fun k : Fin 113 => roundState ER (exch (VV m)) (kcell (c, k)) 0)
    ∗ (bigSep Finset.univ fun k : Fin 113 => iprop(atPos ER (kcell (c, k)) 0 ∅ 0 ∗ reached ER (kcell (c, k)) 0)) ∗ toks c)

def everyone : sProp 𝕄 := bigSep Finset.univ fun x : Dev nD × Fin 113 => known (VV m) (kcell x)
instance everyone_persistent : Persistent (everyone m) := by unfold everyone; infer_instance

/-- What a device has once all semaphores are shared: everyone's, its own positions, the tokens it pays with. -/
def mine (c : Dev nD) : sProp 𝕄 := iprop((bigSep Finset.univ fun k : Fin 113 => atPos ER (kcell (c, k)) 0 ∅ 0) ∗ payToks c)
def G' (c : Dev nD) : sProp 𝕄 := iprop(everyone m ∗ mine c)

def start (c : Dev nD) : sProp 𝕄 :=
  iprop(G' m c ∗ levAts L lv ∗ cred (tallyAt (barC c) () 7) ∗ bigSep (Finset.range 56) fun k => cred (tallyAt (rcvC c k) () N))

/-- The four exchange buffers, at some contents. -/
def bufs (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- Every semaphore of the device at zero. -/
def zeros (c : Dev nD) : sProp 𝕄 :=
  iprop(semVal (barC c) 0 ∗ (bigSep (Finset.range 56) fun k => semVal (sndC c k) 0) ∗ bigSep (Finset.range 56) fun k => semVal (rcvC c k) 0)

def Φ₀ (c : Dev nD) : sProp 𝕄 := iprop(start m c ∗ bufs c)
def Φ₁ (c : Dev nD) : sProp 𝕄 := iprop(zeros c ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => result c (ins m)
  Φ t := match t with
    | ⟨0, _⟩ => Φ₀ m c
    | ⟨_ + 1, _⟩ => Φ₁ c
  q _ := fullShare
  owed t := match t with
    | ⟨0, _⟩ => O c (Finset.range 63)
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ c ∗ (dats m ρ 0 c).owesAt () t₀.succ
    ∗ stg c cc0_stg0_0 (ins m c).x ∗ stg c cc0_stg1_0 (ins m c).wq ∗ stg c cc0_stg2_0 (ins m c).k ∗ stg c cc0_stg3_0 (ins m c).v ∗ stg c cc0_stg4_0 (ins m c).wo
    ∗ stg c cc0_stg5_0 (result c (ins m)))

/-! ## From what is dealt to what the body starts with -/

theorem begin_of (c : Dev nD) (T : ℕ → Rows F) : iprop(start m c ∗ bufs c ∗ Owe c (Finset.range 63) ∗ Inp (ins m c) c ∗ Out c T) ⊢ Begin (VV m) (ins m c) c T := by
  unfold start G' mine bufs payToks Begin everyone
  rw [all_cells (fun sm => (atPos ER ((c : Thread nD τ), sm) 0 ∅ 0 : sProp 𝕄)), bigSep_sep' (Finset.range 56) (fun k => cred (tallyAt (rcvC c k) () N))]
  iintro ⟨⟨⟨HK, ⟨Hab, Has, Har⟩, ⟨Hbt, Hpt⟩⟩, Hlev, Hcb, Hcr⟩, ⟨H6, H7, H8, H9⟩, HO, HI, HT⟩
  ihave H6 := (cut_up m6 (View.set_whole _) c) $$ H6
  ihave H7 := (cut_up m7 (View.set_whole _) c) $$ H7
  ihave H8 := (cut_up m8 (View.set_whole _) c) $$ H8
  ihave H9 := (cut_up m9 (View.set_whole _) c) $$ H9
  ihave H6 := (Entails.of_eq (src_56 (F := F) c)) $$ H6
  ihave Hl := (Entails.of_eq (land_56 (F := F) c)) $$ [H7 H9]
  · iframe H7; iexact H9
  ihave Hl := (Entails.of_eq (lend_56 (F := F) c)) $$ Hl
  ihave HB := (bar_start (VV m) c) $$ [HK Hlev HO Hbt Hl]
  · unfold Rec
    iframe HK Hlev HO Hbt
    iexact Hl
  iframe HB Hcb Hab Hpt H6 Has H8 HI HT
  iframe Hcr
  iexact Har

theorem end_of (c : Dev nD) (T : ℕ → Rows F) : Done (VV m) (ins m c) c T ⊢ |={Set.univ}=> iprop(zeros c ∗ bufs c ∗ Owe c ∅ ∗ Inp (ins m c) c ∗ Out c T) := by
  unfold Done zeros
  rw [bigSep_sep', bigSep_sep']
  iintro ⟨#HR, HO, Hb, ⟨Hsa, Hsp⟩, ⟨Hra, Hrp⟩, HI, HT⟩
  imod (close_bar (VV m) c) $$ [Hb] with Hb
  · isplitr
    · iexact HR
    iexact Hb
  imod (close_cells (VV m) (sndC c) fun k _ => rec_snd (VV m) c k) $$ [Hsa] with Hs
  · isplitr
    · iexact HR
    iexact Hsa
  imod (close_cells (VV m) (rcvC c) fun k _ => rec_rcv (VV m) c k) $$ [Hra] with Hr
  · isplitr
    · iexact HR
    iexact Hra
  imodintro
  ihave Hsp := (snd_back (VV m) c) $$ Hsp
  icases Hsp with ⟨H6, H8⟩
  ihave Hrp := (rcv_back (VV m) c) $$ Hrp
  ihave Hrp := (Entails.of_eq (land_56 (F := F) c).symm) $$ Hrp
  icases Hrp with ⟨H7, H9⟩
  ihave H6 := (put_together m6 (View.set_whole _) c) $$ H6
  ihave H7 := (put_together m7 (View.set_whole _) c) $$ H7
  ihave H8 := (put_together m8 (View.set_whole _) c) $$ H8
  ihave H9 := (put_together m9 (View.set_whole _) c) $$ H9
  iframe Hb Hs Hr HO HI HT
  unfold bufs
  iframe H6 H7 H8
  iexact H9

theorem fetch_in (w : Fin 6) (hw : w ≠ 5) : (cfg0.win w).fetch t₀ = true := by
  fin_cases w <;> first | rfl | exact absurd rfl hw

theorem before_0 (c : Dev nD) (d) : (dats m ρ 0 c).before (0 : Fin 6) t₀ d = (ins m c).x := by
  have hz : (fun a => (win0_0.index (0 : Fin 1)) a * main_arg0.ty.shape.size a) = fun _ => 0 := funext fun a => by fin_cases a <;> decide
  unfold Dat.before; rw [if_pos (fetch_in 0 (by decide))]
  exact Memref.read_access_unit_zero (Elt F) main_arg0 hz (fun a => by fin_cases a <;> decide) _

theorem before_1 (c : Dev nD) (d) : (dats m ρ 0 c).before (1 : Fin 6) t₀ d = (ins m c).wq := by
  have hz : (fun a => (win0_1.index (0 : Fin 1)) a * main_arg1.ty.shape.size a) = fun _ => 0 := funext fun a => by fin_cases a <;> decide
  unfold Dat.before; rw [if_pos (fetch_in 1 (by decide))]
  exact Memref.read_access_unit_zero (Elt F) main_arg1 hz (fun a => by fin_cases a <;> decide) _

theorem before_2 (c : Dev nD) (d) : (dats m ρ 0 c).before (2 : Fin 6) t₀ d = (ins m c).k := by
  have hz : (fun a => (win0_2.index (0 : Fin 1)) a * main_arg2.ty.shape.size a) = fun _ => 0 := funext fun a => by fin_cases a <;> decide
  unfold Dat.before; rw [if_pos (fetch_in 2 (by decide))]
  exact Memref.read_access_unit_zero (Elt F) main_arg2 hz (fun a => by fin_cases a <;> decide) _

theorem before_3 (c : Dev nD) (d) : (dats m ρ 0 c).before (3 : Fin 6) t₀ d = (ins m c).v := by
  have hz : (fun a => (win0_3.index (0 : Fin 1)) a * main_arg3.ty.shape.size a) = fun _ => 0 := funext fun a => by fin_cases a <;> decide
  unfold Dat.before; rw [if_pos (fetch_in 3 (by decide))]
  exact Memref.read_access_unit_zero (Elt F) main_arg3 hz (fun a => by fin_cases a <;> decide) _

theorem before_4 (c : Dev nD) (d) : (dats m ρ 0 c).before (4 : Fin 6) t₀ d = (ins m c).wo := by
  have hz : (fun a => (win0_4.index (0 : Fin 1)) a * main_arg4.ty.shape.size a) = fun _ => 0 := funext fun a => by fin_cases a <;> decide
  unfold Dat.before; rw [if_pos (fetch_in 4 (by decide))]
  exact Memref.read_access_unit_zero (Elt F) main_arg4 hz (fun a => by fin_cases a <;> decide) _

set_option maxHeartbeats 1000000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (cc0__body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5) (fun _ => bodyPost m ρ c)
  unfold bodyPre Φ₀
  iintro ⟨⟨Hs, Hb⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  have h0 : g0 = (ins m c).x := h0.trans (before_0 m ρ c d0)
  have h1 : g1 = (ins m c).wq := h1.trans (before_1 m ρ c d1)
  have h2 : g2 = (ins m c).k := h2.trans (before_2 m ρ c d2)
  have h3 : g3 = (ins m c).v := h3.trans (before_3 m ρ c d3)
  have h4 : g4 = (ins m c).wo := h4.trans (before_4 m ρ c d4)
  subst h0 h1 h2 h3 h4
  unfold Dat.owesAt Pipeline.owesWithin
  icases Ho with ⟨%W, %hW, HO⟩
  ihave HB := (begin_of m c (rowsOf m5 g5)) $$ [Hs Hb HO H0 H1 H2 H3 H4 H5]
  · iframe Hs Hb
    isplitl [HO]
    · unfold Owe; iexists W; iexact HO
    unfold Inp Out
    iframe H0 H1 H2 H3 H4
    iexists g5
    isplitr
    · ipureintro; exact fun _ _ => rfl
    iexact H5
  iapply (body (VV m) (ins m c) c (rowsOf m5 g5) (msgs_fits (ins m) c)) $$ HB
  iintro HD
  imod (end_of m c _) $$ HD with ⟨Hz, Hb, HO, HI, HT⟩
  imodintro
  unfold bodyPost Φ₁ Dat.owesAt Pipeline.owesWithin Owe Inp Out
  rw [O_empty]
  icases HO with ⟨%W', HO⟩
  icases HI with ⟨H0, H1, H2, H3, H4⟩
  icases HT with ⟨%f, %hf, H5⟩
  have hf : f = result c (ins m) := (glue_rows hf).trans (glue_congr fun s hs => rowsEnd_eq _ (msgs_fits (ins m) c) hs)
  subst hf
  iframe Hz Hb
  isplitl [HO]
  · iexists W'
    isplitr
    · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-! ## The launch -/

theorem osem_scoped : ∀ q : Fin 118, (SemLoc.dma q : SemLoc sig).isScoped .tc = true := by decide
theorem stage_low : ∀ (w : Fin cfg0.W) (s : Fin (cfg0.spec w).nbuf), (((cfg0.spec w).sem s : DmaSem sig) : Fin 118).val < 6 := by decide
theorem ownSemFacts : Pipeline.OwnSemFacts cfg0.spec osem where
  isScoped k := by
    unfold osem ksem; rw [dif_neg (by show ¬ k.val + 1 = 0; omega)]
    exact osem_scoped _
  inj i j h := Fin.succ_injective _ (ksem_injective h)
  disj k w s := by
    unfold osem ksem; rw [dif_neg (by show ¬ k.val + 1 = 0; omega)]
    intro h
    have h := congrArg Fin.val (SemLoc.dma.inj h : (_ : Fin 118) = _)
    have h : 5 + (k.val + 1) = (((cfg0.spec w).sem s : DmaSem sig) : Fin 118).val := h
    have hs : (((cfg0.spec w).sem s : DmaSem sig) : Fin 118).val < 6 := stage_low w s
    omega

theorem share_eq (c : Dev nD) (w : Fin cfg0.W) : (dats m ρ 0 c).share w = fullShare := by unfold Dat.share; split <;> rfl

def allCells : Finset (GSem nD τ sig) := Finset.univ.map ⟨kcell, kcell_injective⟩
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 113 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_sum, over_range (n := 56), over_range (n := 56)]; rfl
  iintro HX
  imod (Rounds.fund ER (exch (VV m)) allCells allToks) $$ HX with ⟨Hst, Hr, Hat, Htok⟩
  imodintro
  ihave Hst := (Entails.of_eq (hX fun g => roundState ER (exch (VV m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr
  iexact Htok

omit [FloatOps F] in
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from ?_, bigSep_singleton]
  ext sm
  rw [Finset.mem_filter, Finset.mem_singleton]
  constructor
  · rintro ⟨-, h⟩
    cases sm with
    | reg s => exact congrArg SemLoc.reg (Subsingleton.elim (α := Fin 1) s barS)
    | dma q => exact absurd (osem_scoped q) h
  · rintro rfl; exact ⟨Finset.mem_univ _, by decide⟩

theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros Pipeline.ownSems0
  rw [unscopedSems0_eq, own_cells (fun sm => (semVal ((c : Thread nD τ), sm) 0 : sProp 𝕄))]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 113 => known (VV m) (kcell (c, k)))
          ∗ (bigSep Finset.univ fun k : Fin 113 => atPos ER (kcell (c, k)) 0 ∅ 0) ∗ toks c) := by
  unfold G known
  rw [bigSep_sep' Finset.univ (fun k : Fin 113 => atPos ER (kcell (c, k)) 0 ∅ 0), bigSep_sep' Finset.univ (fun k : Fin 113 => iprop(∃ κ : ℕ, cellInv ER (exch (VV m)) κ (kcell (c, k))))]
  iintro ⟨Hos, Hus, Hst, ⟨Hat, Hr⟩, Htok⟩
  ihave Hz := (Entails.of_eq (zeros_eq (F := F) c).symm) $$ [Hos Hus]
  · iframe Hus; iexact Hos
  unfold zeros
  ihave Hz := (Entails.of_eq (all_cells (fun sm => (semVal ((c : Thread nD τ), sm) 0 : sProp 𝕄))).symm) $$ Hz
  imod (show iprop((bigSep Finset.univ fun k : Fin 113 => semVal (kcell (c, k)) 0) ∗ bigSep Finset.univ fun k : Fin 113 => roundState ER (exch (VV m)) (kcell (c, k)) 0)
      ⊢ (|={Set.univ}=> bigSep Finset.univ fun k : Fin 113 => iprop(∃ κ : ℕ, cellInv ER (exch (VV m)) κ (kcell (c, k))) : sProp 𝕄) from by
        rw [← bigSep_sep']
        exact (bigSep_mono fun k _ => (Rounds.body_intro ER (exch (VV m)) (kcell (c, k))).trans inv_alloc).trans (bigSep_fupd _ _)) $$ [Hz Hst] with Hinv
  · iframe Hz; iexact Hst
  imodintro
  iframe Hinv Hr Hat
  iexact Htok

theorem regroup :
    (bigSep Finset.univ fun c : Dev nD => iprop((bigSep Finset.univ fun k : Fin 113 => known (VV m) (kcell (c, k)))
          ∗ (bigSep Finset.univ fun k : Fin 113 => atPos ER (kcell (c, k)) 0 ∅ 0) ∗ toks c) : sProp 𝕄)
      ⊢ bigSep Finset.univ (G' m) := by
  rw [bigSep_sep', bigSep_sep', toks_around, ← bigSep_univ_prod (fun x : Dev nD × Fin 113 => known (VV m) (kcell x))]
  iintro ⟨HI, Hat, Htok⟩
  iapply (bigSep_with_persistent (R := everyone m) (Φ := fun c => mine c) (Ψ := G' m) fun c _ => by unfold G'; iintro H; iexact H)
  unfold mine
  rw [bigSep_sep']
  isplitl [HI]
  · unfold everyone; iexact HI
  iframe Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem owed_apply (d : Dev nD) (Dn : Finset ℕ) (g : GSem nD τ sig) : O d Dn g () = ∑ i ∈ Dn, if g = debtC d i then debtN i else 0 := by
  unfold O
  rw [Finset.sum_apply, Finsupp.finset_sum_apply]
  exact Finset.sum_congr rfl fun i _ => by rw [tallyAt_apply]; simp only [and_true]

theorem one_debtor (g : GSem nD τ sig) (i : ℕ) (p : Dev nD) (hp : ∀ d, g = debtC d i ↔ d = p) :
    (∑ d : Dev nD, if g = debtC d i then debtN i else 0) = debtN i := by
  rw [Finset.sum_congr rfl fun d _ => if_congr (hp d) rfl rfl, Finset.sum_ite_eq' Finset.univ p fun _ => debtN i, if_pos (Finset.mem_univ _)]

theorem ow_iff {c d : Dev nD} {k : ℕ} : c = ow d k ↔ d = fr c k := ⟨fun h => by rw [h, fr_ow], fun h => by rw [h, ow_fr]⟩
theorem fr_iff {c d : Dev nD} {k : ℕ} : c = fr d k ↔ d = ow c k := ⟨fun h => by rw [h, ow_fr], fun h => by rw [h, fr_ow]⟩

theorem launch_rcv (c : Dev nD) {k : ℕ} (hk : k < 56) :
    tallyOn (rcvC c k) (launchCredit (Pipeline.owing fun d => O d (Finset.range 63)) 0 (rcvC c k)) = (tallyAt (rcvC c k) () N : CellTallies nD τ sig Unit) := by
  unfold tallyAt; refine congrArg _ (Finsupp.ext fun u => ?_); cases u
  rw [Pipeline.launchCredit_owing, Finsupp.single_eq_same, Finset.sum_congr rfl fun d _ => owed_apply d _ _, Finset.sum_comm,
    Finset.sum_eq_single_of_mem k (Finset.mem_range.mpr (by omega))]
  · rw [one_debtor (rcvC c k) k (fr c k)]
    · unfold debtN; rw [if_pos hk]
    · intro d
      unfold debtC; rw [if_pos hk]
      exact ⟨fun h => ow_iff.mp (congrArg (fun g : GSem nD τ sig => g.1.1) h), fun h => by rw [ow_iff.mpr h]⟩
  · intro i hi hne
    refine Finset.sum_eq_zero fun d _ => if_neg fun h => hne ?_
    have h := congrArg (fun g : GSem nD τ sig => cls g.2) h
    have h : cls (.dma (rcvS k)) = cls (debtC d i).2 := h
    rw [cls_rcv hk] at h
    unfold debtC at h
    by_cases h56 : i < 56
    · rw [if_pos h56] at h
      exact (Cls.rcv.inj (h.trans (cls_rcv h56))).symm
    · rw [if_neg h56] at h
      cases h.trans cls_bar

theorem launch_bar (c : Dev nD) :
    tallyOn (barC c) (launchCredit (Pipeline.owing fun d => O d (Finset.range 63)) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_apply d _ _, Finset.sum_comm,
    show Finset.range 63 = Finset.range (56 + 7) from rfl, Finset.sum_range_add, Finset.sum_eq_zero, Nat.zero_add]
  · rw [Finset.sum_congr rfl (g := fun _ => 1), Finset.sum_const, Finset.card_range]; · rfl
    intro i hi
    rw [one_debtor (barC c) (56 + i) (ow c (56 + i))]
    · unfold debtN; rw [if_neg (by omega)]
    · intro d
      unfold debtC; rw [if_neg (by omega)]
      exact ⟨fun h => fr_iff.mp (congrArg (fun g : GSem nD τ sig => g.1.1) h), fun h => by rw [fr_iff.mpr h]⟩
  · intro i hi
    refine Finset.sum_eq_zero fun d _ => if_neg fun h => ?_
    have h := congrArg (fun g : GSem nD τ sig => cls g.2) h
    have h : cls (.reg barS) = cls (debtC d i).2 := h
    unfold debtC at h
    rw [if_pos (Finset.mem_range.mp hi)] at h
    cases (cls_bar.symm.trans h).trans (cls_rcv (Finset.mem_range.mp hi))

theorem creds (c : Dev nD) :
    (Pipeline.launchCred (fun d => O d (Finset.range 63)) c : sProp 𝕄) ⊢ iprop(cred (tallyAt (barC c) () 7) ∗ bigSep (Finset.range 56) fun k => cred (tallyAt (rcvC c k) () N)) := by
  unfold Pipeline.launchCred
  refine (bigSep_subset (Finset.subset_univ (Finset.univ.map ⟨ksem, ksem_injective⟩))).trans ?_
  rw [bigSep_map]
  have e := all_cells (F := F) (fun sm => cred (tallyOn ((c : Thread nD τ), sm) (launchCredit (Pipeline.owing fun d => O d (Finset.range 63)) 0 ((c : Thread nD τ), sm))))
  refine (Entails.of_eq e).trans ?_
  rw [launch_bar, bigSep_congr (s := Finset.range 56) fun k hk => congrArg cred (launch_rcv c (Finset.mem_range.mp hk))]
  iintro ⟨Hb, -, Hr⟩
  iframe Hb
  iexact Hr

/-! ## The side conditions -/

theorem start_intro (c : Dev nD) :
    iprop(Pipeline.unscopedRestP Pipeline.Prefetch.none cfg0.spec c (fun b => m ((c : Thread nD τ).loc b)) ∗ levAts L lv
        ∗ Pipeline.launchCred (fun d => O d (Finset.range 63)) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · iframe HG Hlev H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  iframe Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [zeros_eq]
  iintro ⟨⟨Hu, Ho⟩, Hr⟩
  iframe Hu Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hs : cls (.dma ((cfg0.win w).sem s)) = .other := by fin_cases w <;> fin_cases s <;> rfl
    rcases t with ⟨_ | _, ht⟩
    · refine mayWait c _ (Finset.range 63) fun i hi => ?_
      have hi := Finset.mem_range.mp hi
      rw [lv_debt c hi, hs]
      show 0 < _
      split
      · omega
      split <;> omega
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The output array ends at what the body left in its window. -/
theorem final_out (c : Dev nD) : finalA m ρ c (5 : Fin 6) = result c (ins m) := by
  have hz : (fun a => (win0_5.index (0 : Fin 1)) a * main_v1.ty.shape.size a) = fun _ => 0 := funext fun a => by fin_cases a <;> decide
  refine (Memref.read_access_unit_zero (Elt F) main_v1 hz (fun a => by fin_cases a <;> decide) _).symm.trans ?_
  unfold finalA
  rw [show cfg0.N = ((0 : Fin 1) : Fin cfg0.N).val + 1 from rfl, (dats m ρ 0 c).arrAt_succ (5 : Fin 6) (0 : Fin 1),
    show (cfg0.win (5 : Fin 6)).flush (0 : Fin 1) = true from by decide, if_pos rfl]
  exact View.read_write_univ _ _

set_option maxRecDepth 8000 in
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O d (Finset.range 63)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every fair run ends, with the five blocks as they were, the result at `result` and every counter at zero. -/
theorem run_main : θ_run defs (onTc (τ := τ) (main (F := F))) (s₀ m ρ) (fun r =>
    (∀ c : Dev nD, r.2.mem ((c : Thread nD τ).loc main_v1) = result c (ins m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨
    (h.1 c 5).trans (final_out m ρ c),
    (h.1 c 0).trans ((dats m ρ 0 c).arrAt_in (0 : Fin 6) rfl _),
    (h.1 c 1).trans ((dats m ρ 0 c).arrAt_in (1 : Fin 6) rfl _),
    (h.1 c 2).trans ((dats m ρ 0 c).arrAt_in (2 : Fin 6) rfl _),
    (h.1 c 3).trans ((dats m ρ 0 c).arrAt_in (3 : Fin 6) rfl _),
    (h.1 c 4).trans ((dats m ρ 0 c).arrAt_in (4 : Fin 6) rfl _)⟩, h.2⟩) (run_windows m ρ)

end Cert.RingProof
end
-- ==== Proof.Frames.lean ====
/- # The frames

Every program ends with its arguments as they were and every counter at zero: the kernel at either reading of its floats, by the one run; the reference by its own. -/
module

public import proofs.«01_k».proof.Defs
public import proofs.«01_k».proof.Proof.Gen.Kernel
public import proofs.«01_k».proof.Proof.Gen.ReferenceIdeal.Run
public import Idealize.ShloMosaic.Lib.Quiescent
public import proofs.«01_k».proof.Proof.Launch

@[expose] public section

noncomputable section

namespace Cert.RingProof

open Idealize.ShloMosaic Idealize.ShloMosaic.TcCoe Idealize.SL.Sem

/-- The kernel's run on bit patterns, its post the frame. -/
theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (run_main (F := Bits) m ρ)

set_option maxRecDepth 8192 in
set_option maxHeartbeats 4000000 in
/-- The two printed bodies are one text. -/
theorem body_same : Cert.Kernel.cc0__body (F := Bits) = Cert.KernelIdeal.cc0__body (F := Bits) := rfl

theorem bodies_same : Cert.Kernel.defs₀ (F := Bits) = Cert.KernelIdeal.defs₀ (F := Bits) := by
  unfold Cert.Kernel.defs₀ Cert.KernelIdeal.defs₀
  rw [body_same]
  refine congrArg Defs.onTc (funext fun l => funext fun a => ?_)
  rcases l with ⟨_ | n, hl⟩
  · rcases a with ⟨t, s⟩; rfl
  · exact absurd hl (Nat.not_lt.2 (Nat.le_add_left _ _))

theorem defs_same : Cert.Kernel.defs (F := Bits) = Cert.KernelIdeal.defs (F := Bits) := congrArg (Pipeline.defs Cert.KernelIdeal.pcfgs) bodies_same

set_option maxRecDepth 8192 in
set_option maxHeartbeats 4000000 in
/-- The kernel on bit patterns. -/
theorem frame_kernel : Cert.quiescent_Kernel := fun m ρ _ => by
  rw [defs_same]
  exact run_bits m ρ

/-- The kernel on extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference on extended reals. It has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.RingProof

end
-- ==== Proof.Heads.lean ====
/-
# The heads of one block of rows

For each of the four blocks of 512 rows, one head of the attention is a single expression of its queries, keys and values; the block's contribution joins eight of them and multiplies by the output projection.
-/
module

public import proofs.«01_k».proof.Proof.Vals

@[expose] public section

noncomputable section

namespace Cert.RingProof

open Cert.KernelIdeal Cert.KernelIdeal.Gen
open Idealize.ShloMosaic
open Idealize.ShloMosaic.TcCoe

variable {F : FTy → Type} [FloatOps F]

/-- The unnormalised weights of block 0's 512 rows over the 512 keys that they may see. -/
def wts0 (mask : IVec S512x512 1) (q : FVec F S512x128 .bf16) (k : Vec F S512x128 .bf16) : FVec F S512x512 .f32 :=
  have s : FVec F S512x512 .f32 := matmul dot_S512x128_S512x128_S512x512_1_1_0_0_n_n none q (shapeCast S512x128 k shapeCasts_S512x128_S512x128) (constant S512x512 .f32 0x00000000#32)
  select mask (exp s) (broadcast S512x512 (Scalar.ofBits .f32 0x00000000#32))

/-- A head of block 0: the weighted sum of the values over the sum of the weights. -/
def head0 (mask : IVec S512x512 1) (q : FVec F S512x128 .bf16) (k v : Vec F S512x128 .bf16) : FVec F S512x128 .f32 :=
  divf (matmul dot_S512x512_S512x128_S512x128_1_0_0_1_n_n none (truncf .bf16 (wts0 mask q k) bitsLt_bf16_f32) (shapeCast S512x128 v shapeCasts_S512x128_S512x128) (constant S512x128 .f32 0x00000000#32))
    (broadcastTo S512x128 (shapeCast S512x1 (multiReduction .add [1] S512 (wts0 mask q k) 0x00000000#32 reduces_S512x512_S512 (.inl rfl) rfl) shapeCasts_S512_S512x1) broadcasts_S512x1_S512x128)

/-- The unnormalised weights of block 1's 512 rows over the 1024 keys that they may see. -/
def wts1 (mask : IVec S512x512 1) (q : FVec F S512x128 .bf16) (k : Vec F S1024x128 .bf16) : FVec F S512x1024 .f32 :=
  have s : FVec F S512x1024 .f32 := matmul dot_S512x128_S1024x128_S512x1024_1_1_0_0_n_n none q (shapeCast S1024x128 k shapeCasts_S1024x128_S1024x128) (constant S512x1024 .f32 0x00000000#32)
  concatenate S512x1024 1 [⟨S512x512, exp (extractStridedSlice S512x512 ![0, 0] s slices_S512x1024_o0_0_S512x512)⟩,
      ⟨S512x512, select mask (exp (extractStridedSlice S512x512 ![0, 512] s slices_S512x1024_o0_512_S512x512)) (broadcast S512x512 (Scalar.ofBits .f32 0x00000000#32))⟩]
    concatenates_S512x512_S512x512_S512x1024_d1

/-- A head of block 1: the weighted sum of the values over the sum of the weights. -/
def head1 (mask : IVec S512x512 1) (q : FVec F S512x128 .bf16) (k v : Vec F S1024x128 .bf16) : FVec F S512x128 .f32 :=
  divf (matmul dot_S512x1024_S1024x128_S512x128_1_0_0_1_n_n none (truncf .bf16 (wts1 mask q k) bitsLt_bf16_f32) (shapeCast S1024x128 v shapeCasts_S1024x128_S1024x128) (constant S512x128 .f32 0x00000000#32))
    (broadcastTo S512x128 (shapeCast S512x1 (multiReduction .add [1] S512 (wts1 mask q k) 0x00000000#32 reduces_S512x1024_S512 (.inl rfl) rfl) shapeCasts_S512_S512x1) broadcasts_S512x1_S512x128)

/-- The unnormalised weights of block 2's 512 rows over the 1536 keys that they may see. -/
def wts2 (mask : IVec S512x512 1) (q : FVec F S512x128 .bf16) (k : Vec F S1536x128 .bf16) : FVec F S512x1536 .f32 :=
  have s : FVec F S512x1536 .f32 := matmul dot_S512x128_S1536x128_S512x1536_1_1_0_0_n_n none q (shapeCast S1536x128 k shapeCasts_S1536x128_S1536x128) (constant S512x1536 .f32 0x00000000#32)
  concatenate S512x1536 1 [⟨S512x1024, exp (extractStridedSlice S512x1024 ![0, 0] s slices_S512x1536_o0_0_S512x1024)⟩,
      ⟨S512x512, select mask (exp (extractStridedSlice S512x512 ![0, 1024] s slices_S512x1536_o0_1024_S512x512)) (broadcast S512x512 (Scalar.ofBits .f32 0x00000000#32))⟩]
    concatenates_S512x1024_S512x512_S512x1536_d1

/-- A head of block 2: the weighted sum of the values over the sum of the weights. -/
def head2 (mask : IVec S512x512 1) (q : FVec F S512x128 .bf16) (k v : Vec F S1536x128 .bf16) : FVec F S512x128 .f32 :=
  divf (matmul dot_S512x1536_S1536x128_S512x128_1_0_0_1_n_n none (truncf .bf16 (wts2 mask q k) bitsLt_bf16_f32) (shapeCast S1536x128 v shapeCasts_S1536x128_S1536x128) (constant S512x128 .f32 0x00000000#32))
    (broadcastTo S512x128 (shapeCast S512x1 (multiReduction .add [1] S512 (wts2 mask q k) 0x00000000#32 reduces_S512x1536_S512 (.inl rfl) rfl) shapeCasts_S512_S512x1) broadcasts_S512x1_S512x128)

/-- The unnormalised weights of block 3's 512 rows over the 2048 keys that they may see. -/
def wts3 (mask : IVec S512x512 1) (q : FVec F S512x128 .bf16) (k : Vec F S2048x128 .bf16) : FVec F S512x2048 .f32 :=
  have s : FVec F S512x2048 .f32 := matmul dot_S512x128_S2048x128_S512x2048_1_1_0_0_n_n none q (shapeCast S2048x128 k shapeCasts_S2048x128_S2048x128) (constant S512x2048 .f32 0x00000000#32)
  concatenate S512x2048 1 [⟨S512x1536, exp (extractStridedSlice S512x1536 ![0, 0] s slices_S512x2048_o0_0_S512x1536)⟩,
      ⟨S512x512, select mask (exp (extractStridedSlice S512x512 ![0, 1536] s slices_S512x2048_o0_1536_S512x512)) (broadcast S512x512 (Scalar.ofBits .f32 0x00000000#32))⟩]
    concatenates_S512x1536_S512x512_S512x2048_d1

/-- A head of block 3: the weighted sum of the values over the sum of the weights. -/
def head3 (mask : IVec S512x512 1) (q : FVec F S512x128 .bf16) (k v : Vec F S2048x128 .bf16) : FVec F S512x128 .f32 :=
  divf (matmul dot_S512x2048_S2048x128_S512x128_1_0_0_1_n_n none (truncf .bf16 (wts3 mask q k) bitsLt_bf16_f32) (shapeCast S2048x128 v shapeCasts_S2048x128_S2048x128) (constant S512x128 .f32 0x00000000#32))
    (broadcastTo S512x128 (shapeCast S512x1 (multiReduction .add [1] S512 (wts3 mask q k) 0x00000000#32 reduces_S512x2048_S512 (.inl rfl) rfl) shapeCasts_S512_S512x1) broadcasts_S512x1_S512x128)

/-- Eight heads side by side, times the output projection. -/
def join (h0 h1 h2 h3 h4 h5 h6 h7 : FVec F S512x128 .f32) (wo : Vec F S1024x1024 .bf16) : FVec F S512x1024 .f32 :=
  matmul dot_S512x1024_S1024x1024_S512x1024_1_0_0_1_n_n none (truncf .bf16 (concatenate S512x1024 1 [⟨S512x128, h0⟩, ⟨S512x128, h1⟩, ⟨S512x128, h2⟩, ⟨S512x128, h3⟩, ⟨S512x128, h4⟩, ⟨S512x128, h5⟩, ⟨S512x128, h6⟩, ⟨S512x128, h7⟩] concatenates_S512x128_S512x128_S512x128_S512x128_S512x128_S512x128_S512x128_S512x128_S512x1024_d1) bitsLt_bf16_f32) (shapeCast S1024x1024 wo shapeCasts_S1024x1024_S1024x1024) (constant S512x1024 .f32 0x00000000#32)

variable (I : Ins F)

/-- The output projection as it is loaded. -/
abbrev ldwo : Vec F S1024x1024 .bf16 := in4 I (Rect.unit (s := S1024x1024) ![0, 0] S1024x1024.size inb_S1024x1024_S1024x1024_0_0).toLoadRect

/-- The scaled queries of block 0. -/
abbrev qs0 : FVec F S512x1024 .bf16 := k0_pay6 (in0 I (Rect.unit (s := S2048x1024) ![0, 0] S512x1024.size inb_S2048x1024_S512x1024_0_0).toLoadRect) (in1 I (Rect.unit (s := S1024x1024) ![0, 0] S1024x1024.size inb_S1024x1024_S1024x1024_0_0).toLoadRect)

/-- Head 0 of block 0. -/
abbrev hd0_0 : FVec F S512x128 .f32 := head0 (w145 I) (extractStridedSlice S512x128 ![0, 0] (qs0 I) slices_S512x1024_o0_0_S512x128)
  (in2 I (Rect.unit (s := S2048x1024) ![0, 0] S512x128.size inb_S2048x1024_S512x128_0_0).toLoadRect) (in3 I (Rect.unit (s := S2048x1024) ![0, 0] S512x128.size inb_S2048x1024_S512x128_0_0).toLoadRect)

/-- Head 1 of block 0. -/
abbrev hd0_1 : FVec F S512x128 .f32 := head0 (w145 I) (extractStridedSlice S512x128 ![0, 128] (qs0 I) slices_S512x1024_o0_128_S512x128)
  (in2 I (Rect.unit (s := S2048x1024) ![0, 128] S512x128.size inb_S2048x1024_S512x128_0_128).toLoadRect) (in3 I (Rect.unit (s := S2048x1024) ![0, 128] S512x128.size inb_S2048x1024_S512x128_0_128).toLoadRect)

/-- Head 2 of block 0. -/
abbrev hd0_2 : FVec F S512x128 .f32 := head0 (w145 I) (extractStridedSlice S512x128 ![0, 256] (qs0 I) slices_S512x1024_o0_256_S512x128)
  (in2 I (Rect.unit (s := S2048x1024) ![0, 256] S512x128.size inb_S2048x1024_S512x128_0_256).toLoadRect) (in3 I (Rect.unit (s := S2048x1024) ![0, 256] S512x128.size inb_S2048x1024_S512x128_0_256).toLoadRect)

/-- Head 3 of block 0. -/
abbrev hd0_3 : FVec F S512x128 .f32 := head0 (w145 I) (extractStridedSlice S512x128 ![0, 384] (qs0 I) slices_S512x1024_o0_384_S512x128)
  (in2 I (Rect.unit (s := S2048x1024) ![0, 384] S512x128.size inb_S2048x1024_S512x128_0_384).toLoadRect) (in3 I (Rect.unit (s := S2048x1024) ![0, 384] S512x128.size inb_S2048x1024_S512x128_0_384).toLoadRect)

/-- Head 4 of block 0. -/
abbrev hd0_4 : FVec F S512x128 .f32 := head0 (w145 I) (extractStridedSlice S512x128 ![0, 512] (qs0 I) slices_S512x1024_o0_512_S512x128)
  (in2 I (Rect.unit (s := S2048x1024) ![0, 512] S512x128.size inb_S2048x1024_S512x128_0_512).toLoadRect) (in3 I (Rect.unit (s := S2048x1024) ![0, 512] S512x128.size inb_S2048x1024_S512x128_0_512).toLoadRect)

/-- Head 5 of block 0. -/
abbrev hd0_5 : FVec F S512x128 .f32 := head0 (w145 I) (extractStridedSlice S512x128 ![0, 640] (qs0 I) slices_S512x1024_o0_640_S512x128)
  (in2 I (Rect.unit (s := S2048x1024) ![0, 640] S512x128.size inb_S2048x1024_S512x128_0_640).toLoadRect) (in3 I (Rect.unit (s := S2048x1024) ![0, 640] S512x128.size inb_S2048x1024_S512x128_0_640).toLoadRect)

/-- Head 6 of block 0. -/
abbrev hd0_6 : FVec F S512x128 .f32 := head0 (w145 I) (extractStridedSlice S512x128 ![0, 768] (qs0 I) slices_S512x1024_o0_768_S512x128)
  (in2 I (Rect.unit (s := S2048x1024) ![0, 768] S512x128.size inb_S2048x1024_S512x128_0_768).toLoadRect) (in3 I (Rect.unit (s := S2048x1024) ![0, 768] S512x128.size inb_S2048x1024_S512x128_0_768).toLoadRect)

/-- Head 7 of block 0. -/
abbrev hd0_7 : FVec F S512x128 .f32 := head0 (w145 I) (extractStridedSlice S512x128 ![0, 896] (qs0 I) slices_S512x1024_o0_896_S512x128)
  (in2 I (Rect.unit (s := S2048x1024) ![0, 896] S512x128.size inb_S2048x1024_S512x128_0_896).toLoadRect) (in3 I (Rect.unit (s := S2048x1024) ![0, 896] S512x128.size inb_S2048x1024_S512x128_0_896).toLoadRect)

theorem out_0_eq : out_0 I = join (hd0_0 I) (hd0_1 I) (hd0_2 I) (hd0_3 I) (hd0_4 I) (hd0_5 I) (hd0_6 I) (hd0_7 I) (ldwo I) := rfl

/-- The scaled queries of block 1. -/
abbrev qs1 : FVec F S512x1024 .bf16 := k0_pay6 (in0 I (Rect.unit (s := S2048x1024) ![512, 0] S512x1024.size inb_S2048x1024_S512x1024_512_0).toLoadRect) (in1 I (Rect.unit (s := S1024x1024) ![0, 0] S1024x1024.size inb_S1024x1024_S1024x1024_0_0).toLoadRect)

/-- Head 0 of block 1. -/
abbrev hd1_0 : FVec F S512x128 .f32 := head1 (w145 I) (extractStridedSlice S512x128 ![0, 0] (qs1 I) slices_S512x1024_o0_0_S512x128)
  (in2 I (Rect.unit (s := S2048x1024) ![0, 0] S1024x128.size inb_S2048x1024_S1024x128_0_0).toLoadRect) (in3 I (Rect.unit (s := S2048x1024) ![0, 0] S1024x128.size inb_S2048x1024_S1024x128_0_0).toLoadRect)

/-- Head 1 of block 1. -/
abbrev hd1_1 : FVec F S512x128 .f32 := head1 (w145 I) (extractStridedSlice S512x128 ![0, 128] (qs1 I) slices_S512x1024_o0_128_S512x128)
  (in2 I (Rect.unit (s := S2048x1024) ![0, 128] S1024x128.size inb_S2048x1024_S1024x128_0_128).toLoadRect) (in3 I (Rect.unit (s := S2048x1024) ![0, 128] S1024x128.size inb_S2048x1024_S1024x128_0_128).toLoadRect)

/-- Head 2 of block 1. -/
abbrev hd1_2 : FVec F S512x128 .f32 := head1 (w145 I) (extractStridedSlice S512x128 ![0, 256] (qs1 I) slices_S512x1024_o0_256_S512x128)
  (in2 I (Rect.unit (s := S2048x1024) ![0, 256] S1024x128.size inb_S2048x1024_S1024x128_0_256).toLoadRect) (in3 I (Rect.unit (s := S2048x1024) ![0, 256] S1024x128.size inb_S2048x1024_S1024x128_0_256).toLoadRect)

/-- Head 3 of block 1. -/
abbrev hd1_3 : FVec F S512x128 .f32 := head1 (w145 I) (extractStridedSlice S512x128 ![0, 384] (qs1 I) slices_S512x1024_o0_384_S512x128)
  (in2 I (Rect.unit (s := S2048x1024) ![0, 384] S1024x128.size inb_S2048x1024_S1024x128_0_384).toLoadRect) (in3 I (Rect.unit (s := S2048x1024) ![0, 384] S1024x128.size inb_S2048x1024_S1024x128_0_384).toLoadRect)

/-- Head 4 of block 1. -/
abbrev hd1_4 : FVec F S512x128 .f32 := head1 (w145 I) (extractStridedSlice S512x128 ![0, 512] (qs1 I) slices_S512x1024_o0_512_S512x128)
  (in2 I (Rect.unit (s := S2048x1024) ![0, 512] S1024x128.size inb_S2048x1024_S1024x128_0_512).toLoadRect) (in3 I (Rect.unit (s := S2048x1024) ![0, 512] S1024x128.size inb_S2048x1024_S1024x128_0_512).toLoadRect)

/-- Head 5 of block 1. -/
abbrev hd1_5 : FVec F S512x128 .f32 := head1 (w145 I) (extractStridedSlice S512x128 ![0, 640] (qs1 I) slices_S512x1024_o0_640_S512x128)
  (in2 I (Rect.unit (s := S2048x1024) ![0, 640] S1024x128.size inb_S2048x1024_S1024x128_0_640).toLoadRect) (in3 I (Rect.unit (s := S2048x1024) ![0, 640] S1024x128.size inb_S2048x1024_S1024x128_0_640).toLoadRect)

/-- Head 6 of block 1. -/
abbrev hd1_6 : FVec F S512x128 .f32 := head1 (w145 I) (extractStridedSlice S512x128 ![0, 768] (qs1 I) slices_S512x1024_o0_768_S512x128)
  (in2 I (Rect.unit (s := S2048x1024) ![0, 768] S1024x128.size inb_S2048x1024_S1024x128_0_768).toLoadRect) (in3 I (Rect.unit (s := S2048x1024) ![0, 768] S1024x128.size inb_S2048x1024_S1024x128_0_768).toLoadRect)

/-- Head 7 of block 1. -/
abbrev hd1_7 : FVec F S512x128 .f32 := head1 (w145 I) (extractStridedSlice S512x128 ![0, 896] (qs1 I) slices_S512x1024_o0_896_S512x128)
  (in2 I (Rect.unit (s := S2048x1024) ![0, 896] S1024x128.size inb_S2048x1024_S1024x128_0_896).toLoadRect) (in3 I (Rect.unit (s := S2048x1024) ![0, 896] S1024x128.size inb_S2048x1024_S1024x128_0_896).toLoadRect)

theorem out_1_eq : out_1 I = join (hd1_0 I) (hd1_1 I) (hd1_2 I) (hd1_3 I) (hd1_4 I) (hd1_5 I) (hd1_6 I) (hd1_7 I) (ldwo I) := rfl

/-- The scaled queries of block 2. -/
abbrev qs2 : FVec F S512x1024 .bf16 := k0_pay6 (in0 I (Rect.unit (s := S2048x1024) ![1024, 0] S512x1024.size inb_S2048x1024_S512x1024_1024_0).toLoadRect) (in1 I (Rect.unit (s := S1024x1024) ![0, 0] S1024x1024.size inb_S1024x1024_S1024x1024_0_0).toLoadRect)

/-- Head 0 of block 2. -/
abbrev hd2_0 : FVec F S512x128 .f32 := head2 (w145 I) (extractStridedSlice S512x128 ![0, 0] (qs2 I) slices_S512x1024_o0_0_S512x128)
  (in2 I (Rect.unit (s := S2048x1024) ![0, 0] S1536x128.size inb_S2048x1024_S1536x128_0_0).toLoadRect) (in3 I (Rect.unit (s := S2048x1024) ![0, 0] S1536x128.size inb_S2048x1024_S1536x128_0_0).toLoadRect)

/-- Head 1 of block 2. -/
abbrev hd2_1 : FVec F S512x128 .f32 := head2 (w145 I) (extractStridedSlice S512x128 ![0, 128] (qs2 I) slices_S512x1024_o0_128_S512x128)
  (in2 I (Rect.unit (s := S2048x1024) ![0, 128] S1536x128.size inb_S2048x1024_S1536x128_0_128).toLoadRect) (in3 I (Rect.unit (s := S2048x1024) ![0, 128] S1536x128.size inb_S2048x1024_S1536x128_0_128).toLoadRect)

/-- Head 2 of block 2. -/
abbrev hd2_2 : FVec F S512x128 .f32 := head2 (w145 I) (extractStridedSlice S512x128 ![0, 256] (qs2 I) slices_S512x1024_o0_256_S512x128)
  (in2 I (Rect.unit (s := S2048x1024) ![0, 256] S1536x128.size inb_S2048x1024_S1536x128_0_256).toLoadRect) (in3 I (Rect.unit (s := S2048x1024) ![0, 256] S1536x128.size inb_S2048x1024_S1536x128_0_256).toLoadRect)

/-- Head 3 of block 2. -/
abbrev hd2_3 : FVec F S512x128 .f32 := head2 (w145 I) (extractStridedSlice S512x128 ![0, 384] (qs2 I) slices_S512x1024_o0_384_S512x128)
  (in2 I (Rect.unit (s := S2048x1024) ![0, 384] S1536x128.size inb_S2048x1024_S1536x128_0_384).toLoadRect) (in3 I (Rect.unit (s := S2048x1024) ![0, 384] S1536x128.size inb_S2048x1024_S1536x128_0_384).toLoadRect)

/-- Head 4 of block 2. -/
abbrev hd2_4 : FVec F S512x128 .f32 := head2 (w145 I) (extractStridedSlice S512x128 ![0, 512] (qs2 I) slices_S512x1024_o0_512_S512x128)
  (in2 I (Rect.unit (s := S2048x1024) ![0, 512] S1536x128.size inb_S2048x1024_S1536x128_0_512).toLoadRect) (in3 I (Rect.unit (s := S2048x1024) ![0, 512] S1536x128.size inb_S2048x1024_S1536x128_0_512).toLoadRect)

/-- Head 5 of block 2. -/
abbrev hd2_5 : FVec F S512x128 .f32 := head2 (w145 I) (extractStridedSlice S512x128 ![0, 640] (qs2 I) slices_S512x1024_o0_640_S512x128)
  (in2 I (Rect.unit (s := S2048x1024) ![0, 640] S1536x128.size inb_S2048x1024_S1536x128_0_640).toLoadRect) (in3 I (Rect.unit (s := S2048x1024) ![0, 640] S1536x128.size inb_S2048x1024_S1536x128_0_640).toLoadRect)

/-- Head 6 of block 2. -/
abbrev hd2_6 : FVec F S512x128 .f32 := head2 (w145 I) (extractStridedSlice S512x128 ![0, 768] (qs2 I) slices_S512x1024_o0_768_S512x128)
  (in2 I (Rect.unit (s := S2048x1024) ![0, 768] S1536x128.size inb_S2048x1024_S1536x128_0_768).toLoadRect) (in3 I (Rect.unit (s := S2048x1024) ![0, 768] S1536x128.size inb_S2048x1024_S1536x128_0_768).toLoadRect)

/-- Head 7 of block 2. -/
abbrev hd2_7 : FVec F S512x128 .f32 := head2 (w145 I) (extractStridedSlice S512x128 ![0, 896] (qs2 I) slices_S512x1024_o0_896_S512x128)
  (in2 I (Rect.unit (s := S2048x1024) ![0, 896] S1536x128.size inb_S2048x1024_S1536x128_0_896).toLoadRect) (in3 I (Rect.unit (s := S2048x1024) ![0, 896] S1536x128.size inb_S2048x1024_S1536x128_0_896).toLoadRect)

theorem out_2_eq : out_2 I = join (hd2_0 I) (hd2_1 I) (hd2_2 I) (hd2_3 I) (hd2_4 I) (hd2_5 I) (hd2_6 I) (hd2_7 I) (ldwo I) := rfl

/-- The scaled queries of block 3. -/
abbrev qs3 : FVec F S512x1024 .bf16 := k0_pay6 (in0 I (Rect.unit (s := S2048x1024) ![1536, 0] S512x1024.size inb_S2048x1024_S512x1024_1536_0).toLoadRect) (in1 I (Rect.unit (s := S1024x1024) ![0, 0] S1024x1024.size inb_S1024x1024_S1024x1024_0_0).toLoadRect)

/-- Head 0 of block 3. -/
abbrev hd3_0 : FVec F S512x128 .f32 := head3 (w145 I) (extractStridedSlice S512x128 ![0, 0] (qs3 I) slices_S512x1024_o0_0_S512x128)
  (in2 I (Rect.unit (s := S2048x1024) ![0, 0] S2048x128.size inb_S2048x1024_S2048x128_0_0).toLoadRect) (in3 I (Rect.unit (s := S2048x1024) ![0, 0] S2048x128.size inb_S2048x1024_S2048x128_0_0).toLoadRect)

/-- Head 1 of block 3. -/
abbrev hd3_1 : FVec F S512x128 .f32 := head3 (w145 I) (extractStridedSlice S512x128 ![0, 128] (qs3 I) slices_S512x1024_o0_128_S512x128)
  (in2 I (Rect.unit (s := S2048x1024) ![0, 128] S2048x128.size inb_S2048x1024_S2048x128_0_128).toLoadRect) (in3 I (Rect.unit (s := S2048x1024) ![0, 128] S2048x128.size inb_S2048x1024_S2048x128_0_128).toLoadRect)

/-- Head 2 of block 3. -/
abbrev hd3_2 : FVec F S512x128 .f32 := head3 (w145 I) (extractStridedSlice S512x128 ![0, 256] (qs3 I) slices_S512x1024_o0_256_S512x128)
  (in2 I (Rect.unit (s := S2048x1024) ![0, 256] S2048x128.size inb_S2048x1024_S2048x128_0_256).toLoadRect) (in3 I (Rect.unit (s := S2048x1024) ![0, 256] S2048x128.size inb_S2048x1024_S2048x128_0_256).toLoadRect)

/-- Head 3 of block 3. -/
abbrev hd3_3 : FVec F S512x128 .f32 := head3 (w145 I) (extractStridedSlice S512x128 ![0, 384] (qs3 I) slices_S512x1024_o0_384_S512x128)
  (in2 I (Rect.unit (s := S2048x1024) ![0, 384] S2048x128.size inb_S2048x1024_S2048x128_0_384).toLoadRect) (in3 I (Rect.unit (s := S2048x1024) ![0, 384] S2048x128.size inb_S2048x1024_S2048x128_0_384).toLoadRect)

/-- Head 4 of block 3. -/
abbrev hd3_4 : FVec F S512x128 .f32 := head3 (w145 I) (extractStridedSlice S512x128 ![0, 512] (qs3 I) slices_S512x1024_o0_512_S512x128)
  (in2 I (Rect.unit (s := S2048x1024) ![0, 512] S2048x128.size inb_S2048x1024_S2048x128_0_512).toLoadRect) (in3 I (Rect.unit (s := S2048x1024) ![0, 512] S2048x128.size inb_S2048x1024_S2048x128_0_512).toLoadRect)

/-- Head 5 of block 3. -/
abbrev hd3_5 : FVec F S512x128 .f32 := head3 (w145 I) (extractStridedSlice S512x128 ![0, 640] (qs3 I) slices_S512x1024_o0_640_S512x128)
  (in2 I (Rect.unit (s := S2048x1024) ![0, 640] S2048x128.size inb_S2048x1024_S2048x128_0_640).toLoadRect) (in3 I (Rect.unit (s := S2048x1024) ![0, 640] S2048x128.size inb_S2048x1024_S2048x128_0_640).toLoadRect)

/-- Head 6 of block 3. -/
abbrev hd3_6 : FVec F S512x128 .f32 := head3 (w145 I) (extractStridedSlice S512x128 ![0, 768] (qs3 I) slices_S512x1024_o0_768_S512x128)
  (in2 I (Rect.unit (s := S2048x1024) ![0, 768] S2048x128.size inb_S2048x1024_S2048x128_0_768).toLoadRect) (in3 I (Rect.unit (s := S2048x1024) ![0, 768] S2048x128.size inb_S2048x1024_S2048x128_0_768).toLoadRect)

/-- Head 7 of block 3. -/
abbrev hd3_7 : FVec F S512x128 .f32 := head3 (w145 I) (extractStridedSlice S512x128 ![0, 896] (qs3 I) slices_S512x1024_o0_896_S512x128)
  (in2 I (Rect.unit (s := S2048x1024) ![0, 896] S2048x128.size inb_S2048x1024_S2048x128_0_896).toLoadRect) (in3 I (Rect.unit (s := S2048x1024) ![0, 896] S2048x128.size inb_S2048x1024_S2048x128_0_896).toLoadRect)

theorem out_3_eq : out_3 I = join (hd3_0 I) (hd3_1 I) (hd3_2 I) (hd3_3 I) (hd3_4 I) (hd3_5 I) (hd3_6 I) (hd3_7 I) (ldwo I) := rfl

end Cert.RingProof
end
-- ==== Proof.Contribution.lean ====
/-
# What one device contributes, in formulas

The attention of one device in sums over indices: scores, unnormalised weights, the weighted mean of the values, and the share of the output projection.
-/
module

public import proofs.«01_k».proof.Proof.Heads
public import Idealize.ShloMosaic.Lib.Pointwise

@[expose] public section

noncomputable section

namespace Cert.RingProof

open Cert.KernelIdeal Cert.KernelIdeal.Gen
open Idealize.ShloMosaic
open Idealize.ShloMosaic.TcCoe

set_option maxRecDepth 16384

/-- Column `d` of head `h` among a device's 1024 columns. -/
def col (h : Fin 8) (d : Fin 128) : Fin 1024 := ⟨128 * h.val + d.val, by omega⟩

/-- Row `i` of block `p`. -/
def row (p : Fin 4) (i : Fin 512) : Fin 2048 := ⟨512 * p.val + i.val, by omega⟩

/-- The factor of the scores. -/
def scl : EReal := Ideal.ofBits .f32 0x3DB504F3#32

/-- The arrays of one device, as functions into the extended reals. -/
abbrev Ins.X (I : Ins Ideal) : S2048x1024.Idx → EReal := I.x
abbrev Ins.Q (I : Ins Ideal) : S1024x1024.Idx → EReal := I.wq
abbrev Ins.K (I : Ins Ideal) : S2048x1024.Idx → EReal := I.k
abbrev Ins.V (I : Ins Ideal) : S2048x1024.Idx → EReal := I.v
abbrev Ins.O (I : Ins Ideal) : S1024x1024.Idx → EReal := I.wo

variable (I : Ins Ideal)

/-- The scaled query at row `r` and column `n`. -/
def qv (r : Fin 2048) (n : Fin 1024) : EReal := (∑ k : Fin 1024, I.X (ix2 r k) * I.Q (ix2 k n)) * scl

/-- The score of row `r` against key `j` in head `h`. -/
def score (h : Fin 8) (r j : Fin 2048) : EReal := ∑ d : Fin 128, qv I r (col h d) * I.K (ix2 j (col h d))

/-- The weight: a row sees the keys of its own block of 64 and of the blocks before it. -/
def wt (h : Fin 8) (r j : Fin 2048) : EReal := if j.val / 64 ≤ r.val / 64 then Ideal.exp (score I h r j) else 0

/-- The head's value: the weighted sum of the values over the sum of the weights. -/
def hv (h : Fin 8) (r : Fin 2048) (d : Fin 128) : EReal := Ideal.div (∑ j, wt I h r j * I.V (ix2 j (col h d))) (∑ j, wt I h r j)

/-- The device's contribution to the result at row `r` and column `c`. -/
def part (r : Fin 2048) (c : Fin 1024) : EReal := ∑ h : Fin 8, ∑ d : Fin 128, hv I h r d * I.O (ix2 (col h d) c)

/-! ## The mask -/

/-- The quotient by 64 as both programs write it, with the correction for a negative numerator. -/
def quo (u : ArithUnit) (n : BitVec 32) : BitVec 32 :=
  Scalar.select
    (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi u n 64#32) 0#32))
    (IntOp.subi (IntOp.divsi u n 64#32) 1#32)
    (IntOp.divsi u n 64#32)

theorem quo_eq : ∀ n : Fin 512, quo .vector (BitVec.ofNat 32 n.val) = BitVec.ofNat 32 (n.val / 64) := by
  decide +kernel

theorem sge_eq : ∀ a b : Fin 8, IntOp.cmpi CmpIPredicate.sge (BitVec.ofNat 32 a.val) (BitVec.ofNat 32 b.val) = if b.val ≤ a.val then 1#1 else 0#1 := by
  decide +kernel

theorem mask_apply (i j : Fin 512) : w145 I (ix2 i j) = if j.val / 64 ≤ i.val / 64 then 1#1 else 0#1 := by
  have h : w145 I (ix2 i j) = IntOp.cmpi CmpIPredicate.sge (quo .vector (BitVec.ofNat 32 i.val)) (quo .vector (BitVec.ofNat 32 j.val)) := by
    pointwise [w145, w119, w122, w141, w142, w95, w_c64_i32, k0_pay1, k0_pay2, k0_pay3, k0_pay4, k0_pay5, quo]
  rw [h, quo_eq, quo_eq]
  exact sge_eq ⟨i.val / 64, by omega⟩ ⟨j.val / 64, by omega⟩

/-! ## The weights and the heads -/

theorem sel_mask (i j : Fin 512) (a : EReal) : Scalar.select (w145 I (ix2 i j)) a 0 = if j.val / 64 ≤ i.val / 64 then a else 0 := by
  rw [mask_apply]; split <;> rfl

/-- A sum over the keys may stop where its terms vanish. -/
theorem sum_head (L M : ℕ) (f : Fin (L + M) → EReal) (h0 : ∀ j : Fin (L + M), L ≤ j.val → f j = 0) :
    (∑ x : Fin L, f ⟨x.val, by omega⟩) = ∑ j, f j := by
  have ht : (∑ i : Fin M, f (Fin.natAdd L i)) = 0 := Finset.sum_eq_zero fun i _ => h0 _ (by simp)
  rw [Fin.sum_univ_add, ht, add_zero]; rfl

section Block0

variable {q : FVec Ideal S512x128 .bf16} {k v : Vec Ideal S512x128 .bf16} (h : Fin 8)
  (hq : ∀ (i : Fin 512) (d : Fin 128), q (ix2 i d) = qv I (row 0 i) (col h d))
  (hk : ∀ (x : Fin 512) (d : Fin 128), k (ix2 x d) = I.K (ix2 (⟨x.val, by omega⟩ : Fin 2048) (col h d)))
  (hx : ∀ (x : Fin 512) (d : Fin 128), v (ix2 x d) = I.V (ix2 (⟨x.val, by omega⟩ : Fin 2048) (col h d)))

include hq hk in
theorem wts0_apply (i : Fin 512) (x : Fin 512) : wts0 (w145 I) q k (ix2 i x) = wt I h (row 0 i) ⟨x.val, by omega⟩ := by
  have hs : ∀ y : Fin 512, (∑ d, q (ix2 i d) * k (ix2 y d)) = score I h (row 0 i) ⟨y.val, by omega⟩ := fun y =>
    Finset.sum_congr rfl fun d _ => by rw [hq, hk]
  pointwise [wts0]
  rw [sel_mask, hs]
  unfold wt row
  simp only [Fin.val_zero, Nat.mul_zero, Nat.zero_add]

include hq hk hx in
theorem head0_apply (i : Fin 512) (d : Fin 128) : head0 (w145 I) q k v (ix2 i d) = hv I h (row 0 i) d := by
  have hw := wts0_apply I h hq hk
  have h0 : ∀ j : Fin 2048, 512 ≤ j.val → wt I h (row 0 i) j = 0 := fun j hj => by
    unfold wt row
    rw [if_neg (by have := i.isLt; show ¬ j.val / 64 ≤ (512 * 0 + i.val) / 64; omega)]
  pointwise [head0]
  unfold hv
  simp only [hw, hx]
  exact congrArg₂ Ideal.div (sum_head 512 1536 (fun j : Fin 2048 => wt I h (row 0 i) j * I.V (ix2 j (col h d))) (fun j hj => by simp only [h0 j hj, zero_mul]))
    (sum_head 512 1536 (fun j : Fin 2048 => wt I h (row 0 i) j) h0)

end Block0

section Block1

variable {q : FVec Ideal S512x128 .bf16} {k v : Vec Ideal S1024x128 .bf16} (h : Fin 8)
  (hq : ∀ (i : Fin 512) (d : Fin 128), q (ix2 i d) = qv I (row 1 i) (col h d))
  (hk : ∀ (x : Fin 1024) (d : Fin 128), k (ix2 x d) = I.K (ix2 (⟨x.val, by omega⟩ : Fin 2048) (col h d)))
  (hx : ∀ (x : Fin 1024) (d : Fin 128), v (ix2 x d) = I.V (ix2 (⟨x.val, by omega⟩ : Fin 2048) (col h d)))

include hq hk in
theorem wts1_apply (i : Fin 512) (x : Fin 1024) : wts1 (w145 I) q k (ix2 i x) = wt I h (row 1 i) ⟨x.val, by omega⟩ := by
  have hs : ∀ y : Fin 1024, (∑ d, q (ix2 i d) * k (ix2 y d)) = score I h (row 1 i) ⟨y.val, by omega⟩ := fun y =>
    Finset.sum_congr rfl fun d _ => by rw [hq, hk]
  pointwise [wts1]
  split
  · rename_i hlt
    rw [hs]
    unfold wt row
    rw [if_pos (by have := i.isLt; show x.val / 64 ≤ (512 * 1 + i.val) / 64; omega)]
  · rename_i hge
    rw [sel_mask, hs]
    unfold wt row
    have e : (⟨512 + (x.val - 512), by omega⟩ : Fin 2048) = ⟨x.val, by omega⟩ := Fin.ext (by show 512 + (x.val - 512) = x.val; omega)
    simp only [e]
    refine if_congr ?_ rfl rfl
    show (x.val - 512) / 64 ≤ i.val / 64 ↔ x.val / 64 ≤ (512 * 1 + i.val) / 64
    omega

include hq hk hx in
theorem head1_apply (i : Fin 512) (d : Fin 128) : head1 (w145 I) q k v (ix2 i d) = hv I h (row 1 i) d := by
  have hw := wts1_apply I h hq hk
  have h0 : ∀ j : Fin 2048, 1024 ≤ j.val → wt I h (row 1 i) j = 0 := fun j hj => by
    unfold wt row
    rw [if_neg (by have := i.isLt; show ¬ j.val / 64 ≤ (512 * 1 + i.val) / 64; omega)]
  pointwise [head1]
  unfold hv
  simp only [hw, hx]
  exact congrArg₂ Ideal.div (sum_head 1024 1024 (fun j : Fin 2048 => wt I h (row 1 i) j * I.V (ix2 j (col h d))) (fun j hj => by simp only [h0 j hj, zero_mul]))
    (sum_head 1024 1024 (fun j : Fin 2048 => wt I h (row 1 i) j) h0)

end Block1

section Block2

variable {q : FVec Ideal S512x128 .bf16} {k v : Vec Ideal S1536x128 .bf16} (h : Fin 8)
  (hq : ∀ (i : Fin 512) (d : Fin 128), q (ix2 i d) = qv I (row 2 i) (col h d))
  (hk : ∀ (x : Fin 1536) (d : Fin 128), k (ix2 x d) = I.K (ix2 (⟨x.val, by omega⟩ : Fin 2048) (col h d)))
  (hx : ∀ (x : Fin 1536) (d : Fin 128), v (ix2 x d) = I.V (ix2 (⟨x.val, by omega⟩ : Fin 2048) (col h d)))

include hq hk in
theorem wts2_apply (i : Fin 512) (x : Fin 1536) : wts2 (w145 I) q k (ix2 i x) = wt I h (row 2 i) ⟨x.val, by omega⟩ := by
  have hs : ∀ y : Fin 1536, (∑ d, q (ix2 i d) * k (ix2 y d)) = score I h (row 2 i) ⟨y.val, by omega⟩ := fun y =>
    Finset.sum_congr rfl fun d _ => by rw [hq, hk]
  pointwise [wts2]
  split
  · rename_i hlt
    rw [hs]
    unfold wt row
    rw [if_pos (by have := i.isLt; show x.val / 64 ≤ (512 * 2 + i.val) / 64; omega)]
  · rename_i hge
    rw [sel_mask, hs]
    unfold wt row
    have e : (⟨1024 + (x.val - 1024), by omega⟩ : Fin 2048) = ⟨x.val, by omega⟩ := Fin.ext (by show 1024 + (x.val - 1024) = x.val; omega)
    simp only [e]
    refine if_congr ?_ rfl rfl
    show (x.val - 1024) / 64 ≤ i.val / 64 ↔ x.val / 64 ≤ (512 * 2 + i.val) / 64
    omega

include hq hk hx in
theorem head2_apply (i : Fin 512) (d : Fin 128) : head2 (w145 I) q k v (ix2 i d) = hv I h (row 2 i) d := by
  have hw := wts2_apply I h hq hk
  have h0 : ∀ j : Fin 2048, 1536 ≤ j.val → wt I h (row 2 i) j = 0 := fun j hj => by
    unfold wt row
    rw [if_neg (by have := i.isLt; show ¬ j.val / 64 ≤ (512 * 2 + i.val) / 64; omega)]
  pointwise [head2]
  unfold hv
  simp only [hw, hx]
  exact congrArg₂ Ideal.div (sum_head 1536 512 (fun j : Fin 2048 => wt I h (row 2 i) j * I.V (ix2 j (col h d))) (fun j hj => by simp only [h0 j hj, zero_mul]))
    (sum_head 1536 512 (fun j : Fin 2048 => wt I h (row 2 i) j) h0)

end Block2

section Block3

variable {q : FVec Ideal S512x128 .bf16} {k v : Vec Ideal S2048x128 .bf16} (h : Fin 8)
  (hq : ∀ (i : Fin 512) (d : Fin 128), q (ix2 i d) = qv I (row 3 i) (col h d))
  (hk : ∀ (x : Fin 2048) (d : Fin 128), k (ix2 x d) = I.K (ix2 (⟨x.val, by omega⟩ : Fin 2048) (col h d)))
  (hx : ∀ (x : Fin 2048) (d : Fin 128), v (ix2 x d) = I.V (ix2 (⟨x.val, by omega⟩ : Fin 2048) (col h d)))

include hq hk in
theorem wts3_apply (i : Fin 512) (x : Fin 2048) : wts3 (w145 I) q k (ix2 i x) = wt I h (row 3 i) ⟨x.val, by omega⟩ := by
  have hs : ∀ y : Fin 2048, (∑ d, q (ix2 i d) * k (ix2 y d)) = score I h (row 3 i) ⟨y.val, by omega⟩ := fun y =>
    Finset.sum_congr rfl fun d _ => by rw [hq, hk]
  pointwise [wts3]
  split
  · rename_i hlt
    rw [hs]
    unfold wt row
    rw [if_pos (by have := i.isLt; show x.val / 64 ≤ (512 * 3 + i.val) / 64; omega)]
  · rename_i hge
    rw [sel_mask, hs]
    unfold wt row
    have e : (⟨1536 + (x.val - 1536), by omega⟩ : Fin 2048) = ⟨x.val, by omega⟩ := Fin.ext (by show 1536 + (x.val - 1536) = x.val; omega)
    simp only [e]
    refine if_congr ?_ rfl rfl
    show (x.val - 1536) / 64 ≤ i.val / 64 ↔ x.val / 64 ≤ (512 * 3 + i.val) / 64
    omega

include hq hk hx in
theorem head3_apply (i : Fin 512) (d : Fin 128) : head3 (w145 I) q k v (ix2 i d) = hv I h (row 3 i) d := by
  have hw := wts3_apply I h hq hk
  have h0 : ∀ j : Fin 2048, 2048 ≤ j.val → wt I h (row 3 i) j = 0 := fun j hj => by
    unfold wt row
    rw [if_neg (by have := i.isLt; show ¬ j.val / 64 ≤ (512 * 3 + i.val) / 64; omega)]
  pointwise [head3]
  unfold hv
  simp only [hw, hx]

end Block3

/-- The joined heads times the projection, as a sum over the heads. -/
theorem join_apply (g : Fin 8 → FVec Ideal S512x128 .f32) (wo : Vec Ideal S1024x1024 .bf16) (i : Fin 512) (c : Fin 1024) :
    join (g 0) (g 1) (g 2) (g 3) (g 4) (g 5) (g 6) (g 7) wo (ix2 i c) = ∑ h : Fin 8, ∑ d : Fin 128, g h (ix2 i d) * wo (ix2 (col h d) c) := by
  pointwise [join]
  rw [← Equiv.sum_comp (finProdFinEquiv (m := 8) (n := 128)), Fintype.sum_prod_type]
  refine Finset.sum_congr rfl fun h _ => Finset.sum_congr rfl fun d _ => ?_
  have hv : ((finProdFinEquiv (m := 8) (n := 128) (h, d)) : Fin 1024) = col h d := Fin.ext (by show d.val + 128 * h.val = 128 * h.val + d.val; omega)
  have hd := d.isLt
  rw [hv]
  refine congrArg (· * _) ?_
  unfold col
  fin_vals h with hh
  · obtain rfl : h = 0 := Fin.ext hh
    rw [dif_pos (by show 128 * 0 + d.val < 128; omega)]
    exact congrArg (g 0) (congrArg (ix2 i) (Fin.ext (by show 128 * 0 + d.val = d.val; omega)))
  · obtain rfl : h = 1 := Fin.ext hh
    rw [dif_neg (by show ¬ (128 * 1 + d.val < 128); omega), dif_pos (by show 128 * 1 + d.val - 128 < 128; omega)]
    exact congrArg (g 1) (congrArg (ix2 i) (Fin.ext (by show 128 * 1 + d.val - 128 = d.val; omega)))
  · obtain rfl : h = 2 := Fin.ext hh
    rw [dif_neg (by show ¬ (128 * 2 + d.val < 128); omega), dif_neg (by show ¬ (128 * 2 + d.val - 128 < 128); omega), dif_pos (by show 128 * 2 + d.val - 128 - 128 < 128; omega)]
    exact congrArg (g 2) (congrArg (ix2 i) (Fin.ext (by show 128 * 2 + d.val - 128 - 128 = d.val; omega)))
  · obtain rfl : h = 3 := Fin.ext hh
    rw [dif_neg (by show ¬ (128 * 3 + d.val < 128); omega), dif_neg (by show ¬ (128 * 3 + d.val - 128 < 128); omega), dif_neg (by show ¬ (128 * 3 + d.val - 128 - 128 < 128); omega), dif_pos (by show 128 * 3 + d.val - 128 - 128 - 128 < 128; omega)]
    exact congrArg (g 3) (congrArg (ix2 i) (Fin.ext (by show 128 * 3 + d.val - 128 - 128 - 128 = d.val; omega)))
  · obtain rfl : h = 4 := Fin.ext hh
    rw [dif_neg (by show ¬ (128 * 4 + d.val < 128); omega), dif_neg (by show ¬ (128 * 4 + d.val - 128 < 128); omega), dif_neg (by show ¬ (128 * 4 + d.val - 128 - 128 < 128); omega), dif_neg (by show ¬ (128 * 4 + d.val - 128 - 128 - 128 < 128); omega), dif_pos (by show 128 * 4 + d.val - 128 - 128 - 128 - 128 < 128; omega)]
    exact congrArg (g 4) (congrArg (ix2 i) (Fin.ext (by show 128 * 4 + d.val - 128 - 128 - 128 - 128 = d.val; omega)))
  · obtain rfl : h = 5 := Fin.ext hh
    rw [dif_neg (by show ¬ (128 * 5 + d.val < 128); omega), dif_neg (by show ¬ (128 * 5 + d.val - 128 < 128); omega), dif_neg (by show ¬ (128 * 5 + d.val - 128 - 128 < 128); omega), dif_neg (by show ¬ (128 * 5 + d.val - 128 - 128 - 128 < 128); omega), dif_neg (by show ¬ (128 * 5 + d.val - 128 - 128 - 128 - 128 < 128); omega), dif_pos (by show 128 * 5 + d.val - 128 - 128 - 128 - 128 - 128 < 128; omega)]
    exact congrArg (g 5) (congrArg (ix2 i) (Fin.ext (by show 128 * 5 + d.val - 128 - 128 - 128 - 128 - 128 = d.val; omega)))
  · obtain rfl : h = 6 := Fin.ext hh
    rw [dif_neg (by show ¬ (128 * 6 + d.val < 128); omega), dif_neg (by show ¬ (128 * 6 + d.val - 128 < 128); omega), dif_neg (by show ¬ (128 * 6 + d.val - 128 - 128 < 128); omega), dif_neg (by show ¬ (128 * 6 + d.val - 128 - 128 - 128 < 128); omega), dif_neg (by show ¬ (128 * 6 + d.val - 128 - 128 - 128 - 128 < 128); omega), dif_neg (by show ¬ (128 * 6 + d.val - 128 - 128 - 128 - 128 - 128 < 128); omega), dif_pos (by show 128 * 6 + d.val - 128 - 128 - 128 - 128 - 128 - 128 < 128; omega)]
    exact congrArg (g 6) (congrArg (ix2 i) (Fin.ext (by show 128 * 6 + d.val - 128 - 128 - 128 - 128 - 128 - 128 = d.val; omega)))
  · obtain rfl : h = 7 := Fin.ext hh
    rw [dif_neg (by show ¬ (128 * 7 + d.val < 128); omega), dif_neg (by show ¬ (128 * 7 + d.val - 128 < 128); omega), dif_neg (by show ¬ (128 * 7 + d.val - 128 - 128 < 128); omega), dif_neg (by show ¬ (128 * 7 + d.val - 128 - 128 - 128 < 128); omega), dif_neg (by show ¬ (128 * 7 + d.val - 128 - 128 - 128 - 128 < 128); omega), dif_neg (by show ¬ (128 * 7 + d.val - 128 - 128 - 128 - 128 - 128 < 128); omega), dif_neg (by show ¬ (128 * 7 + d.val - 128 - 128 - 128 - 128 - 128 - 128 < 128); omega)]
    exact congrArg (g 7) (congrArg (ix2 i) (Fin.ext (by show 128 * 7 + d.val - 128 - 128 - 128 - 128 - 128 - 128 - 128 = d.val; omega)))

theorem in0_ld (r : Rect S2048x1024) : in0 I r.toLoadRect = View.ld I.X r := rfl
theorem in1_ld (r : Rect S1024x1024) : in1 I r.toLoadRect = View.ld I.Q r := rfl
theorem in2_ld (r : Rect S2048x1024) : in2 I r.toLoadRect = View.ld I.K r := rfl
theorem in3_ld (r : Rect S2048x1024) : in3 I r.toLoadRect = View.ld I.V r := rfl
theorem in4_ld (r : Rect S1024x1024) : in4 I r.toLoadRect = View.ld I.O r := rfl

/-- The output projection is loaded whole. -/
theorem ldwo_apply (n c : Fin 1024) : ldwo I (ix2 n c) = I.O (ix2 n c) := by
  pointwise [in4_ld]

theorem qs0_apply (i : Fin 512) (n : Fin 1024) : qs0 I (ix2 i n) = qv I (row 0 i) n := by
  pointwise [k0_pay6, in0_ld, in1_ld]
  unfold qv scl row
  simp only [Fin.val_zero, Nat.mul_zero, Nat.zero_add]

theorem out_0_apply (i : Fin 512) (c : Fin 1024) : out_0 I (ix2 i c) = part I (row 0 i) c := by
  have hh : ∀ (h : Fin 8) (d : Fin 128), (![hd0_0 I, hd0_1 I, hd0_2 I, hd0_3 I, hd0_4 I, hd0_5 I, hd0_6 I, hd0_7 I] : Fin 8 → FVec Ideal S512x128 .f32) h (ix2 i d) = hv I h (row 0 i) d := by
    intro h d
    fin_vals h with hh
    · obtain rfl : h = 0 := Fin.ext hh
      refine head0_apply I 0 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 1 := Fin.ext hh
      refine head0_apply I 1 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 2 := Fin.ext hh
      refine head0_apply I 2 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 3 := Fin.ext hh
      refine head0_apply I 3 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 4 := Fin.ext hh
      refine head0_apply I 4 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 5 := Fin.ext hh
      refine head0_apply I 5 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 6 := Fin.ext hh
      refine head0_apply I 6 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 7 := Fin.ext hh
      refine head0_apply I 7 (fun i d => ?_) (fun x d => ?_) (fun x d => ?_) i d
      · pointwise []
        rw [qs0_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
  rw [out_0_eq]
  refine (join_apply ![hd0_0 I, hd0_1 I, hd0_2 I, hd0_3 I, hd0_4 I, hd0_5 I, hd0_6 I, hd0_7 I] (ldwo I) i c).trans ?_
  unfold part
  exact Finset.sum_congr rfl fun h _ => Finset.sum_congr rfl fun d _ => by rw [hh, ldwo_apply]

theorem qs1_apply (i : Fin 512) (n : Fin 1024) : qs1 I (ix2 i n) = qv I (row 1 i) n := by
  pointwise [k0_pay6, in0_ld, in1_ld]
  unfold qv scl row
  rfl

theorem out_1_apply (i : Fin 512) (c : Fin 1024) : out_1 I (ix2 i c) = part I (row 1 i) c := by
  have hh : ∀ (h : Fin 8) (d : Fin 128), (![hd1_0 I, hd1_1 I, hd1_2 I, hd1_3 I, hd1_4 I, hd1_5 I, hd1_6 I, hd1_7 I] : Fin 8 → FVec Ideal S512x128 .f32) h (ix2 i d) = hv I h (row 1 i) d := by
    intro h d
    fin_vals h with hh
    · obtain rfl : h = 0 := Fin.ext hh
      refine head1_apply I 0 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 1 := Fin.ext hh
      refine head1_apply I 1 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 2 := Fin.ext hh
      refine head1_apply I 2 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 3 := Fin.ext hh
      refine head1_apply I 3 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 4 := Fin.ext hh
      refine head1_apply I 4 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 5 := Fin.ext hh
      refine head1_apply I 5 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 6 := Fin.ext hh
      refine head1_apply I 6 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 7 := Fin.ext hh
      refine head1_apply I 7 (fun i d => ?_) (fun x d => ?_) (fun x d => ?_) i d
      · pointwise []
        rw [qs1_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
  rw [out_1_eq]
  refine (join_apply ![hd1_0 I, hd1_1 I, hd1_2 I, hd1_3 I, hd1_4 I, hd1_5 I, hd1_6 I, hd1_7 I] (ldwo I) i c).trans ?_
  unfold part
  exact Finset.sum_congr rfl fun h _ => Finset.sum_congr rfl fun d _ => by rw [hh, ldwo_apply]

theorem qs2_apply (i : Fin 512) (n : Fin 1024) : qs2 I (ix2 i n) = qv I (row 2 i) n := by
  pointwise [k0_pay6, in0_ld, in1_ld]
  unfold qv scl row
  rfl

theorem out_2_apply (i : Fin 512) (c : Fin 1024) : out_2 I (ix2 i c) = part I (row 2 i) c := by
  have hh : ∀ (h : Fin 8) (d : Fin 128), (![hd2_0 I, hd2_1 I, hd2_2 I, hd2_3 I, hd2_4 I, hd2_5 I, hd2_6 I, hd2_7 I] : Fin 8 → FVec Ideal S512x128 .f32) h (ix2 i d) = hv I h (row 2 i) d := by
    intro h d
    fin_vals h with hh
    · obtain rfl : h = 0 := Fin.ext hh
      refine head2_apply I 0 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 1 := Fin.ext hh
      refine head2_apply I 1 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 2 := Fin.ext hh
      refine head2_apply I 2 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 3 := Fin.ext hh
      refine head2_apply I 3 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 4 := Fin.ext hh
      refine head2_apply I 4 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 5 := Fin.ext hh
      refine head2_apply I 5 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 6 := Fin.ext hh
      refine head2_apply I 6 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 7 := Fin.ext hh
      refine head2_apply I 7 (fun i d => ?_) (fun x d => ?_) (fun x d => ?_) i d
      · pointwise []
        rw [qs2_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
  rw [out_2_eq]
  refine (join_apply ![hd2_0 I, hd2_1 I, hd2_2 I, hd2_3 I, hd2_4 I, hd2_5 I, hd2_6 I, hd2_7 I] (ldwo I) i c).trans ?_
  unfold part
  exact Finset.sum_congr rfl fun h _ => Finset.sum_congr rfl fun d _ => by rw [hh, ldwo_apply]

theorem qs3_apply (i : Fin 512) (n : Fin 1024) : qs3 I (ix2 i n) = qv I (row 3 i) n := by
  pointwise [k0_pay6, in0_ld, in1_ld]
  unfold qv scl row
  rfl

theorem out_3_apply (i : Fin 512) (c : Fin 1024) : out_3 I (ix2 i c) = part I (row 3 i) c := by
  have hh : ∀ (h : Fin 8) (d : Fin 128), (![hd3_0 I, hd3_1 I, hd3_2 I, hd3_3 I, hd3_4 I, hd3_5 I, hd3_6 I, hd3_7 I] : Fin 8 → FVec Ideal S512x128 .f32) h (ix2 i d) = hv I h (row 3 i) d := by
    intro h d
    fin_vals h with hh
    · obtain rfl : h = 0 := Fin.ext hh
      refine head3_apply I 0 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 1 := Fin.ext hh
      refine head3_apply I 1 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 2 := Fin.ext hh
      refine head3_apply I 2 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 3 := Fin.ext hh
      refine head3_apply I 3 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 4 := Fin.ext hh
      refine head3_apply I 4 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 5 := Fin.ext hh
      refine head3_apply I 5 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 6 := Fin.ext hh
      refine head3_apply I 6 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
    · obtain rfl : h = 7 := Fin.ext hh
      refine head3_apply I 7 (fun i d => ?_) (fun x d => ?_) (fun x d => ?_) i d
      · pointwise []
        rw [qs3_apply]
        exact congrArg (qv I _) (Fin.ext (by first | rfl | (show d.val = 128 * 0 + d.val; omega)))
      · pointwise [in2_ld]
        exact congrArg (fun n => I.K (ix2 _ n)) (Fin.ext (by first | rfl | (show d.val = 128 * 0 + d.val; omega)))
      · pointwise [in3_ld]
        exact congrArg (fun n => I.V (ix2 _ n)) (Fin.ext (by first | rfl | (show d.val = 128 * 0 + d.val; omega)))
  rw [out_3_eq]
  refine (join_apply ![hd3_0 I, hd3_1 I, hd3_2 I, hd3_3 I, hd3_4 I, hd3_5 I, hd3_6 I, hd3_7 I] (ldwo I) i c).trans ?_
  unfold part
  exact Finset.sum_congr rfl fun h _ => Finset.sum_congr rfl fun d _ => by rw [hh, ldwo_apply]
end Cert.RingProof
end
-- ==== Proof.Exchange.lean ====
/-
# The exchanged result

Every device ends with the sum of the eight devices' contributions.
-/
module

public import proofs.«01_k».proof.Proof.Contribution
public import proofs.«01_k».proof.Proof.Result

@[expose] public section

noncomputable section

namespace Cert.RingProof

open Cert.KernelIdeal Cert.KernelIdeal.Gen
open Idealize.ShloMosaic
open Idealize.ShloMosaic.TcCoe

set_option maxRecDepth 16384

section Payloads

variable (w : Rows Ideal) (y : S7x64x1024.Idx → EReal) (u : S1x64x1024.Idx → EReal) (a : Fin 1) (i : Fin 64) (c : Fin 1024)

theorem pay21_apply : (k0_pay21 (F := Ideal) w) (ix3 a i c) = w (ix2 i c) := by
  pointwise [k0_pay21]

theorem pay56_apply : (k0_pay56 (F := Ideal) w y) (ix2 i c) = w (ix2 i c) + ∑ j : Fin 7, y (ix3 j i c) := by
  pointwise [k0_pay56]

theorem pay57_apply : (k0_pay57 (F := Ideal) w y) (ix3 a i c) = w (ix2 i c) + ∑ j : Fin 7, y (ix3 j i c) := by
  pointwise [k0_pay57, k0_pay56]

theorem pay114_apply : (k0_pay114 (F := Ideal) u) (ix2 i c) = u (ix3 0 i c) := by
  pointwise [k0_pay114]

theorem cut_apply (w : S512x1024.Idx → EReal) (j : ℕ) :
    cut (F := Ideal) w j (ix2 i c) = w (ix2 (⟨64 * (j % 8) + i.val, by omega⟩ : Fin 512) c) :=
  congrArg w (by funext a; fin_cases a <;> rfl)

theorem stack_apply (w : ℕ → Msg Ideal) (j : Fin 7) : stack (F := Ideal) w (ix3 j i c) = w j.val (ix3 0 i c) :=
  congrArg (w j.val) (by funext a; fin_cases a <;> rfl)

end Payloads

/-- A device and the seven that send to it are all eight. -/
theorem all_devices : ∀ o : Dev nD, (Finset.univ : Finset (Dev nD)) = insert o ((Finset.univ : Finset (Fin 7)).image fun j => fr o j.val) := by
  decide

theorem senders_differ : ∀ o : Dev nD, Function.Injective fun j : Fin 7 => fr o j.val := by
  unfold Function.Injective; decide

theorem self_not_sender : ∀ o : Dev nD, o ∉ ((Finset.univ : Finset (Fin 7)).image fun j => fr o j.val) := by
  decide

theorem dev_sum (o : Dev nD) (f : Dev nD → EReal) : f o + ∑ j : Fin 7, f (fr o j.val) = ∑ d, f d := by
  rw [all_devices o, Finset.sum_insert (self_not_sender o), Finset.sum_image fun _ _ _ _ h => senders_differ o h]

theorem contrib_apply (I : Ins Ideal) (q : Fin 4) (i : Fin 512) (c : Fin 1024) : contrib q.val I (ix2 i c) = part I (row q i) c := by
  fin_vals q with hq
  · obtain rfl : q = 0 := Fin.ext hq
    exact out_0_apply I i c
  · obtain rfl : q = 1 := Fin.ext hq
    exact out_1_apply I i c
  · obtain rfl : q = 2 := Fin.ext hq
    exact out_2_apply I i c
  · obtain rfl : q = 3 := Fin.ext hq
    exact out_3_apply I i c

/-- The rows that device `o` reduces, of quarter `q`. -/
theorem reduced (J : Dev nD → Ins Ideal) (o : Dev nD) (q : Fin 4) (i : Fin 64) (c : Fin 1024) :
    cut (F := Ideal) (contrib q.val (J o)) o.val (ix2 i c)
      + ∑ j : Fin 7, stack (fun j => k0_pay21 (cut (contrib ((8 * q.val + o.val) / 8) (J (fr o j))) ((8 * q.val + o.val) % 8))) (ix3 j i c)
      = ∑ d, part (J d) (row q ⟨64 * o.val + i.val, by have : o.val < 8 := o.isLt; omega⟩) c := by
  have ho : o.val < 8 := o.isLt
  have e : ∀ d, cut (F := Ideal) (contrib q.val (J d)) o.val (ix2 i c) = part (J d) (row q ⟨64 * o.val + i.val, by omega⟩) c := fun d => by
    rw [cut_apply, contrib_apply]
    exact congrArg (fun n => part (J d) (row q n) c) (Fin.ext (by show 64 * (o.val % 8) + i.val = 64 * o.val + i.val; omega))
  have h1 : (8 * q.val + o.val) / 8 = q.val := by omega
  have h2 : (8 * q.val + o.val) % 8 = o.val := by omega
  rw [h1, h2, ← dev_sum o fun d => part (J d) (row q ⟨64 * o.val + i.val, by omega⟩) c, e]
  refine congrArg (_ + ·) (Finset.sum_congr rfl fun j _ => ?_)
  rw [stack_apply, pay21_apply, e]

/-- On every device, each element of the result is the sum of the eight devices' contributions to it. -/
theorem result_apply (J : Dev nD → Ins Ideal) (c : Dev nD) (r : Fin 2048) (n : Fin 1024) :
    result c J (ix2 r n) = ∑ d, part (J d) r n := by
  have hr := r.isLt
  have hq : r.val / 64 / 8 < 4 := by omega
  have hR : (∑ d, part (J d) (row ⟨r.val / 64 / 8, hq⟩ ⟨64 * (r.val / 64 % 8) + r.val % 64, by omega⟩) n) = ∑ d, part (J d) r n :=
    Finset.sum_congr rfl fun d _ => congrArg (fun s => part (J d) s n) (Fin.ext (by
      show 512 * (r.val / 64 / 8) + (64 * (r.val / 64 % 8) + r.val % 64) = r.val; omega))
  have hg : result c J (ix2 r n) = finalRow (msgs J) (J c) c (r.val / 64) (ix2 (⟨r.val % 64, by omega⟩ : Fin 64) n) :=
    congrArg (finalRow (msgs J) (J c) c (r.val / 64)) (by funext a; fin_cases a <;> rfl)
  rw [hg, ← hR]
  unfold finalRow
  have key := fun o : Dev nD => reduced J o ⟨r.val / 64 / 8, hq⟩ ⟨r.val % 64, by omega⟩ n
  split
  · rename_i h
    rw [pay56_apply]
    refine (key c).trans ?_
    simp only [h]
  · rw [pay114_apply]
    refine (pay57_apply _ _ 0 _ _).trans ?_
    exact key ⟨r.val / 64 % 8, dev_lt _⟩

end Cert.RingProof
end
-- ==== Proof.RefSteps.lean ====
/-
# The reference in steps

The reference's composed term, cut at the values that its text names.
-/
module

public import proofs.«01_k».proof.Proof.Gen.ReferenceIdeal.Run
public import Idealize.ShloMosaic.Lib.Pointwise
public import Idealize.ShloMosaic.Lib.Tactic.CleanTypes

@[expose] public section

noncomputable section

namespace Cert.RingProof.Ref

open Cert.ReferenceIdeal Cert.ReferenceIdeal.Gen
open Idealize.ShloMosaic
open Idealize.ShloMosaic.TcCoe

set_option maxRecDepth 16384

/-- The block of 64 that a position lies in. -/
def blk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- Which keys a row sees. -/
def msk : IVec S2048x2048 1 :=
  cmpi .sle (broadcastInDim S2048x2048 ![0, 1] bcast_S1x2048_S2048x2048_0_1 (broadcastInDim S1x2048 ![1] bcast_S2048_S1x2048_1 blk))
    (broadcastInDim S2048x2048 ![0, 1] bcast_S2048x1_S2048x2048_0_1 (broadcastInDim S2048x1 ![0] bcast_S2048_S2048x1_0 blk))

/-- Whether a row sees any key. -/
def anyKey : IVec S2048 1 := Host.reduce IntOp.ori msk (constantI S_ 1 0#1) reducesTo_S2048x2048_S2048_d1 h_S_

variable (x : FVec Ideal S2048x1024 .bf16) (wq : FVec Ideal S1024x8192 .bf16) (k v : FVec Ideal S2048x8192 .bf16) (wo : FVec Ideal S8192x1024 .bf16)

/-- The queries. -/
def qry : FVec Ideal S2048x8192 .f32 :=
  Host.dotGeneral dot_S2048x1024_S1024x8192_S2048x8192_1_0_0_1_n_n none (extf .f32 x bitsLt_bf16_f32) (extf .f32 wq bitsLt_bf16_f32)

/-- The scaled scores before the mask. -/
def raw : FVec Ideal S64x2048x2048 .f32 :=
  mulf (Host.dotGeneral dot_S2048x64x128_S2048x64x128_S64x2048x2048_2_2_0_0_1_1 none (shapeCast _ (qry x wq) shapeCasts_S2048x8192_S2048x64x128) (shapeCast _ (extf .f32 k bitsLt_bf16_f32) shapeCasts_S2048x8192_S2048x64x128))
    (broadcastInDim S64x2048x2048 ![] bcast_S_S64x2048x2048 (constant S_ .f32 0x3DB504F3#32))

/-- The masked scores. -/
def scr : FVec Ideal S64x2048x2048 .f32 :=
  select (broadcastInDim S64x2048x2048 ![0, 1, 2] bcast_S1x2048x2048_S64x2048x2048_0_1_2 (broadcastInDim S1x2048x2048 ![1, 2] bcast_S2048x2048_S1x2048x2048_1_2 msk))
    (raw x wq k) (broadcastInDim S64x2048x2048 ![] bcast_S_S64x2048x2048 (id (constant S_ .f32 0xFF800000#32)))

/-- The greatest score of a row. -/
def top : FVec Ideal S64x2048 .f32 :=
  Host.reduce FloatOps.maximumf (scr x wq k) (constant S_ .f32 0xFF800000#32) reducesTo_S64x2048x2048_S64x2048_d2 h_S_

/-- The exponentials. -/
def xpo : FVec Ideal S64x2048x2048 .f32 :=
  Host.exp (subf (scr x wq k) (broadcastInDim S64x2048x2048 ![0, 1, 2] bcast_S64x2048x1_S64x2048x2048_0_1_2 (broadcastInDim S64x2048x1 ![0, 1] bcast_S64x2048_S64x2048x1_0_1 (top x wq k))))

/-- The denominators. -/
def den : FVec Ideal S64x2048x1 .f32 :=
  select (broadcastInDim S64x2048x1 ![0, 1, 2] bcast_S1x2048x1_S64x2048x1_0_1_2 (broadcastInDim S1x2048x1 ![1] bcast_S2048_S1x2048x1_1 anyKey))
    (broadcastInDim S64x2048x1 ![0, 1] bcast_S64x2048_S64x2048x1_0_1 (Host.reduceAdd (xpo x wq k) (constant S_ .f32 0x00000000#32) reducesTo_S64x2048x2048_S64x2048_d2 h_S_))
    (broadcastInDim S64x2048x1 ![] bcast_S_S64x2048x1 (id (constant S_ .f32 0x3F800000#32)))

/-- The weights. -/
def wgt : FVec Ideal S64x2048x2048 .f32 :=
  select (broadcastInDim S64x2048x2048 ![0, 1, 2] bcast_S1x2048x1_S64x2048x2048_0_1_2 (broadcastInDim S1x2048x1 ![1] bcast_S2048_S1x2048x1_1 anyKey))
    (Host.divf (xpo x wq k) (broadcastInDim S64x2048x2048 ![0, 1, 2] bcast_S64x2048x1_S64x2048x2048_0_1_2 (den x wq k)))
    (broadcastInDim S64x2048x2048 ![] bcast_S_S64x2048x2048 (id (constant S_ .f32 0x00000000#32)))

/-- The heads' values. -/
def hds : FVec Ideal S64x128x2048 .f32 :=
  Host.dotGeneral dot_S2048x64x128_S64x2048x2048_S64x128x2048_0_2_2_1_1_0 none (shapeCast _ (extf .f32 v bitsLt_bf16_f32) shapeCasts_S2048x8192_S2048x64x128) (wgt x wq k)

/-- The heads side by side. -/
def ctx : FVec Ideal S2048x8192 .f32 :=
  shapeCast _ (transpose S2048x64x128 [2, 0, 1] (hds x wq k v) transposes_S64x128x2048_S2048x64x128_2_0_1) shapeCasts_S2048x64x128_S2048x8192

/-- The result. -/
def out : FVec Ideal S2048x1024 .f32 :=
  Host.dotGeneral dot_S2048x8192_S8192x1024_S2048x1024_1_0_0_1_n_n none (ctx x wq k v) (extf .f32 wo bitsLt_bf16_f32)

theorem res_eq (m : (ℓ : Loc nD τ sig) → Buf (Elt Ideal) ℓ) (c : Dev nD) :
    Cert.ReferenceIdeal.Value.res_main_v40 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.RingProof.Ref
end
-- ==== Proof.RefValue.lean ====
/-
# The reference in formulas

The steps of the reference at an index, as sums over indices.
-/
module

public import proofs.«01_k».proof.Proof.RefSteps

@[expose] public section

noncomputable section

namespace Cert.RingProof.Ref

open Cert.ReferenceIdeal Cert.ReferenceIdeal.Gen
open Idealize.ShloMosaic
open Idealize.ShloMosaic.TcCoe

set_option maxRecDepth 16384

variable (x : FVec Ideal S2048x1024 .bf16) (wq : FVec Ideal S1024x8192 .bf16) (k v : FVec Ideal S2048x8192 .bf16) (wo : FVec Ideal S8192x1024 .bf16)

/-! ## The mask -/

/-- The floor division of a word by 64, as the reference spells it. -/
def quo (n : BitVec 32) : BitVec 32 :=
  Scalar.select (IntOp.andi
      (IntOp.cmpi .ne (if n = 0 then (0 : BitVec 32) else if n.msb = true then -1 else 1) (if (64#32 : BitVec 32) = 0 then (0 : BitVec 32) else if (64#32 : BitVec 32).msb = true then -1 else 1))
      (IntOp.cmpi .ne (IntOp.remsi .host n 64#32) 0#32))
    (IntOp.subi (IntOp.divsi .host n 64#32) 1#32) (IntOp.divsi .host n 64#32)

theorem quo_eq : ∀ n : Fin 2048, quo (BitVec.ofNat 32 n.val) = BitVec.ofNat 32 (n.val / 64) := by decide +kernel

theorem blk_apply (i : Fin 2048) : blk (ix1 i) = BitVec.ofNat 32 (i.val / 64) := by
  rw [← quo_eq i]
  pointwise [blk]
  rfl

theorem sle_eq : ∀ a b : Fin 32, IntOp.cmpi .sle (BitVec.ofNat 32 a.val) (BitVec.ofNat 32 b.val) = if a.val ≤ b.val then 1#1 else 0#1 := by decide +kernel

theorem msk_apply (i j : Fin 2048) : msk (ix2 i j) = if j.val / 64 ≤ i.val / 64 then 1#1 else 0#1 := by
  have h := sle_eq ⟨j.val / 64, by omega⟩ ⟨i.val / 64, by omega⟩
  pointwise [msk]
  rw [blk_apply, blk_apply]
  exact h

theorem ori_one (x : BitVec 1) : IntOp.ori 1#1 x = 1#1 := by
  revert x; decide

theorem anyKey_apply (i : Fin 2048) : anyKey (ix1 i) = 1#1 := by
  have h : anyKey (ix1 i) = Finset.fold IntOp.ori (0#1) (fun x => msk (ix2 i x)) Finset.univ := by
    pointwise [anyKey]
  rw [h, ← Finset.insert_erase (Finset.mem_univ i), Finset.fold_insert (Finset.notMem_erase i _), msk_apply, if_pos le_rfl]
  exact ori_one _

/-! ## The values -/

theorem select_one {α : Type} (a b : α) : Scalar.select (1#1) a b = a := rfl

theorem negInf : Ideal.ofBits .f32 0xFF800000#32 = ⊥ := by simp [Ideal.ofBits, Ideal.ieee]

theorem qry_apply (i : Fin 2048) (n : Fin 8192) : qry x wq (ix2 i n) = ∑ l : Fin 1024, x (ix2 i l) * wq (ix2 l n) := by
  pointwise [qry]

/-- Column `d` of head `h` among all 8192 columns. -/
def hcol (h : Fin 64) (d : Fin 128) : Fin 8192 := ⟨h.val * 128 + d.val, by omega⟩

theorem raw_apply (h : Fin 64) (i j : Fin 2048) :
    raw x wq k (ix3 h i j) = (∑ d : Fin 128, qry x wq (ix2 i (hcol h d)) * k (ix2 j (hcol h d))) * Ideal.ofBits .f32 0x3DB504F3#32 := by
  pointwise [raw]
  rfl

theorem scr_apply (h : Fin 64) (i j : Fin 2048) :
    scr x wq k (ix3 h i j) = if j.val / 64 ≤ i.val / 64 then raw x wq k (ix3 h i j) else ⊥ := by
  have e : scr x wq k (ix3 h i j) = Scalar.select (msk (ix2 i j)) (raw x wq k (ix3 h i j)) (Ideal.ofBits .f32 0xFF800000#32) := by
    pointwise [scr]
    rfl
  rw [e, msk_apply, negInf]
  split <;> rfl

theorem top_apply (h : Fin 64) (i : Fin 2048) :
    top x wq k (ix2 h i) = Finset.univ.fold max ⊥ fun j => scr x wq k (ix3 h i j) := by
  rw [← negInf]
  pointwise [top]

theorem xpo_apply (h : Fin 64) (i j : Fin 2048) :
    xpo x wq k (ix3 h i j) = Ideal.exp (scr x wq k (ix3 h i j) - top x wq k (ix2 h i)) := by
  pointwise [xpo]

theorem den_apply (h : Fin 64) (i : Fin 2048) :
    den x wq k (ix3 h i 0) = ∑ j, xpo x wq k (ix3 h i j) := by
  pointwise [den]
  rw [anyKey_apply]
  exact select_one _ _

theorem share_apply (E : FVec Ideal S64x2048x2048 .f32) (D : FVec Ideal S64x2048x1 .f32) (h : Fin 64) (i j : Fin 2048) :
    select (broadcastInDim S64x2048x2048 ![0, 1, 2] bcast_S1x2048x1_S64x2048x2048_0_1_2 (broadcastInDim S1x2048x1 ![1] bcast_S2048_S1x2048x1_1 anyKey))
        (Host.divf E (broadcastInDim S64x2048x2048 ![0, 1, 2] bcast_S64x2048x1_S64x2048x2048_0_1_2 D))
        (broadcastInDim S64x2048x2048 ![] bcast_S_S64x2048x2048 (id (constant S_ .f32 0x00000000#32))) (ix3 h i j)
      = Ideal.div (E (ix3 h i j)) (D (ix3 h i 0)) := by
  pointwise
  rw [anyKey_apply, select_one]

theorem wgt_apply (h : Fin 64) (i j : Fin 2048) :
    wgt x wq k (ix3 h i j) = Ideal.div (xpo x wq k (ix3 h i j)) (∑ j, xpo x wq k (ix3 h i j)) := by
  rw [wgt, share_apply, den_apply]

theorem hds_apply (h : Fin 64) (d : Fin 128) (i : Fin 2048) :
    hds x wq k v (ix3 h d i) = ∑ j, v (ix2 j (hcol h d)) * wgt x wq k (ix3 h i j) := by
  pointwise [hds]
  rfl

theorem ctx_apply (i : Fin 2048) (h : Fin 64) (d : Fin 128) : ctx x wq k v (ix2 i (hcol h d)) = hds x wq k v (ix3 h d i) := by
  generalize hn : hcol h d = n
  have e : ctx x wq k v (ix2 i n) = hds x wq k v (ix3 ⟨n.val / 128, by omega⟩ ⟨n.val % 128, by omega⟩ i) := by
    pointwise [ctx]
  rw [e]
  subst hn
  congr 2 <;> exact Fin.ext (by simp only [hcol]; omega)

theorem out_apply (i : Fin 2048) (n : Fin 1024) : out x wq k v wo (ix2 i n) = ∑ l : Fin 8192, ctx x wq k v (ix2 i l) * wo (ix2 l n) := by
  pointwise [out]

end Cert.RingProof.Ref
end
-- ==== Proof.Softmax.lean ====
/-
# Softmax with and without the greatest score

Over finite scores, dividing the weighted sum of the values by the sum of the exponentials equals weighting each value by its share, with the greatest score taken off first.
-/
module

public import Idealize.ShloMosaic.Lib.Pointwise
public import Mathlib.Data.Finset.Fold
public import Mathlib.Data.Finset.Lattice.Fold

@[expose] public section

noncomputable section

namespace Cert.RingProof

open Idealize.ShloMosaic

/-- A sum of reals, in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real factor moves into a sum of extended reals. -/
theorem coe_mul_sum {ι : Type*} (t : Finset ι) {c : ℝ} (hc : 0 ≤ c) (f : ι → EReal) : (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (EReal.coe_nonneg.mpr hc) (EReal.coe_ne_top c), ih]

/-- A quotient of reals by a nonzero real. -/
theorem div_real (a : ℝ) {b : ℝ} (hb : b ≠ 0) : Ideal.div (a : EReal) (b : EReal) = ((a / b : ℝ) : EReal) := by
  rw [Ideal.div_coe hb, ← EReal.coe_mul, mul_one_div]

variable {n : Type*} [Fintype n] (keep : n → Prop) [DecidablePred keep] (s : n → ℝ)

/-- The greatest of the kept scores is a real number. -/
theorem top_real {j₀ : n} (h₀ : keep j₀) :
    ∃ μ : ℝ, (Finset.univ.fold max ⊥ fun j => if keep j then (s j : EReal) else ⊥) = (μ : EReal) := by
  have hb : (Finset.univ.fold max ⊥ fun j => if keep j then (s j : EReal) else ⊥) ≠ ⊥ := by
    intro e
    have h : (s j₀ : EReal) ≤ Finset.univ.fold max ⊥ fun j => if keep j then (s j : EReal) else ⊥ :=
      (Finset.le_fold_max _).mpr (Or.inr ⟨j₀, Finset.mem_univ _, by rw [if_pos h₀]⟩)
    rw [e] at h
    exact EReal.coe_ne_bot _ (le_bot_iff.mp h)
  have ht : (Finset.univ.fold max ⊥ fun j => if keep j then (s j : EReal) else ⊥) ≠ ⊤ := by
    refine ne_of_lt ((Finset.fold_max_lt _).mpr ⟨bot_lt_top, fun j _ => ?_⟩)
    split
    · exact EReal.coe_lt_top _
    · exact bot_lt_top
  exact ⟨_, (EReal.coe_toReal ht hb).symm⟩

/-- The two ways to weight the values agree. -/
theorem softmax_eq {j₀ : n} (h₀ : keep j₀) (V : n → EReal) :
    Ideal.div (∑ j, (if keep j then Ideal.exp (s j : EReal) else 0) * V j) (∑ j, if keep j then Ideal.exp (s j : EReal) else 0)
      = ∑ j, V j * Ideal.div (Ideal.exp ((if keep j then (s j : EReal) else ⊥) - Finset.univ.fold max ⊥ fun j => if keep j then (s j : EReal) else ⊥))
          (∑ j, Ideal.exp ((if keep j then (s j : EReal) else ⊥) - Finset.univ.fold max ⊥ fun j => if keep j then (s j : EReal) else ⊥)) := by
  obtain ⟨μ, hμ⟩ := top_real keep s h₀
  rw [hμ]
  let a : n → ℝ := fun j => if keep j then Real.exp (s j) else 0
  have ha : ∀ j, (if keep j then Ideal.exp (s j : EReal) else 0) = ((a j : ℝ) : EReal) := by
    intro j
    by_cases h : keep j
    · simp only [a, if_pos h]; rfl
    · simp only [a, if_neg h]; rfl
  have he : ∀ j, Ideal.exp ((if keep j then (s j : EReal) else ⊥) - (μ : EReal)) = ((a j * Real.exp (-μ) : ℝ) : EReal) := by
    intro j
    by_cases h : keep j
    · simp only [a, if_pos h]
      rw [← EReal.coe_sub, Ideal.exp_coe, sub_eq_add_neg, Real.exp_add]
    · simp only [a, if_neg h]
      rw [EReal.bot_sub, zero_mul]
      rfl
  have hA : 0 < ∑ j, a j := by
    refine Finset.sum_pos' (fun j _ => ?_) ⟨j₀, Finset.mem_univ _, ?_⟩
    · simp only [a]; split
      · exact (Real.exp_pos _).le
      · exact le_rfl
    · simp only [a, if_pos h₀]; exact Real.exp_pos _
  have hμ' : Real.exp (-μ) ≠ 0 := (Real.exp_pos _).ne'
  simp only [ha, he]
  rw [← coe_sum, ← coe_sum, ← Finset.sum_mul, Ideal.div_coe hA.ne', mul_comm, coe_mul_sum _ (by positivity)]
  refine Finset.sum_congr rfl fun j _ => ?_
  rw [div_real _ (mul_ne_zero hA.ne' hμ'), mul_div_mul_right _ _ hμ', ← mul_assoc, ← EReal.coe_mul, mul_comm (V j), one_div, div_eq_mul_inv, mul_comm (a j)]

/-- The scaled products: the factor inside the inner sum or outside the sum. -/
theorem score_eq {m n : Type*} [Fintype m] [Fintype n] (X : m → ℝ) (Q : m → n → ℝ) (K : n → ℝ) (c : ℝ) :
    (∑ d, ((∑ l, (X l : EReal) * (Q l d : EReal)) * (c : EReal)) * (K d : EReal)) = ((((∑ d, (∑ l, X l * Q l d) * K d) * c : ℝ)) : EReal)
      ∧ (∑ d, (∑ l, (X l : EReal) * (Q l d : EReal)) * (K d : EReal)) * (c : EReal) = ((((∑ d, (∑ l, X l * Q l d) * K d) * c : ℝ)) : EReal) := by
  simp only [← EReal.coe_mul, ← coe_sum, and_true]
  rw [Finset.sum_mul]
  exact congrArg _ (Finset.sum_congr rfl fun d _ => by ring)

end Cert.RingProof
end
-- ==== Proof.Equation.lean ====
/-
# The equation

The devices' contributions sum to the result of the reference on the whole arrays.
-/
module

public import proofs.«01_k».proof.Proof.Exchange
public import proofs.«01_k».proof.Proof.RefValue
public import proofs.«01_k».proof.Proof.Softmax

@[expose] public section

noncomputable section

namespace Cert.RingProof

open Cert.KernelIdeal Cert.KernelIdeal.Gen
open Idealize.ShloMosaic
open Idealize.ShloMosaic.TcCoe

/-- Column `n` of device `c`'s 1024 columns among all 8192. -/
def wide (c : Fin 8) (n : Fin 1024) : Fin 8192 := ⟨c.val * 1024 + n.val, by omega⟩

/-- Head `h` of device `c` among all 64. -/
def ghead (c h : Fin 8) : Fin 64 := ⟨8 * c.val + h.val, by omega⟩

theorem wide_col (c h : Fin 8) (d : Fin 128) : wide c (col h d) = Ref.hcol (ghead c h) d :=
  Fin.ext (by simp only [wide, col, Ref.hcol, ghead]; omega)

/-- A sum over `m * n` indices in `m` blocks of `n`. -/
theorem sum_blocks (m n : ℕ) (f : Fin (m * n) → EReal) : ∑ l, f l = ∑ a : Fin m, ∑ b : Fin n, f (finProdFinEquiv (a, b)) :=
  (finProdFinEquiv.sum_comp f).symm.trans (Fintype.sum_prod_type _)

/-- A sum over all columns: devices, heads, columns of a head. -/
theorem sum_cols (f : Fin 8192 → EReal) : ∑ l, f l = ∑ c : Fin 8, ∑ h : Fin 8, ∑ d : Fin 128, f (Ref.hcol (ghead c h) d) := by
  have e1 : ∑ l, f l = ∑ H : Fin 64, ∑ d : Fin 128, f (Ref.hcol H d) := by
    refine (sum_blocks 64 128 f).trans (Finset.sum_congr rfl fun a _ => Finset.sum_congr rfl fun b _ => congrArg f (Fin.ext ?_))
    simp only [finProdFinEquiv_apply_val, Ref.hcol]
    omega
  refine e1.trans ((sum_blocks 8 8 fun H => ∑ d : Fin 128, f (Ref.hcol H d)).trans ?_)
  refine Finset.sum_congr rfl fun a _ => Finset.sum_congr rfl fun b _ => Finset.sum_congr rfl fun d _ => congrArg f (Fin.ext ?_)
  simp only [finProdFinEquiv_apply_val, Ref.hcol, ghead]
  omega

/-- The factor of the scores is a real number. -/
theorem scl_real : ∃ s : ℝ, scl = (s : EReal) := by
  rw [scl]
  refine ⟨_, (EReal.coe_toReal ?_ ?_).symm⟩ <;> simp [Ideal.ofBits, Ideal.ieee, -EReal.coe_mul]

section Blocks

variable (J : Fin 8 → Ins Ideal)
variable (x : FVec Ideal Cert.ReferenceIdeal.S2048x1024 .bf16) (wq : FVec Ideal Cert.ReferenceIdeal.S1024x8192 .bf16)
  (k v : FVec Ideal Cert.ReferenceIdeal.S2048x8192 .bf16) (wo : FVec Ideal Cert.ReferenceIdeal.S8192x1024 .bf16)

/-- The devices' arrays are the parts of the whole arrays. -/
structure PartsOf : Prop where
  x : ∀ c i l, (J c).X (ix2 i l) = x (ix2 i l)
  q : ∀ c l n, (J c).Q (ix2 l n) = wq (ix2 l (wide c n))
  k : ∀ c j n, (J c).K (ix2 j n) = k (ix2 j (wide c n))
  v : ∀ c j n, (J c).V (ix2 j n) = v (ix2 j (wide c n))
  o : ∀ c n l, (J c).O (ix2 n l) = wo (ix2 (wide c n) l)

variable {J x wq k v wo}

/-- A device's head is the reference's. -/
theorem head_eq (P : PartsOf J x wq k v wo) (hx : ∀ c i, ∃ r : ℝ, (J c).X i = (r : EReal)) (hq : ∀ c i, ∃ r : ℝ, (J c).Q i = (r : EReal))
    (hk : ∀ c i, ∃ r : ℝ, (J c).K i = (r : EReal)) (c h : Fin 8) (r : Fin 2048) (d : Fin 128) :
    hv (J c) h r d = Ref.ctx x wq k v (ix2 r (Ref.hcol (ghead c h) d)) := by
  obtain ⟨s, hs⟩ := scl_real
  choose fx hfx using hx c
  choose fq hfq using hq c
  choose fk hfk using hk c
  let S : Fin 2048 → ℝ := fun j => (∑ d : Fin 128, (∑ l : Fin 1024, fx (ix2 r l) * fq (ix2 l (col h d))) * fk (ix2 j (col h d))) * s
  have hS : ∀ j, score (J c) h r j = (S j : EReal) := by
    intro j
    rw [← (score_eq (fun l => fx (ix2 r l)) (fun l d => fq (ix2 l (col h d))) (fun d => fk (ix2 j (col h d))) s).1]
    simp only [score, qv, hs, hfx, hfq, hfk]
  have hR : ∀ j, Ref.raw x wq k (ix3 (ghead c h) r j) = (S j : EReal) := by
    intro j
    rw [← (score_eq (fun l => fx (ix2 r l)) (fun l d => fq (ix2 l (col h d))) (fun d => fk (ix2 j (col h d))) s).2, Ref.raw_apply]
    simp only [Ref.qry_apply, ← hfx, ← hfq, ← hfk, P.x, P.q, P.k, wide_col, ← hs]
    rfl
  have hV : ∀ j, (J c).V (ix2 j (col h d)) = v (ix2 j (Ref.hcol (ghead c h) d)) := fun j => by rw [P.v, wide_col]
  rw [Ref.ctx_apply, Ref.hds_apply]
  simp only [Ref.wgt_apply, Ref.xpo_apply, Ref.top_apply, Ref.scr_apply, hR, hv, wt, hS, hV]
  exact softmax_eq (fun j : Fin 2048 => j.val / 64 ≤ r.val / 64) S (j₀ := r) le_rfl _

/-- The contributions of all devices make up the reference's result. -/
theorem sum_part (P : PartsOf J x wq k v wo) (hx : ∀ c i, ∃ r : ℝ, (J c).X i = (r : EReal)) (hq : ∀ c i, ∃ r : ℝ, (J c).Q i = (r : EReal))
    (hk : ∀ c i, ∃ r : ℝ, (J c).K i = (r : EReal)) (r : Fin 2048) (n : Fin 1024) :
    ∑ c, part (J c) r n = Ref.out x wq k v wo (ix2 r n) := by
  rw [Ref.out_apply, sum_cols]
  refine Finset.sum_congr rfl fun c _ => Finset.sum_congr rfl fun h _ => Finset.sum_congr rfl fun d _ => ?_
  rw [head_eq P hx hq hk, P.o, wide_col]

end Blocks

end Cert.RingProof
end
-- ==== Proof.Finite.lean ====
/-
# What the precondition says

The precondition, read back: every entry of the activations, of the query projection and of the keys is a real number.
-/
module

public import proofs.«01_k».proof.Pre_finite_KernelIdeal
public import Idealize.ShloMosaic.Lib.Pointwise
public import Idealize.ShloMosaic.Lib.ReduceAll

@[expose] public section

noncomputable section

namespace Cert.RingProof

open Cert.Pre_finite_KernelIdeal
open Idealize.ShloMosaic
open Idealize.ShloMosaic.TcCoe

/-- An extended real whose absolute value is below the infinity is a real number. -/
theorem real_of_lt {a : EReal} (h : Ideal.cmp .olt (max a (-a)) (Ideal.ofBits .f32 0x7F800000#32) = 1#1) : ∃ r : ℝ, a = (r : EReal) := by
  have e : Ideal.ofBits .f32 0x7F800000#32 = ⊤ := by simp [Ideal.ofBits, Ideal.ieee]
  rw [e] at h
  have hlt : max a (-a) < ⊤ := by
    by_contra hn
    rw [Ideal.cmp] at h
    simp [hn] at h
  obtain ⟨h1, h2⟩ := max_lt_iff.mp hlt
  have hb : a ≠ ⊥ := by
    rintro rfl
    simp at h2
  exact ⟨a.toReal, (EReal.coe_toReal h1.ne hb).symm⟩

theorem real_of_pre [hF : Cert.Pre_finite_KernelIdeal.Facts] (a0 : FVec Ideal S2048x1024 .bf16) (a1 : FVec Ideal S1024x1024 .bf16)
    (a2 a3 : FVec Ideal S2048x1024 .bf16) (a4 : FVec Ideal S1024x1024 .bf16)
    (h : Cert.Pre_finite_KernelIdeal.fn (F := Ideal) a0 a1 a2 a3 a4 = fun _ => 1#1) :
    (∀ i, ∃ r : ℝ, a0 i = (r : EReal)) ∧ (∀ i, ∃ r : ℝ, a1 i = (r : EReal)) ∧ ∀ i, ∃ r : ℝ, a2 i = (r : EReal) := by
  have e := congrFun h ix0
  dsimp only [Cert.Pre_finite_KernelIdeal.fn] at e
  obtain ⟨e01, e2⟩ := IntOp.andi_eq_one.1 e
  obtain ⟨e0, e1⟩ := IntOp.andi_eq_one.1 e01
  have hs : Subsingleton S_.Idx := ⟨fun a b => funext fun i => i.elim0⟩
  exact ⟨fun i => real_of_lt (Host.reduce_andi_all _ _ _ _ _ e0 i), fun i => real_of_lt (Host.reduce_andi_all _ _ _ _ _ e1 i),
    fun i => real_of_lt (Host.reduce_andi_all _ _ _ _ _ e2 i)⟩

end Cert.RingProof
end
-- ==== Proof.Algebraic.lean ====
/-
# The kernel computes the reference

Both programs on extended reals: every device ends with the whole result of the reference, given finite activations, query projections and keys.
-/
module

public import proofs.«01_k».proof.Defs
public import proofs.«01_k».proof.Proof.Frames
public import proofs.«01_k».proof.Proof.Equation
public import proofs.«01_k».proof.Proof.Finite
public import proofs.«01_k».proof.Proof.Gen.Pre_finite_KernelIdeal
public import proofs.«01_k».proof.Proof.Gen.Pre_finite_ReferenceIdeal

@[expose] public section

noncomputable section

namespace Cert.RingProof

open Idealize.ShloMosaic Idealize.ShloMosaic.TcCoe Idealize.SL.Sem

/-- The kernel's frame under the precondition. -/
theorem frame_ideal_pre : Cert.quiescent_KernelIdeal_pre_finite_KernelIdeal := fun m ρ _ => frame_ideal m ρ trivial

/-- The reference's frame under the precondition. -/
theorem frame_reference_pre : Cert.quiescent_ReferenceIdeal_pre_finite_ReferenceIdeal := fun m ρ _ => frame_reference m ρ trivial

/-- An entry of a block of columns. -/
theorem block_cols {a n N : ℕ} (T : (⟨2, ![a, N]⟩ : Shape).Idx → EReal) (c : Fin 8) (h : Layout.Tiles ⟨2, ![a, n]⟩ ⟨2, ![a, N]⟩ 1 8) (i : Fin a) (l : Fin n) (L : Fin N)
    (e : L.val = c.val * n + l.val) : Layout.block ⟨2, ![a, n]⟩ ⟨2, ![a, N]⟩ 1 8 c T h (ix2 i l) = T (ix2 i L) := by
  rw [Layout.block_apply]
  congr 1
  funext b
  fin_cases b
  · exact Fin.ext rfl
  · exact Fin.ext e.symm

/-- An entry of a block of rows. -/
theorem block_rows {a n N : ℕ} (T : (⟨2, ![N, a]⟩ : Shape).Idx → EReal) (c : Fin 8) (h : Layout.Tiles ⟨2, ![n, a]⟩ ⟨2, ![N, a]⟩ 0 8) (l : Fin n) (i : Fin a) (L : Fin N)
    (e : L.val = c.val * n + l.val) : Layout.block ⟨2, ![n, a]⟩ ⟨2, ![N, a]⟩ 0 8 c T h (ix2 l i) = T (ix2 L i) := by
  rw [Layout.block_apply]
  congr 1
  funext b
  fin_cases b
  · exact Fin.ext e.symm
  · exact Fin.ext rfl

theorem algebraic : Cert.algebraic_KernelIdeal_ReferenceIdeal_pre_finite_KernelIdeal := by
  intro m g m' g' hpre hin
  have P : PartsOf (ins m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c i l => congrFun (hin c).1 (ix2 i l)
      q := fun c l n => (congrFun (hin c).2.1 (ix2 l n)).trans (block_cols _ c _ l n (wide c n) rfl)
      k := fun c j n => (congrFun (hin c).2.2.1 (ix2 j n)).trans (block_cols _ c _ j n (wide c n) rfl)
      v := fun c j n => (congrFun (hin c).2.2.2.1 (ix2 j n)).trans (block_cols _ c _ j n (wide c n) rfl)
      o := fun c n l => (congrFun (hin c).2.2.2.2 (ix2 n l)).trans (block_rows _ c _ n l (wide c n) rfl) }
  have hr := fun c => real_of_pre _ _ _ _ _ (hpre c)
  refine ⟨Cert.ReferenceIdeal.Value.res_main_v40 m' 0, ?_, ?_⟩
  · refine (θ_run Cert.KernelIdeal.defs _ _).mono (fun r h c => ⟨(h.1 c).1.trans ?_, (h.1 c).2⟩) (run_main (F := Ideal) m g)
    rw [Ref.res_eq]
    funext i
    obtain ⟨i0, i1, rfl⟩ : ∃ (i0 : Fin 2048) (i1 : Fin 1024), i = ix2 i0 i1 := ⟨i 0, i 1, eq_ix2 i⟩
    rw [result_apply]
    exact sum_part P (fun c => (hr c).1) (fun c => (hr c).2.1) (fun c => (hr c).2.2) i0 i1
  · exact (θ_run Cert.ReferenceIdeal.defs _ _).mono (fun r h => h 0) (Cert.ReferenceIdeal.Value.run m' g')

end Cert.RingProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    Cert.RingProof.frame_kernel, Cert.RingProof.frame_ideal, Cert.RingProof.frame_ideal_pre, Cert.RingProof.frame_reference, Cert.RingProof.frame_reference_pre,
    trivial, Cert.RingProof.algebraic⟩

end Cert.Proof

end
